-- ==== Defs.lean ====
def Pre_Kernel [hPre_tables_ok : Cert.Pre_tables_ok.Facts] (m : (ℓ : Loc Cert.Kernel.nD Cert.Kernel.τ Cert.Kernel.sig) → Buf (Elt Bits) ℓ) : Prop :=
  ∀ c : Dev Cert.Kernel.nD,
    (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).1 = (fun _ => 1#1)
    ∧ (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.1 = (fun _ => 1#1)
    ∧ (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.1 = (fun _ => 1#1)
    ∧ (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.1 = (fun _ => 1#1)
    ∧ (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.1 = (fun _ => 1#1)
    ∧ (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.2 = (fun _ => 1#1)

def Pre_KernelIdeal [hPre_tables_ok : Cert.Pre_tables_ok.Facts] (m : (ℓ : Loc Cert.KernelIdeal.nD Cert.KernelIdeal.τ Cert.KernelIdeal.sig) → Buf (Elt Ideal) ℓ) : Prop :=
  ∀ c : Dev Cert.KernelIdeal.nD,
    (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_ok [hPre_tables_ok : Cert.Pre_tables_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_tables_ok : Cert.Pre_tables_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tables_ok [hReferenceIdeal : Cert.ReferenceIdeal.Facts] [hPre_tables_ok : Cert.Pre_tables_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18)
      ∧ r.2.mem ((c.tc : Thread Cert.Kernel2.nD Cert.Kernel2.τ).loc Cert.Kernel2.main_arg19) = m ((c.tc : Thread Cert.Kernel2.nD Cert.Kernel2.τ).loc Cert.Kernel2.main_arg19)
      ∧ r.2.mem ((c.tc : Thread Cert.Kernel2.nD Cert.Kernel2.τ).loc Cert.Kernel2.main_arg20) = m ((c.tc : Thread Cert.Kernel2.nD Cert.Kernel2.τ).loc Cert.Kernel2.main_arg20)
      ∧ r.2.mem ((c.tc : Thread Cert.Kernel2.nD Cert.Kernel2.τ).loc Cert.Kernel2.main_arg21) = m ((c.tc : Thread Cert.Kernel2.nD Cert.Kernel2.τ).loc Cert.Kernel2.main_arg21)
      ∧ r.2.mem ((c.tc : Thread Cert.Kernel2.nD Cert.Kernel2.τ).loc Cert.Kernel2.main_arg22) = m ((c.tc : Thread Cert.Kernel2.nD Cert.Kernel2.τ).loc Cert.Kernel2.main_arg22))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20)
      ∧ r.2.mem ((c.tc : Thread Cert.Kernel2Ideal.nD Cert.Kernel2Ideal.τ).loc Cert.Kernel2Ideal.main_arg21) = m ((c.tc : Thread Cert.Kernel2Ideal.nD Cert.Kernel2Ideal.τ).loc Cert.Kernel2Ideal.main_arg21)
      ∧ r.2.mem ((c.tc : Thread Cert.Kernel2Ideal.nD Cert.Kernel2Ideal.τ).loc Cert.Kernel2Ideal.main_arg22) = m ((c.tc : Thread Cert.Kernel2Ideal.nD Cert.Kernel2Ideal.τ).loc Cert.Kernel2Ideal.main_arg22))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20)
      ∧ r.2.mem ((c.tc : Thread Cert.Reference2Ideal.nD Cert.Reference2Ideal.τ).loc Cert.Reference2Ideal.main_arg21) = m ((c.tc : Thread Cert.Reference2Ideal.nD Cert.Reference2Ideal.τ).loc Cert.Reference2Ideal.main_arg21)
      ∧ r.2.mem ((c.tc : Thread Cert.Reference2Ideal.nD Cert.Reference2Ideal.τ).loc Cert.Reference2Ideal.main_arg22) = m ((c.tc : Thread Cert.Reference2Ideal.nD Cert.Reference2Ideal.τ).loc Cert.Reference2Ideal.main_arg22))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  True

def algebraic_KernelIdeal_ReferenceIdeal_on_filled_rows [hKernelIdeal : Cert.KernelIdeal.Facts] [hReferenceIdeal : Cert.ReferenceIdeal.Facts] [hPre_tables_ok : Cert.Pre_tables_ok.Facts] [hOn_filled_rows : Cert.On_filled_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![116736, 1024]⟩ : Shape).Idx, (Cert.On_filled_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![116736, 1024]⟩ : Shape).Idx, (Cert.On_filled_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) i = 1#1 → r.2.mem ((c.tc : Thread Cert.ReferenceIdeal.nD Cert.ReferenceIdeal.τ).loc Cert.ReferenceIdeal.main_v56) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)
      ∧ m' ((c.tc : Thread Cert.Reference2Ideal.nD Cert.Reference2Ideal.τ).loc Cert.Reference2Ideal.main_arg19) = m ((c.tc : Thread Cert.Kernel2Ideal.nD Cert.Kernel2Ideal.τ).loc Cert.Kernel2Ideal.main_arg19)
      ∧ m' ((c.tc : Thread Cert.Reference2Ideal.nD Cert.Reference2Ideal.τ).loc Cert.Reference2Ideal.main_arg20) = m ((c.tc : Thread Cert.Kernel2Ideal.nD Cert.Kernel2Ideal.τ).loc Cert.Kernel2Ideal.main_arg20)
      ∧ m' ((c.tc : Thread Cert.Reference2Ideal.nD Cert.Reference2Ideal.τ).loc Cert.Reference2Ideal.main_arg21) = m ((c.tc : Thread Cert.Kernel2Ideal.nD Cert.Kernel2Ideal.τ).loc Cert.Kernel2Ideal.main_arg21)
      ∧ m' ((c.tc : Thread Cert.Reference2Ideal.nD Cert.Reference2Ideal.τ).loc Cert.Reference2Ideal.main_arg22) = m ((c.tc : Thread Cert.Kernel2Ideal.nD Cert.Kernel2Ideal.τ).loc Cert.Kernel2Ideal.main_arg22)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
          ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
          ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20)
          ∧ r.2.mem ((c.tc : Thread Cert.Kernel2Ideal.nD Cert.Kernel2Ideal.τ).loc Cert.Kernel2Ideal.main_arg21) = m ((c.tc : Thread Cert.Kernel2Ideal.nD Cert.Kernel2Ideal.τ).loc Cert.Kernel2Ideal.main_arg21)
          ∧ r.2.mem ((c.tc : Thread Cert.Kernel2Ideal.nD Cert.Kernel2Ideal.τ).loc Cert.Kernel2Ideal.main_arg22) = m ((c.tc : Thread Cert.Kernel2Ideal.nD Cert.Kernel2Ideal.τ).loc Cert.Kernel2Ideal.main_arg22))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v86) = v0 c
          ∧ r.2.mem ((c.tc : Thread Cert.Reference2Ideal.nD Cert.Reference2Ideal.τ).loc Cert.Reference2Ideal.main_v91) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18)
          ∧ r.2.mem ((c.tc : Thread Cert.Reference2Ideal.nD Cert.Reference2Ideal.τ).loc Cert.Reference2Ideal.main_arg19) = m' ((c.tc : Thread Cert.Reference2Ideal.nD Cert.Reference2Ideal.τ).loc Cert.Reference2Ideal.main_arg19)
          ∧ r.2.mem ((c.tc : Thread Cert.Reference2Ideal.nD Cert.Reference2Ideal.τ).loc Cert.Reference2Ideal.main_arg20) = m' ((c.tc : Thread Cert.Reference2Ideal.nD Cert.Reference2Ideal.τ).loc Cert.Reference2Ideal.main_arg20)
          ∧ r.2.mem ((c.tc : Thread Cert.Reference2Ideal.nD Cert.Reference2Ideal.τ).loc Cert.Reference2Ideal.main_arg21) = m' ((c.tc : Thread Cert.Reference2Ideal.nD Cert.Reference2Ideal.τ).loc Cert.Reference2Ideal.main_arg21)
          ∧ r.2.mem ((c.tc : Thread Cert.Reference2Ideal.nD Cert.Reference2Ideal.τ).loc Cert.Reference2Ideal.main_arg22) = m' ((c.tc : Thread Cert.Reference2Ideal.nD Cert.Reference2Ideal.τ).loc Cert.Reference2Ideal.main_arg22))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_v50) = v2 c
          ∧ r.2.mem ((c.tc : Thread Cert.Reference3Ideal.nD Cert.Reference3Ideal.τ).loc Cert.Reference3Ideal.main_v28) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_tables_ok : Cert.Pre_tables_ok.Facts) (hOn_filled_rows : Cert.On_filled_rows.Facts),
    quiescent_Kernel (hKernel := hKernel) (hPre_tables_ok := hPre_tables_ok)
    ∧ quiescent_KernelIdeal (hKernelIdeal := hKernelIdeal) (hPre_tables_ok := hPre_tables_ok)
    ∧ quiescent_ReferenceIdeal (hReferenceIdeal := hReferenceIdeal)
    ∧ quiescent_ReferenceIdeal_pre_tables_ok (hReferenceIdeal := hReferenceIdeal) (hPre_tables_ok := hPre_tables_ok)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_on_filled_rows (hKernelIdeal := hKernelIdeal) (hReferenceIdeal := hReferenceIdeal) (hPre_tables_ok := hPre_tables_ok) (hOn_filled_rows := hOn_filled_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== On_filled_rows.lean ====
abbrev S114 : Shape := ⟨1, ![114]⟩
abbrev S1 : Shape := ⟨1, ![1]⟩
abbrev S116736x1024 : Shape := ⟨2, ![116736, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S1024 : Shape := ⟨1, ![1024]⟩
abbrev S114x1 : Shape := ⟨2, ![114, 1]⟩
abbrev S1x1 : Shape := ⟨2, ![1, 1]⟩
abbrev S1x1024 : Shape := ⟨2, ![1, 1024]⟩
abbrev S114x1024 : Shape := ⟨2, ![114, 1024]⟩
abbrev S116736x1 : Shape := ⟨2, ![116736, 1]⟩

class Facts : Prop where
  bcast_S114_S114x1_0 : S114.BroadcastsInDim S114x1 (![0] : Fin 1 → Fin S114x1.rank)
  bcast_S1_S1x1_1 : S1.BroadcastsInDim S1x1 (![1] : Fin 1 → Fin S1x1.rank)
  bcast_S1x1_S114x1_0_1 : S1x1.BroadcastsInDim S114x1 (![0, 1] : Fin 2 → Fin S114x1.rank)
  bcast_S1024_S1x1024_1 : S1024.BroadcastsInDim S1x1024 (![1] : Fin 1 → Fin S1x1024.rank)
  bcast_S1x1024_S114x1024_0_1 : S1x1024.BroadcastsInDim S114x1024 (![0, 1] : Fin 2 → Fin S114x1024.rank)
  bcast_S114x1_S114x1024_0_1 : S114x1.BroadcastsInDim S114x1024 (![0, 1] : Fin 2 → Fin S114x1024.rank)
  shapeCasts_S114x1024_S116736x1 : S114x1024.ShapeCasts S116736x1
  bcast_S116736x1_S116736x1024_0_1 : S116736x1.BroadcastsInDim S116736x1024 (![0, 1] : Fin 2 → Fin S116736x1024.rank)

variable [Facts]

def fn {F : FTy → Type} [FloatOps F] (main_arg0 : IVec S114 32) (main_arg1 : IVec S1 32) (main_arg2 : IVec S114 32) (main_arg3 : IVec S114 32) (main_arg4 : IVec S114 32) (main_arg5 : FVec F S116736x1024 .bf16) (main_arg6 : FVec F S32x1024x2048 .f32) (main_arg7 : FVec F S32x2048 .f32) (main_arg8 : FVec F S32x1024x1024 .f32) (main_arg9 : FVec F S32x1024 .f32) : IVec S116736x1024 1 :=
  let main_v0 : IVec S1024 32 := iotaInDim S1024 32 0
  let main_v1 : IVec S114 32 := iotaInDim S114 32 0
  let main_v2 : IVec S114x1 32 := broadcastInDim S114x1 ![0] bcast_S114_S114x1_0 main_v1
  let main_v3 : IVec S1x1 32 := broadcastInDim S1x1 ![1] bcast_S1_S1x1_1 main_arg1
  let main_v4 : IVec S114x1 32 := broadcastInDim S114x1 ![0, 1] bcast_S1x1_S114x1_0_1 main_v3
  let main_v5 : IVec S114x1 1 := cmpi .slt main_v2 main_v4
  let main_v6 : IVec S1x1024 32 := broadcastInDim S1x1024 ![1] bcast_S1024_S1x1024_1 main_v0
  let main_v7 : IVec S114x1 32 := broadcastInDim S114x1 ![0] bcast_S114_S114x1_0 main_arg4
  let main_v8 : IVec S114x1024 32 := broadcastInDim S114x1024 ![0, 1] bcast_S1x1024_S114x1024_0_1 main_v6
  let main_v9 : IVec S114x1024 32 := broadcastInDim S114x1024 ![0, 1] bcast_S114x1_S114x1024_0_1 main_v7
  let main_v10 : IVec S114x1024 1 := cmpi .slt main_v8 main_v9
  let main_v11 : IVec S114x1024 1 := broadcastInDim S114x1024 ![0, 1] bcast_S114x1_S114x1024_0_1 main_v5
  let main_v12 : IVec S114x1024 1 := andi main_v11 main_v10
  let main_v13 : IVec S116736x1 1 := shapeCast S116736x1 main_v12 shapeCasts_S114x1024_S116736x1
  let main_v14 : IVec S116736x1024 1 := broadcastInDim S116736x1024 ![0, 1] bcast_S116736x1_S116736x1024_0_1 main_v13
  main_v14
-- ==== Pre_tables_ok.lean ====
abbrev S114 : Shape := ⟨1, ![114]⟩
abbrev S1 : Shape := ⟨1, ![1]⟩
abbrev S116736x1024 : Shape := ⟨2, ![116736, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S113 : Shape := ⟨1, ![113]⟩

class Facts : Prop where
  bcast_S_S1 : S_.BroadcastsInDim S1 (![] : Fin 0 → Fin S1.rank)
  bcast_S_S114 : S_.BroadcastsInDim S114 (![] : Fin 0 → Fin S114.rank)
  slices_S114_S113_1 : S114.Slices ![1] S113
  bcast_S_S113 : S_.BroadcastsInDim S113 (![] : Fin 0 → Fin S113.rank)
  slices_S114_S113_0 : S114.Slices ![0] S113
  bcast_S1_S113_0 : S1.BroadcastsInDim S113 (![0] : Fin 1 → Fin S113.rank)
  bcast_S1_S114_0 : S1.BroadcastsInDim S114 (![0] : Fin 1 → Fin S114.rank)
  slices_S114_S1_0 : S114.Slices ![0] S1
  natLt_1_32 : 1 < 32
  bcast_S_S_ : S_.BroadcastsInDim S_ (![] : Fin 0 → Fin S_.rank)
  reduceWindows_S114_S114_w114s1p113_0 : S114.ReduceWindows (![114] : Fin 1 → Nat) ![1] ![113] ![0] S114
  h_S_ : 0 < S_.numel

variable [Facts]

def fn_cumsum_0 {F : FTy → Type} [FloatOps F] (arg0 : IVec S114 32) : IVec S114 32 :=
  let c : IVec S_ 32 := constantI S_ 32 0#32
  let v0 : IVec S_ 32 := broadcastInDim S_ ![] bcast_S_S_ c
  let v1 : IVec S114 32 := (fun x v => Host.reduceWindow IntOp.addi ![114] ![1] ![113] ![0] x v reduceWindows_S114_S114_w114s1p113_0 h_S_) arg0 v0
  v1

def fn_cumsum {F : FTy → Type} [FloatOps F] (arg0 : IVec S114 32) : IVec S114 32 :=
  let v0 : IVec S114 32 := fn_cumsum_0 (F := F) arg0
  v0

def fn_part3 {F : FTy → Type} [FloatOps F] (main_arg2 : IVec S114 32) (main_v5 : IVec S1 1) (main_v16 : IVec S114 1) (main_v43 : IVec S113 1) (main_v50 : IVec S114 1) (main_v53 : IVec S1 1) (main_v55 : IVec S114 1) (main_v57 : IVec S114 1) : IVec S1 1 × IVec S114 1 × IVec S113 1 × IVec S114 1 × IVec S1 1 × IVec S114 1 :=
  let main_v58 : IVec S114 32 := (extui 32 · natLt_1_32) main_v57
  let main_v59 : IVec S114 32 := fn_cumsum (F := F) main_v58
  let main_c_13 : IVec S_ 32 := constantI S_ 32 1#32
  let main_v60 : IVec S114 32 := broadcastInDim S114 ![] bcast_S_S114 main_c_13
  let main_v61 : IVec S114 32 := subi main_v59 main_v60
  let main_v62 : IVec S114 1 := cmpi .eq main_arg2 main_v61
  let main_v63 : IVec S114 1 := ori main_v55 main_v62
  (main_v5, main_v16, main_v43, main_v50, main_v53, main_v63)

def fn_part2 {F : FTy → Type} [FloatOps F] (main_arg1 : IVec S1 32) (main_arg2 : IVec S114 32) (main_arg3 : IVec S114 32) (main_v0 : IVec S114 32) (main_v5 : IVec S1 1) (main_v16 : IVec S114 1) (main_v27 : IVec S113 1) (main_v38 : IVec S113 1) : IVec S1 1 × IVec S114 1 × IVec S113 1 × IVec S114 1 × IVec S1 1 × IVec S114 1 :=
  let main_v39 : IVec S113 1 := ori main_v27 main_v38
  let main_v40 : IVec S113 32 := (extractStridedSlice S113 ![1] · slices_S114_S113_1) main_v0
  let main_v41 : IVec S113 32 := broadcastInDim S113 ![0] bcast_S1_S113_0 main_arg1
  let main_v42 : IVec S113 1 := cmpi .sge main_v40 main_v41
  let main_v43 : IVec S113 1 := ori main_v39 main_v42
  let main_c_8 : IVec S_ 32 := constantI S_ 32 1#32
  let main_v44 : IVec S1 32 := broadcastInDim S1 ![] bcast_S_S1 main_c_8
  let main_v45 : IVec S1 32 := subi main_arg1 main_v44
  let main_v46 : IVec S114 32 := broadcastInDim S114 ![0] bcast_S1_S114_0 main_v45
  let main_v47 : IVec S114 1 := cmpi .ne main_v0 main_v46
  let main_c_9 : IVec S_ 32 := constantI S_ 32 0#32
  let main_v48 : IVec S114 32 := broadcastInDim S114 ![] bcast_S_S114 main_c_9
  let main_v49 : IVec S114 1 := cmpi .slt main_arg3 main_v48
  let main_v50 : IVec S114 1 := ori main_v47 main_v49
  let main_v51 : IVec S1 32 := (extractStridedSlice S1 ![0] · slices_S114_S1_0) main_arg2
  let main_c_10 : IVec S_ 32 := constantI S_ 32 0#32
  let main_v52 : IVec S1 32 := broadcastInDim S1 ![] bcast_S_S1 main_c_10
  let main_v53 : IVec S1 1 := cmpi .eq main_v51 main_v52
  let main_c_11 : IVec S_ 32 := constantI S_ 32 0#32
  let main_v54 : IVec S114 32 := broadcastInDim S114 ![] bcast_S_S114 main_c_11
  let main_v55 : IVec S114 1 := cmpi .slt main_arg2 main_v54
  let main_c_12 : IVec S_ 32 := constantI S_ 32 0#32
  let main_v56 : IVec S114 32 := broadcastInDim S114 ![] bcast_S_S114 main_c_12
  let main_v57 : IVec S114 1 := cmpi .sge main_arg2 main_v56
  fn_part3 (F := F) main_arg2 main_v5 main_v16 main_v43 main_v50 main_v53 main_v55 main_v57

def fn_part1 {F : FTy → Type} [FloatOps F] (main_arg0 : IVec S114 32) (main_arg1 : IVec S1 32) (main_arg2 : IVec S114 32) (main_arg3 : IVec S114 32) (main_v0 : IVec S114 32) (main_v5 : IVec S1 1) (main_v16 : IVec S114 1) (main_v17 : IVec S113 32) : IVec S1 1 × IVec S114 1 × IVec S113 1 × IVec S114 1 × IVec S1 1 × IVec S114 1 :=
  let main_c_5 : IVec S_ 32 := constantI S_ 32 0#32
  let main_v18 : IVec S113 32 := broadcastInDim S113 ![] bcast_S_S113 main_c_5
  let main_v19 : IVec S113 1 := cmpi .slt main_v17 main_v18
  let main_v20 : IVec S113 32 := (extractStridedSlice S113 ![1] · slices_S114_S113_1) main_arg0
  let main_v21 : IVec S113 32 := (extractStridedSlice S113 ![0] · slices_S114_S113_0) main_arg0
  let main_v22 : IVec S113 1 := cmpi .eq main_v20 main_v21
  let main_v23 : IVec S113 1 := andi main_v19 main_v22
  let main_v24 : IVec S113 32 := (extractStridedSlice S113 ![1] · slices_S114_S113_1) main_arg3
  let main_v25 : IVec S113 32 := (extractStridedSlice S113 ![0] · slices_S114_S113_0) main_arg3
  let main_v26 : IVec S113 1 := cmpi .eq main_v24 main_v25
  let main_v27 : IVec S113 1 := andi main_v23 main_v26
  let main_v28 : IVec S113 32 := (extractStridedSlice S113 ![1] · slices_S114_S113_1) main_arg2
  let main_c_6 : IVec S_ 32 := constantI S_ 32 0#32
  let main_v29 : IVec S113 32 := broadcastInDim S113 ![] bcast_S_S113 main_c_6
  let main_v30 : IVec S113 1 := cmpi .sge main_v28 main_v29
  let main_v31 : IVec S113 32 := (extractStridedSlice S113 ![0] · slices_S114_S113_0) main_arg3
  let main_c_7 : IVec S_ 32 := constantI S_ 32 0#32
  let main_v32 : IVec S113 32 := broadcastInDim S113 ![] bcast_S_S113 main_c_7
  let main_v33 : IVec S113 1 := cmpi .sge main_v31 main_v32
  let main_v34 : IVec S113 1 := andi main_v30 main_v33
  let main_v35 : IVec S113 32 := (extractStridedSlice S113 ![1] · slices_S114_S113_1) main_arg0
  let main_v36 : IVec S113 32 := (extractStridedSlice S113 ![0] · slices_S114_S113_0) main_arg3
  let main_v37 : IVec S113 1 := cmpi .eq main_v35 main_v36
  let main_v38 : IVec S113 1 := andi main_v34 main_v37
  fn_part2 (F := F) main_arg1 main_arg2 main_arg3 main_v0 main_v5 main_v16 main_v27 main_v38

def fn {F : FTy → Type} [FloatOps F] (main_arg0 : IVec S114 32) (main_arg1 : IVec S1 32) (main_arg2 : IVec S114 32) (main_arg3 : IVec S114 32) (main_arg4 : IVec S114 32) (main_arg5 : FVec F S116736x1024 .bf16) (main_arg6 : FVec F S32x1024x2048 .f32) (main_arg7 : FVec F S32x2048 .f32) (main_arg8 : FVec F S32x1024x1024 .f32) (main_arg9 : FVec F S32x1024 .f32) : IVec S1 1 × IVec S114 1 × IVec S113 1 × IVec S114 1 × IVec S1 1 × IVec S114 1 :=
  let main_v0 : IVec S114 32 := iotaInDim S114 32 0
  let main_c : IVec S_ 32 := constantI S_ 32 1#32
  let main_v1 : IVec S1 32 := broadcastInDim S1 ![] bcast_S_S1 main_c
  let main_v2 : IVec S1 1 := cmpi .sge main_arg1 main_v1
  let main_c_0 : IVec S_ 32 := constantI S_ 32 114#32
  let main_v3 : IVec S1 32 := broadcastInDim S1 ![] bcast_S_S1 main_c_0
  let main_v4 : IVec S1 1 := cmpi .sle main_arg1 main_v3
  let main_v5 : IVec S1 1 := andi main_v2 main_v4
  let main_c_1 : IVec S_ 32 := constantI S_ 32 0#32
  let main_v6 : IVec S114 32 := broadcastInDim S114 ![] bcast_S_S114 main_c_1
  let main_v7 : IVec S114 1 := cmpi .sge main_arg0 main_v6
  let main_c_2 : IVec S_ 32 := constantI S_ 32 32#32
  let main_v8 : IVec S114 32 := broadcastInDim S114 ![] bcast_S_S114 main_c_2
  let main_v9 : IVec S114 1 := cmpi .slt main_arg0 main_v8
  let main_v10 : IVec S114 1 := andi main_v7 main_v9
  let main_c_3 : IVec S_ 32 := constantI S_ 32 0#32
  let main_v11 : IVec S114 32 := broadcastInDim S114 ![] bcast_S_S114 main_c_3
  let main_v12 : IVec S114 1 := cmpi .sge main_arg4 main_v11
  let main_v13 : IVec S114 1 := andi main_v10 main_v12
  let main_c_4 : IVec S_ 32 := constantI S_ 32 1024#32
  let main_v14 : IVec S114 32 := broadcastInDim S114 ![] bcast_S_S114 main_c_4
  let main_v15 : IVec S114 1 := cmpi .sle main_arg4 main_v14
  let main_v16 : IVec S114 1 := andi main_v13 main_v15
  let main_v17 : IVec S113 32 := (extractStridedSlice S113 ![1] · slices_S114_S113_1) main_arg2
  fn_part1 (F := F) main_arg0 main_arg1 main_arg2 main_arg3 main_v0 main_v5 main_v16 main_v17
-- ==== Kernel.lean ====
abbrev S114 : Shape := ⟨1, ![114]⟩
abbrev S1 : Shape := ⟨1, ![1]⟩
abbrev S116736x1024 : Shape := ⟨2, ![116736, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S1024x1024 : Shape := ⟨2, ![1024, 1024]⟩
abbrev S2x1024x2048 : Shape := ⟨3, ![2, 1024, 2048]⟩
abbrev S2x1024x1024 : Shape := ⟨3, ![2, 1024, 1024]⟩
abbrev S1024x2048 : Shape := ⟨2, ![1024, 2048]⟩
abbrev S2 : Shape := ⟨1, ![2]⟩
abbrev S_ : Shape := ⟨0, ![]⟩
abbrev S1x1024x2048 : Shape := ⟨3, ![1, 1024, 2048]⟩
abbrev S1x1024x1024 : Shape := ⟨3, ![1, 1024, 1024]⟩
abbrev S1x2048 : Shape := ⟨2, ![1, 2048]⟩
abbrev S1x1024 : Shape := ⟨2, ![1, 1024]⟩
abbrev S512x1024 : Shape := ⟨2, ![512, 1024]⟩
abbrev S512x2048 : Shape := ⟨2, ![512, 2048]⟩
abbrev S256x1024 : Shape := ⟨2, ![256, 1024]⟩
abbrev S256x2048 : Shape := ⟨2, ![256, 2048]⟩

abbrev nBuf : Space → Nat
  | .hbm => 6
  | .vmem => 10
  | .smem => 5
  | _ => 0

abbrev bufTy : (tb : Table) → Fin (tcTables nBuf tb) → BufTy
  | .hbm, ⟨0, _⟩ => ⟨S116736x1024, .bf16⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S116736x1024, .bf16⟩
  | .local _ .vmem, ⟨0, _⟩ => ⟨S1024x1024, .bf16⟩
  | .local _ .vmem, ⟨1, _⟩ => ⟨S1024x1024, .bf16⟩
  | .local _ .vmem, ⟨2, _⟩ => ⟨S32x2048, .f32⟩
  | .local _ .vmem, ⟨3, _⟩ => ⟨S32x1024, .f32⟩
  | .local _ .vmem, ⟨4, _⟩ => ⟨S1024x1024, .bf16⟩
  | .local _ .vmem, ⟨5, _⟩ => ⟨S1024x1024, .bf16⟩
  | .local _ .vmem, ⟨6, _⟩ => ⟨S2x1024x2048, .f32⟩
  | .local _ .vmem, ⟨7, _⟩ => ⟨S2x1024x1024, .f32⟩
  | .local _ .vmem, ⟨8, _⟩ => ⟨S1024x2048, .bf16⟩
  | .local _ .vmem, ⟨9, _⟩ => ⟨S1024x1024, .bf16⟩
  | .local _ .smem, ⟨0, _⟩ => ⟨S114, .i32⟩
  | .local _ .smem, ⟨1, _⟩ => ⟨S1, .i32⟩
  | .local _ .smem, ⟨2, _⟩ => ⟨S114, .i32⟩
  | .local _ .smem, ⟨3, _⟩ => ⟨S114, .i32⟩
  | .local _ .smem, ⟨4, _⟩ => ⟨S114, .i32⟩
  | _, _ => ⟨S116736x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_arg9 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![114], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v4 : Index := Scalar.indexCast arg0
  ![v4.toNat]
def k0_off2 (i : grid0.Coords) : Fin 1 → Nat :=
  let arg0 : BitVec 32 := BitVec.ofNat 32 (i 0).val
  let v77 : Index := Scalar.indexCast arg0
  ![v77.toNat]
def k0_off3 (v78 : BitVec 32) : Fin 3 → Nat :=
  let c0_i32_49 : BitVec 32 := 0#32
  let c0_i32_50 : BitVec 32 := 0#32
  ![v78.toNat, 0, 0]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (v5 : BitVec 32) : BitVec 1 :=
  let c0_i32_0 : BitVec 32 := 0#32
  let v6 : BitVec 1 := Scalar.cmpi .sge v5 c0_i32_0
  let v7 : BitVec 32 := Scalar.extui v6
  let c0_i32_1 : BitVec 32 := 0#32
  let v8 : BitVec 1 := Scalar.cmpi .ne v7 c0_i32_1
  v8

def k0_cond3 (v5 : BitVec 32) : BitVec 1 :=
  let c2_i32 : BitVec 32 := 2#32
  let c0_i32_5 : BitVec 32 := 0#32
  let v17 : BitVec 1 := Scalar.cmpi .eq c2_i32 c0_i32_5
  let c1_i32 : BitVec 32 := 1#32
  let v18 : BitVec 32 := Scalar.select v17 c1_i32 c2_i32
  let v19 : BitVec 32 := Scalar.remsi v5 v18
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let c0_i32_6 : BitVec 32 := 0#32
  let v20 : BitVec 1 := Scalar.cmpi .ne v19 c0_i32_6
  let v24 : BitVec 1 := Scalar.andi v23 v20
  let v25 : BitVec 32 := Scalar.addi v19 v18
  let v26 : BitVec 32 := Scalar.select v24 v25 v19
  let c0_i32_9 : BitVec 32 := 0#32
  let v27 : BitVec 1 := Scalar.cmpi .eq v26 c0_i32_9
  let v28 : BitVec 32 := Scalar.extui v27
  let c0_i32_10 : BitVec 32 := 0#32
  let v29 : BitVec 1 := Scalar.cmpi .ne v28 c0_i32_10
  v29

def k0_cond4 (v5 : BitVec 32) : BitVec 1 :=
  let c0_i32_19 : BitVec 32 := 0#32
  let v43 : BitVec 1 := Scalar.cmpi .eq v5 c0_i32_19
  let v44 : BitVec 32 := Scalar.extui v43
  let c0_i32_20 : BitVec 32 := 0#32
  let v45 : BitVec 1 := Scalar.cmpi .ne v44 c0_i32_20
  v45

def k0_off4 (v78 : BitVec 32) : Fin 3 → Nat :=
  let c0_i32_55 : BitVec 32 := 0#32
  let c0_i32_56 : BitVec 32 := 0#32
  ![v78.toNat, 0, 0]

def k0_chk1 (i : grid0.Coords) (v0 : BitVec 32) (v5 : BitVec 32) (v78 : BitVec 32) : Prop :=
  (∀ (k0_h1 : k0_cond1 i v0 = 1#1), ∀ (k0_h2 : k0_cond2 v5 = 1#1), ∀ (k0_h3 : k0_cond3 v5 = 1#1), ∀ (k0_h4 : k0_cond4 v5 = 1#1), ∀ a, (k0_off3 v78) a + S1x1024x2048.size a ≤ S32x1024x2048.size a) ∧
  (∀ (k0_h1 : k0_cond1 i v0 = 1#1), ∀ (k0_h2 : k0_cond2 v5 = 1#1), ∀ (k0_h3 : k0_cond3 v5 = 1#1), ∀ (k0_h4 : k0_cond4 v5 = 1#1), ∀ a, (k0_off4 v78) a + S1x1024x1024.size a ≤ S32x1024x1024.size a)
theorem k0_off3_inb : ∀ (i : grid0.Coords) (v0 : BitVec 32) (v5 : BitVec 32) (v78 : BitVec 32) (k0_hw1 : k0_chk1 i v0 v5 v78), ∀ (k0_h1 : k0_cond1 i v0 = 1#1), ∀ (k0_h2 : k0_cond2 v5 = 1#1), ∀ (k0_h3 : k0_cond3 v5 = 1#1), ∀ (k0_h4 : k0_cond4 v5 = 1#1), ∀ a, (k0_off3 v78) a + S1x1024x2048.size a ≤ S32x1024x2048.size a := fun i v0 v5 v78 k0_hw1 k0_h1 k0_h2 k0_h3 k0_h4 => k0_hw1.1 k0_h1 k0_h2 k0_h3 k0_h4
theorem k0_off4_inb : ∀ (i : grid0.Coords) (v0 : BitVec 32) (v5 : BitVec 32) (v78 : BitVec 32) (k0_hw1 : k0_chk1 i v0 v5 v78), ∀ (k0_h1 : k0_cond1 i v0 = 1#1), ∀ (k0_h2 : k0_cond2 v5 = 1#1), ∀ (k0_h3 : k0_cond3 v5 = 1#1), ∀ (k0_h4 : k0_cond4 v5 = 1#1), ∀ a, (k0_off4 v78) a + S1x1024x1024.size a ≤ S32x1024x1024.size a := fun i v0 v5 v78 k0_hw1 k0_h1 k0_h2 k0_h3 k0_h4 => k0_hw1.2 k0_h1 k0_h2 k0_h3 k0_h4

def k0_off5 (i : grid0.Coords) : Fin 1 → Nat :=
  let arg0 : BitVec 32 := BitVec.ofNat 32 (i 0).val
  let v46 : Index := Scalar.indexCast arg0
  ![v46.toNat]
def k0_off6 (i : grid0.Coords) : Fin 1 → Nat :=
  let arg0 : BitVec 32 := BitVec.ofNat 32 (i 0).val
  let v77 : Index := Scalar.indexCast arg0
  ![v77.toNat]
def k0_off7 (v78 : BitVec 32) : Fin 3 → Nat :=
  let c0_i32_49 : BitVec 32 := 0#32
  let c0_i32_50 : BitVec 32 := 0#32
  ![v78.toNat, 0, 0]
def k0_cond5 (v47 : BitVec 32) : BitVec 1 :=
  let c0_i32_21 : BitVec 32 := 0#32
  let v48 : BitVec 1 := Scalar.cmpi .sge v47 c0_i32_21
  let v49 : BitVec 32 := Scalar.extui v48
  let c0_i32_22 : BitVec 32 := 0#32
  let v50 : BitVec 1 := Scalar.cmpi .ne v49 c0_i32_22
  v50

def k0_off8 (v78 : BitVec 32) : Fin 3 → Nat :=
  let c0_i32_55 : BitVec 32 := 0#32
  let c0_i32_56 : BitVec 32 := 0#32
  ![v78.toNat, 0, 0]

def k0_chk2 (i : grid0.Coords) (v0 : BitVec 32) (v5 : BitVec 32) (v47 : BitVec 32) (v78 : BitVec 32) : Prop :=
  (∀ (k0_h1 : k0_cond1 i v0 = 1#1), ∀ (k0_h2 : k0_cond2 v5 = 1#1), ∀ (k0_h3 : k0_cond3 v5 = 1#1), ∀ (k0_h5 : k0_cond5 v47 = 1#1), ∀ a, (k0_off7 v78) a + S1x1024x2048.size a ≤ S32x1024x2048.size a) ∧
  (∀ (k0_h1 : k0_cond1 i v0 = 1#1), ∀ (k0_h2 : k0_cond2 v5 = 1#1), ∀ (k0_h3 : k0_cond3 v5 = 1#1), ∀ (k0_h5 : k0_cond5 v47 = 1#1), ∀ a, (k0_off8 v78) a + S1x1024x1024.size a ≤ S32x1024x1024.size a)
theorem k0_off7_inb : ∀ (i : grid0.Coords) (v0 : BitVec 32) (v5 : BitVec 32) (v47 : BitVec 32) (v78 : BitVec 32) (k0_hw2 : k0_chk2 i v0 v5 v47 v78), ∀ (k0_h1 : k0_cond1 i v0 = 1#1), ∀ (k0_h2 : k0_cond2 v5 = 1#1), ∀ (k0_h3 : k0_cond3 v5 = 1#1), ∀ (k0_h5 : k0_cond5 v47 = 1#1), ∀ a, (k0_off7 v78) a + S1x1024x2048.size a ≤ S32x1024x2048.size a := fun i v0 v5 v47 v78 k0_hw2 k0_h1 k0_h2 k0_h3 k0_h5 => k0_hw2.1 k0_h1 k0_h2 k0_h3 k0_h5
theorem k0_off8_inb : ∀ (i : grid0.Coords) (v0 : BitVec 32) (v5 : BitVec 32) (v47 : BitVec 32) (v78 : BitVec 32) (k0_hw2 : k0_chk2 i v0 v5 v47 v78), ∀ (k0_h1 : k0_cond1 i v0 = 1#1), ∀ (k0_h2 : k0_cond2 v5 = 1#1), ∀ (k0_h3 : k0_cond3 v5 = 1#1), ∀ (k0_h5 : k0_cond5 v47 = 1#1), ∀ a, (k0_off8 v78) a + S1x1024x1024.size a ≤ S32x1024x1024.size a := fun i v0 v5 v47 v78 k0_hw2 k0_h1 k0_h2 k0_h3 k0_h5 => k0_hw2.2 k0_h1 k0_h2 k0_h3 k0_h5

def k0_off9 (i : grid0.Coords) : Fin 1 → Nat :=
  let arg0 : BitVec 32 := BitVec.ofNat 32 (i 0).val
  let v51 : Index := Scalar.indexCast arg0
  ![v51.toNat]
def k0_off10 (v52 : BitVec 32) : Fin 3 → Nat :=
  let c0_i32_27 : BitVec 32 := 0#32
  let c0_i32_28 : BitVec 32 := 0#32
  ![v52.toNat, 0, 0]

def k0_off11 (v52 : BitVec 32) : Fin 3 → Nat :=
  let c0_i32_33 : BitVec 32 := 0#32
  let c0_i32_34 : BitVec 32 := 0#32
  ![v52.toNat, 0, 0]

def k0_chk3 (i : grid0.Coords) (v0 : BitVec 32) (v5 : BitVec 32) (v52 : BitVec 32) : Prop :=
  (∀ (k0_h1 : k0_cond1 i v0 = 1#1), ∀ (k0_h2 : k0_cond2 v5 = 1#1), ∀ (k0_h3 : k0_cond3 v5 = 1#1), ∀ a, (k0_off10 v52) a + S1x1024x2048.size a ≤ S32x1024x2048.size a) ∧
  (∀ (k0_h1 : k0_cond1 i v0 = 1#1), ∀ (k0_h2 : k0_cond2 v5 = 1#1), ∀ (k0_h3 : k0_cond3 v5 = 1#1), ∀ a, (k0_off11 v52) a + S1x1024x1024.size a ≤ S32x1024x1024.size a)
theorem k0_off10_inb : ∀ (i : grid0.Coords) (v0 : BitVec 32) (v5 : BitVec 32) (v52 : BitVec 32) (k0_hw3 : k0_chk3 i v0 v5 v52), ∀ (k0_h1 : k0_cond1 i v0 = 1#1), ∀ (k0_h2 : k0_cond2 v5 = 1#1), ∀ (k0_h3 : k0_cond3 v5 = 1#1), ∀ a, (k0_off10 v52) a + S1x1024x2048.size a ≤ S32x1024x2048.size a := fun i v0 v5 v52 k0_hw3 k0_h1 k0_h2 k0_h3 => k0_hw3.1 k0_h1 k0_h2 k0_h3
theorem k0_off11_inb : ∀ (i : grid0.Coords) (v0 : BitVec 32) (v5 : BitVec 32) (v52 : BitVec 32) (k0_hw3 : k0_chk3 i v0 v5 v52), ∀ (k0_h1 : k0_cond1 i v0 = 1#1), ∀ (k0_h2 : k0_cond2 v5 = 1#1), ∀ (k0_h3 : k0_cond3 v5 = 1#1), ∀ a, (k0_off11 v52) a + S1x1024x1024.size a ≤ S32x1024x1024.size a := fun i v0 v5 v52 k0_hw3 k0_h1 k0_h2 k0_h3 => k0_hw3.2 k0_h1 k0_h2 k0_h3

def k0_off12 (i : grid0.Coords) : Fin 1 → Nat :=
  let arg0 : BitVec 32 := BitVec.ofNat 32 (i 0).val
  let v77 : Index := Scalar.indexCast arg0
  ![v77.toNat]
def k0_off13 (v78 : BitVec 32) : Fin 3 → Nat :=
  let c0_i32_48 : BitVec 32 := 0#32
  let c0_i32_49 : BitVec 32 := 0#32
  ![v78.toNat, 0, 0]
def k0_cond6 (v5 : BitVec 32) : BitVec 1 :=
  let c2_i32_11 : BitVec 32 := 2#32
  let c0_i32_12 : BitVec 32 := 0#32
  let v30 : BitVec 1 := Scalar.cmpi .eq c2_i32_11 c0_i32_12
  let c1_i32_13 : BitVec 32 := 1#32
  let v31 : BitVec 32 := Scalar.select v30 c1_i32_13 c2_i32_11
  let v32 : BitVec 32 := Scalar.remsi v5 v31
  let c0_i32_15 : BitVec 32 := 0#32
  let v34 : BitVec 1 := Scalar.cmpi .slt v32 c0_i32_15
  let c0_i32_16 : BitVec 32 := 0#32
  let v35 : BitVec 1 := Scalar.cmpi .slt v31 c0_i32_16
  let v36 : BitVec 1 := Scalar.xori v34 v35
  let c0_i32_14 : BitVec 32 := 0#32
  let v33 : BitVec 1 := Scalar.cmpi .ne v32 c0_i32_14
  let v37 : BitVec 1 := Scalar.andi v36 v33
  let v38 : BitVec 32 := Scalar.addi v32 v31
  let v39 : BitVec 32 := Scalar.select v37 v38 v32
  let c1_i32_17 : BitVec 32 := 1#32
  let v40 : BitVec 1 := Scalar.cmpi .eq v39 c1_i32_17
  let v41 : BitVec 32 := Scalar.extui v40
  let c0_i32_18 : BitVec 32 := 0#32
  let v42 : BitVec 1 := Scalar.cmpi .ne v41 c0_i32_18
  v42

def k0_cond7 (v5 : BitVec 32) : BitVec 1 :=
  let c0_i32_19 : BitVec 32 := 0#32
  let v43 : BitVec 1 := Scalar.cmpi .eq v5 c0_i32_19
  let v44 : BitVec 32 := Scalar.extui v43
  let c0_i32_20 : BitVec 32 := 0#32
  let v45 : BitVec 1 := Scalar.cmpi .ne v44 c0_i32_20
  v45

def k0_off14 (v78 : BitVec 32) : Fin 3 → Nat :=
  let c0_i32_54 : BitVec 32 := 0#32
  let c0_i32_55 : BitVec 32 := 0#32
  ![v78.toNat, 0, 0]

def k0_chk4 (i : grid0.Coords) (v0 : BitVec 32) (v5 : BitVec 32) (v78 : BitVec 32) : Prop :=
  (∀ (k0_h1 : k0_cond1 i v0 = 1#1), ∀ (k0_h2 : k0_cond2 v5 = 1#1), ∀ (k0_h6 : k0_cond6 v5 = 1#1), ∀ (k0_h7 : k0_cond7 v5 = 1#1), ∀ a, (k0_off13 v78) a + S1x1024x2048.size a ≤ S32x1024x2048.size a) ∧
  (∀ (k0_h1 : k0_cond1 i v0 = 1#1), ∀ (k0_h2 : k0_cond2 v5 = 1#1), ∀ (k0_h6 : k0_cond6 v5 = 1#1), ∀ (k0_h7 : k0_cond7 v5 = 1#1), ∀ a, (k0_off14 v78) a + S1x1024x1024.size a ≤ S32x1024x1024.size a)
theorem k0_off13_inb : ∀ (i : grid0.Coords) (v0 : BitVec 32) (v5 : BitVec 32) (v78 : BitVec 32) (k0_hw4 : k0_chk4 i v0 v5 v78), ∀ (k0_h1 : k0_cond1 i v0 = 1#1), ∀ (k0_h2 : k0_cond2 v5 = 1#1), ∀ (k0_h6 : k0_cond6 v5 = 1#1), ∀ (k0_h7 : k0_cond7 v5 = 1#1), ∀ a, (k0_off13 v78) a + S1x1024x2048.size a ≤ S32x1024x2048.size a := fun i v0 v5 v78 k0_hw4 k0_h1 k0_h2 k0_h6 k0_h7 => k0_hw4.1 k0_h1 k0_h2 k0_h6 k0_h7
theorem k0_off14_inb : ∀ (i : grid0.Coords) (v0 : BitVec 32) (v5 : BitVec 32) (v78 : BitVec 32) (k0_hw4 : k0_chk4 i v0 v5 v78), ∀ (k0_h1 : k0_cond1 i v0 = 1#1), ∀ (k0_h2 : k0_cond2 v5 = 1#1), ∀ (k0_h6 : k0_cond6 v5 = 1#1), ∀ (k0_h7 : k0_cond7 v5 = 1#1), ∀ a, (k0_off14 v78) a + S1x1024x1024.size a ≤ S32x1024x1024.size a := fun i v0 v5 v78 k0_hw4 k0_h1 k0_h2 k0_h6 k0_h7 => k0_hw4.2 k0_h1 k0_h2 k0_h6 k0_h7

def k0_off15 (i : grid0.Coords) : Fin 1 → Nat :=
  let arg0 : BitVec 32 := BitVec.ofNat 32 (i 0).val
  let v46 : Index := Scalar.indexCast arg0
  ![v46.toNat]
def k0_off16 (i : grid0.Coords) : Fin 1 → Nat :=
  let arg0 : BitVec 32 := BitVec.ofNat 32 (i 0).val
  let v77 : Index := Scalar.indexCast arg0
  ![v77.toNat]
def k0_off17 (v78 : BitVec 32) : Fin 3 → Nat :=
  let c0_i32_48 : BitVec 32 := 0#32
  let c0_i32_49 : BitVec 32 := 0#32
  ![v78.toNat, 0, 0]
def k0_cond8 (v47 : BitVec 32) : BitVec 1 :=
  let c0_i32_21 : BitVec 32 := 0#32
  let v48 : BitVec 1 := Scalar.cmpi .sge v47 c0_i32_21
  let v49 : BitVec 32 := Scalar.extui v48
  let c0_i32_22 : BitVec 32 := 0#32
  let v50 : BitVec 1 := Scalar.cmpi .ne v49 c0_i32_22
  v50

def k0_off18 (v78 : BitVec 32) : Fin 3 → Nat :=
  let c0_i32_54 : BitVec 32 := 0#32
  let c0_i32_55 : BitVec 32 := 0#32
  ![v78.toNat, 0, 0]

def k0_chk5 (i : grid0.Coords) (v0 : BitVec 32) (v5 : BitVec 32) (v47 : BitVec 32) (v78 : BitVec 32) : Prop :=
  (∀ (k0_h1 : k0_cond1 i v0 = 1#1), ∀ (k0_h2 : k0_cond2 v5 = 1#1), ∀ (k0_h6 : k0_cond6 v5 = 1#1), ∀ (k0_h8 : k0_cond8 v47 = 1#1), ∀ a, (k0_off17 v78) a + S1x1024x2048.size a ≤ S32x1024x2048.size a) ∧
  (∀ (k0_h1 : k0_cond1 i v0 = 1#1), ∀ (k0_h2 : k0_cond2 v5 = 1#1), ∀ (k0_h6 : k0_cond6 v5 = 1#1), ∀ (k0_h8 : k0_cond8 v47 = 1#1), ∀ a, (k0_off18 v78) a + S1x1024x1024.size a ≤ S32x1024x1024.size a)
theorem k0_off17_inb : ∀ (i : grid0.Coords) (v0 : BitVec 32) (v5 : BitVec 32) (v47 : BitVec 32) (v78 : BitVec 32) (k0_hw5 : k0_chk5 i v0 v5 v47 v78), ∀ (k0_h1 : k0_cond1 i v0 = 1#1), ∀ (k0_h2 : k0_cond2 v5 = 1#1), ∀ (k0_h6 : k0_cond6 v5 = 1#1), ∀ (k0_h8 : k0_cond8 v47 = 1#1), ∀ a, (k0_off17 v78) a + S1x1024x2048.size a ≤ S32x1024x2048.size a := fun i v0 v5 v47 v78 k0_hw5 k0_h1 k0_h2 k0_h6 k0_h8 => k0_hw5.1 k0_h1 k0_h2 k0_h6 k0_h8
theorem k0_off18_inb : ∀ (i : grid0.Coords) (v0 : BitVec 32) (v5 : BitVec 32) (v47 : BitVec 32) (v78 : BitVec 32) (k0_hw5 : k0_chk5 i v0 v5 v47 v78), ∀ (k0_h1 : k0_cond1 i v0 = 1#1), ∀ (k0_h2 : k0_cond2 v5 = 1#1), ∀ (k0_h6 : k0_cond6 v5 = 1#1), ∀ (k0_h8 : k0_cond8 v47 = 1#1), ∀ a, (k0_off18 v78) a + S1x1024x1024.size a ≤ S32x1024x1024.size a := fun i v0 v5 v47 v78 k0_hw5 k0_h1 k0_h2 k0_h6 k0_h8 => k0_hw5.2 k0_h1 k0_h2 k0_h6 k0_h8

def k0_off19 (i : grid0.Coords) : Fin 1 → Nat :=
  let arg0 : BitVec 32 := BitVec.ofNat 32 (i 0).val
  let v51 : Index := Scalar.indexCast arg0
  ![v51.toNat]
def k0_off20 (v52 : BitVec 32) : Fin 3 → Nat :=
  let c0_i32_27 : BitVec 32 := 0#32
  let c0_i32_28 : BitVec 32 := 0#32
  ![v52.toNat, 0, 0]

def k0_off21 (v52 : BitVec 32) : Fin 3 → Nat :=
  let c0_i32_33 : BitVec 32 := 0#32
  let c0_i32_34 : BitVec 32 := 0#32
  ![v52.toNat, 0, 0]

def k0_chk6 (i : grid0.Coords) (v0 : BitVec 32) (v5 : BitVec 32) (v52 : BitVec 32) : Prop :=
  (∀ (k0_h1 : k0_cond1 i v0 = 1#1), ∀ (k0_h2 : k0_cond2 v5 = 1#1), ∀ (k0_h6 : k0_cond6 v5 = 1#1), ∀ a, (k0_off20 v52) a + S1x1024x2048.size a ≤ S32x1024x2048.size a) ∧
  (∀ (k0_h1 : k0_cond1 i v0 = 1#1), ∀ (k0_h2 : k0_cond2 v5 = 1#1), ∀ (k0_h6 : k0_cond6 v5 = 1#1), ∀ a, (k0_off21 v52) a + S1x1024x1024.size a ≤ S32x1024x1024.size a)
theorem k0_off20_inb : ∀ (i : grid0.Coords) (v0 : BitVec 32) (v5 : BitVec 32) (v52 : BitVec 32) (k0_hw6 : k0_chk6 i v0 v5 v52), ∀ (k0_h1 : k0_cond1 i v0 = 1#1), ∀ (k0_h2 : k0_cond2 v5 = 1#1), ∀ (k0_h6 : k0_cond6 v5 = 1#1), ∀ a, (k0_off20 v52) a + S1x1024x2048.size a ≤ S32x1024x2048.size a := fun i v0 v5 v52 k0_hw6 k0_h1 k0_h2 k0_h6 => k0_hw6.1 k0_h1 k0_h2 k0_h6
theorem k0_off21_inb : ∀ (i : grid0.Coords) (v0 : BitVec 32) (v5 : BitVec 32) (v52 : BitVec 32) (k0_hw6 : k0_chk6 i v0 v5 v52), ∀ (k0_h1 : k0_cond1 i v0 = 1#1), ∀ (k0_h2 : k0_cond2 v5 = 1#1), ∀ (k0_h6 : k0_cond6 v5 = 1#1), ∀ a, (k0_off21 v52) a + S1x1024x1024.size a ≤ S32x1024x1024.size a := fun i v0 v5 v52 k0_hw6 k0_h1 k0_h2 k0_h6 => k0_hw6.2 k0_h1 k0_h2 k0_h6

def k0_off22 (i : grid0.Coords) : Fin 1 → Nat :=
  let arg0 : BitVec 32 := BitVec.ofNat 32 (i 0).val
  let v9 : Index := Scalar.indexCast arg0
  ![v9.toNat]
def k0_off23 (i : grid0.Coords) : Fin 1 → Nat :=
  let arg0 : BitVec 32 := BitVec.ofNat 32 (i 0).val
  let v17 : Index := Scalar.indexCast arg0
  ![v17.toNat]
def k0_off24 (v18 : BitVec 32) : Fin 2 → Nat :=
  let v22 : Index := Scalar.indexCast v18
  let c0_9 : Index := 0#32
  ![v22.toNat, 0]
def k0_cond9 (v10 : BitVec 32) : BitVec 1 :=
  let c1024_i32 : BitVec 32 := 1024#32
  let v11 : BitVec 1 := Scalar.cmpi .eq v10 c1024_i32
  let v12 : BitVec 32 := Scalar.extui v11
  let c0_i32_2 : BitVec 32 := 0#32
  let v13 : BitVec 1 := Scalar.cmpi .ne v12 c0_i32_2
  v13

def k0_off25 (v18 : BitVec 32) : Fin 2 → Nat :=
  let v50 : Index := Scalar.indexCast v18
  let c0_21 : Index := 0#32
  ![v50.toNat, 0]

def k0_chk7 (i : grid0.Coords) (v0 : BitVec 32) (v10 : BitVec 32) (v18 : BitVec 32) : Prop :=
  (∀ (k0_h1 : k0_cond1 i v0 = 1#1), ∀ (k0_h9 : k0_cond9 v10 = 1#1), ∀ a, (k0_off24 v18) a + S1x2048.size a ≤ S32x2048.size a) ∧
  (∀ (k0_h1 : k0_cond1 i v0 = 1#1), ∀ (k0_h9 : k0_cond9 v10 = 1#1), ∀ a, (k0_off25 v18) a + S1x1024.size a ≤ S32x1024.size a)
theorem k0_off24_inb : ∀ (i : grid0.Coords) (v0 : BitVec 32) (v10 : BitVec 32) (v18 : BitVec 32) (k0_hw7 : k0_chk7 i v0 v10 v18), ∀ (k0_h1 : k0_cond1 i v0 = 1#1), ∀ (k0_h9 : k0_cond9 v10 = 1#1), ∀ a, (k0_off24 v18) a + S1x2048.size a ≤ S32x2048.size a := fun i v0 v10 v18 k0_hw7 k0_h1 k0_h9 => k0_hw7.1 k0_h1 k0_h9
theorem k0_off25_inb : ∀ (i : grid0.Coords) (v0 : BitVec 32) (v10 : BitVec 32) (v18 : BitVec 32) (k0_hw7 : k0_chk7 i v0 v10 v18), ∀ (k0_h1 : k0_cond1 i v0 = 1#1), ∀ (k0_h9 : k0_cond9 v10 = 1#1), ∀ a, (k0_off25 v18) a + S1x1024.size a ≤ S32x1024.size a := fun i v0 v10 v18 k0_hw7 k0_h1 k0_h9 => k0_hw7.2 k0_h1 k0_h9

def k0_off26 (i : grid0.Coords) : Fin 1 → Nat :=
  let arg0 : BitVec 32 := BitVec.ofNat 32 (i 0).val
  let v29 : Index := Scalar.indexCast arg0
  ![v29.toNat]
def k0_off27 (v30 : BitVec 32) : Fin 2 → Nat :=
  let v34 : Index := Scalar.indexCast v30
  let c0_16 : Index := 0#32
  ![v34.toNat, 0]
def k0_cond10 (v10 : BitVec 32) : BitVec 1 :=
  let c1024_i32_3 : BitVec 32 := 1024#32
  let v14 : BitVec 1 := Scalar.cmpi .slt v10 c1024_i32_3
  let v15 : BitVec 32 := Scalar.extui v14
  let c0_i32_4 : BitVec 32 := 0#32
  let v16 : BitVec 1 := Scalar.cmpi .ne v15 c0_i32_4
  v16

def k0_cond11 (v10 : BitVec 32) : BitVec 1 :=
  let c512_i32 : BitVec 32 := 512#32
  let v17 : BitVec 1 := Scalar.cmpi .sge v10 c512_i32
  let v18 : BitVec 32 := Scalar.extui v17
  let c0_i32_5 : BitVec 32 := 0#32
  let v19 : BitVec 1 := Scalar.cmpi .ne v18 c0_i32_5
  v19

def k0_off28 (v30 : BitVec 32) : Fin 2 → Nat :=
  let v62 : Index := Scalar.indexCast v30
  let c0_28 : Index := 0#32
  ![v62.toNat, 0]

def k0_chk8 (i : grid0.Coords) (v0 : BitVec 32) (v10 : BitVec 32) (v30 : BitVec 32) : Prop :=
  (∀ (k0_h1 : k0_cond1 i v0 = 1#1), ∀ (k0_h10 : k0_cond10 v10 = 1#1), ∀ (k0_h11 : k0_cond11 v10 = 1#1), ∀ a, (k0_off27 v30) a + S1x2048.size a ≤ S32x2048.size a) ∧
  (∀ (k0_h1 : k0_cond1 i v0 = 1#1), ∀ (k0_h10 : k0_cond10 v10 = 1#1), ∀ (k0_h11 : k0_cond11 v10 = 1#1), ∀ a, (k0_off28 v30) a + S1x1024.size a ≤ S32x1024.size a)
theorem k0_off27_inb : ∀ (i : grid0.Coords) (v0 : BitVec 32) (v10 : BitVec 32) (v30 : BitVec 32) (k0_hw8 : k0_chk8 i v0 v10 v30), ∀ (k0_h1 : k0_cond1 i v0 = 1#1), ∀ (k0_h10 : k0_cond10 v10 = 1#1), ∀ (k0_h11 : k0_cond11 v10 = 1#1), ∀ a, (k0_off27 v30) a + S1x2048.size a ≤ S32x2048.size a := fun i v0 v10 v30 k0_hw8 k0_h1 k0_h10 k0_h11 => k0_hw8.1 k0_h1 k0_h10 k0_h11
theorem k0_off28_inb : ∀ (i : grid0.Coords) (v0 : BitVec 32) (v10 : BitVec 32) (v30 : BitVec 32) (k0_hw8 : k0_chk8 i v0 v10 v30), ∀ (k0_h1 : k0_cond1 i v0 = 1#1), ∀ (k0_h10 : k0_cond10 v10 = 1#1), ∀ (k0_h11 : k0_cond11 v10 = 1#1), ∀ a, (k0_off28 v30) a + S1x1024.size a ≤ S32x1024.size a := fun i v0 v10 v30 k0_hw8 k0_h1 k0_h10 k0_h11 => k0_hw8.2 k0_h1 k0_h10 k0_h11

def k0_off29 (i : grid0.Coords) : Fin 1 → Nat :=
  let arg0 : BitVec 32 := BitVec.ofNat 32 (i 0).val
  let v41 : Index := Scalar.indexCast arg0
  ![v41.toNat]
def k0_off30 (v42 : BitVec 32) : Fin 2 → Nat :=
  let v46 : Index := Scalar.indexCast v42
  let c0_23 : Index := 0#32
  ![v46.toNat, 0]
def k0_cond12 (v10 : BitVec 32) : BitVec 1 :=
  let c512_i32_6 : BitVec 32 := 512#32
  let v20 : BitVec 1 := Scalar.cmpi .slt v10 c512_i32_6
  let v21 : BitVec 32 := Scalar.extui v20
  let c0_i32_7 : BitVec 32 := 0#32
  let v22 : BitVec 1 := Scalar.cmpi .ne v21 c0_i32_7
  v22

def k0_cond13 (v10 : BitVec 32) : BitVec 1 :=
  let c0_i32_12 : BitVec 32 := 0#32
  let v29 : BitVec 1 := Scalar.cmpi .sgt v10 c0_i32_12
  let v30 : BitVec 32 := Scalar.extui v29
  let c0_i32_13 : BitVec 32 := 0#32
  let v31 : BitVec 1 := Scalar.cmpi .ne v30 c0_i32_13
  v31

def k0_off31 (v42 : BitVec 32) : Fin 2 → Nat :=
  let v74 : Index := Scalar.indexCast v42
  let c0_35 : Index := 0#32
  ![v74.toNat, 0]

def k0_chk9 (i : grid0.Coords) (v0 : BitVec 32) (v10 : BitVec 32) (v42 : BitVec 32) : Prop :=
  (∀ (k0_h1 : k0_cond1 i v0 = 1#1), ∀ (k0_h10 : k0_cond10 v10 = 1#1), ∀ (k0_h12 : k0_cond12 v10 = 1#1), ∀ (k0_h13 : k0_cond13 v10 = 1#1), ∀ a, (k0_off30 v42) a + S1x2048.size a ≤ S32x2048.size a) ∧
  (∀ (k0_h1 : k0_cond1 i v0 = 1#1), ∀ (k0_h10 : k0_cond10 v10 = 1#1), ∀ (k0_h12 : k0_cond12 v10 = 1#1), ∀ (k0_h13 : k0_cond13 v10 = 1#1), ∀ a, (k0_off31 v42) a + S1x1024.size a ≤ S32x1024.size a)
theorem k0_off30_inb : ∀ (i : grid0.Coords) (v0 : BitVec 32) (v10 : BitVec 32) (v42 : BitVec 32) (k0_hw9 : k0_chk9 i v0 v10 v42), ∀ (k0_h1 : k0_cond1 i v0 = 1#1), ∀ (k0_h10 : k0_cond10 v10 = 1#1), ∀ (k0_h12 : k0_cond12 v10 = 1#1), ∀ (k0_h13 : k0_cond13 v10 = 1#1), ∀ a, (k0_off30 v42) a + S1x2048.size a ≤ S32x2048.size a := fun i v0 v10 v42 k0_hw9 k0_h1 k0_h10 k0_h12 k0_h13 => k0_hw9.1 k0_h1 k0_h10 k0_h12 k0_h13
theorem k0_off31_inb : ∀ (i : grid0.Coords) (v0 : BitVec 32) (v10 : BitVec 32) (v42 : BitVec 32) (k0_hw9 : k0_chk9 i v0 v10 v42), ∀ (k0_h1 : k0_cond1 i v0 = 1#1), ∀ (k0_h10 : k0_cond10 v10 = 1#1), ∀ (k0_h12 : k0_cond12 v10 = 1#1), ∀ (k0_h13 : k0_cond13 v10 = 1#1), ∀ a, (k0_off31 v42) a + S1x1024.size a ≤ S32x1024.size a := fun i v0 v10 v42 k0_hw9 k0_h1 k0_h10 k0_h12 k0_h13 => k0_hw9.2 k0_h1 k0_h10 k0_h12 k0_h13

def k0_off32 (i : grid0.Coords) : Fin 1 → Nat :=
  let arg0 : BitVec 32 := BitVec.ofNat 32 (i 0).val
  let v41 : Index := Scalar.indexCast arg0
  ![v41.toNat]
def k0_off33 (v42 : BitVec 32) : Fin 2 → Nat :=
  let v46 : Index := Scalar.indexCast v42
  let c0_22 : Index := 0#32
  ![v46.toNat, 0]
def k0_cond15 (v10 : BitVec 32) : BitVec 1 :=
  let c256_i32 : BitVec 32 := 256#32
  let v35 : BitVec 1 := Scalar.cmpi .sgt v10 c256_i32
  let v36 : BitVec 32 := Scalar.extui v35
  let c0_i32_16 : BitVec 32 := 0#32
  let v37 : BitVec 1 := Scalar.cmpi .ne v36 c0_i32_16
  v37

def k0_off34 (v42 : BitVec 32) : Fin 2 → Nat :=
  let v74 : Index := Scalar.indexCast v42
  let c0_34 : Index := 0#32
  ![v74.toNat, 0]

def k0_chk10 (i : grid0.Coords) (v0 : BitVec 32) (v10 : BitVec 32) (v42 : BitVec 32) : Prop :=
  (∀ (k0_h1 : k0_cond1 i v0 = 1#1), ∀ (k0_h10 : k0_cond10 v10 = 1#1), ∀ (k0_h12 : k0_cond12 v10 = 1#1), ∀ (k0_h15 : k0_cond15 v10 = 1#1), ∀ a, (k0_off33 v42) a + S1x2048.size a ≤ S32x2048.size a) ∧
  (∀ (k0_h1 : k0_cond1 i v0 = 1#1), ∀ (k0_h10 : k0_cond10 v10 = 1#1), ∀ (k0_h12 : k0_cond12 v10 = 1#1), ∀ (k0_h15 : k0_cond15 v10 = 1#1), ∀ a, (k0_off34 v42) a + S1x1024.size a ≤ S32x1024.size a)
theorem k0_off33_inb : ∀ (i : grid0.Coords) (v0 : BitVec 32) (v10 : BitVec 32) (v42 : BitVec 32) (k0_hw10 : k0_chk10 i v0 v10 v42), ∀ (k0_h1 : k0_cond1 i v0 = 1#1), ∀ (k0_h10 : k0_cond10 v10 = 1#1), ∀ (k0_h12 : k0_cond12 v10 = 1#1), ∀ (k0_h15 : k0_cond15 v10 = 1#1), ∀ a, (k0_off33 v42) a + S1x2048.size a ≤ S32x2048.size a := fun i v0 v10 v42 k0_hw10 k0_h1 k0_h10 k0_h12 k0_h15 => k0_hw10.1 k0_h1 k0_h10 k0_h12 k0_h15
theorem k0_off34_inb : ∀ (i : grid0.Coords) (v0 : BitVec 32) (v10 : BitVec 32) (v42 : BitVec 32) (k0_hw10 : k0_chk10 i v0 v10 v42), ∀ (k0_h1 : k0_cond1 i v0 = 1#1), ∀ (k0_h10 : k0_cond10 v10 = 1#1), ∀ (k0_h12 : k0_cond12 v10 = 1#1), ∀ (k0_h15 : k0_cond15 v10 = 1#1), ∀ a, (k0_off34 v42) a + S1x1024.size a ≤ S32x1024.size a := fun i v0 v10 v42 k0_hw10 k0_h1 k0_h10 k0_h12 k0_h15 => k0_hw10.2 k0_h1 k0_h10 k0_h12 k0_h15

def k0_off35 (i : grid0.Coords) : Fin 1 → Nat :=
  let arg0 : BitVec 32 := BitVec.ofNat 32 (i 0).val
  let v29 : Index := Scalar.indexCast arg0
  ![v29.toNat]
def k0_off36 (v30 : BitVec 32) : Fin 2 → Nat :=
  let v34 : Index := Scalar.indexCast v30
  let c0_15 : Index := 0#32
  ![v34.toNat, 0]
def k0_cond17 (v10 : BitVec 32) : BitVec 1 :=
  let c1024_i32_8 : BitVec 32 := 1024#32
  let v23 : BitVec 1 := Scalar.cmpi .sge v10 c1024_i32_8
  let v24 : BitVec 32 := Scalar.extui v23
  let c0_i32_9 : BitVec 32 := 0#32
  let v25 : BitVec 1 := Scalar.cmpi .ne v24 c0_i32_9
  v25

def k0_off37 (v30 : BitVec 32) : Fin 2 → Nat :=
  let v62 : Index := Scalar.indexCast v30
  let c0_27 : Index := 0#32
  ![v62.toNat, 0]

def k0_chk11 (i : grid0.Coords) (v0 : BitVec 32) (v10 : BitVec 32) (v30 : BitVec 32) : Prop :=
  (∀ (k0_h1 : k0_cond1 i v0 = 1#1), ∀ (k0_h10 : k0_cond10 v10 = 1#1), ∀ (k0_h17 : k0_cond17 v10 = 1#1), ∀ a, (k0_off36 v30) a + S1x2048.size a ≤ S32x2048.size a) ∧
  (∀ (k0_h1 : k0_cond1 i v0 = 1#1), ∀ (k0_h10 : k0_cond10 v10 = 1#1), ∀ (k0_h17 : k0_cond17 v10 = 1#1), ∀ a, (k0_off37 v30) a + S1x1024.size a ≤ S32x1024.size a)
theorem k0_off36_inb : ∀ (i : grid0.Coords) (v0 : BitVec 32) (v10 : BitVec 32) (v30 : BitVec 32) (k0_hw11 : k0_chk11 i v0 v10 v30), ∀ (k0_h1 : k0_cond1 i v0 = 1#1), ∀ (k0_h10 : k0_cond10 v10 = 1#1), ∀ (k0_h17 : k0_cond17 v10 = 1#1), ∀ a, (k0_off36 v30) a + S1x2048.size a ≤ S32x2048.size a := fun i v0 v10 v30 k0_hw11 k0_h1 k0_h10 k0_h17 => k0_hw11.1 k0_h1 k0_h10 k0_h17
theorem k0_off37_inb : ∀ (i : grid0.Coords) (v0 : BitVec 32) (v10 : BitVec 32) (v30 : BitVec 32) (k0_hw11 : k0_chk11 i v0 v10 v30), ∀ (k0_h1 : k0_cond1 i v0 = 1#1), ∀ (k0_h10 : k0_cond10 v10 = 1#1), ∀ (k0_h17 : k0_cond17 v10 = 1#1), ∀ a, (k0_off37 v30) a + S1x1024.size a ≤ S32x1024.size a := fun i v0 v10 v30 k0_hw11 k0_h1 k0_h10 k0_h17 => k0_hw11.2 k0_h1 k0_h10 k0_h17

def k0_off38 (i : grid0.Coords) : Fin 1 → Nat :=
  let arg0 : BitVec 32 := BitVec.ofNat 32 (i 0).val
  let v41 : Index := Scalar.indexCast arg0
  ![v41.toNat]
def k0_off39 (v42 : BitVec 32) : Fin 2 → Nat :=
  let v46 : Index := Scalar.indexCast v42
  let c0_22 : Index := 0#32
  ![v46.toNat, 0]
def k0_cond18 (v10 : BitVec 32) : BitVec 1 :=
  let c1024_i32_10 : BitVec 32 := 1024#32
  let v26 : BitVec 1 := Scalar.cmpi .slt v10 c1024_i32_10
  let v27 : BitVec 32 := Scalar.extui v26
  let c0_i32_11 : BitVec 32 := 0#32
  let v28 : BitVec 1 := Scalar.cmpi .ne v27 c0_i32_11
  v28

def k0_cond19 (v10 : BitVec 32) : BitVec 1 :=
  let c512_i32_12 : BitVec 32 := 512#32
  let v29 : BitVec 1 := Scalar.cmpi .sgt v10 c512_i32_12
  let v30 : BitVec 32 := Scalar.extui v29
  let c0_i32_13 : BitVec 32 := 0#32
  let v31 : BitVec 1 := Scalar.cmpi .ne v30 c0_i32_13
  v31

def k0_off40 (v42 : BitVec 32) : Fin 2 → Nat :=
  let v74 : Index := Scalar.indexCast v42
  let c0_34 : Index := 0#32
  ![v74.toNat, 0]

def k0_chk12 (i : grid0.Coords) (v0 : BitVec 32) (v10 : BitVec 32) (v42 : BitVec 32) : Prop :=
  (∀ (k0_h1 : k0_cond1 i v0 = 1#1), ∀ (k0_h10 : k0_cond10 v10 = 1#1), ∀ (k0_h18 : k0_cond18 v10 = 1#1), ∀ (k0_h19 : k0_cond19 v10 = 1#1), ∀ a, (k0_off39 v42) a + S1x2048.size a ≤ S32x2048.size a) ∧
  (∀ (k0_h1 : k0_cond1 i v0 = 1#1), ∀ (k0_h10 : k0_cond10 v10 = 1#1), ∀ (k0_h18 : k0_cond18 v10 = 1#1), ∀ (k0_h19 : k0_cond19 v10 = 1#1), ∀ a, (k0_off40 v42) a + S1x1024.size a ≤ S32x1024.size a)
theorem k0_off39_inb : ∀ (i : grid0.Coords) (v0 : BitVec 32) (v10 : BitVec 32) (v42 : BitVec 32) (k0_hw12 : k0_chk12 i v0 v10 v42), ∀ (k0_h1 : k0_cond1 i v0 = 1#1), ∀ (k0_h10 : k0_cond10 v10 = 1#1), ∀ (k0_h18 : k0_cond18 v10 = 1#1), ∀ (k0_h19 : k0_cond19 v10 = 1#1), ∀ a, (k0_off39 v42) a + S1x2048.size a ≤ S32x2048.size a := fun i v0 v10 v42 k0_hw12 k0_h1 k0_h10 k0_h18 k0_h19 => k0_hw12.1 k0_h1 k0_h10 k0_h18 k0_h19
theorem k0_off40_inb : ∀ (i : grid0.Coords) (v0 : BitVec 32) (v10 : BitVec 32) (v42 : BitVec 32) (k0_hw12 : k0_chk12 i v0 v10 v42), ∀ (k0_h1 : k0_cond1 i v0 = 1#1), ∀ (k0_h10 : k0_cond10 v10 = 1#1), ∀ (k0_h18 : k0_cond18 v10 = 1#1), ∀ (k0_h19 : k0_cond19 v10 = 1#1), ∀ a, (k0_off40 v42) a + S1x1024.size a ≤ S32x1024.size a := fun i v0 v10 v42 k0_hw12 k0_h1 k0_h10 k0_h18 k0_h19 => k0_hw12.2 k0_h1 k0_h10 k0_h18 k0_h19

def k0_off41 (i : grid0.Coords) : Fin 1 → Nat :=
  let arg0 : BitVec 32 := BitVec.ofNat 32 (i 0).val
  let v41 : Index := Scalar.indexCast arg0
  ![v41.toNat]
def k0_off42 (v42 : BitVec 32) : Fin 2 → Nat :=
  let v46 : Index := Scalar.indexCast v42
  let c0_22 : Index := 0#32
  ![v46.toNat, 0]
def k0_cond21 (v10 : BitVec 32) : BitVec 1 :=
  let c768_i32 : BitVec 32 := 768#32
  let v35 : BitVec 1 := Scalar.cmpi .sgt v10 c768_i32
  let v36 : BitVec 32 := Scalar.extui v35
  let c0_i32_16 : BitVec 32 := 0#32
  let v37 : BitVec 1 := Scalar.cmpi .ne v36 c0_i32_16
  v37

def k0_off43 (v42 : BitVec 32) : Fin 2 → Nat :=
  let v74 : Index := Scalar.indexCast v42
  let c0_34 : Index := 0#32
  ![v74.toNat, 0]

def k0_chk13 (i : grid0.Coords) (v0 : BitVec 32) (v10 : BitVec 32) (v42 : BitVec 32) : Prop :=
  (∀ (k0_h1 : k0_cond1 i v0 = 1#1), ∀ (k0_h10 : k0_cond10 v10 = 1#1), ∀ (k0_h18 : k0_cond18 v10 = 1#1), ∀ (k0_h21 : k0_cond21 v10 = 1#1), ∀ a, (k0_off42 v42) a + S1x2048.size a ≤ S32x2048.size a) ∧
  (∀ (k0_h1 : k0_cond1 i v0 = 1#1), ∀ (k0_h10 : k0_cond10 v10 = 1#1), ∀ (k0_h18 : k0_cond18 v10 = 1#1), ∀ (k0_h21 : k0_cond21 v10 = 1#1), ∀ a, (k0_off43 v42) a + S1x1024.size a ≤ S32x1024.size a)
theorem k0_off42_inb : ∀ (i : grid0.Coords) (v0 : BitVec 32) (v10 : BitVec 32) (v42 : BitVec 32) (k0_hw13 : k0_chk13 i v0 v10 v42), ∀ (k0_h1 : k0_cond1 i v0 = 1#1), ∀ (k0_h10 : k0_cond10 v10 = 1#1), ∀ (k0_h18 : k0_cond18 v10 = 1#1), ∀ (k0_h21 : k0_cond21 v10 = 1#1), ∀ a, (k0_off42 v42) a + S1x2048.size a ≤ S32x2048.size a := fun i v0 v10 v42 k0_hw13 k0_h1 k0_h10 k0_h18 k0_h21 => k0_hw13.1 k0_h1 k0_h10 k0_h18 k0_h21
theorem k0_off43_inb : ∀ (i : grid0.Coords) (v0 : BitVec 32) (v10 : BitVec 32) (v42 : BitVec 32) (k0_hw13 : k0_chk13 i v0 v10 v42), ∀ (k0_h1 : k0_cond1 i v0 = 1#1), ∀ (k0_h10 : k0_cond10 v10 = 1#1), ∀ (k0_h18 : k0_cond18 v10 = 1#1), ∀ (k0_h21 : k0_cond21 v10 = 1#1), ∀ a, (k0_off43 v42) a + S1x1024.size a ≤ S32x1024.size a := fun i v0 v10 v42 k0_hw13 k0_h1 k0_h10 k0_h18 k0_h21 => k0_hw13.2 k0_h1 k0_h10 k0_h18 k0_h21

def k0_cond14 (v10 : BitVec 32) : BitVec 1 :=
  let c0_i32_14 : BitVec 32 := 0#32
  let v32 : BitVec 1 := Scalar.cmpi .sle v10 c0_i32_14
  let v33 : BitVec 32 := Scalar.extui v32
  let c0_i32_15 : BitVec 32 := 0#32
  let v34 : BitVec 1 := Scalar.cmpi .ne v33 c0_i32_15
  v34

def k0_cond16 (v10 : BitVec 32) : BitVec 1 :=
  let c256_i32_17 : BitVec 32 := 256#32
  let v38 : BitVec 1 := Scalar.cmpi .sle v10 c256_i32_17
  let v39 : BitVec 32 := Scalar.extui v38
  let c0_i32_18 : BitVec 32 := 0#32
  let v40 : BitVec 1 := Scalar.cmpi .ne v39 c0_i32_18
  v40

def k0_cond20 (v10 : BitVec 32) : BitVec 1 :=
  let c512_i32_14 : BitVec 32 := 512#32
  let v32 : BitVec 1 := Scalar.cmpi .sle v10 c512_i32_14
  let v33 : BitVec 32 := Scalar.extui v32
  let c0_i32_15 : BitVec 32 := 0#32
  let v34 : BitVec 1 := Scalar.cmpi .ne v33 c0_i32_15
  v34

def k0_cond22 (v10 : BitVec 32) : BitVec 1 :=
  let c768_i32_17 : BitVec 32 := 768#32
  let v38 : BitVec 1 := Scalar.cmpi .sle v10 c768_i32_17
  let v39 : BitVec 32 := Scalar.extui v38
  let c0_i32_18 : BitVec 32 := 0#32
  let v40 : BitVec 1 := Scalar.cmpi .ne v39 c0_i32_18
  v40

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S114 : Shape := ⟨1, ![114]⟩
abbrev S1 : Shape := ⟨1, ![1]⟩
abbrev S116736x1024 : Shape := ⟨2, ![116736, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S114x1024x1024 : Shape := ⟨3, ![114, 1024, 1024]⟩
abbrev S_ : Shape := ⟨0, ![]⟩
abbrev S114x1 : Shape := ⟨2, ![114, 1]⟩
abbrev S114x1024x2048 : Shape := ⟨3, ![114, 1024, 2048]⟩
abbrev S114x2048 : Shape := ⟨2, ![114, 2048]⟩
abbrev S114x1x2048 : Shape := ⟨3, ![114, 1, 2048]⟩
abbrev S114x1024 : Shape := ⟨2, ![114, 1024]⟩
abbrev S114x1x1024 : Shape := ⟨3, ![114, 1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S114, .i32⟩
  | .hbm, ⟨1, _⟩ => ⟨S1, .i32⟩
  | .hbm, ⟨2, _⟩ => ⟨S114, .i32⟩
  | .hbm, ⟨3, _⟩ => ⟨S114, .i32⟩
  | .hbm, ⟨4, _⟩ => ⟨S114, .i32⟩
  | .hbm, ⟨5, _⟩ => ⟨S116736x1024, .bf16⟩
  | .hbm, ⟨6, _⟩ => ⟨S32x1024x2048, .f32⟩
  | .hbm, ⟨7, _⟩ => ⟨S32x2048, .f32⟩
  | .hbm, ⟨8, _⟩ => ⟨S32x1024x1024, .f32⟩
  | .hbm, ⟨9, _⟩ => ⟨S32x1024, .f32⟩
  | .hbm, ⟨10, _⟩ => ⟨S116736x1024, .f32⟩
  | .hbm, ⟨11, _⟩ => ⟨S114x1024x1024, .f32⟩
  | .hbm, ⟨12, _⟩ => ⟨S_, .i32⟩
  | .hbm, ⟨13, _⟩ => ⟨S114, .i32⟩
  | .hbm, ⟨14, _⟩ => ⟨S114, .i1⟩
  | .hbm, ⟨15, _⟩ => ⟨S_, .i32⟩
  | .hbm, ⟨16, _⟩ => ⟨S114, .i32⟩
  | .hbm, ⟨17, _⟩ => ⟨S114, .i32⟩
  | .hbm, ⟨18, _⟩ => ⟨S114, .i32⟩
  | .hbm, ⟨19, _⟩ => ⟨S114x1, .i32⟩
  | .hbm, ⟨20, _⟩ => ⟨S114x1024x2048, .f32⟩
  | .hbm, ⟨21, _⟩ => ⟨S114x1024x2048, .f32⟩
  | .hbm, ⟨22, _⟩ => ⟨S_, .i32⟩
  | .hbm, ⟨23, _⟩ => ⟨S114, .i32⟩
  | .hbm, ⟨24, _⟩ => ⟨S114, .i1⟩
  | .hbm, ⟨25, _⟩ => ⟨S_, .i32⟩
  | .hbm, ⟨26, _⟩ => ⟨S114, .i32⟩
  | .hbm, ⟨27, _⟩ => ⟨S114, .i32⟩
  | .hbm, ⟨28, _⟩ => ⟨S114, .i32⟩
  | .hbm, ⟨29, _⟩ => ⟨S114x1, .i32⟩
  | .hbm, ⟨30, _⟩ => ⟨S114x2048, .f32⟩
  | .hbm, ⟨31, _⟩ => ⟨S114x1x2048, .f32⟩
  | .hbm, ⟨32, _⟩ => ⟨S114x1024x2048, .f32⟩
  | .hbm, ⟨33, _⟩ => ⟨S114x1024x2048, .f32⟩
  | .hbm, ⟨34, _⟩ => ⟨S114x1024x1024, .f32⟩
  | .hbm, ⟨35, _⟩ => ⟨S_, .f32⟩
  | .hbm, ⟨36, _⟩ => ⟨S114x1024x1024, .f32⟩
  | .hbm, ⟨37, _⟩ => ⟨S114x1024x1024, .f32⟩
  | .hbm, ⟨38, _⟩ => ⟨S114x1024x1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S114x1024x1024, .f32⟩
  | .hbm, ⟨43, _⟩ => ⟨S114x1024x1024, .f32⟩
  | .hbm, ⟨44, _⟩ => ⟨S_, .f32⟩
  | .hbm, ⟨45, _⟩ => ⟨S114x1024x1024, .f32⟩
  | .hbm, ⟨46, _⟩ => ⟨S114x1024x1024, .f32⟩
  | .hbm, ⟨47, _⟩ => ⟨S_, .f32⟩
  | .hbm, ⟨48, _⟩ => ⟨S114x1024x1024, .f32⟩
  | .hbm, ⟨49, _⟩ => ⟨S114x1024x1024, .f32⟩
  | .hbm, ⟨50, _⟩ => ⟨S114x1024x1024, .f32⟩
  | .hbm, ⟨51, _⟩ => ⟨S114x1024x1024, .f32⟩
  | .hbm, ⟨52, _⟩ => ⟨S_, .f32⟩
  | .hbm, ⟨53, _⟩ => ⟨S114x1024x1024, .f32⟩
  | .hbm, ⟨54, _⟩ => ⟨S114x1024x1024, .f32⟩
  | .hbm, ⟨55, _⟩ => ⟨S_, .f32⟩
  | .hbm, ⟨56, _⟩ => ⟨S114x1024x1024, .f32⟩
  | .hbm, ⟨57, _⟩ => ⟨S114x1024x1024, .f32⟩
  | .hbm, ⟨58, _⟩ => ⟨S114x1024x1024, .f32⟩
  | .hbm, ⟨59, _⟩ => ⟨S_, .f32⟩
  | .hbm, ⟨60, _⟩ => ⟨S114x1024x1024, .f32⟩
  | .hbm, ⟨61, _⟩ => ⟨S114x1024x1024, .f32⟩
  | .hbm, ⟨62, _⟩ => ⟨S114x1024x1024, .f32⟩
  | .hbm, ⟨63, _⟩ => ⟨S_, .i32⟩
  | .hbm, ⟨64, _⟩ => ⟨S114, .i32⟩
  | .hbm, ⟨65, _⟩ => ⟨S114, .i1⟩
  | .hbm, ⟨66, _⟩ => ⟨S_, .i32⟩
  | .hbm, ⟨67, _⟩ => ⟨S114, .i32⟩
  | .hbm, ⟨68, _⟩ => ⟨S114, .i32⟩
  | .hbm, ⟨69, _⟩ => ⟨S114, .i32⟩
  | .hbm, ⟨70, _⟩ => ⟨S114x1, .i32⟩
  | .hbm, ⟨71, _⟩ => ⟨S114x1024x1024, .f32⟩
  | .hbm, ⟨72, _⟩ => ⟨S114x1024x1024, .f32⟩
  | .hbm, ⟨73, _⟩ => ⟨S_, .i32⟩
  | .hbm, ⟨74, _⟩ => ⟨S114, .i32⟩
  | .hbm, ⟨75, _⟩ => ⟨S114, .i1⟩
  | .hbm, ⟨76, _⟩ => ⟨S_, .i32⟩
  | .hbm, ⟨77, _⟩ => ⟨S114, .i32⟩
  | .hbm, ⟨78, _⟩ => ⟨S114, .i32⟩
  | .hbm, ⟨79, _⟩ => ⟨S114, .i32⟩
  | .hbm, ⟨80, _⟩ => ⟨S114x1, .i32⟩
  | .hbm, ⟨81, _⟩ => ⟨S114x1024, .f32⟩
  | .hbm, ⟨82, _⟩ => ⟨S114x1x1024, .f32⟩
  | .hbm, ⟨83, _⟩ => ⟨S114x1024x1024, .f32⟩
  | .hbm, ⟨84, _⟩ => ⟨S114x1024x1024, .f32⟩
  | .hbm, ⟨85, _⟩ => ⟨S116736x1024, .f32⟩
  | .hbm, ⟨86, _⟩ => ⟨S116736x1024, .bf16⟩
  | _, _ => ⟨S114, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_6 : Ref sig .tc := ⟨.hbm, 52, rfl⟩
abbrev main_v29 : Ref sig .tc := ⟨.hbm, 53, rfl⟩
abbrev main_v30 : Ref sig .tc := ⟨.hbm, 54, rfl⟩
abbrev main_cst_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_9 : Ref sig .tc := ⟨.hbm, 63, rfl⟩
abbrev main_v37 : Ref sig .tc := ⟨.hbm, 64, rfl⟩
abbrev main_v38 : Ref sig .tc := ⟨.hbm, 65, rfl⟩
abbrev main_c_10 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_11 : Ref sig .tc := ⟨.hbm, 73, rfl⟩
abbrev main_v45 : Ref sig .tc := ⟨.hbm, 74, rfl⟩
abbrev main_v46 : Ref sig .tc := ⟨.hbm, 75, rfl⟩
abbrev main_c_12 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1024x3072 : Shape := ⟨2, ![1024, 3072]⟩
abbrev S1x2048 : Shape := ⟨2, ![1, 2048]⟩
abbrev S8x2048x512 : Shape := ⟨3, ![8, 2048, 512]⟩
abbrev S16384x512 : Shape := ⟨2, ![16384, 512]⟩
abbrev S512x1024 : Shape := ⟨2, ![512, 1024]⟩
abbrev S1024x1024 : Shape := ⟨2, ![1024, 1024]⟩
abbrev S2x32x1024 : Shape := ⟨3, ![2, 32, 1024]⟩
abbrev S32x128 : Shape := ⟨2, ![32, 128]⟩
abbrev S512x512 : Shape := ⟨2, ![512, 512]⟩
abbrev S32x32 : Shape := ⟨2, ![32, 32]⟩
abbrev S4x16384 : Shape := ⟨2, ![4, 16384]⟩
abbrev S32x32x128 : Shape := ⟨3, ![32, 32, 128]⟩
abbrev S8x64x512 : Shape := ⟨3, ![8, 64, 512]⟩
abbrev S4x512 : Shape := ⟨2, ![4, 512]⟩
abbrev S1x32x128 : Shape := ⟨3, ![1, 32, 128]⟩
abbrev S4x512x128 : Shape := ⟨3, ![4, 512, 128]⟩
abbrev S1x64x128 : Shape := ⟨3, ![1, 64, 128]⟩
abbrev S64x128 : Shape := ⟨2, ![64, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x32x1024 : Shape := ⟨3, ![1, 32, 1024]⟩
abbrev S32x1024 : Shape := ⟨2, ![32, 1024]⟩
abbrev S32x512 : Shape := ⟨2, ![32, 512]⟩
abbrev S32x1 : Shape := ⟨2, ![32, 1]⟩
abbrev S1x512 : Shape := ⟨2, ![1, 512]⟩
abbrev S32 : Shape := ⟨1, ![32]⟩

abbrev nBuf : Space → Nat
  | .hbm => 28
  | .vmem => 38
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x3072, .bf16⟩
  | .hbm, ⟨4, _⟩ => ⟨S1x2048, .f32⟩
  | .hbm, ⟨5, _⟩ => ⟨S8x2048x512, .bf16⟩
  | .hbm, ⟨6, _⟩ => ⟨S16384x512, .bf16⟩
  | .hbm, ⟨7, _⟩ => ⟨S512x1024, .bf16⟩
  | .hbm, ⟨8, _⟩ => ⟨S1x1024, .f32⟩
  | .hbm, ⟨9, _⟩ => ⟨S512x1024, .bf16⟩
  | .hbm, ⟨10, _⟩ => ⟨S512x1024, .bf16⟩
  | .hbm, ⟨11, _⟩ => ⟨S1x1024, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S2x32x1024, .bf16⟩
  | .hbm, ⟨20, _⟩ => ⟨S32x128, .f32⟩
  | .hbm, ⟨21, _⟩ => ⟨S512x512, .bf16⟩
  | .hbm, ⟨22, _⟩ => ⟨S32x32, .bf16⟩
  | .hbm, ⟨23, _⟩ => ⟨S16384x1024, .f32⟩
  | .hbm, ⟨24, _⟩ => ⟨S16384x1024, .bf16⟩
  | .hbm, ⟨25, _⟩ => ⟨S4x16384, .i32⟩
  | .hbm, ⟨26, _⟩ => ⟨S4x16384, .f32⟩
  | .hbm, ⟨27, _⟩ => ⟨S32x32x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x2048, .f32⟩
  | .local _ .vmem, ⟨7, _⟩ => ⟨S8x64x512, .bf16⟩
  | .local _ .vmem, ⟨8, _⟩ => ⟨S8x64x512, .bf16⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S2x32x1024, .bf16⟩
  | .local _ .vmem, ⟨24, _⟩ => ⟨S32x128, .f32⟩
  | .local _ .vmem, ⟨25, _⟩ => ⟨S512x512, .bf16⟩
  | .local _ .vmem, ⟨26, _⟩ => ⟨S32x32, .bf16⟩
  | .local _ .vmem, ⟨27, _⟩ => ⟨S512x1024, .f32⟩
  | .local _ .vmem, ⟨28, _⟩ => ⟨S512x1024, .f32⟩
  | .local _ .vmem, ⟨29, _⟩ => ⟨S512x1024, .bf16⟩
  | .local _ .vmem, ⟨30, _⟩ => ⟨S512x1024, .bf16⟩
  | .local _ .vmem, ⟨31, _⟩ => ⟨S4x512, .i32⟩
  | .local _ .vmem, ⟨32, _⟩ => ⟨S4x512, .i32⟩
  | .local _ .vmem, ⟨33, _⟩ => ⟨S4x512, .f32⟩
  | .local _ .vmem, ⟨34, _⟩ => ⟨S4x512, .f32⟩
  | .local _ .vmem, ⟨35, _⟩ => ⟨S1x32x128, .f32⟩
  | .local _ .vmem, ⟨36, _⟩ => ⟨S1x32x128, .f32⟩
  | .local _ .vmem, ⟨37, _⟩ => ⟨S4x512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0_0 : Ref sig .tc := ⟨.hbm, 23, rfl⟩
abbrev main_v0_1 : Ref sig .tc := ⟨.hbm, 24, rfl⟩
abbrev main_v0_2 : Ref sig .tc := ⟨.hbm, 25, rfl⟩
abbrev main_v0_3 : Ref sig .tc := ⟨.hbm, 26, rfl⟩
abbrev main_v0_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg24_1 : Ref sig .tc := ⟨.vmem, 28, rfl⟩
abbrev cc0_stg25_0 : Ref sig .tc := ⟨.vmem, 29, rfl⟩
abbrev cc0_stg25_1 : Ref sig .tc := ⟨.vmem, 30, rfl⟩
abbrev cc0_stg26_0 : Ref sig .tc := ⟨.vmem, 31, rfl⟩
abbrev cc0_stg26_1 : Ref sig .tc := ⟨.vmem, 32, rfl⟩
abbrev cc0_stg27_0 : Ref sig .tc := ⟨.vmem, 33, rfl⟩
abbrev cc0_stg27_1 : Ref sig .tc := ⟨.vmem, 34, rfl⟩
abbrev cc0_stg28_0 : Ref sig .tc := ⟨.vmem, 35, rfl⟩
abbrev cc0_stg28_1 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem24_1 : DmaSem sig := 28
abbrev cc0_sem25_0 : DmaSem sig := 29
abbrev cc0_sem25_1 : DmaSem sig := 30
abbrev cc0_sem26_0 : DmaSem sig := 31
abbrev cc0_sem26_1 : DmaSem sig := 32
abbrev cc0_sem27_0 : DmaSem sig := 33
abbrev cc0_sem27_1 : DmaSem sig := 34
abbrev cc0_sem28_0 : DmaSem sig := 35
abbrev cc0_sem28_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2x32x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S32x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x512 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S32x32 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S512x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S4x512 .i32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S4x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x32x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]
-- ==== Reference2Ideal.lean ====
abbrev S16384x1024 : Shape := ⟨2, ![16384, 1024]⟩
abbrev S1x1024 : Shape := ⟨2, ![1, 1024]⟩
abbrev S1024x3072 : Shape := ⟨2, ![1024, 3072]⟩
abbrev S1x2048 : Shape := ⟨2, ![1, 2048]⟩
abbrev S8x2048x512 : Shape := ⟨3, ![8, 2048, 512]⟩
abbrev S16384x512 : Shape := ⟨2, ![16384, 512]⟩
abbrev S512x1024 : Shape := ⟨2, ![512, 1024]⟩
abbrev S1024x1024 : Shape := ⟨2, ![1024, 1024]⟩
abbrev S2x32x1024 : Shape := ⟨3, ![2, 32, 1024]⟩
abbrev S32x128 : Shape := ⟨2, ![32, 128]⟩
abbrev S512x512 : Shape := ⟨2, ![512, 512]⟩
abbrev S32x32 : Shape := ⟨2, ![32, 32]⟩
abbrev S2048x8x512 : Shape := ⟨3, ![2048, 8, 512]⟩
abbrev S1024x2048 : Shape := ⟨2, ![1024, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩

abbrev nBuf : Space → Nat
  | .hbm => 129
  | .vmem => 0
  | .smem => 0
  | _ => 0

abbrev hbmTy0_0 (i : Nat) : BufTy := match i % 128 with
  | 0 => ⟨S16384x1024, .f32⟩
  | 1 => ⟨S1x1024, .f32⟩
  | 2 => ⟨S1x1024, .f32⟩
  | 3 => ⟨S1024x3072, .bf16⟩
  | 4 => ⟨S1x2048, .f32⟩
  | 5 => ⟨S8x2048x512, .bf16⟩
  | 6 => ⟨S16384x512, .bf16⟩
  | 7 => ⟨S512x1024, .bf16⟩
  | 8 => ⟨S1x1024, .f32⟩
  | 9 => ⟨S512x1024, .bf16⟩
  | 10 => ⟨S512x1024, .bf16⟩
  | 11 => ⟨S1x1024, .f32⟩
  | 12 => ⟨S1024x1024, .bf16⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S2x32x1024, .bf16⟩
  | 20 => ⟨S32x128, .f32⟩
  | 21 => ⟨S512x512, .bf16⟩
  | 22 => ⟨S32x32, .bf16⟩
  | 23 => ⟨S2048x8x512, .bf16⟩
  | 24 => ⟨S16384x512, .bf16⟩
  | 25 => ⟨S16384x512, .f32⟩
  | 26 => ⟨S16384x1024, .f32⟩
  | 27 => ⟨S16384x1024, .f32⟩
  | 28 => ⟨S16384x1024, .f32⟩
  | 29 => ⟨S16384x1024, .f32⟩
  | 30 => ⟨S1024x2048, .bf16⟩
  | 31 => ⟨S1024x2048, .f32⟩
  | 32 => ⟨S16384x2048, .f32⟩
  | 33 => ⟨S16384x2048, .f32⟩
  | 34 => ⟨S16384x2048, .f32⟩
  | 35 => ⟨S16384x512, .f32⟩
  | 36 => ⟨S16384x512, .f32⟩
  | 37 => ⟨S_, .f32⟩
  | 38 => ⟨S16384x512, .f32⟩
  | 39 => ⟨S16384x512, .f32⟩
  | 40 => ⟨S16384x512, .f32⟩
  | 41 => ⟨S_, .f32⟩
  | 42 => ⟨S16384x512, .f32⟩
  | 43 => ⟨S16384x512, .f32⟩
  | 44 => ⟨S16384x512, .f32⟩
  | 45 => ⟨S_, .f32⟩
  | 46 => ⟨S16384x512, .f32⟩
  | 47 => ⟨S16384x512, .f32⟩
  | 48 => ⟨S_, .f32⟩
  | 49 => ⟨S16384x512, .f32⟩
  | 50 => ⟨S16384x512, .f32⟩
  | 51 => ⟨S16384x512, .f32⟩
  | 52 => ⟨S512x1024, .f32⟩
  | 53 => ⟨S16384x1024, .f32⟩
  | 54 => ⟨S16384x1024, .f32⟩
  | 55 => ⟨S16384x1024, .f32⟩
  | 56 => ⟨S16384x512, .f32⟩
  | 57 => ⟨S16384x512, .f32⟩
  | 58 => ⟨S16384x512, .f32⟩
  | 59 => ⟨S16384x512, .f32⟩
  | 60 => ⟨S_, .f32⟩
  | 61 => ⟨S16384x512, .f32⟩
  | 62 => ⟨S16384x512, .f32⟩
  | 63 => ⟨S_, .f32⟩
  | 64 => ⟨S16384x512, .f32⟩
  | 65 => ⟨S16384x512, .f32⟩
  | 66 => ⟨S16384x512, .f32⟩
  | 67 => ⟨S512x1024, .f32⟩
  | 68 => ⟨S16384x1024, .f32⟩
  | 69 => ⟨S16384x512, .f32⟩
  | 70 => ⟨S512x1024, .f32⟩
  | 71 => ⟨S16384x1024, .f32⟩
  | 72 => ⟨S16384x1024, .f32⟩
  | 73 => ⟨S16384x1024, .f32⟩
  | 74 => ⟨S16384x2048, .f32⟩
  | 75 => ⟨S16384x2048, .f32⟩
  | 76 => ⟨S_, .f32⟩
  | 77 => ⟨S16384x2048, .f32⟩
  | 78 => ⟨S16384x2048, .f32⟩
  | 79 => ⟨S_, .f32⟩
  | 80 => ⟨S16384x2048, .f32⟩
  | 81 => ⟨S16384x2048, .f32⟩
  | 82 => ⟨S16384x1024, .f32⟩
  | 83 => ⟨S16384x1024, .f32⟩
  | 84 => ⟨S_, .f32⟩
  | 85 => ⟨S16384x1024, .f32⟩
  | 86 => ⟨S16384x1024, .f32⟩
  | 87 => ⟨S16384x1024, .f32⟩
  | 88 => ⟨S16384x1024, .f32⟩
  | 89 => ⟨S16384x1024, .f32⟩
  | 90 => ⟨S1024x1024, .f32⟩
  | 91 => ⟨S16384x1024, .f32⟩
  | 92 => ⟨S16384x1024, .f32⟩
  | 93 => ⟨S16384x1024, .f32⟩
  | 94 => ⟨S16384x1024, .f32⟩
  | 95 => ⟨S16384x1024, .f32⟩
  | 96 => ⟨S16384x1024, .f32⟩
  | 97 => ⟨S_, .f32⟩
  | 98 => ⟨S16384, .f32⟩
  | 99 => ⟨S16384x1, .f32⟩
  | 100 => ⟨S_, .f32⟩
  | 101 => ⟨S16384x1, .f32⟩
  | 102 => ⟨S16384x1, .f32⟩
  | 103 => ⟨S16384x1024, .f32⟩
  | 104 => ⟨S16384x1024, .f32⟩
  | 105 => ⟨S16384x1024, .f32⟩
  | 106 => ⟨S_, .f32⟩
  | 107 => ⟨S16384, .f32⟩
  | 108 => ⟨S16384x1, .f32⟩
  | 109 => ⟨S_, .f32⟩
  | 110 => ⟨S16384x1, .f32⟩
  | 111 => ⟨S16384x1, .f32⟩
  | 112 => ⟨S16384x1024, .f32⟩
  | 113 => ⟨S16384x1024, .f32⟩
  | 114 => ⟨S_, .f32⟩
  | 115 => ⟨S16384x1, .f32⟩
  | 116 => ⟨S16384x1, .f32⟩
  | 117 => ⟨S16384x1, .f32⟩
  | 118 => ⟨S16384x1024, .f32⟩
  | 119 => ⟨S16384x1024, .f32⟩
  | 120 => ⟨S16384x1024, .f32⟩
  | 121 => ⟨S16384x1024, .f32⟩
  | 122 => ⟨S16384x1024, .f32⟩
  | 123 => ⟨S16384x1024, .f32⟩
  | 124 => ⟨S16384x1024, .f32⟩
  | 125 => ⟨S16384x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_0 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_v21 : Ref sig .tc := ⟨.hbm, 47, rfl⟩
abbrev main_cst_2 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_3 : Ref sig .tc := ⟨.hbm, 60, rfl⟩
abbrev main_v33 : Ref sig .tc := ⟨.hbm, 61, rfl⟩
abbrev main_v34 : Ref sig .tc := ⟨.hbm, 62, rfl⟩
abbrev main_cst_4 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_5 : Ref sig .tc := ⟨.hbm, 76, rfl⟩
abbrev main_v47 : Ref sig .tc := ⟨.hbm, 77, rfl⟩
abbrev main_v48 : Ref sig .tc := ⟨.hbm, 78, rfl⟩
abbrev main_cst_6 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_7 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_8 : Ref sig .tc := ⟨.hbm, 97, rfl⟩
abbrev main_v65 : Ref sig .tc := ⟨.hbm, 98, rfl⟩
abbrev main_v66 : Ref sig .tc := ⟨.hbm, 99, rfl⟩
abbrev main_cst_9 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_10 : Ref sig .tc := ⟨.hbm, 106, rfl⟩
abbrev main_v72 : Ref sig .tc := ⟨.hbm, 107, rfl⟩
abbrev main_v73 : Ref sig .tc := ⟨.hbm, 108, rfl⟩
abbrev main_cst_11 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_12 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩

abbrev nD : Nat := 1
abbrev τ : Topo := Topo.v7x

variable {F : FTy → Type} [FloatOps F]
-- ==== Kernel3.lean ====
abbrev S16384x1024 : Shape := ⟨2, ![16384, 1024]⟩
abbrev S256x512 : Shape := ⟨2, ![256, 512]⟩
abbrev S64x512 : Shape := ⟨2, ![64, 512]⟩
abbrev S1x1024 : Shape := ⟨2, ![1, 1024]⟩
abbrev S1024x3072 : Shape := ⟨2, ![1024, 3072]⟩
abbrev S1024x1024 : Shape := ⟨2, ![1024, 1024]⟩
abbrev S1x1536 : Shape := ⟨2, ![1, 1536]⟩
abbrev S8x2048x512 : Shape := ⟨3, ![8, 2048, 512]⟩
abbrev S16384x512 : Shape := ⟨2, ![16384, 512]⟩
abbrev S16x512 : Shape := ⟨2, ![16, 512]⟩
abbrev S1024x512 : Shape := ⟨2, ![1024, 512]⟩
abbrev S8x128x512 : Shape := ⟨3, ![8, 128, 512]⟩
abbrev S4x1024x128 : Shape := ⟨3, ![4, 1024, 128]⟩
abbrev S16x1x512 : Shape := ⟨3, ![16, 1, 512]⟩
abbrev S16x64x512 : Shape := ⟨3, ![16, 64, 512]⟩
abbrev S1024 : Shape := ⟨1, ![1024]⟩
abbrev S1024x1 : Shape := ⟨2, ![1024, 1]⟩
abbrev S1x512 : Shape := ⟨2, ![1, 512]⟩
abbrev S1024x128 : Shape := ⟨2, ![1024, 128]⟩
abbrev S1x1024x128 : Shape := ⟨3, ![1, 1024, 128]⟩
abbrev S1x128x128 : Shape := ⟨3, ![1, 128, 128]⟩
abbrev S128x128 : Shape := ⟨2, ![128, 128]⟩

abbrev nBuf : Space → Nat
  | .hbm => 14
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S256x512, .f32⟩
  | .hbm, ⟨2, _⟩ => ⟨S64x512, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x3072, .bf16⟩
  | .hbm, ⟨8, _⟩ => ⟨S1024x1024, .bf16⟩
  | .hbm, ⟨9, _⟩ => ⟨S1x1536, .f32⟩
  | .hbm, ⟨10, _⟩ => ⟨S8x2048x512, .bf16⟩
  | .hbm, ⟨11, _⟩ => ⟨S16384x512, .bf16⟩
  | .hbm, ⟨12, _⟩ => ⟨S16384x512, .bf16⟩
  | .hbm, ⟨13, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S16x512, .f32⟩
  | .local _ .vmem, ⟨3, _⟩ => ⟨S16x512, .f32⟩
  | .local _ .vmem, ⟨4, _⟩ => ⟨S64x512, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x512, .bf16⟩
  | .local _ .vmem, ⟨10, _⟩ => ⟨S1024x1024, .bf16⟩
  | .local _ .vmem, ⟨11, _⟩ => ⟨S1x1536, .f32⟩
  | .local _ .vmem, ⟨12, _⟩ => ⟨S8x128x512, .bf16⟩
  | .local _ .vmem, ⟨13, _⟩ => ⟨S8x128x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x1024, .f32⟩
  | .local _ .vmem, ⟨19, _⟩ => ⟨S1024x1024, .f32⟩
  | .local _ .vmem, ⟨20, _⟩ => ⟨S4x1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S16384x1024 : Shape := ⟨2, ![16384, 1024]⟩
abbrev S256x512 : Shape := ⟨2, ![256, 512]⟩
abbrev S64x512 : Shape := ⟨2, ![64, 512]⟩
abbrev S1x1024 : Shape := ⟨2, ![1, 1024]⟩
abbrev S1024x3072 : Shape := ⟨2, ![1024, 3072]⟩
abbrev S1024x1024 : Shape := ⟨2, ![1024, 1024]⟩
abbrev S1x1536 : Shape := ⟨2, ![1, 1536]⟩
abbrev S256x1x512 : Shape := ⟨3, ![256, 1, 512]⟩
abbrev S256x64x512 : Shape := ⟨3, ![256, 64, 512]⟩
abbrev S1x64x512 : Shape := ⟨3, ![1, 64, 512]⟩
abbrev S256x64x1024 : Shape := ⟨3, ![256, 64, 1024]⟩
abbrev S_ : Shape := ⟨0, ![]⟩
abbrev S16384 : Shape := ⟨1, ![16384]⟩
abbrev S16384x1 : Shape := ⟨2, ![16384, 1]⟩
abbrev S1024x512 : Shape := ⟨2, ![1024, 512]⟩
abbrev S16384x512 : Shape := ⟨2, ![16384, 512]⟩
abbrev S1x512 : Shape := ⟨2, ![1, 512]⟩
abbrev S2048x8x512 : Shape := ⟨3, ![2048, 8, 512]⟩
abbrev S8x2048x512 : Shape := ⟨3, ![8, 2048, 512]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S256x512, .f32⟩
  | .hbm, ⟨2, _⟩ => ⟨S64x512, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x3072, .bf16⟩
  | .hbm, ⟨8, _⟩ => ⟨S1024x1024, .bf16⟩
  | .hbm, ⟨9, _⟩ => ⟨S1x1536, .f32⟩
  | .hbm, ⟨10, _⟩ => ⟨S256x1x512, .f32⟩
  | .hbm, ⟨11, _⟩ => ⟨S256x64x512, .f32⟩
  | .hbm, ⟨12, _⟩ => ⟨S1x64x512, .f32⟩
  | .hbm, ⟨13, _⟩ => ⟨S256x64x512, .f32⟩
  | .hbm, ⟨14, _⟩ => ⟨S256x64x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S1024x512, .bf16⟩
  | .hbm, ⟨49, _⟩ => ⟨S1024x512, .f32⟩
  | .hbm, ⟨50, _⟩ => ⟨S16384x512, .f32⟩
  | .hbm, ⟨51, _⟩ => ⟨S1x512, .f32⟩
  | .hbm, ⟨52, _⟩ => ⟨S16384x512, .f32⟩
  | .hbm, ⟨53, _⟩ => ⟨S16384x512, .f32⟩
  | .hbm, ⟨54, _⟩ => ⟨S1024x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S2048x8x512, .f32⟩
  | .hbm, ⟨60, _⟩ => ⟨S8x2048x512, .f32⟩
  | .hbm, ⟨61, _⟩ => ⟨S8x2048x512, .bf16⟩
  | .hbm, ⟨62, _⟩ => ⟨S16384x512, .f32⟩
  | .hbm, ⟨63, _⟩ => ⟨S16384x512, .bf16⟩
  | .hbm, ⟨64, _⟩ => ⟨S16384x512, .f32⟩
  | .hbm, ⟨65, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Proof.Slots.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import Idealize.ShloMosaic.Lib.VecWindow
public import Idealize.ShloMosaic.Lib.Pointwise.Reshape

/-! The two weight slots of the expert kernel: the slices its transfers move, and what a slot holds when it is free or in flight. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The five tables, the two weight arrays left in HBM, and the four scratch buffers, each whole. -/
abbrev tbE : Memref sig .tc .smem S114 .i32 := Memref.whole main_arg0
abbrev tbU : Memref sig .tc .smem S1 .i32 := Memref.whole main_arg1
abbrev tbR : Memref sig .tc .smem S114 .i32 := Memref.whole main_arg2
abbrev tbX : Memref sig .tc .smem S114 .i32 := Memref.whole main_arg3
abbrev tbV : Memref sig .tc .smem S114 .i32 := Memref.whole main_arg4
abbrev upM : Memref sig .tc .hbm S32x1024x2048 .f32 := Memref.whole main_arg6
abbrev dnM : Memref sig .tc .hbm S32x1024x1024 .f32 := Memref.whole main_arg8
abbrev upS : Memref sig .tc .vmem S2x1024x2048 .f32 := Memref.whole cc0_scratch0
abbrev dnS : Memref sig .tc .vmem S2x1024x1024 .f32 := Memref.whole cc0_scratch1
abbrev upB : Memref sig .tc .vmem S1024x2048 .bf16 := Memref.whole cc0_scratch2
abbrev dnB : Memref sig .tc .vmem S1024x1024 .bf16 := Memref.whole cc0_scratch3

/-- What a whole buffer's contents are, and holding it. -/
abbrev BufOf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (q : PosShare TreeShare) (f : BufOf (F := F) c M) : sProp 𝕄 :=
  M.view.loc (c : Thread nD τ) ↦[M.view.set]{q} f

/-- The word of a table that point `i` reads. -/
def wordAt (c : Dev nD) (M : Memref sig .tc .smem S114 .i32) (f : BufOf (F := F) c M) (i : grid0.Coords) : BitVec 32 :=
  View.readAt (Elt F) M.view (Rect.unit (s := S114) (k0_off2 i) S1.size (k0_off2_inb i)).toLoadRect f (Shape.Idx.first (show 0 < S1.numel by decide))

/-- Expert `e`'s weights in HBM, as the transfers read them. -/
abbrev upRow (e : BitVec 32) (h : ∀ a, (![e.toNat, 0, 0] : Fin 3 → ℕ) a + S1x1024x2048.size a ≤ S32x1024x2048.size a) :
    Memref sig .tc .hbm S1024x2048 .f32 :=
  (upM.slice (Rect.unit (s := S32x1024x2048) ![e.toNat, 0, 0] S1x1024x2048.size h) (fun _ => rfl)).squeeze S1024x2048 squeezes_S1x1024x2048_S1024x2048
abbrev dnRow (e : BitVec 32) (h : ∀ a, (![e.toNat, 0, 0] : Fin 3 → ℕ) a + S1x1024x1024.size a ≤ S32x1024x1024.size a) :
    Memref sig .tc .hbm S1024x1024 .f32 :=
  (dnM.slice (Rect.unit (s := S32x1024x1024) ![e.toNat, 0, 0] S1x1024x1024.size h) (fun _ => rfl)).squeeze S1024x1024 squeezes_S1x1024x1024_S1024x1024

/-- A slot of the two weight buffers, as the transfers write it. -/
abbrev upSlot (r : Fin 3 → ℕ) (h : ∀ a, r a + S1x1024x2048.size a ≤ S2x1024x2048.size a) : Memref sig .tc .vmem S1024x2048 .f32 :=
  (upS.slice (Rect.unit (s := S2x1024x2048) r S1x1024x2048.size h) (fun _ => rfl)).squeeze S1024x2048 squeezes_S1x1024x2048_S1024x2048
abbrev dnSlot (r : Fin 3 → ℕ) (h : ∀ a, r a + S1x1024x1024.size a ≤ S2x1024x1024.size a) : Memref sig .tc .vmem S1024x1024 .f32 :=
  (dnS.slice (Rect.unit (s := S2x1024x1024) r S1x1024x1024.size h) (fun _ => rfl)).squeeze S1024x1024 squeezes_S1x1024x1024_S1024x1024
abbrev upSlot0 := upSlot ![0, 0, 0] inb_S2x1024x2048_S1x1024x2048_0_0_0
abbrev upSlot1 := upSlot ![1, 0, 0] inb_S2x1024x2048_S1x1024x2048_1_0_0
abbrev dnSlot0 := dnSlot ![0, 0, 0] inb_S2x1024x1024_S1x1024x1024_0_0_0
abbrev dnSlot1 := dnSlot ![1, 0, 0] inb_S2x1024x1024_S1x1024x1024_1_0_0

/-- The amounts of the two copies into a slot, in issue order. -/
abbrev amts : Fin 2 → ℕ := ![262144, 131072]

/-- What the two copies of expert `e` into slot 0 deliver: the slot written with the expert's rows, and the rows read back,
    at the shares the cell of slot 0 reads at. -/
def deliv0 (c : Dev nD) (e : BitVec 32) (hu : ∀ a, (![e.toNat, 0, 0] : Fin 3 → ℕ) a + S1x1024x2048.size a ≤ S32x1024x2048.size a)
    (hd : ∀ a, (![e.toNat, 0, 0] : Fin 3 → ℕ) a + S1x1024x1024.size a ≤ S32x1024x1024.size a)
    (wu : BufOf (F := F) c upM) (wd : BufOf (F := F) c dnM) (du : BufOf (F := F) c upS) (dd : BufOf (F := F) c dnS) : Fin 2 → sProp 𝕄
  | 0 => iprop((upSlot0.view.loc (c : Thread nD τ) ↦[upSlot0.view.set]{fullShare}
        upSlot0.view.writes (Elt F) du [⟨Rect.whole S1024x2048, ReadAs.same.apply ((upRow e hu).view.read (Elt F) wu)⟩])
      ∗ (upM.view.loc (c : Thread nD τ) ↦[(upRow e hu).view.set]{Transfers.shareTokN fullShare 6} wu))
  | 1 => iprop((dnSlot0.view.loc (c : Thread nD τ) ↦[dnSlot0.view.set]{fullShare}
        dnSlot0.view.writes (Elt F) dd [⟨Rect.whole S1024x1024, ReadAs.same.apply ((dnRow e hd).view.read (Elt F) wd)⟩])
      ∗ (dnM.view.loc (c : Thread nD τ) ↦[(dnRow e hd).view.set]{Transfers.shareTokN fullShare 6} wd))
instance deliv0_storable (c : Dev nD) (e : BitVec 32) (hu : ∀ a, (![e.toNat, 0, 0] : Fin 3 → ℕ) a + S1x1024x2048.size a ≤ S32x1024x2048.size a)
    (hd : ∀ a, (![e.toNat, 0, 0] : Fin 3 → ℕ) a + S1x1024x1024.size a ≤ S32x1024x1024.size a)
    (wu : BufOf (F := F) c upM) (wd : BufOf (F := F) c dnM) (du : BufOf (F := F) c upS) (dd : BufOf (F := F) c dnS) (t : Fin 2) :
    Storable (upEmb : UEmb _ 𝕄) (deliv0 c e hu hd wu wd du dd t) := by
  fin_cases t <;> simp only [deliv0] <;> infer_instance

/-- The same of slot 1. -/
def deliv1 (c : Dev nD) (e : BitVec 32) (hu : ∀ a, (![e.toNat, 0, 0] : Fin 3 → ℕ) a + S1x1024x2048.size a ≤ S32x1024x2048.size a)
    (hd : ∀ a, (![e.toNat, 0, 0] : Fin 3 → ℕ) a + S1x1024x1024.size a ≤ S32x1024x1024.size a)
    (wu : BufOf (F := F) c upM) (wd : BufOf (F := F) c dnM) (du : BufOf (F := F) c upS) (dd : BufOf (F := F) c dnS) : Fin 2 → sProp 𝕄
  | 0 => iprop((upSlot1.view.loc (c : Thread nD τ) ↦[upSlot1.view.set]{fullShare}
        upSlot1.view.writes (Elt F) du [⟨Rect.whole S1024x2048, ReadAs.same.apply ((upRow e hu).view.read (Elt F) wu)⟩])
      ∗ (upM.view.loc (c : Thread nD τ) ↦[(upRow e hu).view.set]{Transfers.shareTokN fullShare 7} wu))
  | 1 => iprop((dnSlot1.view.loc (c : Thread nD τ) ↦[dnSlot1.view.set]{fullShare}
        dnSlot1.view.writes (Elt F) dd [⟨Rect.whole S1024x1024, ReadAs.same.apply ((dnRow e hd).view.read (Elt F) wd)⟩])
      ∗ (dnM.view.loc (c : Thread nD τ) ↦[(dnRow e hd).view.set]{Transfers.shareTokN fullShare 7} wd))
instance deliv1_storable (c : Dev nD) (e : BitVec 32) (hu : ∀ a, (![e.toNat, 0, 0] : Fin 3 → ℕ) a + S1x1024x2048.size a ≤ S32x1024x2048.size a)
    (hd : ∀ a, (![e.toNat, 0, 0] : Fin 3 → ℕ) a + S1x1024x1024.size a ≤ S32x1024x1024.size a)
    (wu : BufOf (F := F) c upM) (wd : BufOf (F := F) c dnM) (du : BufOf (F := F) c upS) (dd : BufOf (F := F) c dnS) (t : Fin 2) :
    Storable (upEmb : UEmb _ 𝕄) (deliv1 c e hu hd wu wd du dd t) := by
  fin_cases t <;> simp only [deliv1] <;> infer_instance

/-- Expert `e`'s weights as the block buffers hold them: the rows in HBM, rounded. -/
def upW (c : Dev nD) (e : BitVec 32) (hu : ∀ a, (![e.toNat, 0, 0] : Fin 3 → ℕ) a + S1x1024x2048.size a ≤ S32x1024x2048.size a)
    (wu : BufOf (F := F) c upM) : FVec F S1024x2048 .bf16 := truncf .bf16 ((upRow e hu).view.read (Elt F) wu) bitsLt_bf16_f32
def dnW (c : Dev nD) (e : BitVec 32) (hd : ∀ a, (![e.toNat, 0, 0] : Fin 3 → ℕ) a + S1x1024x1024.size a ≤ S32x1024x1024.size a)
    (wd : BufOf (F := F) c dnM) : FVec F S1024x1024 .bf16 := truncf .bf16 ((dnRow e hd).view.read (Elt F) wd) bitsLt_bf16_f32

/-- The two block buffers hold expert `e`'s weights. -/
def Held (c : Dev nD) (wu : BufOf (F := F) c upM) (wd : BufOf (F := F) c dnM) (e : BitVec 32) : sProp 𝕄 :=
  iprop(∃ hu hd fu fd, ⌜upB.view.read (Elt F) fu = upW c e hu wu⌝ ∗ ⌜dnB.view.read (Elt F) fd = dnW c e hd wd⌝
    ∗ pt c upB fullShare fu ∗ pt c dnB fullShare fd)

/-- Slot 0 free: its semaphore at zero, its two halves at anything, and the shares of the weights its copies read at. -/
def Free0 (c : Dev nD) (wu : BufOf (F := F) c upM) (wd : BufOf (F := F) c dnM) : sProp 𝕄 :=
  iprop(semVal ((c : Thread nD τ), SemLoc.dma 6) 0
    ∗ (∃ du, upSlot0.view.loc (c : Thread nD τ) ↦[upSlot0.view.set]{fullShare} du)
    ∗ (∃ dd, dnSlot0.view.loc (c : Thread nD τ) ↦[dnSlot0.view.set]{fullShare} dd)
    ∗ pt c upM (Transfers.shareTokN fullShare 6) wu ∗ pt c dnM (Transfers.shareTokN fullShare 6) wd)

/-- Slot 0 with expert `e`'s two copies in flight. -/
def Fly0 (c : Dev nD) (wu : BufOf (F := F) c upM) (wd : BufOf (F := F) c dnM) (e : BitVec 32) : sProp 𝕄 :=
  iprop(∃ hu hd du dd, Transfers.MixedBatch (Lvl := ℕ) (countersEmb (U := Pipeline.UD sig nD τ)) (c : Thread nD τ) (SemLoc.dma 6) () amts
      (deliv0 c e hu hd wu wd du dd) 2 0
    ∗ (upM.view.loc (c : Thread nD τ) ↦[upM.view.set \ (upRow e hu).view.set]{Transfers.shareTokN fullShare 6} wu)
    ∗ (dnM.view.loc (c : Thread nD τ) ↦[dnM.view.set \ (dnRow e hd).view.set]{Transfers.shareTokN fullShare 6} wd))

/-- Slot 1 free: its semaphore at zero, its two halves at anything, and the shares of the weights its copies read at. -/
def Free1 (c : Dev nD) (wu : BufOf (F := F) c upM) (wd : BufOf (F := F) c dnM) : sProp 𝕄 :=
  iprop(semVal ((c : Thread nD τ), SemLoc.dma 7) 0
    ∗ (∃ du, upSlot1.view.loc (c : Thread nD τ) ↦[upSlot1.view.set]{fullShare} du)
    ∗ (∃ dd, dnSlot1.view.loc (c : Thread nD τ) ↦[dnSlot1.view.set]{fullShare} dd)
    ∗ pt c upM (Transfers.shareTokN fullShare 7) wu ∗ pt c dnM (Transfers.shareTokN fullShare 7) wd)

/-- Slot 1 with expert `e`'s two copies in flight. -/
def Fly1 (c : Dev nD) (wu : BufOf (F := F) c upM) (wd : BufOf (F := F) c dnM) (e : BitVec 32) : sProp 𝕄 :=
  iprop(∃ hu hd du dd, Transfers.MixedBatch (Lvl := ℕ) (countersEmb (U := Pipeline.UD sig nD τ)) (c : Thread nD τ) (SemLoc.dma 7) () amts
      (deliv1 c e hu hd wu wd du dd) 2 0
    ∗ (upM.view.loc (c : Thread nD τ) ↦[upM.view.set \ (upRow e hu).view.set]{Transfers.shareTokN fullShare 7} wu)
    ∗ (dnM.view.loc (c : Thread nD τ) ↦[dnM.view.set \ (dnRow e hd).view.set]{Transfers.shareTokN fullShare 7} wd))

/-- The rows a copy read at, joined with the rest of the share. -/
theorem up_join (c : Dev nD) (e : BitVec 32) (hu : ∀ a, (![e.toNat, 0, 0] : Fin 3 → ℕ) a + S1x1024x2048.size a ≤ S32x1024x2048.size a)
    (q : PosShare TreeShare) (wu : BufOf (F := F) c upM) :
    iprop((upM.view.loc (c : Thread nD τ) ↦[(upRow e hu).view.set]{q} wu)
      ∗ (upM.view.loc (c : Thread nD τ) ↦[upM.view.set \ (upRow e hu).view.set]{q} wu)) ⊢ (pt c upM q wu : sProp 𝕄) :=
  (pointsTo_split_subset (by rw [show upM.view.set = Finset.univ from View.set_whole _]; exact Finset.subset_univ _)).2
theorem dn_join (c : Dev nD) (e : BitVec 32) (hd : ∀ a, (![e.toNat, 0, 0] : Fin 3 → ℕ) a + S1x1024x1024.size a ≤ S32x1024x1024.size a)
    (q : PosShare TreeShare) (wd : BufOf (F := F) c dnM) :
    iprop((dnM.view.loc (c : Thread nD τ) ↦[(dnRow e hd).view.set]{q} wd)
      ∗ (dnM.view.loc (c : Thread nD τ) ↦[dnM.view.set \ (dnRow e hd).view.set]{q} wd)) ⊢ (pt c dnM q wd : sProp 𝕄) :=
  (pointsTo_split_subset (by rw [show dnM.view.set = Finset.univ from View.set_whole _]; exact Finset.subset_univ _)).2

/-- What the block buffers hold once slot 0's copies are read and rounded into them. -/
theorem held_up0 (f : upB.view.ty.Contents (Elt F)) (g : upSlot0.view.ty.Contents (Elt F)) (x : FVec F S1024x2048 .f32)
    (inb : ∀ a, (![0, 0] : Fin 2 → ℕ) a + S1024x2048.size a ≤ S1024x2048.size a) :
    upB.view.read (Elt F) (upB.view.writes (Elt F) f [⟨Rect.unit ![0, 0] S1024x2048.size inb,
      k0_pay7 (View.readAt (Elt F) upS.view (Rect.unit (s := S2x1024x2048) ![0, 0, 0] S1x1024x2048.size inb_S2x1024x2048_S1x1024x2048_0_0_0).toLoadRect
        (upSlot0.view.writes (Elt F) g [⟨Rect.whole S1024x2048, x⟩]))⟩]) = truncf .bf16 x bitsLt_bf16_f32 := by
  rw [View.read_writes_full]
  have h : shapeCast S1024x2048 (View.readAt (Elt F) upS.view (Rect.unit (s := S2x1024x2048) ![0, 0, 0] S1x1024x2048.size inb_S2x1024x2048_S1x1024x2048_0_0_0).toLoadRect
        (upSlot0.view.writes (Elt F) g [⟨Rect.whole S1024x2048, x⟩])) shapeCasts_S1x1024x2048_S1024x2048 = x :=
    View.read_writes_whole upSlot0.view g x
  unfold k0_pay7
  simp only [h, shapeCast_id]
theorem held_dn0 (f : dnB.view.ty.Contents (Elt F)) (g : dnSlot0.view.ty.Contents (Elt F)) (x : FVec F S1024x1024 .f32)
    (inb : ∀ a, (![0, 0] : Fin 2 → ℕ) a + S1024x1024.size a ≤ S1024x1024.size a) :
    dnB.view.read (Elt F) (dnB.view.writes (Elt F) f [⟨Rect.unit ![0, 0] S1024x1024.size inb,
      k0_pay1 (k0_pay8 (View.readAt (Elt F) dnS.view (Rect.unit (s := S2x1024x1024) ![0, 0, 0] S1x1024x1024.size inb_S2x1024x1024_S1x1024x1024_0_0_0).toLoadRect
        (dnSlot0.view.writes (Elt F) g [⟨Rect.whole S1024x1024, x⟩])))⟩]) = truncf .bf16 x bitsLt_bf16_f32 := by
  rw [View.read_writes_full]
  have h : shapeCast S1024x1024 (View.readAt (Elt F) dnS.view (Rect.unit (s := S2x1024x1024) ![0, 0, 0] S1x1024x1024.size inb_S2x1024x1024_S1x1024x1024_0_0_0).toLoadRect
        (dnSlot0.view.writes (Elt F) g [⟨Rect.whole S1024x1024, x⟩])) shapeCasts_S1x1024x1024_S1024x1024 = x :=
    View.read_writes_whole dnSlot0.view g x
  unfold k0_pay1 k0_pay8
  simp only [h, shapeCast_id]

/-- What the block buffers hold once slot 1's copies are read and rounded into them. -/
theorem held_up1 (f : upB.view.ty.Contents (Elt F)) (g : upSlot1.view.ty.Contents (Elt F)) (x : FVec F S1024x2048 .f32)
    (inb : ∀ a, (![0, 0] : Fin 2 → ℕ) a + S1024x2048.size a ≤ S1024x2048.size a) :
    upB.view.read (Elt F) (upB.view.writes (Elt F) f [⟨Rect.unit ![0, 0] S1024x2048.size inb,
      k0_pay9 (View.readAt (Elt F) upS.view (Rect.unit (s := S2x1024x2048) ![1, 0, 0] S1x1024x2048.size inb_S2x1024x2048_S1x1024x2048_1_0_0).toLoadRect
        (upSlot1.view.writes (Elt F) g [⟨Rect.whole S1024x2048, x⟩]))⟩]) = truncf .bf16 x bitsLt_bf16_f32 := by
  rw [View.read_writes_full]
  have h : shapeCast S1024x2048 (View.readAt (Elt F) upS.view (Rect.unit (s := S2x1024x2048) ![1, 0, 0] S1x1024x2048.size inb_S2x1024x2048_S1x1024x2048_1_0_0).toLoadRect
        (upSlot1.view.writes (Elt F) g [⟨Rect.whole S1024x2048, x⟩])) shapeCasts_S1x1024x2048_S1024x2048 = x :=
    View.read_writes_whole upSlot1.view g x
  unfold k0_pay9
  simp only [h, shapeCast_id]
theorem held_dn1 (f : dnB.view.ty.Contents (Elt F)) (g : dnSlot1.view.ty.Contents (Elt F)) (x : FVec F S1024x1024 .f32)
    (inb : ∀ a, (![0, 0] : Fin 2 → ℕ) a + S1024x1024.size a ≤ S1024x1024.size a) :
    dnB.view.read (Elt F) (dnB.view.writes (Elt F) f [⟨Rect.unit ![0, 0] S1024x1024.size inb,
      k0_pay2 (k0_pay10 (View.readAt (Elt F) dnS.view (Rect.unit (s := S2x1024x1024) ![1, 0, 0] S1x1024x1024.size inb_S2x1024x1024_S1x1024x1024_1_0_0).toLoadRect
        (dnSlot1.view.writes (Elt F) g [⟨Rect.whole S1024x1024, x⟩])))⟩]) = truncf .bf16 x bitsLt_bf16_f32 := by
  rw [View.read_writes_full]
  have h : shapeCast S1024x1024 (View.readAt (Elt F) dnS.view (Rect.unit (s := S2x1024x1024) ![1, 0, 0] S1x1024x1024.size inb_S2x1024x1024_S1x1024x1024_1_0_0).toLoadRect
        (dnSlot1.view.writes (Elt F) g [⟨Rect.whole S1024x1024, x⟩])) shapeCasts_S1x1024x1024_S1024x1024 = x :=
    View.read_writes_whole dnSlot1.view g x
  unfold k0_pay2 k0_pay10
  simp only [h, shapeCast_id]

end Cert.KernelIdeal.Hand

end
-- ==== Proof.Ends.lean ====
module

public import proofs.«01_k».proof.Proof.Slots
public import proofs.«01_k».proof.Proof.Gen.KernelIdeal.Skeleton
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Slots

/-! The two slots at the region's two ends: made of the scratch buffers, the two cells and the weights, and given back. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- A whole buffer held through its memref is the buffer. -/
theorem pt_whole (c : Dev nD) (b : Ref sig .tc) (q : PosShare TreeShare) (f : Buf (Elt F) ((c : Thread nD τ).loc b)) :
    (pt c (Memref.whole b) q f : sProp 𝕄) = (((c : Thread nD τ).loc b) ↦{q} f) := by
  unfold pt; rw [View.set_whole]

theorem pt_in (c : Dev nD) (b : Ref sig .tc) (q : PosShare TreeShare) (f : Buf (Elt F) ((c : Thread nD τ).loc b)) :
    (((c : Thread nD τ).loc b) ↦{q} f : sProp 𝕄) ⊢ pt c (Memref.whole b) q f := by rw [pt_whole]
theorem pt_out (c : Dev nD) (b : Ref sig .tc) (q : PosShare TreeShare) (f : Buf (Elt F) ((c : Thread nD τ).loc b)) :
    (pt c (Memref.whole b) q f : sProp 𝕄) ⊢ (((c : Thread nD τ).loc b) ↦{q} f) := by rw [pt_whole]

/-- A slot lies inside its buffer. -/
theorem upIn (j : Fin 2) : ∀ a, (![j.val, 0, 0] : Fin 3 → ℕ) a + S1x1024x2048.size a ≤ S2x1024x2048.size a := by revert j; decide
theorem dnIn (j : Fin 2) : ∀ a, (![j.val, 0, 0] : Fin 3 → ℕ) a + S1x1024x1024.size a ≤ S2x1024x1024.size a := by revert j; decide

/-- Slot `j` of the up buffer's elements. -/
abbrev upSet (j : Fin 2) : Finset S2x1024x2048.Idx :=
  (Rect.unit (s := S2x1024x2048) ![j.val, 0, 0] S1x1024x2048.size (upIn j)).set
theorem up_disjoint (j j' : Fin 2) (hj : j ≠ j') : Disjoint (upSet j) (upSet j') :=
  Ring.lead_disjoint (s := S2x1024x2048) (0 : Fin 3) 1 (fun j : Fin 2 => (![j.val, 0, 0] : Fin 3 → ℕ)) S1x1024x2048.size upIn (fun j => by simp) rfl j j' hj
theorem up_cover : Finset.univ.biUnion upSet = Finset.univ :=
  Ring.lead_cover (s := S2x1024x2048) (0 : Fin 3) 1 (fun j : Fin 2 => (![j.val, 0, 0] : Fin 3 → ℕ)) S1x1024x2048.size upIn (fun j => by simp)
    (fun j a ha => by fin_cases a <;> first | exact absurd rfl ha | rfl) rfl (fun a ha => by fin_cases a <;> first | exact absurd rfl ha | rfl) rfl
theorem upSlot0_set : upSlot0.view.set = upSet 0 := by
  simp only [upSlot0, upSlot, Memref.view_squeeze, View.set_reshape]; exact View.set_slice_whole _ _
theorem upSlot1_set : upSlot1.view.set = upSet 1 := by
  simp only [upSlot1, upSlot, Memref.view_squeeze, View.set_reshape]; exact View.set_slice_whole _ _
/-- The up buffer whole is its two slots, and back. -/
theorem up_split (c : Dev nD) : iprop(∃ f : Buf (Elt F) ((c : Thread nD τ).loc cc0_scratch0), ((c : Thread nD τ).loc cc0_scratch0) ↦{fullShare} f)
    ⊢ (iprop((∃ f : BufOf (F := F) c upS, upSlot0.view.loc (c : Thread nD τ) ↦[upSlot0.view.set]{fullShare} f)
      ∗ ∃ f : BufOf (F := F) c upS, upSlot1.view.loc (c : Thread nD τ) ↦[upSlot1.view.set]{fullShare} f) : sProp 𝕄) :=
  Ring.slots2_split (U := Pipeline.UD sig nD τ) (ℓ := (c : Thread nD τ).loc cc0_scratch0) (q := fullShare) upSet up_disjoint up_cover
    (fun f => upSlot0.view.loc (c : Thread nD τ) ↦[upSlot0.view.set]{fullShare} f)
    (fun f => upSlot1.view.loc (c : Thread nD τ) ↦[upSlot1.view.set]{fullShare} f)
    (fun f => by rw [upSlot0_set]) (fun f => by rw [upSlot1_set])
theorem up_unsplit (c : Dev nD) :
    (iprop((∃ f : BufOf (F := F) c upS, upSlot0.view.loc (c : Thread nD τ) ↦[upSlot0.view.set]{fullShare} f)
      ∗ ∃ f : BufOf (F := F) c upS, upSlot1.view.loc (c : Thread nD τ) ↦[upSlot1.view.set]{fullShare} f) : sProp 𝕄)
    ⊢ iprop(∃ f : Buf (Elt F) ((c : Thread nD τ).loc cc0_scratch0), ((c : Thread nD τ).loc cc0_scratch0) ↦{fullShare} f) :=
  Ring.slots2_join (U := Pipeline.UD sig nD τ) (ℓ := (c : Thread nD τ).loc cc0_scratch0) (q := fullShare) upSet up_disjoint up_cover
    (fun f => upSlot0.view.loc (c : Thread nD τ) ↦[upSlot0.view.set]{fullShare} f)
    (fun f => upSlot1.view.loc (c : Thread nD τ) ↦[upSlot1.view.set]{fullShare} f)
    (fun f => by rw [upSlot0_set]) (fun f => by rw [upSlot1_set])

/-- Slot `j` of the dn buffer's elements. -/
abbrev dnSet (j : Fin 2) : Finset S2x1024x1024.Idx :=
  (Rect.unit (s := S2x1024x1024) ![j.val, 0, 0] S1x1024x1024.size (dnIn j)).set
theorem dn_disjoint (j j' : Fin 2) (hj : j ≠ j') : Disjoint (dnSet j) (dnSet j') :=
  Ring.lead_disjoint (s := S2x1024x1024) (0 : Fin 3) 1 (fun j : Fin 2 => (![j.val, 0, 0] : Fin 3 → ℕ)) S1x1024x1024.size dnIn (fun j => by simp) rfl j j' hj
theorem dn_cover : Finset.univ.biUnion dnSet = Finset.univ :=
  Ring.lead_cover (s := S2x1024x1024) (0 : Fin 3) 1 (fun j : Fin 2 => (![j.val, 0, 0] : Fin 3 → ℕ)) S1x1024x1024.size dnIn (fun j => by simp)
    (fun j a ha => by fin_cases a <;> first | exact absurd rfl ha | rfl) rfl (fun a ha => by fin_cases a <;> first | exact absurd rfl ha | rfl) rfl
theorem dnSlot0_set : dnSlot0.view.set = dnSet 0 := by
  simp only [dnSlot0, dnSlot, Memref.view_squeeze, View.set_reshape]; exact View.set_slice_whole _ _
theorem dnSlot1_set : dnSlot1.view.set = dnSet 1 := by
  simp only [dnSlot1, dnSlot, Memref.view_squeeze, View.set_reshape]; exact View.set_slice_whole _ _
/-- The dn buffer whole is its two slots, and back. -/
theorem dn_split (c : Dev nD) : iprop(∃ f : Buf (Elt F) ((c : Thread nD τ).loc cc0_scratch1), ((c : Thread nD τ).loc cc0_scratch1) ↦{fullShare} f)
    ⊢ (iprop((∃ f : BufOf (F := F) c dnS, dnSlot0.view.loc (c : Thread nD τ) ↦[dnSlot0.view.set]{fullShare} f)
      ∗ ∃ f : BufOf (F := F) c dnS, dnSlot1.view.loc (c : Thread nD τ) ↦[dnSlot1.view.set]{fullShare} f) : sProp 𝕄) :=
  Ring.slots2_split (U := Pipeline.UD sig nD τ) (ℓ := (c : Thread nD τ).loc cc0_scratch1) (q := fullShare) dnSet dn_disjoint dn_cover
    (fun f => dnSlot0.view.loc (c : Thread nD τ) ↦[dnSlot0.view.set]{fullShare} f)
    (fun f => dnSlot1.view.loc (c : Thread nD τ) ↦[dnSlot1.view.set]{fullShare} f)
    (fun f => by rw [dnSlot0_set]) (fun f => by rw [dnSlot1_set])
theorem dn_unsplit (c : Dev nD) :
    (iprop((∃ f : BufOf (F := F) c dnS, dnSlot0.view.loc (c : Thread nD τ) ↦[dnSlot0.view.set]{fullShare} f)
      ∗ ∃ f : BufOf (F := F) c dnS, dnSlot1.view.loc (c : Thread nD τ) ↦[dnSlot1.view.set]{fullShare} f) : sProp 𝕄)
    ⊢ iprop(∃ f : Buf (Elt F) ((c : Thread nD τ).loc cc0_scratch1), ((c : Thread nD τ).loc cc0_scratch1) ↦{fullShare} f) :=
  Ring.slots2_join (U := Pipeline.UD sig nD τ) (ℓ := (c : Thread nD τ).loc cc0_scratch1) (q := fullShare) dnSet dn_disjoint dn_cover
    (fun f => dnSlot0.view.loc (c : Thread nD τ) ↦[dnSlot0.view.set]{fullShare} f)
    (fun f => dnSlot1.view.loc (c : Thread nD τ) ↦[dnSlot1.view.set]{fullShare} f)
    (fun f => by rw [dnSlot0_set]) (fun f => by rw [dnSlot1_set])

/-- What is left of a weight array's share once the two slots' copies have theirs. -/
def Kept (c : Dev nD) {sp : Space} {S : Shape} {e : EltTy} (M : Memref sig .tc sp S e) (f : BufOf (F := F) c M) : sProp 𝕄 :=
  iprop(pt c M (Transfers.shareDrop fullShare 8) f ∗ bigSep (Finset.range 6) fun i => pt c M (Transfers.shareTokN fullShare i) f)

theorem deal (c : Dev nD) {sp : Space} {S : Shape} {e : EltTy} (M : Memref sig .tc sp S e) (f : BufOf (F := F) c M) :
    (pt c M fullShare f : sProp 𝕄) ⊣⊢ iprop(pt c M (Transfers.shareTokN fullShare 6) f ∗ pt c M (Transfers.shareTokN fullShare 7) f ∗ Kept c M f) := by
  have h0 := Transfers.pointsTo_toks_range (Ix := Unit) (Name := ℕ) (U := Pipeline.UD sig nD τ) (Lvl := ℕ) (ℓ := M.view.loc (c : Thread nD τ)) (S := M.view.set) (f := f) fullShare 8
  rw [Finset.range_add_one, bigSep_insert (by simp), Finset.range_add_one, bigSep_insert (by simp)] at h0
  have h : (pt c M fullShare f : sProp 𝕄) ⊣⊢ iprop(pt c M (Transfers.shareDrop fullShare 8) f ∗ pt c M (Transfers.shareTokN fullShare 7) f
      ∗ pt c M (Transfers.shareTokN fullShare 6) f ∗ bigSep (Finset.range 6) fun i => pt c M (Transfers.shareTokN fullShare i) f) := h0
  unfold Kept
  refine ⟨h.1.trans ?_, BIBase.Entails.trans ?_ h.2⟩
  · iintro ⟨Hd, H7, H6, Hr⟩
    isplitl [H6]; · iexact H6
    isplitl [H7]; · iexact H7
    isplitl [Hd]; · iexact Hd
    iexact Hr
  · iintro ⟨H6, H7, Hd, Hr⟩
    isplitl [Hd]; · iexact Hd
    isplitl [H7]; · iexact H7
    isplitl [H6]; · iexact H6
    iexact Hr

/-- The buffers and cells the region finds are the two free slots, -/
theorem enter (c : Dev nD) (wu : BufOf (F := F) c upM) (wd : BufOf (F := F) c dnM) :
    (iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ semVal ((c : Thread nD τ), SemLoc.dma 6) 0 ∗ semVal ((c : Thread nD τ), SemLoc.dma 7) 0
      ∗ pt c upM fullShare wu ∗ pt c dnM fullShare wd) : sProp 𝕄)
    ⊢ iprop(Free0 c wu wd ∗ Free1 c wu wd ∗ Kept c upM wu ∗ Kept c dnM wd) := by
  unfold Free0 Free1
  iintro ⟨HU, HD, H6, H7, Hu, Hd⟩
  ihave HU' := (up_split c) $$ HU
  icases HU' with ⟨HU0, HU1⟩
  ihave HD' := (dn_split c) $$ HD
  icases HD' with ⟨HD0, HD1⟩
  ihave Hu' := ((deal c upM wu).1) $$ Hu
  icases Hu' with ⟨Hu6, Hu7, Hur⟩
  ihave Hd' := ((deal c dnM wd).1) $$ Hd
  icases Hd' with ⟨Hd6, Hd7, Hdr⟩
  isplitl [H6 HU0 HD0 Hu6 Hd6]
  · isplitl [H6]; · iexact H6
    isplitl [HU0]; · iexact HU0
    isplitl [HD0]; · iexact HD0
    isplitl [Hu6]; · iexact Hu6
    iexact Hd6
  isplitl [H7 HU1 HD1 Hu7 Hd7]
  · isplitl [H7]; · iexact H7
    isplitl [HU1]; · iexact HU1
    isplitl [HD1]; · iexact HD1
    isplitl [Hu7]; · iexact Hu7
    iexact Hd7
  isplitl [Hur]; · iexact Hur
  iexact Hdr

/-- and back. -/
theorem leave (c : Dev nD) (wu : BufOf (F := F) c upM) (wd : BufOf (F := F) c dnM) :
    (iprop(Free0 c wu wd ∗ Free1 c wu wd ∗ Kept c upM wu ∗ Kept c dnM wd) : sProp 𝕄)
    ⊢ iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ semVal ((c : Thread nD τ), SemLoc.dma 6) 0 ∗ semVal ((c : Thread nD τ), SemLoc.dma 7) 0
      ∗ pt c upM fullShare wu ∗ pt c dnM fullShare wd) := by
  unfold Free0 Free1
  iintro ⟨⟨H6, HU0, HD0, Hu6, Hd6⟩, ⟨H7, HU1, HD1, Hu7, Hd7⟩, Hur, Hdr⟩
  isplitl [HU0 HU1]
  · iapply (up_unsplit c)
    isplitl [HU0]; · iexact HU0
    iexact HU1
  isplitl [HD0 HD1]
  · iapply (dn_unsplit c)
    isplitl [HD0]; · iexact HD0
    iexact HD1
  isplitl [H6]; · iexact H6
  isplitl [H7]; · iexact H7
  isplitl [Hu6 Hu7 Hur]
  · iapply ((deal c upM wu).2)
    isplitl [Hu6]; · iexact Hu6
    isplitl [Hu7]; · iexact Hu7
    iexact Hur
  iapply ((deal c dnM wd).2)
  isplitl [Hd6]; · iexact Hd6
  isplitl [Hd7]; · iexact Hd7
  iexact Hdr

end Cert.KernelIdeal.Hand

end
-- ==== Proof.Point.lean ====
module

public import proofs.«01_k».proof.Proof.Slots
public import proofs.«01_k».proof.Proof.Gen.KernelIdeal.Skeleton
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

/-! The point's second half as a program of its own, what it leaves in the output block, and the tables a point reads. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The five tables, at the share a body holds. -/
def Tbls (c : Dev nD) (te : BufOf (F := F) c tbE) (tu : BufOf (F := F) c tbU) (tr : BufOf (F := F) c tbR) (tx : BufOf (F := F) c tbX)
    (tv : BufOf (F := F) c tbV) : sProp 𝕄 :=
  iprop(pt c tbV fullShare.right tv ∗ pt c tbU fullShare.right tu ∗ pt c tbR fullShare.right tr ∗ pt c tbE fullShare.right te
    ∗ pt c tbX fullShare.right tx)

/-- What a point does after its run of blocks is open: its rows, in chunks by how many of them are valid. -/
def ffnTail (i : grid0.Coords) (arg1 : Memref sig .tc .smem S114 .i32) (harg1 : arg1.IsWhole) (arg2 : Memref sig .tc .smem S1 .i32) (harg2 : arg2.IsWhole) (arg3 : Memref sig .tc .smem S114 .i32) (harg3 : arg3.IsWhole) (arg4 : Memref sig .tc .smem S114 .i32) (harg4 : arg4.IsWhole) (arg5 : Memref sig .tc .smem S114 .i32) (harg5 : arg5.IsWhole) (arg6 : Memref sig .tc .vmem S1024x1024 .bf16) (harg6 : arg6.IsWhole) (arg7 : Memref sig .tc .hbm S32x1024x2048 .f32) (harg7 : arg7.IsWhole) (arg8 : Memref sig .tc .vmem S32x2048 .f32) (harg8 : arg8.IsWhole) (arg9 : Memref sig .tc .hbm S32x1024x1024 .f32) (harg9 : arg9.IsWhole) (arg10 : Memref sig .tc .vmem S32x1024 .f32) (harg10 : arg10.IsWhole) (arg11 : Memref sig .tc .vmem S1024x1024 .bf16) (harg11 : arg11.IsWhole) (arg12 : Memref sig .tc .vmem S2x1024x2048 .f32) (harg12 : arg12.IsWhole) (arg13 : Memref sig .tc .vmem S2x1024x1024 .f32) (harg13 : arg13.IsWhole) (arg14 : Memref sig .tc .vmem S1024x2048 .bf16) (harg14 : arg14.IsWhole) (arg15 : Memref sig .tc .vmem S1024x1024 .bf16) (harg15 : arg15.IsWhole) (arg16 : DmaSems sig S2)
    (v0 : BitVec 32) (k0_h1 : k0_cond1 i v0 = 1#1) (v10 : BitVec 32) :
    Prog (TpuEff nD τ sig (Elt F) Λ₀ .tc) PUnit := do
  let arg0 : BitVec 32 := BitVec.ofNat 32 (i 0).val
  if k0_h9 : k0_cond9 v10 = 1#1 then do
    let v54 : FVec F S1024x1024 .bf16 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v0 k0_h1 v10 k0_h9
    Prog.lift (.store arg11 (Rect.unit (s := S1024x1024) ![0, 0] S1024x1024.size inb_S1024x1024_S1024x1024_0_0) v54 Finset.univ (View.stores_vmem h_S1024x1024 (harg11.storeExact_slice rfl _ packedbf16_S1024x1024_S1024x1024_0_0) (fun _ => rfl)) (.inl rfl))
    pure ⟨⟩
  else do
    pure ⟨⟩
  if k0_h10 : k0_cond10 v10 = 1#1 then do
    if k0_h11 : k0_cond11 v10 = 1#1 then do
      let v66 : FVec F S512x1024 .bf16 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v0 k0_h1 v10 k0_h10 k0_h11
      Prog.lift (.store arg11 (Rect.unit (s := S1024x1024) ![0, 0] S512x1024.size inb_S1024x1024_S512x1024_0_0) v66 Finset.univ (View.stores_vmem h_S512x1024 (harg11.storeExact_slice rfl _ packedbf16_S1024x1024_S512x1024_0_0) (fun _ => rfl)) (.inl rfl))
      pure ⟨⟩
    else do
      pure ⟨⟩
    if k0_h12 : k0_cond12 v10 = 1#1 then do
      if k0_h13 : k0_cond13 v10 = 1#1 then do
        let v78 : FVec F S256x1024 .bf16 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v0 k0_h1 v10 k0_h10 k0_h12 k0_h13
        Prog.lift (.store arg11 (Rect.unit (s := S1024x1024) ![0, 0] S256x1024.size inb_S1024x1024_S256x1024_0_0) v78 Finset.univ (View.stores_vmem h_S256x1024 (harg11.storeExact_slice rfl _ packedbf16_S1024x1024_S256x1024_0_0) (fun _ => rfl)) (.inl rfl))
        pure ⟨⟩
      else do
        pure ⟨⟩
      if k0_h14 : k0_cond14 v10 = 1#1 then do
        let v42 : Vec F S256x1024 .bf16 ← Prog.lift (.load arg11 (Rect.unit (s := S1024x1024) ![0, 0] S256x1024.size inb_S1024x1024_S256x1024_0_0).toLoadRect (View.loadsAt_vmem h_S256x1024))
        Prog.lift (.store arg11 (Rect.unit (s := S1024x1024) ![0, 0] S256x1024.size inb_S1024x1024_S256x1024_0_0) (k0_pay3 (F := F)) Finset.univ (View.stores_vmem h_S256x1024 (harg11.storeExact_slice rfl _ packedbf16_S1024x1024_S256x1024_0_0) (fun _ => rfl)) (.inl rfl))
        pure ⟨⟩
      else do
        pure ⟨⟩
      if k0_h15 : k0_cond15 v10 = 1#1 then do
        let v78 : FVec F S256x1024 .bf16 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v0 k0_h1 v10 k0_h10 k0_h12 k0_h15
        Prog.lift (.store arg11 (Rect.unit (s := S1024x1024) ![256, 0] S256x1024.size inb_S1024x1024_S256x1024_256_0) v78 Finset.univ (View.stores_vmem h_S256x1024 (harg11.storeExact_slice rfl _ packedbf16_S1024x1024_S256x1024_256_0) (fun _ => rfl)) (.inl rfl))
        pure ⟨⟩
      else do
        pure ⟨⟩
      if k0_h16 : k0_cond16 v10 = 1#1 then do
        let v42 : Vec F S256x1024 .bf16 ← Prog.lift (.load arg11 (Rect.unit (s := S1024x1024) ![256, 0] S256x1024.size inb_S1024x1024_S256x1024_256_0).toLoadRect (View.loadsAt_vmem h_S256x1024))
        Prog.lift (.store arg11 (Rect.unit (s := S1024x1024) ![256, 0] S256x1024.size inb_S1024x1024_S256x1024_256_0) (k0_pay4 (F := F)) Finset.univ (View.stores_vmem h_S256x1024 (harg11.storeExact_slice rfl _ packedbf16_S1024x1024_S256x1024_256_0) (fun _ => rfl)) (.inl rfl))
        pure ⟨⟩
      else do
        pure ⟨⟩
      pure ⟨⟩
    else do
      pure ⟨⟩
    if k0_h17 : k0_cond17 v10 = 1#1 then do
      let v66 : FVec F S512x1024 .bf16 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v0 k0_h1 v10 k0_h10 k0_h17
      Prog.lift (.store arg11 (Rect.unit (s := S1024x1024) ![512, 0] S512x1024.size inb_S1024x1024_S512x1024_512_0) v66 Finset.univ (View.stores_vmem h_S512x1024 (harg11.storeExact_slice rfl _ packedbf16_S1024x1024_S512x1024_512_0) (fun _ => rfl)) (.inl rfl))
      pure ⟨⟩
    else do
      pure ⟨⟩
    if k0_h18 : k0_cond18 v10 = 1#1 then do
      if k0_h19 : k0_cond19 v10 = 1#1 then do
        let v78 : FVec F S256x1024 .bf16 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v0 k0_h1 v10 k0_h10 k0_h18 k0_h19
        Prog.lift (.store arg11 (Rect.unit (s := S1024x1024) ![512, 0] S256x1024.size inb_S1024x1024_S256x1024_512_0) v78 Finset.univ (View.stores_vmem h_S256x1024 (harg11.storeExact_slice rfl _ packedbf16_S1024x1024_S256x1024_512_0) (fun _ => rfl)) (.inl rfl))
        pure ⟨⟩
      else do
        pure ⟨⟩
      if k0_h20 : k0_cond20 v10 = 1#1 then do
        let v42 : Vec F S256x1024 .bf16 ← Prog.lift (.load arg11 (Rect.unit (s := S1024x1024) ![512, 0] S256x1024.size inb_S1024x1024_S256x1024_512_0).toLoadRect (View.loadsAt_vmem h_S256x1024))
        Prog.lift (.store arg11 (Rect.unit (s := S1024x1024) ![512, 0] S256x1024.size inb_S1024x1024_S256x1024_512_0) (k0_pay5 (F := F)) Finset.univ (View.stores_vmem h_S256x1024 (harg11.storeExact_slice rfl _ packedbf16_S1024x1024_S256x1024_512_0) (fun _ => rfl)) (.inl rfl))
        pure ⟨⟩
      else do
        pure ⟨⟩
      if k0_h21 : k0_cond21 v10 = 1#1 then do
        let v78 : FVec F S256x1024 .bf16 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v0 k0_h1 v10 k0_h10 k0_h18 k0_h21
        Prog.lift (.store arg11 (Rect.unit (s := S1024x1024) ![768, 0] S256x1024.size inb_S1024x1024_S256x1024_768_0) v78 Finset.univ (View.stores_vmem h_S256x1024 (harg11.storeExact_slice rfl _ packedbf16_S1024x1024_S256x1024_768_0) (fun _ => rfl)) (.inl rfl))
        pure ⟨⟩
      else do
        pure ⟨⟩
      if k0_h22 : k0_cond22 v10 = 1#1 then do
        let v42 : Vec F S256x1024 .bf16 ← Prog.lift (.load arg11 (Rect.unit (s := S1024x1024) ![768, 0] S256x1024.size inb_S1024x1024_S256x1024_768_0).toLoadRect (View.loadsAt_vmem h_S256x1024))
        Prog.lift (.store arg11 (Rect.unit (s := S1024x1024) ![768, 0] S256x1024.size inb_S1024x1024_S256x1024_768_0) (k0_pay6 (F := F)) Finset.univ (View.stores_vmem h_S256x1024 (harg11.storeExact_slice rfl _ packedbf16_S1024x1024_S256x1024_768_0) (fun _ => rfl)) (.inl rfl))
        pure ⟨⟩
      else do
        pure ⟨⟩
      pure ⟨⟩
    else do
      pure ⟨⟩
    pure ⟨⟩
  else do
    pure ⟨⟩
  pure ⟨⟩

/-- Row `e` of the two bias tables, as the kernel reads it. -/
abbrev upBias (e : BitVec 32) (hbu : ∀ a, (![e.toNat, 0] : Fin 2 → ℕ) a + S1x2048.size a ≤ S32x2048.size a) (BU : S32x2048.Idx → Elt F .f32) : Vec F S1x2048 .f32 :=
  VecWindow.window BU ![e.toNat, 0] S1x2048.size hbu
abbrev dnBias (e : BitVec 32) (hbd : ∀ a, (![e.toNat, 0] : Fin 2 → ℕ) a + S1x1024.size a ≤ S32x1024.size a) (BD : S32x1024.Idx → Elt F .f32) : Vec F S1x1024 .f32 :=
  VecWindow.window BD ![e.toNat, 0] S1x1024.size hbd

/-- What the output block `Y` holds after a point whose block `X` has `v` valid rows: each chunk of rows with a valid one is the
    chunk's payload of the block's rows, the expert's weights and its bias rows. -/
structure Good (v : BitVec 32) (X : S1024x1024.Idx → Elt F .bf16) (ub : FVec F S1024x2048 .bf16) (bu : Vec F S1x2048 .f32)
    (db : FVec F S1024x1024 .bf16) (bd : Vec F S1x1024 .f32) (Y : S1024x1024.Idx → Elt F .bf16) : Prop where
  all : v.toInt = 1024 → ∀ y, Y y = k0_pay11 X ub bu db bd y
  half : 512 ≤ v.toInt → v.toInt < 1024 → ∀ (x : S512x1024.Idx) (y : S1024x1024.Idx), (y 0).val = 0 + (x 0).val → (y 1).val = (x 1).val →
    Y y = k0_pay12 (VecWindow.window X ![0, 0] S512x1024.size inb_S1024x1024_S512x1024_0_0) ub bu db bd x
  q0 : 0 < v.toInt → v.toInt < 512 → ∀ (x : S256x1024.Idx) (y : S1024x1024.Idx), (y 0).val = 0 + (x 0).val → (y 1).val = (x 1).val →
    Y y = k0_pay13 (VecWindow.window X ![0, 0] S256x1024.size inb_S1024x1024_S256x1024_0_0) ub bu db bd x
  q1 : 256 < v.toInt → v.toInt < 512 → ∀ (x : S256x1024.Idx) (y : S1024x1024.Idx), (y 0).val = 256 + (x 0).val → (y 1).val = (x 1).val →
    Y y = k0_pay14 (VecWindow.window X ![256, 0] S256x1024.size inb_S1024x1024_S256x1024_256_0) ub bu db bd x
  q2 : 512 < v.toInt → v.toInt < 1024 → ∀ (x : S256x1024.Idx) (y : S1024x1024.Idx), (y 0).val = 512 + (x 0).val → (y 1).val = (x 1).val →
    Y y = k0_pay16 (VecWindow.window X ![512, 0] S256x1024.size inb_S1024x1024_S256x1024_512_0) ub bu db bd x
  q3 : 768 < v.toInt → v.toInt < 1024 → ∀ (x : S256x1024.Idx) (y : S1024x1024.Idx), (y 0).val = 768 + (x 0).val → (y 1).val = (x 1).val →
    Y y = k0_pay17 (VecWindow.window X ![768, 0] S256x1024.size inb_S1024x1024_S256x1024_768_0) ub bu db bd x

/-- A block held at some contents is owned at what it reads there. -/
theorem out_intro (c : Dev nD) (arg11 : Memref sig .tc .vmem S1024x1024 .bf16) (P : (S1024x1024.Idx → Elt F .bf16) → Prop)
    (f : BufOf (F := F) c arg11) (h : P (arg11.view.read (Elt F) f)) :
    (pt c arg11 fullShare f : sProp 𝕄) ⊢ iprop(∃ Y', ⌜P Y'⌝ ∗ owns (c : Thread nD τ) arg11 fullShare Y') := by
  unfold owns
  iintro H
  iexists (arg11.view.read (Elt F) f)
  isplitr
  · ipureintro; exact h
  · iexists f
    isplitr
    · ipureintro; rfl
    · iexact H

end Cert.KernelIdeal.Hand

end
-- ==== Proof.Cond.lean ====
module

public import proofs.«01_k».proof.Proof.Slots
public import proofs.«01_k».proof.Proof.Gen.KernelIdeal.Skeleton
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

/-! The kernel's conditions as comparisons of the words it reads. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- A comparison widened and compared with zero is the comparison. -/
theorem flag_iff (b : BitVec 1) (p : Prop) [Decidable p] (h : b = BitVec.ofBool (decide p) := by rfl) :
    Scalar.cmpi .ne (Scalar.extui b : BitVec 32) 0#32 = 1#1 ↔ p := by
  subst h
  by_cases hp : p <;> simp [hp, Scalar.cmpi, Scalar.extui, IntOp.cmpi] <;> decide

/-! The conditions of the point, as comparisons of the word. -/

theorem cond2_iff (v : BitVec 32) : k0_cond2 v = 1#1 ↔ 0 ≤ v.toInt := flag_iff _ _
theorem cond4_iff (v : BitVec 32) : k0_cond4 v = 1#1 ↔ v.toInt = 0 := by
  rw [show (v.toInt = 0) ↔ v = 0#32 from ⟨fun h => BitVec.eq_of_toInt_eq h, fun h => by rw [h]; decide⟩]
  exact flag_iff _ _
theorem cond5_iff (v : BitVec 32) : k0_cond5 v = 1#1 ↔ 0 ≤ v.toInt := flag_iff _ _
theorem cond7_iff (v : BitVec 32) : k0_cond7 v = 1#1 ↔ v.toInt = 0 := by
  rw [show (v.toInt = 0) ↔ v = 0#32 from ⟨fun h => BitVec.eq_of_toInt_eq h, fun h => by rw [h]; decide⟩]
  exact flag_iff _ _
theorem cond8_iff (v : BitVec 32) : k0_cond8 v = 1#1 ↔ 0 ≤ v.toInt := flag_iff _ _
theorem cond9_iff (v : BitVec 32) : k0_cond9 v = 1#1 ↔ v.toInt = 1024 := by
  rw [show (v.toInt = 1024) ↔ v = 1024#32 from ⟨fun h => BitVec.eq_of_toInt_eq h, fun h => by rw [h]; decide⟩]
  exact flag_iff _ _
theorem cond10_iff (v : BitVec 32) : k0_cond10 v = 1#1 ↔ v.toInt < 1024 := flag_iff _ _
theorem cond11_iff (v : BitVec 32) : k0_cond11 v = 1#1 ↔ 512 ≤ v.toInt := flag_iff _ _
theorem cond12_iff (v : BitVec 32) : k0_cond12 v = 1#1 ↔ v.toInt < 512 := flag_iff _ _
theorem cond13_iff (v : BitVec 32) : k0_cond13 v = 1#1 ↔ 0 < v.toInt := flag_iff _ _
theorem cond14_iff (v : BitVec 32) : k0_cond14 v = 1#1 ↔ v.toInt ≤ 0 := flag_iff _ _
theorem cond15_iff (v : BitVec 32) : k0_cond15 v = 1#1 ↔ 256 < v.toInt := flag_iff _ _
theorem cond16_iff (v : BitVec 32) : k0_cond16 v = 1#1 ↔ v.toInt ≤ 256 := flag_iff _ _
theorem cond17_iff (v : BitVec 32) : k0_cond17 v = 1#1 ↔ 1024 ≤ v.toInt := flag_iff _ _
theorem cond18_iff (v : BitVec 32) : k0_cond18 v = 1#1 ↔ v.toInt < 1024 := flag_iff _ _
theorem cond19_iff (v : BitVec 32) : k0_cond19 v = 1#1 ↔ 512 < v.toInt := flag_iff _ _
theorem cond20_iff (v : BitVec 32) : k0_cond20 v = 1#1 ↔ v.toInt ≤ 512 := flag_iff _ _
theorem cond21_iff (v : BitVec 32) : k0_cond21 v = 1#1 ↔ 768 < v.toInt := flag_iff _ _
theorem cond22_iff (v : BitVec 32) : k0_cond22 v = 1#1 ↔ v.toInt ≤ 768 := flag_iff _ _

end Cert.KernelIdeal.Hand

end
-- ==== Proof.Words.lean ====
module

public import proofs.«01_k».proof.Proof.Slots
public import proofs.«01_k».proof.Proof.Gen.KernelIdeal.Skeleton
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Point
public import proofs.«01_k».proof.Proof.Cond

/-! What the tables say, block by block, and the point's conditions on their words. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- A table's word at a block. -/
abbrev at114 (t : Fin 114) : S114.Idx := fun | ⟨0, _⟩ => t

/-- Block `i`'s word of a table is what the point reads. -/
theorem read_word (c : Dev nD) (M : Memref sig .tc .smem S114 .i32) (off : Fin 1 → ℕ)
    (h : ∀ a, off a + S1.size a ≤ S114.size a) (t : Fin 114) (ht : off 0 = t.val) (f : S114.Idx → BitVec 32)
    (g : M.view.ty.Contents (Elt F)) (hg : M.view.read (Elt F) g = f) :
    View.readAt (Elt F) M.view (Rect.unit (s := S114) off S1.size h).toLoadRect g (Shape.Idx.first (show 0 < S1.numel by decide)) = f (at114 t) := by
  rw [View.readAt_unit M.view g h rfl h, hg]
  refine congrArg f (funext fun a => ?_)
  obtain ⟨a, ha⟩ := a
  have : a = 0 := by simpa using ha
  subst this
  exact Fin.ext (by show off 0 + _ = t.val; rw [ht]; rfl)

theorem cond1_iff (i : grid0.Coords) (v : BitVec 32) : k0_cond1 i v = 1#1 ↔ ((i 0).val : ℤ) < v.toInt := by
  have h : (i 0).val < 114 := (i 0).isLt
  have e : ((BitVec.ofNat 32 (i 0).val).toInt) = (i 0).val := by
    rw [BitVec.toInt_eq_toNat_cond, BitVec.toNat_ofNat]; split_ifs <;> omega
  rw [← e]; exact flag_iff _ _

theorem cond3_ofNat : ∀ k : Fin 115, k0_cond3 (BitVec.ofNat 32 k.val) = 1#1 ↔ k.val % 2 = 0 := by decide
theorem cond6_ofNat : ∀ k : Fin 115, k0_cond6 (BitVec.ofNat 32 k.val) = 1#1 ↔ k.val % 2 = 1 := by decide

theorem ofNat_of_toInt {v : BitVec 32} {k : ℕ} (hk : k < 115) (h : v.toInt = k) : v = BitVec.ofNat 32 k := by
  apply BitVec.eq_of_toInt_eq
  rw [h, BitVec.toInt_eq_toNat_cond, BitVec.toNat_ofNat]; split_ifs <;> omega

theorem cond3_iff {v : BitVec 32} {k : ℕ} (hk : k < 115) (h : v.toInt = k) : k0_cond3 v = 1#1 ↔ k % 2 = 0 := by
  rw [ofNat_of_toInt hk h]; exact cond3_ofNat ⟨k, hk⟩
theorem cond6_iff {v : BitVec 32} {k : ℕ} (hk : k < 115) (h : v.toInt = k) : k0_cond6 v = 1#1 ↔ k % 2 = 1 := by
  rw [ofNat_of_toInt hk h]; exact cond6_ofNat ⟨k, hk⟩

/-- How many runs open before block `t`. -/
def opens (R : Fin 114 → BitVec 32) : ℕ → ℕ
  | 0 => 0
  | t + 1 => opens R t + (if h : t < 114 then if 0 ≤ (R ⟨t, h⟩).toInt then 1 else 0 else 0)

theorem opens_le (R : Fin 114 → BitVec 32) : ∀ t, opens R t ≤ t
  | 0 => Nat.le_refl 0
  | t + 1 => by
    have := opens_le R t
    rw [opens]; split_ifs <;> omega

/-- What the tables say: `nu` blocks in use, block `j` of expert `E j` with `V j` valid rows, the first of its run just when `R j`
    is not negative and then run number `R j`, and `X j` the expert of the following run, negative when there is none. -/
structure TabOK (E R X V : Fin 114 → BitVec 32) (nu : BitVec 32) : Prop where
  nu_pos : 1 ≤ nu.toInt
  nu_le : nu.toInt ≤ 114
  E_lo : ∀ j, 0 ≤ (E j).toInt
  E_hi : ∀ j, (E j).toInt < 32
  V_lo : ∀ j, 0 ≤ (V j).toInt
  V_hi : ∀ j, (V j).toInt ≤ 1024
  step : ∀ j j' : Fin 114, j'.val = j.val + 1 → ((R j').toInt < 0 ∧ E j' = E j ∧ X j' = X j) ∨ (0 ≤ (R j').toInt ∧ 0 ≤ (X j).toInt ∧ E j' = X j) ∨ nu.toInt ≤ j'.val
  last : ∀ j : Fin 114, (j.val : ℤ) + 1 = nu.toInt → (X j).toInt < 0
  first : (R 0).toInt = 0
  run : ∀ j, 0 ≤ (R j).toInt → (R j).toInt = opens R j.val

theorem TabOK.X_hi {E R X V : Fin 114 → BitVec 32} {nu : BitVec 32} (h : TabOK E R X V nu) :
    ∀ (n : ℕ) (j : Fin 114), (j.val : ℤ) + n + 1 = nu.toInt → 0 ≤ (X j).toInt → (X j).toInt < 32
  | 0, j, hn, hx => absurd (h.last j (by simpa using hn)) (by omega)
  | n + 1, j, hn, hx => by
    have hj : j.val + 1 < 114 := by have := h.nu_le; omega
    rcases h.step j ⟨j.val + 1, hj⟩ rfl with ⟨-, -, e⟩ | ⟨-, -, e⟩ | h'
    · rw [← e] at hx ⊢
      exact TabOK.X_hi h n ⟨j.val + 1, hj⟩ (by push_cast at *; omega) hx
    · rw [← e]; exact h.E_hi _
    · push_cast at *; omega

theorem TabOK.X_lt {E R X V : Fin 114 → BitVec 32} {nu : BitVec 32} (h : TabOK E R X V nu) (j : Fin 114) (hj : (j.val : ℤ) < nu.toInt)
    (hx : 0 ≤ (X j).toInt) : (X j).toInt < 32 :=
  h.X_hi (nu.toInt - j.val - 1).toNat j (by omega) hx

theorem toNat_lt {e : BitVec 32} (h : 0 ≤ e.toInt) (h' : e.toInt < 32) : e.toNat < 32 := by
  rw [BitVec.toInt_eq_toNat_cond] at h h'; split_ifs at h h' <;> omega

theorem row_up {e : BitVec 32} (h : 0 ≤ e.toInt) (h' : e.toInt < 32) : ∀ a, (![e.toNat, 0, 0] : Fin 3 → ℕ) a + S1x1024x2048.size a ≤ S32x1024x2048.size a := by
  have := toNat_lt h h'
  intro a; fin_cases a <;> simp [S1x1024x2048, S32x1024x2048] <;> omega
theorem row_dn {e : BitVec 32} (h : 0 ≤ e.toInt) (h' : e.toInt < 32) : ∀ a, (![e.toNat, 0, 0] : Fin 3 → ℕ) a + S1x1024x1024.size a ≤ S32x1024x1024.size a := by
  have := toNat_lt h h'
  intro a; fin_cases a <;> simp [S1x1024x1024, S32x1024x1024] <;> omega
theorem row_bu {e : BitVec 32} (h : 0 ≤ e.toInt) (h' : e.toInt < 32) : ∀ a, (![e.toNat, 0] : Fin 2 → ℕ) a + S1x2048.size a ≤ S32x2048.size a := by
  have := toNat_lt h h'
  intro a; fin_cases a <;> simp [S1x2048, S32x2048] <;> omega
theorem row_bd {e : BitVec 32} (h : 0 ≤ e.toInt) (h' : e.toInt < 32) : ∀ a, (![e.toNat, 0] : Fin 2 → ℕ) a + S1x1024.size a ≤ S32x1024.size a := by
  have := toNat_lt h h'
  intro a; fin_cases a <;> simp [S1x1024, S32x1024] <;> omega

end Cert.KernelIdeal.Hand

end
-- ==== Proof.Inv.lean ====
module

public import proofs.«01_k».proof.Proof.Slots
public import proofs.«01_k».proof.Proof.Gen.KernelIdeal.Skeleton
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Point
public import proofs.«01_k».proof.Proof.Cond
public import proofs.«01_k».proof.Proof.Words

/-! What the kernel keeps from point to point and what it leaves in the output block. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The slots and the block buffers while a run of expert `e` is open, the next run's slot of parity `p` and its expert `x`: the next
    run's weights are in flight there when there is one. -/
def St (c : Dev nD) (wu : BufOf (F := F) c upM) (wd : BufOf (F := F) c dnM) (p : ℕ) (x e : BitVec 32) : sProp 𝕄 :=
  iprop((if 0 ≤ x.toInt then (if p = 0 then iprop(Fly0 c wu wd x ∗ Free1 c wu wd) else iprop(Free0 c wu wd ∗ Fly1 c wu wd x))
      else iprop(Free0 c wu wd ∗ Free1 c wu wd)) ∗ Held c wu wd e)

theorem St_fly0 (c : Dev nD) (wu : BufOf (F := F) c upM) (wd : BufOf (F := F) c dnM) {p : ℕ} {x : BitVec 32} (e : BitVec 32) (hp : p = 0) (hx : 0 ≤ x.toInt) :
    (St c wu wd p x e : sProp 𝕄) = iprop((Fly0 c wu wd x ∗ Free1 c wu wd) ∗ Held c wu wd e) := by
  unfold St; rw [if_pos hx, if_pos hp]
theorem St_fly1 (c : Dev nD) (wu : BufOf (F := F) c upM) (wd : BufOf (F := F) c dnM) {p : ℕ} {x : BitVec 32} (e : BitVec 32) (hp : ¬ p = 0) (hx : 0 ≤ x.toInt) :
    (St c wu wd p x e : sProp 𝕄) = iprop((Free0 c wu wd ∗ Fly1 c wu wd x) ∗ Held c wu wd e) := by
  unfold St; rw [if_pos hx, if_neg hp]
theorem St_free (c : Dev nD) (wu : BufOf (F := F) c upM) (wd : BufOf (F := F) c dnM) (p : ℕ) {x : BitVec 32} (e : BitVec 32) (hx : ¬ 0 ≤ x.toInt) :
    (St c wu wd p x e : sProp 𝕄) = iprop((Free0 c wu wd ∗ Free1 c wu wd) ∗ Held c wu wd e) := by
  unfold St; rw [if_neg hx]

/-- A table's words by block. -/
abbrev wordsOf (f : S114.Idx → BitVec 32) : Fin 114 → BitVec 32 := fun t => f (at114 t)
/-- The number of blocks in use. -/
abbrev used (f : S1.Idx → BitVec 32) : BitVec 32 := f (Shape.Idx.first (show 0 < S1.numel by decide))

/-- The last block in use before point `t`. -/
def lastBlk (nu : BitVec 32) (t : ℕ) : Fin 114 := ⟨min (min t nu.toNat - 1) 113, by omega⟩

/-- What the kernel keeps between points: before the first one the slots free and the buffers at anything, later the open run's state. -/
def Inv (c : Dev nD) (E R X : Fin 114 → BitVec 32) (nu : BitVec 32) (wu : BufOf (F := F) c upM) (wd : BufOf (F := F) c dnM) (t : ℕ) : sProp 𝕄 :=
  if t = 0 then iprop(Free0 c wu wd ∗ Free1 c wu wd ∗ (∃ fu, pt c upB fullShare fu) ∗ (∃ fd, pt c dnB fullShare fd))
  else St c wu wd (opens R (min t nu.toNat) % 2) (X (lastBlk nu t)) (E (lastBlk nu t))

theorem Inv_zero (c : Dev nD) (E R X : Fin 114 → BitVec 32) (nu : BitVec 32) (wu : BufOf (F := F) c upM) (wd : BufOf (F := F) c dnM) :
    (Inv c E R X nu wu wd 0 : sProp 𝕄) = iprop(Free0 c wu wd ∗ Free1 c wu wd ∗ (∃ fu, pt c upB fullShare fu) ∗ (∃ fd, pt c dnB fullShare fd)) := if_pos rfl
theorem Inv_pos (c : Dev nD) (E R X : Fin 114 → BitVec 32) (nu : BitVec 32) (wu : BufOf (F := F) c upM) (wd : BufOf (F := F) c dnM) {t : ℕ} (ht : t ≠ 0) :
    (Inv c E R X nu wu wd t : sProp 𝕄) = St c wu wd (opens R (min t nu.toNat) % 2) (X (lastBlk nu t)) (E (lastBlk nu t)) := if_neg ht

/-- What point `t` leaves in the output block, which held `Y`, from the block `x` of the rows: the expert's outputs on the chunks of
    valid rows of a block in use, and past the blocks in use what was there. -/
def After (c : Dev nD) (E V : Fin 114 → BitVec 32) (nu : BitVec 32) (wu : BufOf (F := F) c upM) (wd : BufOf (F := F) c dnM)
    (BU : S32x2048.Idx → Elt F .f32) (BD : S32x1024.Idx → Elt F .f32) (t : Fin 114) (x Y Y' : S1024x1024.Idx → Elt F .bf16) : Prop :=
  ((t.val : ℤ) < nu.toInt → ∃ hu hd hbu hbd,
      Good (V t) x (upW c (E t) hu wu) (upBias (E t) hbu BU) (dnW c (E t) hd wd) (dnBias (E t) hbd BD) Y')
    ∧ (¬ (t.val : ℤ) < nu.toInt → Y' = Y)

end Cert.KernelIdeal.Hand

end
-- ==== Proof.Heads.lean ====
module

public import proofs.«01_k».proof.Proof.Slots
public import proofs.«01_k».proof.Proof.Gen.KernelIdeal.Skeleton
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Point

/-! A point that opens a run of blocks, up to its second half: one statement for each slot, for the first run and a later one, with a following run to fetch and without. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

set_option maxHeartbeats 600000 in
theorem head0_first_next (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (h1 : k0_cond1 i (View.readAt (Elt F) tbU.view (Rect.unit (s := S1) ![0] S1.size inb_S1_S1_0).toLoadRect tu (Shape.Idx.first (show 0 < S1.numel by decide))) = 1#1)
    (h2 : k0_cond2 (View.readAt (Elt F) tbR.view (Rect.unit (s := S114) (k0_off1 i) S1.size (k0_off1_inb i)).toLoadRect tr (Shape.Idx.first (show 0 < S1.numel by decide))) = 1#1)
    (h3 : k0_cond3 (View.readAt (Elt F) tbR.view (Rect.unit (s := S114) (k0_off1 i) S1.size (k0_off1_inb i)).toLoadRect tr (Shape.Idx.first (show 0 < S1.numel by decide))) = 1#1)
    (h6 : ¬ k0_cond6 (View.readAt (Elt F) tbR.view (Rect.unit (s := S114) (k0_off1 i) S1.size (k0_off1_inb i)).toLoadRect tr (Shape.Idx.first (show 0 < S1.numel by decide))) = 1#1)
    (hf : k0_cond4 (View.readAt (Elt F) tbR.view (Rect.unit (s := S114) (k0_off1 i) S1.size (k0_off1_inb i)).toLoadRect tr (Shape.Idx.first (show 0 < S1.numel by decide))) = 1#1)
    (hx : k0_cond5 (View.readAt (Elt F) tbX.view (Rect.unit (s := S114) (k0_off5 i) S1.size (k0_off5_inb i)).toLoadRect tx (Shape.Idx.first (show 0 < S1.numel by decide))) = 1#1)
    (e : BitVec 32) (he : e = (View.readAt (Elt F) tbE.view (Rect.unit (s := S114) (k0_off2 i) S1.size (k0_off2_inb i)).toLoadRect te (Shape.Idx.first (show 0 < S1.numel by decide))))
    (hu : ∀ a, (![e.toNat, 0, 0] : Fin 3 → ℕ) a + S1x1024x2048.size a ≤ S32x1024x2048.size a)
    (hd : ∀ a, (![e.toNat, 0, 0] : Fin 3 → ℕ) a + S1x1024x1024.size a ≤ S32x1024x1024.size a)
    (n : BitVec 32) (hn : n = (View.readAt (Elt F) tbX.view (Rect.unit (s := S114) (k0_off5 i) S1.size (k0_off5_inb i)).toLoadRect tx (Shape.Idx.first (show 0 < S1.numel by decide))))
    (nu : ∀ a, (![n.toNat, 0, 0] : Fin 3 → ℕ) a + S1x1024x2048.size a ≤ S32x1024x2048.size a)
    (nd : ∀ a, (![n.toNat, 0, 0] : Fin 3 → ℕ) a + S1x1024x1024.size a ≤ S32x1024x1024.size a)
    (K : PUnit → sProp 𝕄) :
    iprop(Tbls c te tu tr tx tv ∗ Free0 c wu wd ∗ Free1 c wu wd ∗ (∃ fu, pt c upB fullShare fu) ∗ (∃ fd, pt c dnB fullShare fd) ∗ (∃ W, owes (c : Thread nD τ) 0 W)
      ∗ ((Tbls c te tu tr tx tv ∗ Free0 c wu wd ∗ Fly1 c wu wd n ∗ Held c wu wd e ∗ (∃ W, owes (c : Thread nD τ) 0 W))
        -∗ wp frame (wpE (defs₀ (F := F)) Variants.none c none) Set.univ
          (ffnTail i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4
          _ h1 (View.readAt (Elt F) tbV.view (Rect.unit (s := S114) (k0_off22 i) S1.size (k0_off22_inb i)).toLoadRect tv (Shape.Idx.first (show 0 < S1.numel by decide)))) K))
    ⊢ wp frame (wpE (defs₀ (F := F)) Variants.none c none) Set.univ
        (cc0_ffn i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4) K := by
  rw [cc0_ffn_eq_skeleton]; unfold cc0_ffn_skel
  rw [k0_part1_eq_skeleton]; unfold k0_part1_skel
  unfold Tbls Free0 Fly1 Free1
  iintro ⟨⟨HV, HU, HR, HE, HX⟩, ⟨Hq0, ⟨%du0, HU0⟩, ⟨%dd0, HD0⟩, Hwu0, Hwd0⟩, ⟨Hq1, ⟨%du1, HU1⟩, ⟨%dd1, HD1⟩, Hwu1, Hwd1⟩, ⟨%fu, Hfu⟩, ⟨%fd, Hfd⟩, ⟨%W, HW⟩, Hk⟩
  imod (Transfers.mixedBatch_alloc' (Lvl := ℕ) (countersEmb (U := Pipeline.UD sig nD τ)) (c : Thread nD τ) () amts
      (deliv0 c e hu hd wu wd du0 dd0) (sm := SemLoc.dma 6) (E := Set.univ)) $$ Hq0 with HB0
  imod (Transfers.mixedBatch_alloc' (Lvl := ℕ) (countersEmb (U := Pipeline.UD sig nD τ)) (c : Thread nD τ) () amts
      (deliv1 c n nu nd wu wd du1 dd1) (sm := SemLoc.dma 7) (E := Set.univ)) $$ Hq1 with HB1
  unfold deliv0 deliv1
  have hc1 : k0_chk1 i (View.readAt (Elt F) tbU.view (Rect.unit (s := S1) ![0] S1.size inb_S1_S1_0).toLoadRect tu (Shape.Idx.first (show 0 < S1.numel by decide))) (View.readAt (Elt F) tbR.view (Rect.unit (s := S114) (k0_off1 i) S1.size (k0_off1_inb i)).toLoadRect tr (Shape.Idx.first (show 0 < S1.numel by decide))) e := ⟨fun _ _ _ _ => hu, fun _ _ _ _ => hd⟩
  have hc3 : k0_chk3 i (View.readAt (Elt F) tbU.view (Rect.unit (s := S1) ![0] S1.size inb_S1_S1_0).toLoadRect tu (Shape.Idx.first (show 0 < S1.numel by decide))) (View.readAt (Elt F) tbR.view (Rect.unit (s := S114) (k0_off1 i) S1.size (k0_off1_inb i)).toLoadRect tr (Shape.Idx.first (show 0 < S1.numel by decide))) e := ⟨fun _ _ _ => hu, fun _ _ _ => hd⟩
  have hc2 : k0_chk2 i (View.readAt (Elt F) tbU.view (Rect.unit (s := S1) ![0] S1.size inb_S1_S1_0).toLoadRect tu (Shape.Idx.first (show 0 < S1.numel by decide))) (View.readAt (Elt F) tbR.view (Rect.unit (s := S114) (k0_off1 i) S1.size (k0_off1_inb i)).toLoadRect tr (Shape.Idx.first (show 0 < S1.numel by decide))) (View.readAt (Elt F) tbX.view (Rect.unit (s := S114) (k0_off5 i) S1.size (k0_off5_inb i)).toLoadRect tx (Shape.Idx.first (show 0 < S1.numel by decide))) n := ⟨fun _ _ _ _ => nu, fun _ _ _ _ => nd⟩
  subst he
  subst hn
  sl_exec
  ihave Hju := (up_join c _ hu (Transfers.shareTokN fullShare 6) wu) $$ [HB0_src0_in0 Hwu0]
  · isplitl [HB0_src0_in0]; · iexact HB0_src0_in0
    iexact Hwu0
  ihave Hjd := (dn_join c _ hd (Transfers.shareTokN fullShare 6) wd) $$ [HB0_src1_in1 Hwd0]
  · isplitl [HB0_src1_in1]; · iexact HB0_src1_in1
    iexact Hwd0
  iapply Hk
  isplitl [HV HU HR HE HX]
  · isplitl [HV]; · iexact HV
    isplitl [HU]; · iexact HU
    isplitl [HR]; · iexact HR
    isplitl [HE]; · iexact HE
    iexact HX
  isplitl [HB0 HB0_dst0 HB0_dst1 Hju Hjd]
  · isplitl [HB0]; · iexact HB0
    isplitl [HB0_dst0]; · iexists _; iexact HB0_dst0
    isplitl [HB0_dst1]; · iexists _; iexact HB0_dst1
    isplitl [Hju]; · iexact Hju
    iexact Hjd
  isplitl [HB1 Hwu1 Hwd1]
  · iexists nu, nd, du1, dd1
    isplitl [HB1]; · iexact HB1
    isplitl [Hwu1]; · iexact Hwu1
    iexact Hwd1
  isplitl [Hfu Hfd]
  · unfold head0_first_next.sl.v65 head0_first_next.sl.v71 Held
    iexists hu, hd, _, _
    isplitr
    rotate_left
    · isplitr
      rotate_left
      · isplitl [Hfu]; · iexact Hfu
        iexact Hfd
      · ipureintro
        exact held_dn0 fd dnSlot0.view.junk _ inb_S1024x1024_S1024x1024_0_0
    · ipureintro
      exact held_up0 fu upSlot0.view.junk _ inb_S1024x2048_S1024x2048_0_0
  iexists _; iexact HW

set_option maxHeartbeats 600000 in
theorem head0_first_last (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (h1 : k0_cond1 i (View.readAt (Elt F) tbU.view (Rect.unit (s := S1) ![0] S1.size inb_S1_S1_0).toLoadRect tu (Shape.Idx.first (show 0 < S1.numel by decide))) = 1#1)
    (h2 : k0_cond2 (View.readAt (Elt F) tbR.view (Rect.unit (s := S114) (k0_off1 i) S1.size (k0_off1_inb i)).toLoadRect tr (Shape.Idx.first (show 0 < S1.numel by decide))) = 1#1)
    (h3 : k0_cond3 (View.readAt (Elt F) tbR.view (Rect.unit (s := S114) (k0_off1 i) S1.size (k0_off1_inb i)).toLoadRect tr (Shape.Idx.first (show 0 < S1.numel by decide))) = 1#1)
    (h6 : ¬ k0_cond6 (View.readAt (Elt F) tbR.view (Rect.unit (s := S114) (k0_off1 i) S1.size (k0_off1_inb i)).toLoadRect tr (Shape.Idx.first (show 0 < S1.numel by decide))) = 1#1)
    (hf : k0_cond4 (View.readAt (Elt F) tbR.view (Rect.unit (s := S114) (k0_off1 i) S1.size (k0_off1_inb i)).toLoadRect tr (Shape.Idx.first (show 0 < S1.numel by decide))) = 1#1)
    (hx : ¬ k0_cond5 (View.readAt (Elt F) tbX.view (Rect.unit (s := S114) (k0_off5 i) S1.size (k0_off5_inb i)).toLoadRect tx (Shape.Idx.first (show 0 < S1.numel by decide))) = 1#1)
    (e : BitVec 32) (he : e = (View.readAt (Elt F) tbE.view (Rect.unit (s := S114) (k0_off2 i) S1.size (k0_off2_inb i)).toLoadRect te (Shape.Idx.first (show 0 < S1.numel by decide))))
    (hu : ∀ a, (![e.toNat, 0, 0] : Fin 3 → ℕ) a + S1x1024x2048.size a ≤ S32x1024x2048.size a)
    (hd : ∀ a, (![e.toNat, 0, 0] : Fin 3 → ℕ) a + S1x1024x1024.size a ≤ S32x1024x1024.size a)
    (K : PUnit → sProp 𝕄) :
    iprop(Tbls c te tu tr tx tv ∗ Free0 c wu wd ∗ (∃ fu, pt c upB fullShare fu) ∗ (∃ fd, pt c dnB fullShare fd) ∗ (∃ W, owes (c : Thread nD τ) 0 W)
      ∗ ((Tbls c te tu tr tx tv ∗ Free0 c wu wd ∗ Held c wu wd e ∗ (∃ W, owes (c : Thread nD τ) 0 W))
        -∗ wp frame (wpE (defs₀ (F := F)) Variants.none c none) Set.univ
          (ffnTail i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4
          _ h1 (View.readAt (Elt F) tbV.view (Rect.unit (s := S114) (k0_off22 i) S1.size (k0_off22_inb i)).toLoadRect tv (Shape.Idx.first (show 0 < S1.numel by decide)))) K))
    ⊢ wp frame (wpE (defs₀ (F := F)) Variants.none c none) Set.univ
        (cc0_ffn i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4) K := by
  rw [cc0_ffn_eq_skeleton]; unfold cc0_ffn_skel
  rw [k0_part1_eq_skeleton]; unfold k0_part1_skel
  unfold Tbls Free0
  iintro ⟨⟨HV, HU, HR, HE, HX⟩, ⟨Hq0, ⟨%du0, HU0⟩, ⟨%dd0, HD0⟩, Hwu0, Hwd0⟩, ⟨%fu, Hfu⟩, ⟨%fd, Hfd⟩, ⟨%W, HW⟩, Hk⟩
  imod (Transfers.mixedBatch_alloc' (Lvl := ℕ) (countersEmb (U := Pipeline.UD sig nD τ)) (c : Thread nD τ) () amts
      (deliv0 c e hu hd wu wd du0 dd0) (sm := SemLoc.dma 6) (E := Set.univ)) $$ Hq0 with HB0
  unfold deliv0
  have hc1 : k0_chk1 i (View.readAt (Elt F) tbU.view (Rect.unit (s := S1) ![0] S1.size inb_S1_S1_0).toLoadRect tu (Shape.Idx.first (show 0 < S1.numel by decide))) (View.readAt (Elt F) tbR.view (Rect.unit (s := S114) (k0_off1 i) S1.size (k0_off1_inb i)).toLoadRect tr (Shape.Idx.first (show 0 < S1.numel by decide))) e := ⟨fun _ _ _ _ => hu, fun _ _ _ _ => hd⟩
  have hc3 : k0_chk3 i (View.readAt (Elt F) tbU.view (Rect.unit (s := S1) ![0] S1.size inb_S1_S1_0).toLoadRect tu (Shape.Idx.first (show 0 < S1.numel by decide))) (View.readAt (Elt F) tbR.view (Rect.unit (s := S114) (k0_off1 i) S1.size (k0_off1_inb i)).toLoadRect tr (Shape.Idx.first (show 0 < S1.numel by decide))) e := ⟨fun _ _ _ => hu, fun _ _ _ => hd⟩
  subst he
  sl_exec
  ihave Hju := (up_join c _ hu (Transfers.shareTokN fullShare 6) wu) $$ [HB0_src0_in0 Hwu0]
  · isplitl [HB0_src0_in0]; · iexact HB0_src0_in0
    iexact Hwu0
  ihave Hjd := (dn_join c _ hd (Transfers.shareTokN fullShare 6) wd) $$ [HB0_src1_in1 Hwd0]
  · isplitl [HB0_src1_in1]; · iexact HB0_src1_in1
    iexact Hwd0
  iapply Hk
  isplitl [HV HU HR HE HX]
  · isplitl [HV]; · iexact HV
    isplitl [HU]; · iexact HU
    isplitl [HR]; · iexact HR
    isplitl [HE]; · iexact HE
    iexact HX
  isplitl [HB0 HB0_dst0 HB0_dst1 Hju Hjd]
  · isplitl [HB0]; · iexact HB0
    isplitl [HB0_dst0]; · iexists _; iexact HB0_dst0
    isplitl [HB0_dst1]; · iexists _; iexact HB0_dst1
    isplitl [Hju]; · iexact Hju
    iexact Hjd
  isplitl [Hfu Hfd]
  · unfold head0_first_last.sl.v65 head0_first_last.sl.v71 Held
    iexists hu, hd, _, _
    isplitr
    rotate_left
    · isplitr
      rotate_left
      · isplitl [Hfu]; · iexact Hfu
        iexact Hfd
      · ipureintro
        exact held_dn0 fd dnSlot0.view.junk _ inb_S1024x1024_S1024x1024_0_0
    · ipureintro
      exact held_up0 fu upSlot0.view.junk _ inb_S1024x2048_S1024x2048_0_0
  iexists _; iexact HW

set_option maxHeartbeats 600000 in
theorem head0_later_next (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (h1 : k0_cond1 i (View.readAt (Elt F) tbU.view (Rect.unit (s := S1) ![0] S1.size inb_S1_S1_0).toLoadRect tu (Shape.Idx.first (show 0 < S1.numel by decide))) = 1#1)
    (h2 : k0_cond2 (View.readAt (Elt F) tbR.view (Rect.unit (s := S114) (k0_off1 i) S1.size (k0_off1_inb i)).toLoadRect tr (Shape.Idx.first (show 0 < S1.numel by decide))) = 1#1)
    (h3 : k0_cond3 (View.readAt (Elt F) tbR.view (Rect.unit (s := S114) (k0_off1 i) S1.size (k0_off1_inb i)).toLoadRect tr (Shape.Idx.first (show 0 < S1.numel by decide))) = 1#1)
    (h6 : ¬ k0_cond6 (View.readAt (Elt F) tbR.view (Rect.unit (s := S114) (k0_off1 i) S1.size (k0_off1_inb i)).toLoadRect tr (Shape.Idx.first (show 0 < S1.numel by decide))) = 1#1)
    (hf : ¬ k0_cond4 (View.readAt (Elt F) tbR.view (Rect.unit (s := S114) (k0_off1 i) S1.size (k0_off1_inb i)).toLoadRect tr (Shape.Idx.first (show 0 < S1.numel by decide))) = 1#1)
    (hx : k0_cond5 (View.readAt (Elt F) tbX.view (Rect.unit (s := S114) (k0_off5 i) S1.size (k0_off5_inb i)).toLoadRect tx (Shape.Idx.first (show 0 < S1.numel by decide))) = 1#1)
    (e : BitVec 32) (he : e = (View.readAt (Elt F) tbE.view (Rect.unit (s := S114) (k0_off2 i) S1.size (k0_off2_inb i)).toLoadRect te (Shape.Idx.first (show 0 < S1.numel by decide))))
    (hu : ∀ a, (![e.toNat, 0, 0] : Fin 3 → ℕ) a + S1x1024x2048.size a ≤ S32x1024x2048.size a)
    (hd : ∀ a, (![e.toNat, 0, 0] : Fin 3 → ℕ) a + S1x1024x1024.size a ≤ S32x1024x1024.size a)
    (n : BitVec 32) (hn : n = (View.readAt (Elt F) tbX.view (Rect.unit (s := S114) (k0_off5 i) S1.size (k0_off5_inb i)).toLoadRect tx (Shape.Idx.first (show 0 < S1.numel by decide))))
    (nu : ∀ a, (![n.toNat, 0, 0] : Fin 3 → ℕ) a + S1x1024x2048.size a ≤ S32x1024x2048.size a)
    (nd : ∀ a, (![n.toNat, 0, 0] : Fin 3 → ℕ) a + S1x1024x1024.size a ≤ S32x1024x1024.size a)
    (K : PUnit → sProp 𝕄) :
    iprop(Tbls c te tu tr tx tv ∗ Fly0 c wu wd e ∗ Free1 c wu wd ∗ (∃ fu, pt c upB fullShare fu) ∗ (∃ fd, pt c dnB fullShare fd) ∗ (∃ W, owes (c : Thread nD τ) 0 W)
      ∗ ((Tbls c te tu tr tx tv ∗ Free0 c wu wd ∗ Fly1 c wu wd n ∗ Held c wu wd e ∗ (∃ W, owes (c : Thread nD τ) 0 W))
        -∗ wp frame (wpE (defs₀ (F := F)) Variants.none c none) Set.univ
          (ffnTail i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4
          _ h1 (View.readAt (Elt F) tbV.view (Rect.unit (s := S114) (k0_off22 i) S1.size (k0_off22_inb i)).toLoadRect tv (Shape.Idx.first (show 0 < S1.numel by decide)))) K))
    ⊢ wp frame (wpE (defs₀ (F := F)) Variants.none c none) Set.univ
        (cc0_ffn i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4) K := by
  rw [cc0_ffn_eq_skeleton]; unfold cc0_ffn_skel
  rw [k0_part1_eq_skeleton]; unfold k0_part1_skel
  unfold Tbls Free0 Fly0 Fly1 Free1
  iintro ⟨⟨HV, HU, HR, HE, HX⟩, ⟨%hu0, %hd0, %du0, %dd0, HB0, Hwu0, Hwd0⟩, ⟨Hq1, ⟨%du1, HU1⟩, ⟨%dd1, HD1⟩, Hwu1, Hwd1⟩, ⟨%fu, Hfu⟩, ⟨%fd, Hfd⟩, ⟨%W, HW⟩, Hk⟩
  imod (Transfers.mixedBatch_alloc' (Lvl := ℕ) (countersEmb (U := Pipeline.UD sig nD τ)) (c : Thread nD τ) () amts
      (deliv1 c n nu nd wu wd du1 dd1) (sm := SemLoc.dma 7) (E := Set.univ)) $$ Hq1 with HB1
  unfold deliv0 deliv1
  have hc3 : k0_chk3 i (View.readAt (Elt F) tbU.view (Rect.unit (s := S1) ![0] S1.size inb_S1_S1_0).toLoadRect tu (Shape.Idx.first (show 0 < S1.numel by decide))) (View.readAt (Elt F) tbR.view (Rect.unit (s := S114) (k0_off1 i) S1.size (k0_off1_inb i)).toLoadRect tr (Shape.Idx.first (show 0 < S1.numel by decide))) e := ⟨fun _ _ _ => hu, fun _ _ _ => hd⟩
  have hc2 : k0_chk2 i (View.readAt (Elt F) tbU.view (Rect.unit (s := S1) ![0] S1.size inb_S1_S1_0).toLoadRect tu (Shape.Idx.first (show 0 < S1.numel by decide))) (View.readAt (Elt F) tbR.view (Rect.unit (s := S114) (k0_off1 i) S1.size (k0_off1_inb i)).toLoadRect tr (Shape.Idx.first (show 0 < S1.numel by decide))) (View.readAt (Elt F) tbX.view (Rect.unit (s := S114) (k0_off5 i) S1.size (k0_off5_inb i)).toLoadRect tx (Shape.Idx.first (show 0 < S1.numel by decide))) n := ⟨fun _ _ _ _ => nu, fun _ _ _ _ => nd⟩
  subst he
  subst hn
  sl_exec
  ihave Hju := (up_join c _ hu (Transfers.shareTokN fullShare 6) wu) $$ [HB0_src0_in0 Hwu0]
  · isplitl [HB0_src0_in0]; · iexact HB0_src0_in0
    iexact Hwu0
  ihave Hjd := (dn_join c _ hd (Transfers.shareTokN fullShare 6) wd) $$ [HB0_src1_in1 Hwd0]
  · isplitl [HB0_src1_in1]; · iexact HB0_src1_in1
    iexact Hwd0
  iapply Hk
  isplitl [HV HU HR HE HX]
  · isplitl [HV]; · iexact HV
    isplitl [HU]; · iexact HU
    isplitl [HR]; · iexact HR
    isplitl [HE]; · iexact HE
    iexact HX
  isplitl [HB0 HB0_dst0 HB0_dst1 Hju Hjd]
  · isplitl [HB0]; · iexact HB0
    isplitl [HB0_dst0]; · iexists _; iexact HB0_dst0
    isplitl [HB0_dst1]; · iexists _; iexact HB0_dst1
    isplitl [Hju]; · iexact Hju
    iexact Hjd
  isplitl [HB1 Hwu1 Hwd1]
  · iexists nu, nd, du1, dd1
    isplitl [HB1]; · iexact HB1
    isplitl [Hwu1]; · iexact Hwu1
    iexact Hwd1
  isplitl [Hfu Hfd]
  · unfold head0_later_next.sl.v65 head0_later_next.sl.v71 Held
    iexists hu, hd, _, _
    isplitr
    rotate_left
    · isplitr
      rotate_left
      · isplitl [Hfu]; · iexact Hfu
        iexact Hfd
      · ipureintro
        exact held_dn0 fd dnSlot0.view.junk _ inb_S1024x1024_S1024x1024_0_0
    · ipureintro
      exact held_up0 fu upSlot0.view.junk _ inb_S1024x2048_S1024x2048_0_0
  iexists _; iexact HW

set_option maxHeartbeats 600000 in
theorem head0_later_last (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (h1 : k0_cond1 i (View.readAt (Elt F) tbU.view (Rect.unit (s := S1) ![0] S1.size inb_S1_S1_0).toLoadRect tu (Shape.Idx.first (show 0 < S1.numel by decide))) = 1#1)
    (h2 : k0_cond2 (View.readAt (Elt F) tbR.view (Rect.unit (s := S114) (k0_off1 i) S1.size (k0_off1_inb i)).toLoadRect tr (Shape.Idx.first (show 0 < S1.numel by decide))) = 1#1)
    (h3 : k0_cond3 (View.readAt (Elt F) tbR.view (Rect.unit (s := S114) (k0_off1 i) S1.size (k0_off1_inb i)).toLoadRect tr (Shape.Idx.first (show 0 < S1.numel by decide))) = 1#1)
    (h6 : ¬ k0_cond6 (View.readAt (Elt F) tbR.view (Rect.unit (s := S114) (k0_off1 i) S1.size (k0_off1_inb i)).toLoadRect tr (Shape.Idx.first (show 0 < S1.numel by decide))) = 1#1)
    (hf : ¬ k0_cond4 (View.readAt (Elt F) tbR.view (Rect.unit (s := S114) (k0_off1 i) S1.size (k0_off1_inb i)).toLoadRect tr (Shape.Idx.first (show 0 < S1.numel by decide))) = 1#1)
    (hx : ¬ k0_cond5 (View.readAt (Elt F) tbX.view (Rect.unit (s := S114) (k0_off5 i) S1.size (k0_off5_inb i)).toLoadRect tx (Shape.Idx.first (show 0 < S1.numel by decide))) = 1#1)
    (e : BitVec 32) (he : e = (View.readAt (Elt F) tbE.view (Rect.unit (s := S114) (k0_off2 i) S1.size (k0_off2_inb i)).toLoadRect te (Shape.Idx.first (show 0 < S1.numel by decide))))
    (hu : ∀ a, (![e.toNat, 0, 0] : Fin 3 → ℕ) a + S1x1024x2048.size a ≤ S32x1024x2048.size a)
    (hd : ∀ a, (![e.toNat, 0, 0] : Fin 3 → ℕ) a + S1x1024x1024.size a ≤ S32x1024x1024.size a)
    (K : PUnit → sProp 𝕄) :
    iprop(Tbls c te tu tr tx tv ∗ Fly0 c wu wd e ∗ (∃ fu, pt c upB fullShare fu) ∗ (∃ fd, pt c dnB fullShare fd) ∗ (∃ W, owes (c : Thread nD τ) 0 W)
      ∗ ((Tbls c te tu tr tx tv ∗ Free0 c wu wd ∗ Held c wu wd e ∗ (∃ W, owes (c : Thread nD τ) 0 W))
        -∗ wp frame (wpE (defs₀ (F := F)) Variants.none c none) Set.univ
          (ffnTail i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4
          _ h1 (View.readAt (Elt F) tbV.view (Rect.unit (s := S114) (k0_off22 i) S1.size (k0_off22_inb i)).toLoadRect tv (Shape.Idx.first (show 0 < S1.numel by decide)))) K))
    ⊢ wp frame (wpE (defs₀ (F := F)) Variants.none c none) Set.univ
        (cc0_ffn i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4) K := by
  rw [cc0_ffn_eq_skeleton]; unfold cc0_ffn_skel
  rw [k0_part1_eq_skeleton]; unfold k0_part1_skel
  unfold Tbls Free0 Fly0
  iintro ⟨⟨HV, HU, HR, HE, HX⟩, ⟨%hu0, %hd0, %du0, %dd0, HB0, Hwu0, Hwd0⟩, ⟨%fu, Hfu⟩, ⟨%fd, Hfd⟩, ⟨%W, HW⟩, Hk⟩
  unfold deliv0
  have hc3 : k0_chk3 i (View.readAt (Elt F) tbU.view (Rect.unit (s := S1) ![0] S1.size inb_S1_S1_0).toLoadRect tu (Shape.Idx.first (show 0 < S1.numel by decide))) (View.readAt (Elt F) tbR.view (Rect.unit (s := S114) (k0_off1 i) S1.size (k0_off1_inb i)).toLoadRect tr (Shape.Idx.first (show 0 < S1.numel by decide))) e := ⟨fun _ _ _ => hu, fun _ _ _ => hd⟩
  subst he
  sl_exec
  ihave Hju := (up_join c _ hu (Transfers.shareTokN fullShare 6) wu) $$ [HB0_src0_in0 Hwu0]
  · isplitl [HB0_src0_in0]; · iexact HB0_src0_in0
    iexact Hwu0
  ihave Hjd := (dn_join c _ hd (Transfers.shareTokN fullShare 6) wd) $$ [HB0_src1_in1 Hwd0]
  · isplitl [HB0_src1_in1]; · iexact HB0_src1_in1
    iexact Hwd0
  iapply Hk
  isplitl [HV HU HR HE HX]
  · isplitl [HV]; · iexact HV
    isplitl [HU]; · iexact HU
    isplitl [HR]; · iexact HR
    isplitl [HE]; · iexact HE
    iexact HX
  isplitl [HB0 HB0_dst0 HB0_dst1 Hju Hjd]
  · isplitl [HB0]; · iexact HB0
    isplitl [HB0_dst0]; · iexists _; iexact HB0_dst0
    isplitl [HB0_dst1]; · iexists _; iexact HB0_dst1
    isplitl [Hju]; · iexact Hju
    iexact Hjd
  isplitl [Hfu Hfd]
  · unfold head0_later_last.sl.v65 head0_later_last.sl.v71 Held
    iexists hu, hd, _, _
    isplitr
    rotate_left
    · isplitr
      rotate_left
      · isplitl [Hfu]; · iexact Hfu
        iexact Hfd
      · ipureintro
        exact held_dn0 fd dnSlot0.view.junk _ inb_S1024x1024_S1024x1024_0_0
    · ipureintro
      exact held_up0 fu upSlot0.view.junk _ inb_S1024x2048_S1024x2048_0_0
  iexists _; iexact HW

set_option maxHeartbeats 600000 in
theorem head1_later_next (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (h1 : k0_cond1 i (View.readAt (Elt F) tbU.view (Rect.unit (s := S1) ![0] S1.size inb_S1_S1_0).toLoadRect tu (Shape.Idx.first (show 0 < S1.numel by decide))) = 1#1)
    (h2 : k0_cond2 (View.readAt (Elt F) tbR.view (Rect.unit (s := S114) (k0_off1 i) S1.size (k0_off1_inb i)).toLoadRect tr (Shape.Idx.first (show 0 < S1.numel by decide))) = 1#1)
    (h3 : ¬ k0_cond3 (View.readAt (Elt F) tbR.view (Rect.unit (s := S114) (k0_off1 i) S1.size (k0_off1_inb i)).toLoadRect tr (Shape.Idx.first (show 0 < S1.numel by decide))) = 1#1)
    (h6 : k0_cond6 (View.readAt (Elt F) tbR.view (Rect.unit (s := S114) (k0_off1 i) S1.size (k0_off1_inb i)).toLoadRect tr (Shape.Idx.first (show 0 < S1.numel by decide))) = 1#1)
    (hf : ¬ k0_cond7 (View.readAt (Elt F) tbR.view (Rect.unit (s := S114) (k0_off1 i) S1.size (k0_off1_inb i)).toLoadRect tr (Shape.Idx.first (show 0 < S1.numel by decide))) = 1#1)
    (hx : k0_cond8 (View.readAt (Elt F) tbX.view (Rect.unit (s := S114) (k0_off15 i) S1.size (k0_off15_inb i)).toLoadRect tx (Shape.Idx.first (show 0 < S1.numel by decide))) = 1#1)
    (e : BitVec 32) (he : e = (View.readAt (Elt F) tbE.view (Rect.unit (s := S114) (k0_off2 i) S1.size (k0_off2_inb i)).toLoadRect te (Shape.Idx.first (show 0 < S1.numel by decide))))
    (hu : ∀ a, (![e.toNat, 0, 0] : Fin 3 → ℕ) a + S1x1024x2048.size a ≤ S32x1024x2048.size a)
    (hd : ∀ a, (![e.toNat, 0, 0] : Fin 3 → ℕ) a + S1x1024x1024.size a ≤ S32x1024x1024.size a)
    (n : BitVec 32) (hn : n = (View.readAt (Elt F) tbX.view (Rect.unit (s := S114) (k0_off15 i) S1.size (k0_off15_inb i)).toLoadRect tx (Shape.Idx.first (show 0 < S1.numel by decide))))
    (nu : ∀ a, (![n.toNat, 0, 0] : Fin 3 → ℕ) a + S1x1024x2048.size a ≤ S32x1024x2048.size a)
    (nd : ∀ a, (![n.toNat, 0, 0] : Fin 3 → ℕ) a + S1x1024x1024.size a ≤ S32x1024x1024.size a)
    (K : PUnit → sProp 𝕄) :
    iprop(Tbls c te tu tr tx tv ∗ Fly1 c wu wd e ∗ Free0 c wu wd ∗ (∃ fu, pt c upB fullShare fu) ∗ (∃ fd, pt c dnB fullShare fd) ∗ (∃ W, owes (c : Thread nD τ) 0 W)
      ∗ ((Tbls c te tu tr tx tv ∗ Free1 c wu wd ∗ Fly0 c wu wd n ∗ Held c wu wd e ∗ (∃ W, owes (c : Thread nD τ) 0 W))
        -∗ wp frame (wpE (defs₀ (F := F)) Variants.none c none) Set.univ
          (ffnTail i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4
          _ h1 (View.readAt (Elt F) tbV.view (Rect.unit (s := S114) (k0_off22 i) S1.size (k0_off22_inb i)).toLoadRect tv (Shape.Idx.first (show 0 < S1.numel by decide)))) K))
    ⊢ wp frame (wpE (defs₀ (F := F)) Variants.none c none) Set.univ
        (cc0_ffn i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4) K := by
  rw [cc0_ffn_eq_skeleton]; unfold cc0_ffn_skel
  rw [k0_part2_eq_skeleton]; unfold k0_part2_skel
  unfold Tbls Free1 Fly0 Fly1 Free0
  iintro ⟨⟨HV, HU, HR, HE, HX⟩, ⟨%hu1, %hd1, %du1, %dd1, HB1, Hwu1, Hwd1⟩, ⟨Hq0, ⟨%du0, HU0⟩, ⟨%dd0, HD0⟩, Hwu0, Hwd0⟩, ⟨%fu, Hfu⟩, ⟨%fd, Hfd⟩, ⟨%W, HW⟩, Hk⟩
  imod (Transfers.mixedBatch_alloc' (Lvl := ℕ) (countersEmb (U := Pipeline.UD sig nD τ)) (c : Thread nD τ) () amts
      (deliv0 c n nu nd wu wd du0 dd0) (sm := SemLoc.dma 6) (E := Set.univ)) $$ Hq0 with HB0
  unfold deliv1 deliv0
  have hc3 : k0_chk6 i (View.readAt (Elt F) tbU.view (Rect.unit (s := S1) ![0] S1.size inb_S1_S1_0).toLoadRect tu (Shape.Idx.first (show 0 < S1.numel by decide))) (View.readAt (Elt F) tbR.view (Rect.unit (s := S114) (k0_off1 i) S1.size (k0_off1_inb i)).toLoadRect tr (Shape.Idx.first (show 0 < S1.numel by decide))) e := ⟨fun _ _ _ => hu, fun _ _ _ => hd⟩
  have hc2 : k0_chk5 i (View.readAt (Elt F) tbU.view (Rect.unit (s := S1) ![0] S1.size inb_S1_S1_0).toLoadRect tu (Shape.Idx.first (show 0 < S1.numel by decide))) (View.readAt (Elt F) tbR.view (Rect.unit (s := S114) (k0_off1 i) S1.size (k0_off1_inb i)).toLoadRect tr (Shape.Idx.first (show 0 < S1.numel by decide))) (View.readAt (Elt F) tbX.view (Rect.unit (s := S114) (k0_off15 i) S1.size (k0_off15_inb i)).toLoadRect tx (Shape.Idx.first (show 0 < S1.numel by decide))) n := ⟨fun _ _ _ _ => nu, fun _ _ _ _ => nd⟩
  subst he
  subst hn
  sl_exec
  ihave Hju := (up_join c _ hu (Transfers.shareTokN fullShare 7) wu) $$ [HB1_src0_in0 Hwu1]
  · isplitl [HB1_src0_in0]; · iexact HB1_src0_in0
    iexact Hwu1
  ihave Hjd := (dn_join c _ hd (Transfers.shareTokN fullShare 7) wd) $$ [HB1_src1_in1 Hwd1]
  · isplitl [HB1_src1_in1]; · iexact HB1_src1_in1
    iexact Hwd1
  iapply Hk
  isplitl [HV HU HR HE HX]
  · isplitl [HV]; · iexact HV
    isplitl [HU]; · iexact HU
    isplitl [HR]; · iexact HR
    isplitl [HE]; · iexact HE
    iexact HX
  isplitl [HB1 HB1_dst0 HB1_dst1 Hju Hjd]
  · isplitl [HB1]; · iexact HB1
    isplitl [HB1_dst0]; · iexists _; iexact HB1_dst0
    isplitl [HB1_dst1]; · iexists _; iexact HB1_dst1
    isplitl [Hju]; · iexact Hju
    iexact Hjd
  isplitl [HB0 Hwu0 Hwd0]
  · iexists nu, nd, du0, dd0
    isplitl [HB0]; · iexact HB0
    isplitl [Hwu0]; · iexact Hwu0
    iexact Hwd0
  isplitl [Hfu Hfd]
  · unfold head1_later_next.sl.v65 head1_later_next.sl.v71 Held
    iexists hu, hd, _, _
    isplitr
    rotate_left
    · isplitr
      rotate_left
      · isplitl [Hfu]; · iexact Hfu
        iexact Hfd
      · ipureintro
        exact held_dn1 fd dnSlot1.view.junk _ inb_S1024x1024_S1024x1024_0_0
    · ipureintro
      exact held_up1 fu upSlot1.view.junk _ inb_S1024x2048_S1024x2048_0_0
  iexists _; iexact HW

set_option maxHeartbeats 600000 in
theorem head1_later_last (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (h1 : k0_cond1 i (View.readAt (Elt F) tbU.view (Rect.unit (s := S1) ![0] S1.size inb_S1_S1_0).toLoadRect tu (Shape.Idx.first (show 0 < S1.numel by decide))) = 1#1)
    (h2 : k0_cond2 (View.readAt (Elt F) tbR.view (Rect.unit (s := S114) (k0_off1 i) S1.size (k0_off1_inb i)).toLoadRect tr (Shape.Idx.first (show 0 < S1.numel by decide))) = 1#1)
    (h3 : ¬ k0_cond3 (View.readAt (Elt F) tbR.view (Rect.unit (s := S114) (k0_off1 i) S1.size (k0_off1_inb i)).toLoadRect tr (Shape.Idx.first (show 0 < S1.numel by decide))) = 1#1)
    (h6 : k0_cond6 (View.readAt (Elt F) tbR.view (Rect.unit (s := S114) (k0_off1 i) S1.size (k0_off1_inb i)).toLoadRect tr (Shape.Idx.first (show 0 < S1.numel by decide))) = 1#1)
    (hf : ¬ k0_cond7 (View.readAt (Elt F) tbR.view (Rect.unit (s := S114) (k0_off1 i) S1.size (k0_off1_inb i)).toLoadRect tr (Shape.Idx.first (show 0 < S1.numel by decide))) = 1#1)
    (hx : ¬ k0_cond8 (View.readAt (Elt F) tbX.view (Rect.unit (s := S114) (k0_off15 i) S1.size (k0_off15_inb i)).toLoadRect tx (Shape.Idx.first (show 0 < S1.numel by decide))) = 1#1)
    (e : BitVec 32) (he : e = (View.readAt (Elt F) tbE.view (Rect.unit (s := S114) (k0_off2 i) S1.size (k0_off2_inb i)).toLoadRect te (Shape.Idx.first (show 0 < S1.numel by decide))))
    (hu : ∀ a, (![e.toNat, 0, 0] : Fin 3 → ℕ) a + S1x1024x2048.size a ≤ S32x1024x2048.size a)
    (hd : ∀ a, (![e.toNat, 0, 0] : Fin 3 → ℕ) a + S1x1024x1024.size a ≤ S32x1024x1024.size a)
    (K : PUnit → sProp 𝕄) :
    iprop(Tbls c te tu tr tx tv ∗ Fly1 c wu wd e ∗ (∃ fu, pt c upB fullShare fu) ∗ (∃ fd, pt c dnB fullShare fd) ∗ (∃ W, owes (c : Thread nD τ) 0 W)
      ∗ ((Tbls c te tu tr tx tv ∗ Free1 c wu wd ∗ Held c wu wd e ∗ (∃ W, owes (c : Thread nD τ) 0 W))
        -∗ wp frame (wpE (defs₀ (F := F)) Variants.none c none) Set.univ
          (ffnTail i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4
          _ h1 (View.readAt (Elt F) tbV.view (Rect.unit (s := S114) (k0_off22 i) S1.size (k0_off22_inb i)).toLoadRect tv (Shape.Idx.first (show 0 < S1.numel by decide)))) K))
    ⊢ wp frame (wpE (defs₀ (F := F)) Variants.none c none) Set.univ
        (cc0_ffn i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4) K := by
  rw [cc0_ffn_eq_skeleton]; unfold cc0_ffn_skel
  rw [k0_part2_eq_skeleton]; unfold k0_part2_skel
  unfold Tbls Free1 Fly1
  iintro ⟨⟨HV, HU, HR, HE, HX⟩, ⟨%hu1, %hd1, %du1, %dd1, HB1, Hwu1, Hwd1⟩, ⟨%fu, Hfu⟩, ⟨%fd, Hfd⟩, ⟨%W, HW⟩, Hk⟩
  unfold deliv1
  have hc3 : k0_chk6 i (View.readAt (Elt F) tbU.view (Rect.unit (s := S1) ![0] S1.size inb_S1_S1_0).toLoadRect tu (Shape.Idx.first (show 0 < S1.numel by decide))) (View.readAt (Elt F) tbR.view (Rect.unit (s := S114) (k0_off1 i) S1.size (k0_off1_inb i)).toLoadRect tr (Shape.Idx.first (show 0 < S1.numel by decide))) e := ⟨fun _ _ _ => hu, fun _ _ _ => hd⟩
  subst he
  sl_exec
  ihave Hju := (up_join c _ hu (Transfers.shareTokN fullShare 7) wu) $$ [HB1_src0_in0 Hwu1]
  · isplitl [HB1_src0_in0]; · iexact HB1_src0_in0
    iexact Hwu1
  ihave Hjd := (dn_join c _ hd (Transfers.shareTokN fullShare 7) wd) $$ [HB1_src1_in1 Hwd1]
  · isplitl [HB1_src1_in1]; · iexact HB1_src1_in1
    iexact Hwd1
  iapply Hk
  isplitl [HV HU HR HE HX]
  · isplitl [HV]; · iexact HV
    isplitl [HU]; · iexact HU
    isplitl [HR]; · iexact HR
    isplitl [HE]; · iexact HE
    iexact HX
  isplitl [HB1 HB1_dst0 HB1_dst1 Hju Hjd]
  · isplitl [HB1]; · iexact HB1
    isplitl [HB1_dst0]; · iexists _; iexact HB1_dst0
    isplitl [HB1_dst1]; · iexists _; iexact HB1_dst1
    isplitl [Hju]; · iexact Hju
    iexact Hjd
  isplitl [Hfu Hfd]
  · unfold head1_later_last.sl.v65 head1_later_last.sl.v71 Held
    iexists hu, hd, _, _
    isplitr
    rotate_left
    · isplitr
      rotate_left
      · isplitl [Hfu]; · iexact Hfu
        iexact Hfd
      · ipureintro
        exact held_dn1 fd dnSlot1.view.junk _ inb_S1024x1024_S1024x1024_0_0
    · ipureintro
      exact held_up1 fu upSlot1.view.junk _ inb_S1024x2048_S1024x2048_0_0
  iexists _; iexact HW

end Cert.KernelIdeal.Hand

end
-- ==== Proof.Tail.lean ====
module

public import proofs.«01_k».proof.Proof.Slots
public import proofs.«01_k».proof.Proof.Gen.KernelIdeal.Skeleton
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Point
public import proofs.«01_k».proof.Proof.Cond

/-! The second half of a point: its output block, by how many rows of the block are valid. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

set_option maxHeartbeats 1000000 in
theorem tail_full (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (v0 : BitVec 32) (h1 : k0_cond1 i v0 = 1#1) (v : BitVec 32)
    (hv : v.toInt = 1024)
    (e : BitVec 32) (he : e = (View.readAt (Elt F) tbE.view (Rect.unit (s := S114) (k0_off2 i) S1.size (k0_off2_inb i)).toLoadRect te (Shape.Idx.first (show 0 < S1.numel by decide))))
    (hu : ∀ a, (![e.toNat, 0, 0] : Fin 3 → ℕ) a + S1x1024x2048.size a ≤ S32x1024x2048.size a)
    (hd : ∀ a, (![e.toNat, 0, 0] : Fin 3 → ℕ) a + S1x1024x1024.size a ≤ S32x1024x1024.size a)
    (hbu : ∀ a, (![e.toNat, 0] : Fin 2 → ℕ) a + S1x2048.size a ≤ S32x2048.size a)
    (hbd : ∀ a, (![e.toNat, 0] : Fin 2 → ℕ) a + S1x1024.size a ≤ S32x1024.size a)
    (X Y : S1024x1024.Idx → Elt F .bf16) (BU : S32x2048.Idx → Elt F .f32) (BD : S32x1024.Idx → Elt F .f32)
    (K : PUnit → sProp 𝕄) :
    iprop(Tbls c te tu tr tx tv ∗ owns (c : Thread nD τ) arg6 fullShare X ∗ owns (c : Thread nD τ) arg8 fullShare BU ∗ owns (c : Thread nD τ) arg10 fullShare BD ∗ owns (c : Thread nD τ) arg11 fullShare Y ∗ Held c wu wd e
      ∗ ((Tbls c te tu tr tx tv ∗ owns (c : Thread nD τ) arg6 fullShare X ∗ owns (c : Thread nD τ) arg8 fullShare BU ∗ owns (c : Thread nD τ) arg10 fullShare BD
        ∗ (∃ Y', ⌜Good v X (upW c e hu wu) (upBias e hbu BU) (dnW c e hd wd) (dnBias e hbd BD) Y'⌝ ∗ owns (c : Thread nD τ) arg11 fullShare Y')
        ∗ Held c wu wd e) -∗ K PUnit.unit))
    ⊢ wp frame (wpE (defs₀ (F := F)) Variants.none c none) Set.univ
        (ffnTail i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4 v0 h1 v) K := by
  have h9 : k0_cond9 v = 1#1 := (cond9_iff v).2 (by omega)
  have h10 : ¬ k0_cond10 v = 1#1 := fun h => absurd ((cond10_iff v).1 h) (by omega)
  have hc7 : k0_chk7 i v0 v e := ⟨fun _ _ => hbu, fun _ _ => hbd⟩
  unfold ffnTail
  rw [k0_part3_eq_skeleton]; unfold k0_part3_skel
  unfold Tbls Held owns
  iintro ⟨⟨HV, HU, HR, HE, HX⟩, ⟨%fx, %hfx, Hx⟩, ⟨%fbu, %hfbu, Hbu⟩, ⟨%fbd, %hfbd, Hbd⟩, ⟨%fy, %hfy, Hy⟩, ⟨%hu', %hd', %fu, %fd, %hfu, %hfd, Hfu, Hfd⟩, Hk⟩
  subst he
  sl_exec
  sl_step
  iapply Hk
  isplitl [HV HU HR HE HX]
  · isplitl [HV]; · iexact HV
    isplitl [HU]; · iexact HU
    isplitl [HR]; · iexact HR
    isplitl [HE]; · iexact HE
    iexact HX
  isplitl [Hx]
  · iexists fx; isplitr
    · ipureintro; exact hfx
    · iexact Hx
  isplitl [Hbu]
  · iexists fbu; isplitr
    · ipureintro; exact hfbu
    · iexact Hbu
  isplitl [Hbd]
  · iexists fbd; isplitr
    · ipureintro; exact hfbd
    · iexact Hbd
  isplitl [Hy]
  · iapply (out_intro c arg11 (Good v X _ _ _ _) _ ?_) $$ Hy
    subst hfx hfbu hfbd
    have hA := (View.readAt_full (Val := Elt F) upB.view fu inb_S1024x2048_S1024x2048_0_0).trans hfu
    have hB := (View.readAt_full (Val := Elt F) dnB.view fd inb_S1024x1024_S1024x1024_0_0).trans hfd
    refine ⟨?_, fun h h' => absurd h (by omega), fun h h' => absurd h (by omega), fun h h' => absurd h (by omega), fun h h' => absurd h (by omega), fun h h' => absurd h (by omega)⟩
    · intro _ y
      refine (congrFun (View.read_writes_full (Val := Elt F) arg11.view fy inb_S1024x1024_S1024x1024_0_0 _ []) y).trans ?_
      rw [hA, hB, View.readAt_full]
      rfl
  iexists hu', hd', fu, fd
  isplitr
  · ipureintro; exact hfu
  isplitr
  · ipureintro; exact hfd
  isplitl [Hfu]; · iexact Hfu
  iexact Hfd

set_option maxHeartbeats 1000000 in
theorem tail_none (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (v0 : BitVec 32) (h1 : k0_cond1 i v0 = 1#1) (v : BitVec 32)
    (hv : v.toInt ≤ 0)
    (e : BitVec 32) (he : e = (View.readAt (Elt F) tbE.view (Rect.unit (s := S114) (k0_off2 i) S1.size (k0_off2_inb i)).toLoadRect te (Shape.Idx.first (show 0 < S1.numel by decide))))
    (hu : ∀ a, (![e.toNat, 0, 0] : Fin 3 → ℕ) a + S1x1024x2048.size a ≤ S32x1024x2048.size a)
    (hd : ∀ a, (![e.toNat, 0, 0] : Fin 3 → ℕ) a + S1x1024x1024.size a ≤ S32x1024x1024.size a)
    (hbu : ∀ a, (![e.toNat, 0] : Fin 2 → ℕ) a + S1x2048.size a ≤ S32x2048.size a)
    (hbd : ∀ a, (![e.toNat, 0] : Fin 2 → ℕ) a + S1x1024.size a ≤ S32x1024.size a)
    (X Y : S1024x1024.Idx → Elt F .bf16) (BU : S32x2048.Idx → Elt F .f32) (BD : S32x1024.Idx → Elt F .f32)
    (K : PUnit → sProp 𝕄) :
    iprop(Tbls c te tu tr tx tv ∗ owns (c : Thread nD τ) arg6 fullShare X ∗ owns (c : Thread nD τ) arg8 fullShare BU ∗ owns (c : Thread nD τ) arg10 fullShare BD ∗ owns (c : Thread nD τ) arg11 fullShare Y ∗ Held c wu wd e
      ∗ ((Tbls c te tu tr tx tv ∗ owns (c : Thread nD τ) arg6 fullShare X ∗ owns (c : Thread nD τ) arg8 fullShare BU ∗ owns (c : Thread nD τ) arg10 fullShare BD
        ∗ (∃ Y', ⌜Good v X (upW c e hu wu) (upBias e hbu BU) (dnW c e hd wd) (dnBias e hbd BD) Y'⌝ ∗ owns (c : Thread nD τ) arg11 fullShare Y')
        ∗ Held c wu wd e) -∗ K PUnit.unit))
    ⊢ wp frame (wpE (defs₀ (F := F)) Variants.none c none) Set.univ
        (ffnTail i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4 v0 h1 v) K := by
  have h10 : k0_cond10 v = 1#1 := (cond10_iff v).2 (by omega)
  have h12 : k0_cond12 v = 1#1 := (cond12_iff v).2 (by omega)
  have h14 : k0_cond14 v = 1#1 := (cond14_iff v).2 (by omega)
  have h16 : k0_cond16 v = 1#1 := (cond16_iff v).2 (by omega)
  have h18 : k0_cond18 v = 1#1 := (cond18_iff v).2 (by omega)
  have h20 : k0_cond20 v = 1#1 := (cond20_iff v).2 (by omega)
  have h22 : k0_cond22 v = 1#1 := (cond22_iff v).2 (by omega)
  have h9 : ¬ k0_cond9 v = 1#1 := fun h => absurd ((cond9_iff v).1 h) (by omega)
  have h11 : ¬ k0_cond11 v = 1#1 := fun h => absurd ((cond11_iff v).1 h) (by omega)
  have h13 : ¬ k0_cond13 v = 1#1 := fun h => absurd ((cond13_iff v).1 h) (by omega)
  have h15 : ¬ k0_cond15 v = 1#1 := fun h => absurd ((cond15_iff v).1 h) (by omega)
  have h17 : ¬ k0_cond17 v = 1#1 := fun h => absurd ((cond17_iff v).1 h) (by omega)
  have h19 : ¬ k0_cond19 v = 1#1 := fun h => absurd ((cond19_iff v).1 h) (by omega)
  have h21 : ¬ k0_cond21 v = 1#1 := fun h => absurd ((cond21_iff v).1 h) (by omega)
  unfold ffnTail
  unfold Tbls Held owns
  iintro ⟨⟨HV, HU, HR, HE, HX⟩, ⟨%fx, %hfx, Hx⟩, ⟨%fbu, %hfbu, Hbu⟩, ⟨%fbd, %hfbd, Hbd⟩, ⟨%fy, %hfy, Hy⟩, ⟨%hu', %hd', %fu, %fd, %hfu, %hfd, Hfu, Hfd⟩, Hk⟩
  subst he
  sl_exec
  sl_step
  iapply Hk
  isplitl [HV HU HR HE HX]
  · isplitl [HV]; · iexact HV
    isplitl [HU]; · iexact HU
    isplitl [HR]; · iexact HR
    isplitl [HE]; · iexact HE
    iexact HX
  isplitl [Hx]
  · iexists fx; isplitr
    · ipureintro; exact hfx
    · iexact Hx
  isplitl [Hbu]
  · iexists fbu; isplitr
    · ipureintro; exact hfbu
    · iexact Hbu
  isplitl [Hbd]
  · iexists fbd; isplitr
    · ipureintro; exact hfbd
    · iexact Hbd
  isplitl [Hy]
  · iapply (out_intro c arg11 (Good v X _ _ _ _) _ ?_) $$ Hy
    subst hfx hfbu hfbd
    have hA := (View.readAt_full (Val := Elt F) upB.view fu inb_S1024x2048_S1024x2048_0_0).trans hfu
    have hB := (View.readAt_full (Val := Elt F) dnB.view fd inb_S1024x1024_S1024x1024_0_0).trans hfd
    refine ⟨fun h => absurd h (by omega), fun h h' => absurd h (by omega), fun h h' => absurd h (by omega), fun h h' => absurd h (by omega), fun h h' => absurd h (by omega), fun h h' => absurd h (by omega)⟩
  iexists hu', hd', fu, fd
  isplitr
  · ipureintro; exact hfu
  isplitr
  · ipureintro; exact hfd
  isplitl [Hfu]; · iexact Hfu
  iexact Hfd

set_option maxHeartbeats 1000000 in
theorem tail_q0 (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (v0 : BitVec 32) (h1 : k0_cond1 i v0 = 1#1) (v : BitVec 32)
    (hv : 0 < v.toInt ∧ v.toInt ≤ 256)
    (e : BitVec 32) (he : e = (View.readAt (Elt F) tbE.view (Rect.unit (s := S114) (k0_off2 i) S1.size (k0_off2_inb i)).toLoadRect te (Shape.Idx.first (show 0 < S1.numel by decide))))
    (hu : ∀ a, (![e.toNat, 0, 0] : Fin 3 → ℕ) a + S1x1024x2048.size a ≤ S32x1024x2048.size a)
    (hd : ∀ a, (![e.toNat, 0, 0] : Fin 3 → ℕ) a + S1x1024x1024.size a ≤ S32x1024x1024.size a)
    (hbu : ∀ a, (![e.toNat, 0] : Fin 2 → ℕ) a + S1x2048.size a ≤ S32x2048.size a)
    (hbd : ∀ a, (![e.toNat, 0] : Fin 2 → ℕ) a + S1x1024.size a ≤ S32x1024.size a)
    (X Y : S1024x1024.Idx → Elt F .bf16) (BU : S32x2048.Idx → Elt F .f32) (BD : S32x1024.Idx → Elt F .f32)
    (K : PUnit → sProp 𝕄) :
    iprop(Tbls c te tu tr tx tv ∗ owns (c : Thread nD τ) arg6 fullShare X ∗ owns (c : Thread nD τ) arg8 fullShare BU ∗ owns (c : Thread nD τ) arg10 fullShare BD ∗ owns (c : Thread nD τ) arg11 fullShare Y ∗ Held c wu wd e
      ∗ ((Tbls c te tu tr tx tv ∗ owns (c : Thread nD τ) arg6 fullShare X ∗ owns (c : Thread nD τ) arg8 fullShare BU ∗ owns (c : Thread nD τ) arg10 fullShare BD
        ∗ (∃ Y', ⌜Good v X (upW c e hu wu) (upBias e hbu BU) (dnW c e hd wd) (dnBias e hbd BD) Y'⌝ ∗ owns (c : Thread nD τ) arg11 fullShare Y')
        ∗ Held c wu wd e) -∗ K PUnit.unit))
    ⊢ wp frame (wpE (defs₀ (F := F)) Variants.none c none) Set.univ
        (ffnTail i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4 v0 h1 v) K := by
  have h10 : k0_cond10 v = 1#1 := (cond10_iff v).2 (by omega)
  have h12 : k0_cond12 v = 1#1 := (cond12_iff v).2 (by omega)
  have h13 : k0_cond13 v = 1#1 := (cond13_iff v).2 (by omega)
  have h16 : k0_cond16 v = 1#1 := (cond16_iff v).2 (by omega)
  have h18 : k0_cond18 v = 1#1 := (cond18_iff v).2 (by omega)
  have h20 : k0_cond20 v = 1#1 := (cond20_iff v).2 (by omega)
  have h22 : k0_cond22 v = 1#1 := (cond22_iff v).2 (by omega)
  have h9 : ¬ k0_cond9 v = 1#1 := fun h => absurd ((cond9_iff v).1 h) (by omega)
  have h11 : ¬ k0_cond11 v = 1#1 := fun h => absurd ((cond11_iff v).1 h) (by omega)
  have h14 : ¬ k0_cond14 v = 1#1 := fun h => absurd ((cond14_iff v).1 h) (by omega)
  have h15 : ¬ k0_cond15 v = 1#1 := fun h => absurd ((cond15_iff v).1 h) (by omega)
  have h17 : ¬ k0_cond17 v = 1#1 := fun h => absurd ((cond17_iff v).1 h) (by omega)
  have h19 : ¬ k0_cond19 v = 1#1 := fun h => absurd ((cond19_iff v).1 h) (by omega)
  have h21 : ¬ k0_cond21 v = 1#1 := fun h => absurd ((cond21_iff v).1 h) (by omega)
  have hc9 : k0_chk9 i v0 v e := ⟨fun _ _ _ _ => hbu, fun _ _ _ _ => hbd⟩
  unfold ffnTail
  rw [k0_part5_eq_skeleton]; unfold k0_part5_skel
  unfold Tbls Held owns
  iintro ⟨⟨HV, HU, HR, HE, HX⟩, ⟨%fx, %hfx, Hx⟩, ⟨%fbu, %hfbu, Hbu⟩, ⟨%fbd, %hfbd, Hbd⟩, ⟨%fy, %hfy, Hy⟩, ⟨%hu', %hd', %fu, %fd, %hfu, %hfd, Hfu, Hfd⟩, Hk⟩
  subst he
  sl_exec
  sl_step
  iapply Hk
  isplitl [HV HU HR HE HX]
  · isplitl [HV]; · iexact HV
    isplitl [HU]; · iexact HU
    isplitl [HR]; · iexact HR
    isplitl [HE]; · iexact HE
    iexact HX
  isplitl [Hx]
  · iexists fx; isplitr
    · ipureintro; exact hfx
    · iexact Hx
  isplitl [Hbu]
  · iexists fbu; isplitr
    · ipureintro; exact hfbu
    · iexact Hbu
  isplitl [Hbd]
  · iexists fbd; isplitr
    · ipureintro; exact hfbd
    · iexact Hbd
  isplitl [Hy]
  · iapply (out_intro c arg11 (Good v X _ _ _ _) _ ?_) $$ Hy
    subst hfx hfbu hfbd
    have hA := (View.readAt_full (Val := Elt F) upB.view fu inb_S1024x2048_S1024x2048_0_0).trans hfu
    have hB := (View.readAt_full (Val := Elt F) dnB.view fd inb_S1024x1024_S1024x1024_0_0).trans hfd
    refine ⟨fun h => absurd h (by omega), fun h h' => absurd h (by omega), ?_, fun h h' => absurd h (by omega), fun h h' => absurd h (by omega), fun h h' => absurd h (by omega)⟩
    · intro _ _ x y hy0 hy1
      have hx : (x 0).val < 256 := (x 0).isLt
      rw [View.read_writes_cons_rows_of_not_mem (o := 768) (W := 256) _ _ _ _ _ _ rfl rfl (by omega)]
      rw [View.read_writes_cons_rows_of_not_mem (o := 512) (W := 256) _ _ _ _ _ _ rfl rfl (by omega)]
      rw [View.read_writes_cons_rows_of_not_mem (o := 256) (W := 256) _ _ _ _ _ _ rfl rfl (by omega)]
      refine (View.read_writes_cons_rows_of_mem _ _ _ _ _ y x rfl hy0 hy1).trans ?_
      rw [hA, hB]
      rfl
  iexists hu', hd', fu, fd
  isplitr
  · ipureintro; exact hfu
  isplitr
  · ipureintro; exact hfd
  isplitl [Hfu]; · iexact Hfu
  iexact Hfd

set_option maxHeartbeats 1000000 in
theorem tail_q1 (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (v0 : BitVec 32) (h1 : k0_cond1 i v0 = 1#1) (v : BitVec 32)
    (hv : 256 < v.toInt ∧ v.toInt < 512)
    (e : BitVec 32) (he : e = (View.readAt (Elt F) tbE.view (Rect.unit (s := S114) (k0_off2 i) S1.size (k0_off2_inb i)).toLoadRect te (Shape.Idx.first (show 0 < S1.numel by decide))))
    (hu : ∀ a, (![e.toNat, 0, 0] : Fin 3 → ℕ) a + S1x1024x2048.size a ≤ S32x1024x2048.size a)
    (hd : ∀ a, (![e.toNat, 0, 0] : Fin 3 → ℕ) a + S1x1024x1024.size a ≤ S32x1024x1024.size a)
    (hbu : ∀ a, (![e.toNat, 0] : Fin 2 → ℕ) a + S1x2048.size a ≤ S32x2048.size a)
    (hbd : ∀ a, (![e.toNat, 0] : Fin 2 → ℕ) a + S1x1024.size a ≤ S32x1024.size a)
    (X Y : S1024x1024.Idx → Elt F .bf16) (BU : S32x2048.Idx → Elt F .f32) (BD : S32x1024.Idx → Elt F .f32)
    (K : PUnit → sProp 𝕄) :
    iprop(Tbls c te tu tr tx tv ∗ owns (c : Thread nD τ) arg6 fullShare X ∗ owns (c : Thread nD τ) arg8 fullShare BU ∗ owns (c : Thread nD τ) arg10 fullShare BD ∗ owns (c : Thread nD τ) arg11 fullShare Y ∗ Held c wu wd e
      ∗ ((Tbls c te tu tr tx tv ∗ owns (c : Thread nD τ) arg6 fullShare X ∗ owns (c : Thread nD τ) arg8 fullShare BU ∗ owns (c : Thread nD τ) arg10 fullShare BD
        ∗ (∃ Y', ⌜Good v X (upW c e hu wu) (upBias e hbu BU) (dnW c e hd wd) (dnBias e hbd BD) Y'⌝ ∗ owns (c : Thread nD τ) arg11 fullShare Y')
        ∗ Held c wu wd e) -∗ K PUnit.unit))
    ⊢ wp frame (wpE (defs₀ (F := F)) Variants.none c none) Set.univ
        (ffnTail i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4 v0 h1 v) K := by
  have h10 : k0_cond10 v = 1#1 := (cond10_iff v).2 (by omega)
  have h12 : k0_cond12 v = 1#1 := (cond12_iff v).2 (by omega)
  have h13 : k0_cond13 v = 1#1 := (cond13_iff v).2 (by omega)
  have h15 : k0_cond15 v = 1#1 := (cond15_iff v).2 (by omega)
  have h18 : k0_cond18 v = 1#1 := (cond18_iff v).2 (by omega)
  have h20 : k0_cond20 v = 1#1 := (cond20_iff v).2 (by omega)
  have h22 : k0_cond22 v = 1#1 := (cond22_iff v).2 (by omega)
  have h9 : ¬ k0_cond9 v = 1#1 := fun h => absurd ((cond9_iff v).1 h) (by omega)
  have h11 : ¬ k0_cond11 v = 1#1 := fun h => absurd ((cond11_iff v).1 h) (by omega)
  have h14 : ¬ k0_cond14 v = 1#1 := fun h => absurd ((cond14_iff v).1 h) (by omega)
  have h16 : ¬ k0_cond16 v = 1#1 := fun h => absurd ((cond16_iff v).1 h) (by omega)
  have h17 : ¬ k0_cond17 v = 1#1 := fun h => absurd ((cond17_iff v).1 h) (by omega)
  have h19 : ¬ k0_cond19 v = 1#1 := fun h => absurd ((cond19_iff v).1 h) (by omega)
  have h21 : ¬ k0_cond21 v = 1#1 := fun h => absurd ((cond21_iff v).1 h) (by omega)
  have hc9 : k0_chk9 i v0 v e := ⟨fun _ _ _ _ => hbu, fun _ _ _ _ => hbd⟩
  have hc10 : k0_chk10 i v0 v e := ⟨fun _ _ _ _ => hbu, fun _ _ _ _ => hbd⟩
  unfold ffnTail
  rw [k0_part5_eq_skeleton]; unfold k0_part5_skel
  rw [k0_part6_eq_skeleton]; unfold k0_part6_skel
  unfold Tbls Held owns
  iintro ⟨⟨HV, HU, HR, HE, HX⟩, ⟨%fx, %hfx, Hx⟩, ⟨%fbu, %hfbu, Hbu⟩, ⟨%fbd, %hfbd, Hbd⟩, ⟨%fy, %hfy, Hy⟩, ⟨%hu', %hd', %fu, %fd, %hfu, %hfd, Hfu, Hfd⟩, Hk⟩
  subst he
  sl_exec
  sl_step
  iapply Hk
  isplitl [HV HU HR HE HX]
  · isplitl [HV]; · iexact HV
    isplitl [HU]; · iexact HU
    isplitl [HR]; · iexact HR
    isplitl [HE]; · iexact HE
    iexact HX
  isplitl [Hx]
  · iexists fx; isplitr
    · ipureintro; exact hfx
    · iexact Hx
  isplitl [Hbu]
  · iexists fbu; isplitr
    · ipureintro; exact hfbu
    · iexact Hbu
  isplitl [Hbd]
  · iexists fbd; isplitr
    · ipureintro; exact hfbd
    · iexact Hbd
  isplitl [Hy]
  · iapply (out_intro c arg11 (Good v X _ _ _ _) _ ?_) $$ Hy
    subst hfx hfbu hfbd
    have hA := (View.readAt_full (Val := Elt F) upB.view fu inb_S1024x2048_S1024x2048_0_0).trans hfu
    have hB := (View.readAt_full (Val := Elt F) dnB.view fd inb_S1024x1024_S1024x1024_0_0).trans hfd
    refine ⟨fun h => absurd h (by omega), fun h h' => absurd h (by omega), ?_, ?_, fun h h' => absurd h (by omega), fun h h' => absurd h (by omega)⟩
    · intro _ _ x y hy0 hy1
      have hx : (x 0).val < 256 := (x 0).isLt
      rw [View.read_writes_cons_rows_of_not_mem (o := 768) (W := 256) _ _ _ _ _ _ rfl rfl (by omega)]
      rw [View.read_writes_cons_rows_of_not_mem (o := 512) (W := 256) _ _ _ _ _ _ rfl rfl (by omega)]
      rw [View.read_writes_cons_rows_of_not_mem (o := 256) (W := 256) _ _ _ _ _ _ rfl rfl (by omega)]
      refine (View.read_writes_cons_rows_of_mem _ _ _ _ _ y x rfl hy0 hy1).trans ?_
      rw [hA, hB]
      rfl
    · intro _ _ x y hy0 hy1
      have hx : (x 0).val < 256 := (x 0).isLt
      rw [View.read_writes_cons_rows_of_not_mem (o := 768) (W := 256) _ _ _ _ _ _ rfl rfl (by omega)]
      rw [View.read_writes_cons_rows_of_not_mem (o := 512) (W := 256) _ _ _ _ _ _ rfl rfl (by omega)]
      refine (View.read_writes_cons_rows_of_mem _ _ _ _ _ y x rfl hy0 hy1).trans ?_
      rw [hA, hB]
      rfl
  iexists hu', hd', fu, fd
  isplitr
  · ipureintro; exact hfu
  isplitr
  · ipureintro; exact hfd
  isplitl [Hfu]; · iexact Hfu
  iexact Hfd

set_option maxHeartbeats 1000000 in
theorem tail_half (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (v0 : BitVec 32) (h1 : k0_cond1 i v0 = 1#1) (v : BitVec 32)
    (hv : v.toInt = 512)
    (e : BitVec 32) (he : e = (View.readAt (Elt F) tbE.view (Rect.unit (s := S114) (k0_off2 i) S1.size (k0_off2_inb i)).toLoadRect te (Shape.Idx.first (show 0 < S1.numel by decide))))
    (hu : ∀ a, (![e.toNat, 0, 0] : Fin 3 → ℕ) a + S1x1024x2048.size a ≤ S32x1024x2048.size a)
    (hd : ∀ a, (![e.toNat, 0, 0] : Fin 3 → ℕ) a + S1x1024x1024.size a ≤ S32x1024x1024.size a)
    (hbu : ∀ a, (![e.toNat, 0] : Fin 2 → ℕ) a + S1x2048.size a ≤ S32x2048.size a)
    (hbd : ∀ a, (![e.toNat, 0] : Fin 2 → ℕ) a + S1x1024.size a ≤ S32x1024.size a)
    (X Y : S1024x1024.Idx → Elt F .bf16) (BU : S32x2048.Idx → Elt F .f32) (BD : S32x1024.Idx → Elt F .f32)
    (K : PUnit → sProp 𝕄) :
    iprop(Tbls c te tu tr tx tv ∗ owns (c : Thread nD τ) arg6 fullShare X ∗ owns (c : Thread nD τ) arg8 fullShare BU ∗ owns (c : Thread nD τ) arg10 fullShare BD ∗ owns (c : Thread nD τ) arg11 fullShare Y ∗ Held c wu wd e
      ∗ ((Tbls c te tu tr tx tv ∗ owns (c : Thread nD τ) arg6 fullShare X ∗ owns (c : Thread nD τ) arg8 fullShare BU ∗ owns (c : Thread nD τ) arg10 fullShare BD
        ∗ (∃ Y', ⌜Good v X (upW c e hu wu) (upBias e hbu BU) (dnW c e hd wd) (dnBias e hbd BD) Y'⌝ ∗ owns (c : Thread nD τ) arg11 fullShare Y')
        ∗ Held c wu wd e) -∗ K PUnit.unit))
    ⊢ wp frame (wpE (defs₀ (F := F)) Variants.none c none) Set.univ
        (ffnTail i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4 v0 h1 v) K := by
  have h10 : k0_cond10 v = 1#1 := (cond10_iff v).2 (by omega)
  have h11 : k0_cond11 v = 1#1 := (cond11_iff v).2 (by omega)
  have h18 : k0_cond18 v = 1#1 := (cond18_iff v).2 (by omega)
  have h20 : k0_cond20 v = 1#1 := (cond20_iff v).2 (by omega)
  have h22 : k0_cond22 v = 1#1 := (cond22_iff v).2 (by omega)
  have h9 : ¬ k0_cond9 v = 1#1 := fun h => absurd ((cond9_iff v).1 h) (by omega)
  have h12 : ¬ k0_cond12 v = 1#1 := fun h => absurd ((cond12_iff v).1 h) (by omega)
  have h17 : ¬ k0_cond17 v = 1#1 := fun h => absurd ((cond17_iff v).1 h) (by omega)
  have h19 : ¬ k0_cond19 v = 1#1 := fun h => absurd ((cond19_iff v).1 h) (by omega)
  have h21 : ¬ k0_cond21 v = 1#1 := fun h => absurd ((cond21_iff v).1 h) (by omega)
  have hc8 : k0_chk8 i v0 v e := ⟨fun _ _ _ => hbu, fun _ _ _ => hbd⟩
  unfold ffnTail
  rw [k0_part4_eq_skeleton]; unfold k0_part4_skel
  unfold Tbls Held owns
  iintro ⟨⟨HV, HU, HR, HE, HX⟩, ⟨%fx, %hfx, Hx⟩, ⟨%fbu, %hfbu, Hbu⟩, ⟨%fbd, %hfbd, Hbd⟩, ⟨%fy, %hfy, Hy⟩, ⟨%hu', %hd', %fu, %fd, %hfu, %hfd, Hfu, Hfd⟩, Hk⟩
  subst he
  sl_exec
  sl_step
  iapply Hk
  isplitl [HV HU HR HE HX]
  · isplitl [HV]; · iexact HV
    isplitl [HU]; · iexact HU
    isplitl [HR]; · iexact HR
    isplitl [HE]; · iexact HE
    iexact HX
  isplitl [Hx]
  · iexists fx; isplitr
    · ipureintro; exact hfx
    · iexact Hx
  isplitl [Hbu]
  · iexists fbu; isplitr
    · ipureintro; exact hfbu
    · iexact Hbu
  isplitl [Hbd]
  · iexists fbd; isplitr
    · ipureintro; exact hfbd
    · iexact Hbd
  isplitl [Hy]
  · iapply (out_intro c arg11 (Good v X _ _ _ _) _ ?_) $$ Hy
    subst hfx hfbu hfbd
    have hA := (View.readAt_full (Val := Elt F) upB.view fu inb_S1024x2048_S1024x2048_0_0).trans hfu
    have hB := (View.readAt_full (Val := Elt F) dnB.view fd inb_S1024x1024_S1024x1024_0_0).trans hfd
    refine ⟨fun h => absurd h (by omega), ?_, fun h h' => absurd h (by omega), fun h h' => absurd h (by omega), fun h h' => absurd h (by omega), fun h h' => absurd h (by omega)⟩
    · intro _ _ x y hy0 hy1
      have hx : (x 0).val < 512 := (x 0).isLt
      rw [View.read_writes_cons_rows_of_not_mem (o := 768) (W := 256) _ _ _ _ _ _ rfl rfl (by omega)]
      rw [View.read_writes_cons_rows_of_not_mem (o := 512) (W := 256) _ _ _ _ _ _ rfl rfl (by omega)]
      refine (View.read_writes_cons_rows_of_mem _ _ _ _ _ y x rfl hy0 hy1).trans ?_
      rw [hA, hB]
      rfl
  iexists hu', hd', fu, fd
  isplitr
  · ipureintro; exact hfu
  isplitr
  · ipureintro; exact hfd
  isplitl [Hfu]; · iexact Hfu
  iexact Hfd

set_option maxHeartbeats 1000000 in
theorem tail_q2 (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (v0 : BitVec 32) (h1 : k0_cond1 i v0 = 1#1) (v : BitVec 32)
    (hv : 512 < v.toInt ∧ v.toInt ≤ 768)
    (e : BitVec 32) (he : e = (View.readAt (Elt F) tbE.view (Rect.unit (s := S114) (k0_off2 i) S1.size (k0_off2_inb i)).toLoadRect te (Shape.Idx.first (show 0 < S1.numel by decide))))
    (hu : ∀ a, (![e.toNat, 0, 0] : Fin 3 → ℕ) a + S1x1024x2048.size a ≤ S32x1024x2048.size a)
    (hd : ∀ a, (![e.toNat, 0, 0] : Fin 3 → ℕ) a + S1x1024x1024.size a ≤ S32x1024x1024.size a)
    (hbu : ∀ a, (![e.toNat, 0] : Fin 2 → ℕ) a + S1x2048.size a ≤ S32x2048.size a)
    (hbd : ∀ a, (![e.toNat, 0] : Fin 2 → ℕ) a + S1x1024.size a ≤ S32x1024.size a)
    (X Y : S1024x1024.Idx → Elt F .bf16) (BU : S32x2048.Idx → Elt F .f32) (BD : S32x1024.Idx → Elt F .f32)
    (K : PUnit → sProp 𝕄) :
    iprop(Tbls c te tu tr tx tv ∗ owns (c : Thread nD τ) arg6 fullShare X ∗ owns (c : Thread nD τ) arg8 fullShare BU ∗ owns (c : Thread nD τ) arg10 fullShare BD ∗ owns (c : Thread nD τ) arg11 fullShare Y ∗ Held c wu wd e
      ∗ ((Tbls c te tu tr tx tv ∗ owns (c : Thread nD τ) arg6 fullShare X ∗ owns (c : Thread nD τ) arg8 fullShare BU ∗ owns (c : Thread nD τ) arg10 fullShare BD
        ∗ (∃ Y', ⌜Good v X (upW c e hu wu) (upBias e hbu BU) (dnW c e hd wd) (dnBias e hbd BD) Y'⌝ ∗ owns (c : Thread nD τ) arg11 fullShare Y')
        ∗ Held c wu wd e) -∗ K PUnit.unit))
    ⊢ wp frame (wpE (defs₀ (F := F)) Variants.none c none) Set.univ
        (ffnTail i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4 v0 h1 v) K := by
  have h10 : k0_cond10 v = 1#1 := (cond10_iff v).2 (by omega)
  have h11 : k0_cond11 v = 1#1 := (cond11_iff v).2 (by omega)
  have h18 : k0_cond18 v = 1#1 := (cond18_iff v).2 (by omega)
  have h19 : k0_cond19 v = 1#1 := (cond19_iff v).2 (by omega)
  have h22 : k0_cond22 v = 1#1 := (cond22_iff v).2 (by omega)
  have h9 : ¬ k0_cond9 v = 1#1 := fun h => absurd ((cond9_iff v).1 h) (by omega)
  have h12 : ¬ k0_cond12 v = 1#1 := fun h => absurd ((cond12_iff v).1 h) (by omega)
  have h17 : ¬ k0_cond17 v = 1#1 := fun h => absurd ((cond17_iff v).1 h) (by omega)
  have h20 : ¬ k0_cond20 v = 1#1 := fun h => absurd ((cond20_iff v).1 h) (by omega)
  have h21 : ¬ k0_cond21 v = 1#1 := fun h => absurd ((cond21_iff v).1 h) (by omega)
  have hc8 : k0_chk8 i v0 v e := ⟨fun _ _ _ => hbu, fun _ _ _ => hbd⟩
  have hc12 : k0_chk12 i v0 v e := ⟨fun _ _ _ _ => hbu, fun _ _ _ _ => hbd⟩
  unfold ffnTail
  rw [k0_part4_eq_skeleton]; unfold k0_part4_skel
  rw [k0_part8_eq_skeleton]; unfold k0_part8_skel
  unfold Tbls Held owns
  iintro ⟨⟨HV, HU, HR, HE, HX⟩, ⟨%fx, %hfx, Hx⟩, ⟨%fbu, %hfbu, Hbu⟩, ⟨%fbd, %hfbd, Hbd⟩, ⟨%fy, %hfy, Hy⟩, ⟨%hu', %hd', %fu, %fd, %hfu, %hfd, Hfu, Hfd⟩, Hk⟩
  subst he
  sl_exec
  sl_step
  iapply Hk
  isplitl [HV HU HR HE HX]
  · isplitl [HV]; · iexact HV
    isplitl [HU]; · iexact HU
    isplitl [HR]; · iexact HR
    isplitl [HE]; · iexact HE
    iexact HX
  isplitl [Hx]
  · iexists fx; isplitr
    · ipureintro; exact hfx
    · iexact Hx
  isplitl [Hbu]
  · iexists fbu; isplitr
    · ipureintro; exact hfbu
    · iexact Hbu
  isplitl [Hbd]
  · iexists fbd; isplitr
    · ipureintro; exact hfbd
    · iexact Hbd
  isplitl [Hy]
  · iapply (out_intro c arg11 (Good v X _ _ _ _) _ ?_) $$ Hy
    subst hfx hfbu hfbd
    have hA := (View.readAt_full (Val := Elt F) upB.view fu inb_S1024x2048_S1024x2048_0_0).trans hfu
    have hB := (View.readAt_full (Val := Elt F) dnB.view fd inb_S1024x1024_S1024x1024_0_0).trans hfd
    refine ⟨fun h => absurd h (by omega), ?_, fun h h' => absurd h (by omega), fun h h' => absurd h (by omega), ?_, fun h h' => absurd h (by omega)⟩
    · intro _ _ x y hy0 hy1
      have hx : (x 0).val < 512 := (x 0).isLt
      rw [View.read_writes_cons_rows_of_not_mem (o := 768) (W := 256) _ _ _ _ _ _ rfl rfl (by omega)]
      rw [View.read_writes_cons_rows_of_not_mem (o := 512) (W := 256) _ _ _ _ _ _ rfl rfl (by omega)]
      refine (View.read_writes_cons_rows_of_mem _ _ _ _ _ y x rfl hy0 hy1).trans ?_
      rw [hA, hB]
      rfl
    · intro _ _ x y hy0 hy1
      have hx : (x 0).val < 256 := (x 0).isLt
      rw [View.read_writes_cons_rows_of_not_mem (o := 768) (W := 256) _ _ _ _ _ _ rfl rfl (by omega)]
      refine (View.read_writes_cons_rows_of_mem _ _ _ _ _ y x rfl hy0 hy1).trans ?_
      rw [hA, hB]
      rfl
  iexists hu', hd', fu, fd
  isplitr
  · ipureintro; exact hfu
  isplitr
  · ipureintro; exact hfd
  isplitl [Hfu]; · iexact Hfu
  iexact Hfd

set_option maxHeartbeats 1000000 in
theorem tail_q3 (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (v0 : BitVec 32) (h1 : k0_cond1 i v0 = 1#1) (v : BitVec 32)
    (hv : 768 < v.toInt ∧ v.toInt < 1024)
    (e : BitVec 32) (he : e = (View.readAt (Elt F) tbE.view (Rect.unit (s := S114) (k0_off2 i) S1.size (k0_off2_inb i)).toLoadRect te (Shape.Idx.first (show 0 < S1.numel by decide))))
    (hu : ∀ a, (![e.toNat, 0, 0] : Fin 3 → ℕ) a + S1x1024x2048.size a ≤ S32x1024x2048.size a)
    (hd : ∀ a, (![e.toNat, 0, 0] : Fin 3 → ℕ) a + S1x1024x1024.size a ≤ S32x1024x1024.size a)
    (hbu : ∀ a, (![e.toNat, 0] : Fin 2 → ℕ) a + S1x2048.size a ≤ S32x2048.size a)
    (hbd : ∀ a, (![e.toNat, 0] : Fin 2 → ℕ) a + S1x1024.size a ≤ S32x1024.size a)
    (X Y : S1024x1024.Idx → Elt F .bf16) (BU : S32x2048.Idx → Elt F .f32) (BD : S32x1024.Idx → Elt F .f32)
    (K : PUnit → sProp 𝕄) :
    iprop(Tbls c te tu tr tx tv ∗ owns (c : Thread nD τ) arg6 fullShare X ∗ owns (c : Thread nD τ) arg8 fullShare BU ∗ owns (c : Thread nD τ) arg10 fullShare BD ∗ owns (c : Thread nD τ) arg11 fullShare Y ∗ Held c wu wd e
      ∗ ((Tbls c te tu tr tx tv ∗ owns (c : Thread nD τ) arg6 fullShare X ∗ owns (c : Thread nD τ) arg8 fullShare BU ∗ owns (c : Thread nD τ) arg10 fullShare BD
        ∗ (∃ Y', ⌜Good v X (upW c e hu wu) (upBias e hbu BU) (dnW c e hd wd) (dnBias e hbd BD) Y'⌝ ∗ owns (c : Thread nD τ) arg11 fullShare Y')
        ∗ Held c wu wd e) -∗ K PUnit.unit))
    ⊢ wp frame (wpE (defs₀ (F := F)) Variants.none c none) Set.univ
        (ffnTail i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4 v0 h1 v) K := by
  have h10 : k0_cond10 v = 1#1 := (cond10_iff v).2 (by omega)
  have h11 : k0_cond11 v = 1#1 := (cond11_iff v).2 (by omega)
  have h18 : k0_cond18 v = 1#1 := (cond18_iff v).2 (by omega)
  have h19 : k0_cond19 v = 1#1 := (cond19_iff v).2 (by omega)
  have h21 : k0_cond21 v = 1#1 := (cond21_iff v).2 (by omega)
  have h9 : ¬ k0_cond9 v = 1#1 := fun h => absurd ((cond9_iff v).1 h) (by omega)
  have h12 : ¬ k0_cond12 v = 1#1 := fun h => absurd ((cond12_iff v).1 h) (by omega)
  have h17 : ¬ k0_cond17 v = 1#1 := fun h => absurd ((cond17_iff v).1 h) (by omega)
  have h20 : ¬ k0_cond20 v = 1#1 := fun h => absurd ((cond20_iff v).1 h) (by omega)
  have h22 : ¬ k0_cond22 v = 1#1 := fun h => absurd ((cond22_iff v).1 h) (by omega)
  have hc8 : k0_chk8 i v0 v e := ⟨fun _ _ _ => hbu, fun _ _ _ => hbd⟩
  have hc12 : k0_chk12 i v0 v e := ⟨fun _ _ _ _ => hbu, fun _ _ _ _ => hbd⟩
  have hc13 : k0_chk13 i v0 v e := ⟨fun _ _ _ _ => hbu, fun _ _ _ _ => hbd⟩
  unfold ffnTail
  rw [k0_part4_eq_skeleton]; unfold k0_part4_skel
  rw [k0_part8_eq_skeleton]; unfold k0_part8_skel
  rw [k0_part9_eq_skeleton]; unfold k0_part9_skel
  unfold Tbls Held owns
  iintro ⟨⟨HV, HU, HR, HE, HX⟩, ⟨%fx, %hfx, Hx⟩, ⟨%fbu, %hfbu, Hbu⟩, ⟨%fbd, %hfbd, Hbd⟩, ⟨%fy, %hfy, Hy⟩, ⟨%hu', %hd', %fu, %fd, %hfu, %hfd, Hfu, Hfd⟩, Hk⟩
  subst he
  sl_exec
  sl_step
  iapply Hk
  isplitl [HV HU HR HE HX]
  · isplitl [HV]; · iexact HV
    isplitl [HU]; · iexact HU
    isplitl [HR]; · iexact HR
    isplitl [HE]; · iexact HE
    iexact HX
  isplitl [Hx]
  · iexists fx; isplitr
    · ipureintro; exact hfx
    · iexact Hx
  isplitl [Hbu]
  · iexists fbu; isplitr
    · ipureintro; exact hfbu
    · iexact Hbu
  isplitl [Hbd]
  · iexists fbd; isplitr
    · ipureintro; exact hfbd
    · iexact Hbd
  isplitl [Hy]
  · iapply (out_intro c arg11 (Good v X _ _ _ _) _ ?_) $$ Hy
    subst hfx hfbu hfbd
    have hA := (View.readAt_full (Val := Elt F) upB.view fu inb_S1024x2048_S1024x2048_0_0).trans hfu
    have hB := (View.readAt_full (Val := Elt F) dnB.view fd inb_S1024x1024_S1024x1024_0_0).trans hfd
    refine ⟨fun h => absurd h (by omega), ?_, fun h h' => absurd h (by omega), fun h h' => absurd h (by omega), ?_, ?_⟩
    · intro _ _ x y hy0 hy1
      have hx : (x 0).val < 512 := (x 0).isLt
      rw [View.read_writes_cons_rows_of_not_mem (o := 768) (W := 256) _ _ _ _ _ _ rfl rfl (by omega)]
      rw [View.read_writes_cons_rows_of_not_mem (o := 512) (W := 256) _ _ _ _ _ _ rfl rfl (by omega)]
      refine (View.read_writes_cons_rows_of_mem _ _ _ _ _ y x rfl hy0 hy1).trans ?_
      rw [hA, hB]
      rfl
    · intro _ _ x y hy0 hy1
      have hx : (x 0).val < 256 := (x 0).isLt
      rw [View.read_writes_cons_rows_of_not_mem (o := 768) (W := 256) _ _ _ _ _ _ rfl rfl (by omega)]
      refine (View.read_writes_cons_rows_of_mem _ _ _ _ _ y x rfl hy0 hy1).trans ?_
      rw [hA, hB]
      rfl
    · intro _ _ x y hy0 hy1
      have hx : (x 0).val < 256 := (x 0).isLt
      refine (View.read_writes_cons_rows_of_mem _ _ _ _ _ y x rfl hy0 hy1).trans ?_
      rw [hA, hB]
      rfl
  iexists hu', hd', fu, fd
  isplitr
  · ipureintro; exact hfu
  isplitr
  · ipureintro; exact hfd
  isplitl [Hfu]; · iexact Hfu
  iexact Hfd

/-- The second half of a point of at most 1024 valid rows. -/
theorem tail (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (v0 : BitVec 32) (h1 : k0_cond1 i v0 = 1#1) (v : BitVec 32)
    (hv : v.toInt ≤ 1024)
    (e : BitVec 32) (he : e = (View.readAt (Elt F) tbE.view (Rect.unit (s := S114) (k0_off2 i) S1.size (k0_off2_inb i)).toLoadRect te (Shape.Idx.first (show 0 < S1.numel by decide))))
    (hu : ∀ a, (![e.toNat, 0, 0] : Fin 3 → ℕ) a + S1x1024x2048.size a ≤ S32x1024x2048.size a)
    (hd : ∀ a, (![e.toNat, 0, 0] : Fin 3 → ℕ) a + S1x1024x1024.size a ≤ S32x1024x1024.size a)
    (hbu : ∀ a, (![e.toNat, 0] : Fin 2 → ℕ) a + S1x2048.size a ≤ S32x2048.size a)
    (hbd : ∀ a, (![e.toNat, 0] : Fin 2 → ℕ) a + S1x1024.size a ≤ S32x1024.size a)
    (X Y : S1024x1024.Idx → Elt F .bf16) (BU : S32x2048.Idx → Elt F .f32) (BD : S32x1024.Idx → Elt F .f32)
    (K : PUnit → sProp 𝕄) :
    iprop(Tbls c te tu tr tx tv ∗ owns (c : Thread nD τ) arg6 fullShare X ∗ owns (c : Thread nD τ) arg8 fullShare BU ∗ owns (c : Thread nD τ) arg10 fullShare BD ∗ owns (c : Thread nD τ) arg11 fullShare Y ∗ Held c wu wd e
      ∗ ((Tbls c te tu tr tx tv ∗ owns (c : Thread nD τ) arg6 fullShare X ∗ owns (c : Thread nD τ) arg8 fullShare BU ∗ owns (c : Thread nD τ) arg10 fullShare BD
        ∗ (∃ Y', ⌜Good v X (upW c e hu wu) (upBias e hbu BU) (dnW c e hd wd) (dnBias e hbd BD) Y'⌝ ∗ owns (c : Thread nD τ) arg11 fullShare Y')
        ∗ Held c wu wd e) -∗ K PUnit.unit))
    ⊢ wp frame (wpE (defs₀ (F := F)) Variants.none c none) Set.univ
        (ffnTail i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4 v0 h1 v) K := by
  rcases lt_trichotomy v.toInt 512 with h | h | h
  · by_cases h0 : v.toInt ≤ 0
    · exact tail_none c i arg6 harg6 arg8 harg8 arg10 harg10 arg11 harg11 te tu tr tx tv wu wd v0 h1 v h0 e he hu hd hbu hbd X Y BU BD K
    by_cases h2 : v.toInt ≤ 256
    · exact tail_q0 c i arg6 harg6 arg8 harg8 arg10 harg10 arg11 harg11 te tu tr tx tv wu wd v0 h1 v (by omega) e he hu hd hbu hbd X Y BU BD K
    · exact tail_q1 c i arg6 harg6 arg8 harg8 arg10 harg10 arg11 harg11 te tu tr tx tv wu wd v0 h1 v (by omega) e he hu hd hbu hbd X Y BU BD K
  · exact tail_half c i arg6 harg6 arg8 harg8 arg10 harg10 arg11 harg11 te tu tr tx tv wu wd v0 h1 v h e he hu hd hbu hbd X Y BU BD K
  · by_cases h0 : v.toInt ≤ 768
    · exact tail_q2 c i arg6 harg6 arg8 harg8 arg10 harg10 arg11 harg11 te tu tr tx tv wu wd v0 h1 v (by omega) e he hu hd hbu hbd X Y BU BD K
    by_cases h2 : v.toInt < 1024
    · exact tail_q3 c i arg6 harg6 arg8 harg8 arg10 harg10 arg11 harg11 te tu tr tx tv wu wd v0 h1 v (by omega) e he hu hd hbu hbd X Y BU BD K
    · exact tail_full c i arg6 harg6 arg8 harg8 arg10 harg10 arg11 harg11 te tu tr tx tv wu wd v0 h1 v (by omega) e he hu hd hbu hbd X Y BU BD K

end Cert.KernelIdeal.Hand

end
-- ==== Proof.Idle.lean ====
module

public import proofs.«01_k».proof.Proof.Slots
public import proofs.«01_k».proof.Proof.Gen.KernelIdeal.Skeleton
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Point
public import proofs.«01_k».proof.Proof.Cond

/-! A point that opens no run: one that goes on with its run, and one past the blocks in use. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- A point that goes on with its run, up to its second half. -/
theorem head_cont (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (h1 : k0_cond1 i (View.readAt (Elt F) tbU.view (Rect.unit (s := S1) ![0] S1.size inb_S1_S1_0).toLoadRect tu (Shape.Idx.first (show 0 < S1.numel by decide))) = 1#1)
    (h2 : ¬ k0_cond2 (View.readAt (Elt F) tbR.view (Rect.unit (s := S114) (k0_off1 i) S1.size (k0_off1_inb i)).toLoadRect tr (Shape.Idx.first (show 0 < S1.numel by decide))) = 1#1)
    (K : PUnit → sProp 𝕄) :
    iprop(Tbls c te tu tr tx tv ∗ (∃ W, owes (c : Thread nD τ) 0 W)
      ∗ ((Tbls c te tu tr tx tv ∗ (∃ W, owes (c : Thread nD τ) 0 W))
        -∗ wp frame (wpE (defs₀ (F := F)) Variants.none c none) Set.univ
          (ffnTail i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4
          _ h1 (View.readAt (Elt F) tbV.view (Rect.unit (s := S114) (k0_off22 i) S1.size (k0_off22_inb i)).toLoadRect tv (Shape.Idx.first (show 0 < S1.numel by decide)))) K))
    ⊢ wp frame (wpE (defs₀ (F := F)) Variants.none c none) Set.univ
        (cc0_ffn i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4) K := by
  rw [cc0_ffn_eq_skeleton]; unfold cc0_ffn_skel
  unfold Tbls
  iintro ⟨⟨HV, HU, HR, HE, HX⟩, ⟨%W, HW⟩, Hk⟩
  sl_exec
  iapply Hk
  isplitl [HV HU HR HE HX]
  · isplitl [HV]; · iexact HV
    isplitl [HU]; · iexact HU
    isplitl [HR]; · iexact HR
    isplitl [HE]; · iexact HE
    iexact HX
  iexists _; iexact HW

/-- A point past the blocks in use does nothing. -/
theorem head_idle (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (h1 : ¬ k0_cond1 i (View.readAt (Elt F) tbU.view (Rect.unit (s := S1) ![0] S1.size inb_S1_S1_0).toLoadRect tu (Shape.Idx.first (show 0 < S1.numel by decide))) = 1#1)
    (K : PUnit → sProp 𝕄) :
    iprop(Tbls c te tu tr tx tv ∗ (Tbls c te tu tr tx tv -∗ K PUnit.unit))
    ⊢ wp frame (wpE (defs₀ (F := F)) Variants.none c none) Set.univ
        (cc0_ffn i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4) K := by
  rw [cc0_ffn_eq_skeleton]; unfold cc0_ffn_skel
  unfold Tbls
  iintro ⟨⟨HV, HU, HR, HE, HX⟩, Hk⟩
  sl_exec
  sl_step
  iapply Hk
  isplitl [HV]; · iexact HV
  isplitl [HU]; · iexact HU
  isplitl [HR]; · iexact HR
  isplitl [HE]; · iexact HE
  iexact HX

end Cert.KernelIdeal.Hand

end
-- ==== Proof.Cases.lean ====
module

public import proofs.«01_k».proof.Proof.Slots
public import proofs.«01_k».proof.Proof.Gen.KernelIdeal.Skeleton
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Point
public import proofs.«01_k».proof.Proof.Cond
public import proofs.«01_k».proof.Proof.Words
public import proofs.«01_k».proof.Proof.Inv
public import proofs.«01_k».proof.Proof.Heads
public import proofs.«01_k».proof.Proof.Tail
public import proofs.«01_k».proof.Proof.Idle

/-! The points, case by case. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

theorem off_word (i : grid0.Coords) : (BitVec.ofNat 32 (i 0).val).toNat = (i 0).val := by
  have h : (i 0).val < 114 := (i 0).isLt
  rw [BitVec.toNat_ofNat]; omega

/-- A point in use from its second half on, whatever state of the slots its first half left. -/
theorem run_tail (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (E R X V : Fin 114 → BitVec 32) (nu : BitVec 32) (ok : TabOK E R X V nu) (t : Fin 114) (ht : (i 0).val = t.val)
    (hE : ∀ t, E t = tbE.view.read (Elt F) te (at114 t)) (hR : ∀ t, R t = tbR.view.read (Elt F) tr (at114 t))
    (hX : ∀ t, X t = tbX.view.read (Elt F) tx (at114 t)) (hV : ∀ t, V t = tbV.view.read (Elt F) tv (at114 t))
    (hnu : (View.readAt (Elt F) tbU.view (Rect.unit (s := S1) ![0] S1.size inb_S1_S1_0).toLoadRect tu (Shape.Idx.first (show 0 < S1.numel by decide))) = nu)
    (x Y : S1024x1024.Idx → Elt F .bf16) (BU : S32x2048.Idx → Elt F .f32) (BD : S32x1024.Idx → Elt F .f32)
    (h1 : k0_cond1 i (View.readAt (Elt F) tbU.view (Rect.unit (s := S1) ![0] S1.size inb_S1_S1_0).toLoadRect tu (Shape.Idx.first (show 0 < S1.numel by decide))) = 1#1) (hlt : (t.val : ℤ) < nu.toInt) (S : sProp 𝕄)
    (hS : iprop(S ∗ Held c wu wd (E t)) ⊢ Inv c E R X nu wu wd (t.val + 1)) :
    iprop(Tbls c te tu tr tx tv ∗ S ∗ Held c wu wd (E t) ∗ owns (c : Thread nD τ) arg6 fullShare x ∗ owns (c : Thread nD τ) arg8 fullShare BU ∗ owns (c : Thread nD τ) arg10 fullShare BD ∗ owns (c : Thread nD τ) arg11 fullShare Y ∗ (∃ W, owes (c : Thread nD τ) 0 W))
    ⊢ wp frame (wpE (defs₀ (F := F)) Variants.none c none) Set.univ
          (ffnTail i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4
          _ h1 (View.readAt (Elt F) tbV.view (Rect.unit (s := S114) (k0_off22 i) S1.size (k0_off22_inb i)).toLoadRect tv (Shape.Idx.first (show 0 < S1.numel by decide))))
        (fun _ => iprop(Tbls c te tu tr tx tv ∗ Inv c E R X nu wu wd (t.val + 1) ∗ owns (c : Thread nD τ) arg6 fullShare x ∗ owns (c : Thread nD τ) arg8 fullShare BU ∗ owns (c : Thread nD τ) arg10 fullShare BD
          ∗ (∃ Y', ⌜After c E V nu wu wd BU BD t x Y Y'⌝ ∗ owns (c : Thread nD τ) arg11 fullShare Y') ∗ (∃ W, owes (c : Thread nD τ) 0 W))) := by
  have hv : (View.readAt (Elt F) tbV.view (Rect.unit (s := S114) (k0_off22 i) S1.size (k0_off22_inb i)).toLoadRect tv (Shape.Idx.first (show 0 < S1.numel by decide))) = V t := (read_word c tbV _ _ t ((off_word i).trans ht) _ tv rfl).trans (hV t).symm
  have he : (View.readAt (Elt F) tbE.view (Rect.unit (s := S114) (k0_off2 i) S1.size (k0_off2_inb i)).toLoadRect te (Shape.Idx.first (show 0 < S1.numel by decide))) = E t := (read_word c tbE _ _ t ((off_word i).trans ht) _ te rfl).trans (hE t).symm
  iintro ⟨HT, HS, HH, H6, H8, H10, H11, HO⟩
  iapply (tail c i arg6 harg6 arg8 harg8 arg10 harg10 arg11 harg11 te tu tr tx tv wu wd _ h1 (View.readAt (Elt F) tbV.view (Rect.unit (s := S114) (k0_off22 i) S1.size (k0_off22_inb i)).toLoadRect tv (Shape.Idx.first (show 0 < S1.numel by decide))) (by rw [hv]; exact ok.V_hi t) (E t) he.symm
    (row_up (ok.E_lo t) (ok.E_hi t)) (row_dn (ok.E_lo t) (ok.E_hi t)) (row_bu (ok.E_lo t) (ok.E_hi t)) (row_bd (ok.E_lo t) (ok.E_hi t)) x Y BU BD _)
  isplitl [HT]; · iexact HT
  isplitl [H6]; · iexact H6
  isplitl [H8]; · iexact H8
  isplitl [H10]; · iexact H10
  isplitl [H11]; · iexact H11
  isplitl [HH]; · iexact HH
  iintro ⟨HT, H6, H8, H10, ⟨%Y', %hY, H11⟩, HH⟩
  isplitl [HT]; · iexact HT
  isplitl [HS HH]
  · iapply hS
    isplitl [HS]; · iexact HS
    iexact HH
  isplitl [H6]; · iexact H6
  isplitl [H8]; · iexact H8
  isplitl [H10]; · iexact H10
  isplitl [H11]
  · iexists Y'; isplitr
    · ipureintro; exact ⟨fun _ => ⟨_, _, _, _, hv ▸ hY⟩, fun h => absurd hlt h⟩
    iexact H11
  iexact HO

/-- The blocks in use, as a natural number. -/
theorem nu_toNat {E R X V : Fin 114 → BitVec 32} {nu : BitVec 32} (ok : TabOK E R X V nu) : (nu.toNat : ℤ) = nu.toInt ∧ 1 ≤ nu.toNat ∧ nu.toNat ≤ 114 := by
  have h1 := ok.nu_pos
  have h2 := ok.nu_le
  rw [BitVec.toInt_eq_toNat_cond] at h1 h2 ⊢
  split_ifs at h1 h2 ⊢ <;> omega

/-- Some run has opened before a block that is not the first. -/
theorem opens_pos {E R X V : Fin 114 → BitVec 32} {nu : BitVec 32} (ok : TabOK E R X V nu) : ∀ t, 1 ≤ t → 1 ≤ opens R t
  | 0, h => absurd h (by omega)
  | 1, _ => by
    rw [opens, opens, dif_pos (by omega), if_pos (by have := ok.first; show 0 ≤ (R 0).toInt; omega)]
  | t + 2, _ => Nat.le_trans (opens_pos ok (t + 1) (by omega)) (by rw [opens.eq_2 R (t + 1)]; exact Nat.le_add_right _ _)

/-- The state after a block in use. -/
theorem Inv_next (c : Dev nD) {E R X V : Fin 114 → BitVec 32} {nu : BitVec 32} (ok : TabOK E R X V nu) (wu : BufOf (F := F) c upM) (wd : BufOf (F := F) c dnM)
    (t : Fin 114) (hlt : (t.val : ℤ) < nu.toInt) :
    (Inv c E R X nu wu wd (t.val + 1) : sProp 𝕄) = St c wu wd (opens R (t.val + 1) % 2) (X t) (E t) := by
  have h1 := nu_toNat ok
  rw [Inv_pos _ _ _ _ _ _ _ (Nat.succ_ne_zero _), show lastBlk nu (t.val + 1) = t from Fin.ext (by unfold lastBlk; have := t.isLt; simp only; omega),
    show min (t.val + 1) nu.toNat = t.val + 1 by omega]

/-- The state before a block in use that is not the first. -/
theorem Inv_prev (c : Dev nD) {E R X V : Fin 114 → BitVec 32} {nu : BitVec 32} (ok : TabOK E R X V nu) (wu : BufOf (F := F) c upM) (wd : BufOf (F := F) c dnM)
    (s t : Fin 114) (hs : t.val = s.val + 1) (hlt : (t.val : ℤ) < nu.toInt) :
    (Inv c E R X nu wu wd t.val : sProp 𝕄) = St c wu wd (opens R t.val % 2) (X s) (E s) := by
  rw [hs, Inv_next c ok wu wd s (by omega)]

/-- The first block, another run following. -/
theorem first_next (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (E R X V : Fin 114 → BitVec 32) (nu : BitVec 32) (ok : TabOK E R X V nu) (t : Fin 114) (ht : (i 0).val = t.val)
    (hE : ∀ t, E t = tbE.view.read (Elt F) te (at114 t)) (hR : ∀ t, R t = tbR.view.read (Elt F) tr (at114 t))
    (hX : ∀ t, X t = tbX.view.read (Elt F) tx (at114 t)) (hV : ∀ t, V t = tbV.view.read (Elt F) tv (at114 t))
    (hnu : (View.readAt (Elt F) tbU.view (Rect.unit (s := S1) ![0] S1.size inb_S1_S1_0).toLoadRect tu (Shape.Idx.first (show 0 < S1.numel by decide))) = nu)
    (x Y : S1024x1024.Idx → Elt F .bf16) (BU : S32x2048.Idx → Elt F .f32) (BD : S32x1024.Idx → Elt F .f32)
    (hlt : (t.val : ℤ) < nu.toInt)
    (hz0 : t.val = 0) (hn : 0 ≤ (X t).toInt) :
    iprop(Tbls c te tu tr tx tv ∗ Inv c E R X nu wu wd t.val ∗ owns (c : Thread nD τ) arg6 fullShare x ∗ owns (c : Thread nD τ) arg8 fullShare BU ∗ owns (c : Thread nD τ) arg10 fullShare BD ∗ owns (c : Thread nD τ) arg11 fullShare Y ∗ (∃ W, owes (c : Thread nD τ) 0 W))
    ⊢ wp frame (wpE (defs₀ (F := F)) Variants.none c none) Set.univ
        (cc0_ffn i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4)
        (fun _ => iprop(Tbls c te tu tr tx tv ∗ Inv c E R X nu wu wd (t.val + 1) ∗ owns (c : Thread nD τ) arg6 fullShare x ∗ owns (c : Thread nD τ) arg8 fullShare BU ∗ owns (c : Thread nD τ) arg10 fullShare BD
          ∗ (∃ Y', ⌜After c E V nu wu wd BU BD t x Y Y'⌝ ∗ owns (c : Thread nD τ) arg11 fullShare Y') ∗ (∃ W, owes (c : Thread nD τ) 0 W))) := by
  have h1 : k0_cond1 i (View.readAt (Elt F) tbU.view (Rect.unit (s := S1) ![0] S1.size inb_S1_S1_0).toLoadRect tu (Shape.Idx.first (show 0 < S1.numel by decide))) = 1#1 := (cond1_iff i _).2 (by rw [hnu, ht]; exact hlt)
  have hr : (View.readAt (Elt F) tbR.view (Rect.unit (s := S114) (k0_off1 i) S1.size (k0_off1_inb i)).toLoadRect tr (Shape.Idx.first (show 0 < S1.numel by decide))) = R t := (read_word c tbR _ _ t ((off_word i).trans ht) _ tr rfl).trans (hR t).symm
  have hx : (View.readAt (Elt F) tbX.view (Rect.unit (s := S114) (k0_off5 i) S1.size (k0_off5_inb i)).toLoadRect tx (Shape.Idx.first (show 0 < S1.numel by decide))) = X t := (read_word c tbX _ _ t ((off_word i).trans ht) _ tx rfl).trans (hX t).symm
  have he : (View.readAt (Elt F) tbE.view (Rect.unit (s := S114) (k0_off2 i) S1.size (k0_off2_inb i)).toLoadRect te (Shape.Idx.first (show 0 < S1.numel by decide))) = E t := (read_word c tbE _ _ t ((off_word i).trans ht) _ te rfl).trans (hE t).symm
  have hrk : (R t).toInt = ((0 : ℕ) : ℤ) := by rw [show t = 0 from Fin.ext hz0]; exact ok.first
  have hk : (0 : ℕ) < 115 := by omega
  have hz : (R t).toInt = 0 := hrk
  have h0 : 0 ≤ (R t).toInt := by omega
  have hp : 0 % 2 = 0 := rfl
  have hnext : ¬ opens R (t.val + 1) % 2 = 0 := by
    rw [opens, dif_pos t.isLt, if_pos h0, hz0]; simp [opens]
  rw [show (Inv c E R X nu wu wd t.val : sProp 𝕄) = _ from (congrArg (Inv c E R X nu wu wd) hz0).trans (Inv_zero c E R X nu wu wd)]
  iintro ⟨HT, ⟨HP, HQ, HU, HD⟩, H6, H8, H10, H11, HO⟩
  iapply (head0_first_next c i arg6 harg6 arg8 harg8 arg10 harg10 arg11 harg11 te tu tr tx tv wu wd h1 (by rw [hr]; exact (cond2_iff _).2 h0)
    (by rw [hr]; exact (cond3_iff hk hrk).2 hp)
    (by rw [hr]; exact fun h => by have := (cond6_iff hk hrk).1 h; omega)
    (by rw [hr]; exact (cond4_iff _).2 hz)
    (by rw [hx]; exact (cond5_iff _).2 hn)
    (E t) he.symm (row_up (ok.E_lo t) (ok.E_hi t)) (row_dn (ok.E_lo t) (ok.E_hi t))
    (X t) hx.symm (row_up hn (ok.X_lt t hlt hn)) (row_dn hn (ok.X_lt t hlt hn)) _)
  isplitl [HT]; · iexact HT
  isplitl [HP]; · iexact HP
  isplitl [HQ]; · iexact HQ
  isplitl [HU]; · iexact HU
  isplitl [HD]; · iexact HD
  isplitl [HO]; · iexact HO
  iintro ⟨HT, HP, HQ, HH, HO⟩
  iapply (run_tail c i arg6 harg6 arg8 harg8 arg10 harg10 arg11 harg11 te tu tr tx tv wu wd E R X V nu ok t ht hE hR hX hV hnu x Y BU BD h1 hlt iprop(Free0 c wu wd ∗ Fly1 c wu wd (X t))
    (by rw [Inv_next c ok wu wd t hlt, St_fly1 c wu wd (E t) hnext hn]))
  isplitl [HT]; · iexact HT
  isplitl [HP HQ]
  · isplitl [HP]; · iexact HP
    iexact HQ
  isplitl [HH]; · iexact HH
  isplitl [H6]; · iexact H6
  isplitl [H8]; · iexact H8
  isplitl [H10]; · iexact H10
  isplitl [H11]; · iexact H11
  iexact HO

/-- The first block, its run the only one. -/
theorem first_last (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (E R X V : Fin 114 → BitVec 32) (nu : BitVec 32) (ok : TabOK E R X V nu) (t : Fin 114) (ht : (i 0).val = t.val)
    (hE : ∀ t, E t = tbE.view.read (Elt F) te (at114 t)) (hR : ∀ t, R t = tbR.view.read (Elt F) tr (at114 t))
    (hX : ∀ t, X t = tbX.view.read (Elt F) tx (at114 t)) (hV : ∀ t, V t = tbV.view.read (Elt F) tv (at114 t))
    (hnu : (View.readAt (Elt F) tbU.view (Rect.unit (s := S1) ![0] S1.size inb_S1_S1_0).toLoadRect tu (Shape.Idx.first (show 0 < S1.numel by decide))) = nu)
    (x Y : S1024x1024.Idx → Elt F .bf16) (BU : S32x2048.Idx → Elt F .f32) (BD : S32x1024.Idx → Elt F .f32)
    (hlt : (t.val : ℤ) < nu.toInt)
    (hz0 : t.val = 0) (hn : ¬ 0 ≤ (X t).toInt) :
    iprop(Tbls c te tu tr tx tv ∗ Inv c E R X nu wu wd t.val ∗ owns (c : Thread nD τ) arg6 fullShare x ∗ owns (c : Thread nD τ) arg8 fullShare BU ∗ owns (c : Thread nD τ) arg10 fullShare BD ∗ owns (c : Thread nD τ) arg11 fullShare Y ∗ (∃ W, owes (c : Thread nD τ) 0 W))
    ⊢ wp frame (wpE (defs₀ (F := F)) Variants.none c none) Set.univ
        (cc0_ffn i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4)
        (fun _ => iprop(Tbls c te tu tr tx tv ∗ Inv c E R X nu wu wd (t.val + 1) ∗ owns (c : Thread nD τ) arg6 fullShare x ∗ owns (c : Thread nD τ) arg8 fullShare BU ∗ owns (c : Thread nD τ) arg10 fullShare BD
          ∗ (∃ Y', ⌜After c E V nu wu wd BU BD t x Y Y'⌝ ∗ owns (c : Thread nD τ) arg11 fullShare Y') ∗ (∃ W, owes (c : Thread nD τ) 0 W))) := by
  have h1 : k0_cond1 i (View.readAt (Elt F) tbU.view (Rect.unit (s := S1) ![0] S1.size inb_S1_S1_0).toLoadRect tu (Shape.Idx.first (show 0 < S1.numel by decide))) = 1#1 := (cond1_iff i _).2 (by rw [hnu, ht]; exact hlt)
  have hr : (View.readAt (Elt F) tbR.view (Rect.unit (s := S114) (k0_off1 i) S1.size (k0_off1_inb i)).toLoadRect tr (Shape.Idx.first (show 0 < S1.numel by decide))) = R t := (read_word c tbR _ _ t ((off_word i).trans ht) _ tr rfl).trans (hR t).symm
  have hx : (View.readAt (Elt F) tbX.view (Rect.unit (s := S114) (k0_off5 i) S1.size (k0_off5_inb i)).toLoadRect tx (Shape.Idx.first (show 0 < S1.numel by decide))) = X t := (read_word c tbX _ _ t ((off_word i).trans ht) _ tx rfl).trans (hX t).symm
  have he : (View.readAt (Elt F) tbE.view (Rect.unit (s := S114) (k0_off2 i) S1.size (k0_off2_inb i)).toLoadRect te (Shape.Idx.first (show 0 < S1.numel by decide))) = E t := (read_word c tbE _ _ t ((off_word i).trans ht) _ te rfl).trans (hE t).symm
  have hrk : (R t).toInt = ((0 : ℕ) : ℤ) := by rw [show t = 0 from Fin.ext hz0]; exact ok.first
  have hk : (0 : ℕ) < 115 := by omega
  have hz : (R t).toInt = 0 := hrk
  have h0 : 0 ≤ (R t).toInt := by omega
  have hp : 0 % 2 = 0 := rfl
  rw [show (Inv c E R X nu wu wd t.val : sProp 𝕄) = _ from (congrArg (Inv c E R X nu wu wd) hz0).trans (Inv_zero c E R X nu wu wd)]
  iintro ⟨HT, ⟨HP, HQ, HU, HD⟩, H6, H8, H10, H11, HO⟩
  iapply (head0_first_last c i arg6 harg6 arg8 harg8 arg10 harg10 arg11 harg11 te tu tr tx tv wu wd h1 (by rw [hr]; exact (cond2_iff _).2 h0)
    (by rw [hr]; exact (cond3_iff hk hrk).2 hp)
    (by rw [hr]; exact fun h => by have := (cond6_iff hk hrk).1 h; omega)
    (by rw [hr]; exact (cond4_iff _).2 hz)
    (by rw [hx]; exact fun h => hn ((cond5_iff _).1 h))
    (E t) he.symm (row_up (ok.E_lo t) (ok.E_hi t)) (row_dn (ok.E_lo t) (ok.E_hi t))
    _)
  isplitl [HT]; · iexact HT
  isplitl [HP]; · iexact HP
  isplitl [HU]; · iexact HU
  isplitl [HD]; · iexact HD
  isplitl [HO]; · iexact HO
  iintro ⟨HT, HP, HH, HO⟩
  iapply (run_tail c i arg6 harg6 arg8 harg8 arg10 harg10 arg11 harg11 te tu tr tx tv wu wd E R X V nu ok t ht hE hR hX hV hnu x Y BU BD h1 hlt iprop(Free0 c wu wd ∗ Free1 c wu wd)
    (by rw [Inv_next c ok wu wd t hlt, St_free c wu wd _ (E t) hn]))
  isplitl [HT]; · iexact HT
  isplitl [HP HQ]
  · isplitl [HP]; · iexact HP
    iexact HQ
  isplitl [HH]; · iexact HH
  isplitl [H6]; · iexact H6
  isplitl [H8]; · iexact H8
  isplitl [H10]; · iexact H10
  isplitl [H11]; · iexact H11
  iexact HO

/-- A later run, in slot 0, another run following. -/
theorem later0_next (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (E R X V : Fin 114 → BitVec 32) (nu : BitVec 32) (ok : TabOK E R X V nu) (t : Fin 114) (ht : (i 0).val = t.val)
    (hE : ∀ t, E t = tbE.view.read (Elt F) te (at114 t)) (hR : ∀ t, R t = tbR.view.read (Elt F) tr (at114 t))
    (hX : ∀ t, X t = tbX.view.read (Elt F) tx (at114 t)) (hV : ∀ t, V t = tbV.view.read (Elt F) tv (at114 t))
    (hnu : (View.readAt (Elt F) tbU.view (Rect.unit (s := S1) ![0] S1.size inb_S1_S1_0).toLoadRect tu (Shape.Idx.first (show 0 < S1.numel by decide))) = nu)
    (x Y : S1024x1024.Idx → Elt F .bf16) (BU : S32x2048.Idx → Elt F .f32) (BD : S32x1024.Idx → Elt F .f32)
    (hlt : (t.val : ℤ) < nu.toInt)
    (s : Fin 114) (hs : t.val = s.val + 1) (h0 : 0 ≤ (R t).toInt) (hp : opens R t.val % 2 = 0) (hxs : 0 ≤ (X s).toInt) (hes : E t = X s)
    (hn : 0 ≤ (X t).toInt) :
    iprop(Tbls c te tu tr tx tv ∗ Inv c E R X nu wu wd t.val ∗ owns (c : Thread nD τ) arg6 fullShare x ∗ owns (c : Thread nD τ) arg8 fullShare BU ∗ owns (c : Thread nD τ) arg10 fullShare BD ∗ owns (c : Thread nD τ) arg11 fullShare Y ∗ (∃ W, owes (c : Thread nD τ) 0 W))
    ⊢ wp frame (wpE (defs₀ (F := F)) Variants.none c none) Set.univ
        (cc0_ffn i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4)
        (fun _ => iprop(Tbls c te tu tr tx tv ∗ Inv c E R X nu wu wd (t.val + 1) ∗ owns (c : Thread nD τ) arg6 fullShare x ∗ owns (c : Thread nD τ) arg8 fullShare BU ∗ owns (c : Thread nD τ) arg10 fullShare BD
          ∗ (∃ Y', ⌜After c E V nu wu wd BU BD t x Y Y'⌝ ∗ owns (c : Thread nD τ) arg11 fullShare Y') ∗ (∃ W, owes (c : Thread nD τ) 0 W))) := by
  have h1 : k0_cond1 i (View.readAt (Elt F) tbU.view (Rect.unit (s := S1) ![0] S1.size inb_S1_S1_0).toLoadRect tu (Shape.Idx.first (show 0 < S1.numel by decide))) = 1#1 := (cond1_iff i _).2 (by rw [hnu, ht]; exact hlt)
  have hr : (View.readAt (Elt F) tbR.view (Rect.unit (s := S114) (k0_off1 i) S1.size (k0_off1_inb i)).toLoadRect tr (Shape.Idx.first (show 0 < S1.numel by decide))) = R t := (read_word c tbR _ _ t ((off_word i).trans ht) _ tr rfl).trans (hR t).symm
  have hx : (View.readAt (Elt F) tbX.view (Rect.unit (s := S114) (k0_off5 i) S1.size (k0_off5_inb i)).toLoadRect tx (Shape.Idx.first (show 0 < S1.numel by decide))) = X t := (read_word c tbX _ _ t ((off_word i).trans ht) _ tx rfl).trans (hX t).symm
  have he : (View.readAt (Elt F) tbE.view (Rect.unit (s := S114) (k0_off2 i) S1.size (k0_off2_inb i)).toLoadRect te (Shape.Idx.first (show 0 < S1.numel by decide))) = E t := (read_word c tbE _ _ t ((off_word i).trans ht) _ te rfl).trans (hE t).symm
  have hrk : (R t).toInt = (opens R t.val : ℤ) := ok.run t h0
  have hk : opens R t.val < 115 := by have := opens_le R t.val; have := t.isLt; omega
  have hpos : 1 ≤ opens R t.val := opens_pos ok t.val (by omega)
  have hz : ¬ (R t).toInt = 0 := by omega
  have hnext : ¬ opens R (t.val + 1) % 2 = 0 := by
    rw [opens, dif_pos t.isLt, if_pos h0]; omega
  rw [Inv_prev c ok wu wd s t hs hlt, St_fly0 c wu wd (E s) (by omega) hxs, ← hes]
  unfold Held
  iintro ⟨HT, ⟨⟨HP, HQ⟩, ⟨%_, %_, %fu, %fd, -, -, HU, HD⟩⟩, H6, H8, H10, H11, HO⟩
  iapply (head0_later_next c i arg6 harg6 arg8 harg8 arg10 harg10 arg11 harg11 te tu tr tx tv wu wd h1 (by rw [hr]; exact (cond2_iff _).2 h0)
    (by rw [hr]; exact (cond3_iff hk hrk).2 hp)
    (by rw [hr]; exact fun h => by have := (cond6_iff hk hrk).1 h; omega)
    (by rw [hr]; exact fun h => hz ((cond4_iff _).1 h))
    (by rw [hx]; exact (cond5_iff _).2 hn)
    (E t) he.symm (row_up (ok.E_lo t) (ok.E_hi t)) (row_dn (ok.E_lo t) (ok.E_hi t))
    (X t) hx.symm (row_up hn (ok.X_lt t hlt hn)) (row_dn hn (ok.X_lt t hlt hn)) _)
  isplitl [HT]; · iexact HT
  isplitl [HP]; · iexact HP
  isplitl [HQ]; · iexact HQ
  isplitl [HU]; · iexists _; iexact HU
  isplitl [HD]; · iexists _; iexact HD
  isplitl [HO]; · iexact HO
  iintro ⟨HT, HP, HQ, HH, HO⟩
  iapply (run_tail c i arg6 harg6 arg8 harg8 arg10 harg10 arg11 harg11 te tu tr tx tv wu wd E R X V nu ok t ht hE hR hX hV hnu x Y BU BD h1 hlt iprop(Free0 c wu wd ∗ Fly1 c wu wd (X t))
    (by rw [Inv_next c ok wu wd t hlt, St_fly1 c wu wd (E t) hnext hn]))
  isplitl [HT]; · iexact HT
  isplitl [HP HQ]
  · isplitl [HP]; · iexact HP
    iexact HQ
  isplitl [HH]; · iexact HH
  isplitl [H6]; · iexact H6
  isplitl [H8]; · iexact H8
  isplitl [H10]; · iexact H10
  isplitl [H11]; · iexact H11
  iexact HO

/-- A later run, in slot 0, the last one. -/
theorem later0_last (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (E R X V : Fin 114 → BitVec 32) (nu : BitVec 32) (ok : TabOK E R X V nu) (t : Fin 114) (ht : (i 0).val = t.val)
    (hE : ∀ t, E t = tbE.view.read (Elt F) te (at114 t)) (hR : ∀ t, R t = tbR.view.read (Elt F) tr (at114 t))
    (hX : ∀ t, X t = tbX.view.read (Elt F) tx (at114 t)) (hV : ∀ t, V t = tbV.view.read (Elt F) tv (at114 t))
    (hnu : (View.readAt (Elt F) tbU.view (Rect.unit (s := S1) ![0] S1.size inb_S1_S1_0).toLoadRect tu (Shape.Idx.first (show 0 < S1.numel by decide))) = nu)
    (x Y : S1024x1024.Idx → Elt F .bf16) (BU : S32x2048.Idx → Elt F .f32) (BD : S32x1024.Idx → Elt F .f32)
    (hlt : (t.val : ℤ) < nu.toInt)
    (s : Fin 114) (hs : t.val = s.val + 1) (h0 : 0 ≤ (R t).toInt) (hp : opens R t.val % 2 = 0) (hxs : 0 ≤ (X s).toInt) (hes : E t = X s)
    (hn : ¬ 0 ≤ (X t).toInt) :
    iprop(Tbls c te tu tr tx tv ∗ Inv c E R X nu wu wd t.val ∗ owns (c : Thread nD τ) arg6 fullShare x ∗ owns (c : Thread nD τ) arg8 fullShare BU ∗ owns (c : Thread nD τ) arg10 fullShare BD ∗ owns (c : Thread nD τ) arg11 fullShare Y ∗ (∃ W, owes (c : Thread nD τ) 0 W))
    ⊢ wp frame (wpE (defs₀ (F := F)) Variants.none c none) Set.univ
        (cc0_ffn i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4)
        (fun _ => iprop(Tbls c te tu tr tx tv ∗ Inv c E R X nu wu wd (t.val + 1) ∗ owns (c : Thread nD τ) arg6 fullShare x ∗ owns (c : Thread nD τ) arg8 fullShare BU ∗ owns (c : Thread nD τ) arg10 fullShare BD
          ∗ (∃ Y', ⌜After c E V nu wu wd BU BD t x Y Y'⌝ ∗ owns (c : Thread nD τ) arg11 fullShare Y') ∗ (∃ W, owes (c : Thread nD τ) 0 W))) := by
  have h1 : k0_cond1 i (View.readAt (Elt F) tbU.view (Rect.unit (s := S1) ![0] S1.size inb_S1_S1_0).toLoadRect tu (Shape.Idx.first (show 0 < S1.numel by decide))) = 1#1 := (cond1_iff i _).2 (by rw [hnu, ht]; exact hlt)
  have hr : (View.readAt (Elt F) tbR.view (Rect.unit (s := S114) (k0_off1 i) S1.size (k0_off1_inb i)).toLoadRect tr (Shape.Idx.first (show 0 < S1.numel by decide))) = R t := (read_word c tbR _ _ t ((off_word i).trans ht) _ tr rfl).trans (hR t).symm
  have hx : (View.readAt (Elt F) tbX.view (Rect.unit (s := S114) (k0_off5 i) S1.size (k0_off5_inb i)).toLoadRect tx (Shape.Idx.first (show 0 < S1.numel by decide))) = X t := (read_word c tbX _ _ t ((off_word i).trans ht) _ tx rfl).trans (hX t).symm
  have he : (View.readAt (Elt F) tbE.view (Rect.unit (s := S114) (k0_off2 i) S1.size (k0_off2_inb i)).toLoadRect te (Shape.Idx.first (show 0 < S1.numel by decide))) = E t := (read_word c tbE _ _ t ((off_word i).trans ht) _ te rfl).trans (hE t).symm
  have hrk : (R t).toInt = (opens R t.val : ℤ) := ok.run t h0
  have hk : opens R t.val < 115 := by have := opens_le R t.val; have := t.isLt; omega
  have hpos : 1 ≤ opens R t.val := opens_pos ok t.val (by omega)
  have hz : ¬ (R t).toInt = 0 := by omega
  rw [Inv_prev c ok wu wd s t hs hlt, St_fly0 c wu wd (E s) (by omega) hxs, ← hes]
  unfold Held
  iintro ⟨HT, ⟨⟨HP, HQ⟩, ⟨%_, %_, %fu, %fd, -, -, HU, HD⟩⟩, H6, H8, H10, H11, HO⟩
  iapply (head0_later_last c i arg6 harg6 arg8 harg8 arg10 harg10 arg11 harg11 te tu tr tx tv wu wd h1 (by rw [hr]; exact (cond2_iff _).2 h0)
    (by rw [hr]; exact (cond3_iff hk hrk).2 hp)
    (by rw [hr]; exact fun h => by have := (cond6_iff hk hrk).1 h; omega)
    (by rw [hr]; exact fun h => hz ((cond4_iff _).1 h))
    (by rw [hx]; exact fun h => hn ((cond5_iff _).1 h))
    (E t) he.symm (row_up (ok.E_lo t) (ok.E_hi t)) (row_dn (ok.E_lo t) (ok.E_hi t))
    _)
  isplitl [HT]; · iexact HT
  isplitl [HP]; · iexact HP
  isplitl [HU]; · iexists _; iexact HU
  isplitl [HD]; · iexists _; iexact HD
  isplitl [HO]; · iexact HO
  iintro ⟨HT, HP, HH, HO⟩
  iapply (run_tail c i arg6 harg6 arg8 harg8 arg10 harg10 arg11 harg11 te tu tr tx tv wu wd E R X V nu ok t ht hE hR hX hV hnu x Y BU BD h1 hlt iprop(Free0 c wu wd ∗ Free1 c wu wd)
    (by rw [Inv_next c ok wu wd t hlt, St_free c wu wd _ (E t) hn]))
  isplitl [HT]; · iexact HT
  isplitl [HP HQ]
  · isplitl [HP]; · iexact HP
    iexact HQ
  isplitl [HH]; · iexact HH
  isplitl [H6]; · iexact H6
  isplitl [H8]; · iexact H8
  isplitl [H10]; · iexact H10
  isplitl [H11]; · iexact H11
  iexact HO

/-- A later run, in slot 1, another run following. -/
theorem later1_next (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (E R X V : Fin 114 → BitVec 32) (nu : BitVec 32) (ok : TabOK E R X V nu) (t : Fin 114) (ht : (i 0).val = t.val)
    (hE : ∀ t, E t = tbE.view.read (Elt F) te (at114 t)) (hR : ∀ t, R t = tbR.view.read (Elt F) tr (at114 t))
    (hX : ∀ t, X t = tbX.view.read (Elt F) tx (at114 t)) (hV : ∀ t, V t = tbV.view.read (Elt F) tv (at114 t))
    (hnu : (View.readAt (Elt F) tbU.view (Rect.unit (s := S1) ![0] S1.size inb_S1_S1_0).toLoadRect tu (Shape.Idx.first (show 0 < S1.numel by decide))) = nu)
    (x Y : S1024x1024.Idx → Elt F .bf16) (BU : S32x2048.Idx → Elt F .f32) (BD : S32x1024.Idx → Elt F .f32)
    (hlt : (t.val : ℤ) < nu.toInt)
    (s : Fin 114) (hs : t.val = s.val + 1) (h0 : 0 ≤ (R t).toInt) (hp : opens R t.val % 2 = 1) (hxs : 0 ≤ (X s).toInt) (hes : E t = X s)
    (hn : 0 ≤ (X t).toInt) :
    iprop(Tbls c te tu tr tx tv ∗ Inv c E R X nu wu wd t.val ∗ owns (c : Thread nD τ) arg6 fullShare x ∗ owns (c : Thread nD τ) arg8 fullShare BU ∗ owns (c : Thread nD τ) arg10 fullShare BD ∗ owns (c : Thread nD τ) arg11 fullShare Y ∗ (∃ W, owes (c : Thread nD τ) 0 W))
    ⊢ wp frame (wpE (defs₀ (F := F)) Variants.none c none) Set.univ
        (cc0_ffn i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4)
        (fun _ => iprop(Tbls c te tu tr tx tv ∗ Inv c E R X nu wu wd (t.val + 1) ∗ owns (c : Thread nD τ) arg6 fullShare x ∗ owns (c : Thread nD τ) arg8 fullShare BU ∗ owns (c : Thread nD τ) arg10 fullShare BD
          ∗ (∃ Y', ⌜After c E V nu wu wd BU BD t x Y Y'⌝ ∗ owns (c : Thread nD τ) arg11 fullShare Y') ∗ (∃ W, owes (c : Thread nD τ) 0 W))) := by
  have h1 : k0_cond1 i (View.readAt (Elt F) tbU.view (Rect.unit (s := S1) ![0] S1.size inb_S1_S1_0).toLoadRect tu (Shape.Idx.first (show 0 < S1.numel by decide))) = 1#1 := (cond1_iff i _).2 (by rw [hnu, ht]; exact hlt)
  have hr : (View.readAt (Elt F) tbR.view (Rect.unit (s := S114) (k0_off1 i) S1.size (k0_off1_inb i)).toLoadRect tr (Shape.Idx.first (show 0 < S1.numel by decide))) = R t := (read_word c tbR _ _ t ((off_word i).trans ht) _ tr rfl).trans (hR t).symm
  have hx : (View.readAt (Elt F) tbX.view (Rect.unit (s := S114) (k0_off15 i) S1.size (k0_off15_inb i)).toLoadRect tx (Shape.Idx.first (show 0 < S1.numel by decide))) = X t := (read_word c tbX _ _ t ((off_word i).trans ht) _ tx rfl).trans (hX t).symm
  have he : (View.readAt (Elt F) tbE.view (Rect.unit (s := S114) (k0_off2 i) S1.size (k0_off2_inb i)).toLoadRect te (Shape.Idx.first (show 0 < S1.numel by decide))) = E t := (read_word c tbE _ _ t ((off_word i).trans ht) _ te rfl).trans (hE t).symm
  have hrk : (R t).toInt = (opens R t.val : ℤ) := ok.run t h0
  have hk : opens R t.val < 115 := by have := opens_le R t.val; have := t.isLt; omega
  have hpos : 1 ≤ opens R t.val := opens_pos ok t.val (by omega)
  have hz : ¬ (R t).toInt = 0 := by omega
  have hnext : opens R (t.val + 1) % 2 = 0 := by
    rw [opens, dif_pos t.isLt, if_pos h0]; omega
  rw [Inv_prev c ok wu wd s t hs hlt, St_fly1 c wu wd (E s) (by omega) hxs, ← hes]
  unfold Held
  iintro ⟨HT, ⟨⟨HQ, HP⟩, ⟨%_, %_, %fu, %fd, -, -, HU, HD⟩⟩, H6, H8, H10, H11, HO⟩
  iapply (head1_later_next c i arg6 harg6 arg8 harg8 arg10 harg10 arg11 harg11 te tu tr tx tv wu wd h1 (by rw [hr]; exact (cond2_iff _).2 h0)
    (by rw [hr]; exact fun h => by have := (cond3_iff hk hrk).1 h; omega)
    (by rw [hr]; exact (cond6_iff hk hrk).2 hp)
    (by rw [hr]; exact fun h => hz ((cond7_iff _).1 h))
    (by rw [hx]; exact (cond8_iff _).2 hn)
    (E t) he.symm (row_up (ok.E_lo t) (ok.E_hi t)) (row_dn (ok.E_lo t) (ok.E_hi t))
    (X t) hx.symm (row_up hn (ok.X_lt t hlt hn)) (row_dn hn (ok.X_lt t hlt hn)) _)
  isplitl [HT]; · iexact HT
  isplitl [HP]; · iexact HP
  isplitl [HQ]; · iexact HQ
  isplitl [HU]; · iexists _; iexact HU
  isplitl [HD]; · iexists _; iexact HD
  isplitl [HO]; · iexact HO
  iintro ⟨HT, HP, HQ, HH, HO⟩
  iapply (run_tail c i arg6 harg6 arg8 harg8 arg10 harg10 arg11 harg11 te tu tr tx tv wu wd E R X V nu ok t ht hE hR hX hV hnu x Y BU BD h1 hlt iprop(Fly0 c wu wd (X t) ∗ Free1 c wu wd)
    (by rw [Inv_next c ok wu wd t hlt, St_fly0 c wu wd (E t) hnext hn]))
  isplitl [HT]; · iexact HT
  isplitl [HP HQ]
  · isplitl [HQ]; · iexact HQ
    iexact HP
  isplitl [HH]; · iexact HH
  isplitl [H6]; · iexact H6
  isplitl [H8]; · iexact H8
  isplitl [H10]; · iexact H10
  isplitl [H11]; · iexact H11
  iexact HO

/-- A later run, in slot 1, the last one. -/
theorem later1_last (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (E R X V : Fin 114 → BitVec 32) (nu : BitVec 32) (ok : TabOK E R X V nu) (t : Fin 114) (ht : (i 0).val = t.val)
    (hE : ∀ t, E t = tbE.view.read (Elt F) te (at114 t)) (hR : ∀ t, R t = tbR.view.read (Elt F) tr (at114 t))
    (hX : ∀ t, X t = tbX.view.read (Elt F) tx (at114 t)) (hV : ∀ t, V t = tbV.view.read (Elt F) tv (at114 t))
    (hnu : (View.readAt (Elt F) tbU.view (Rect.unit (s := S1) ![0] S1.size inb_S1_S1_0).toLoadRect tu (Shape.Idx.first (show 0 < S1.numel by decide))) = nu)
    (x Y : S1024x1024.Idx → Elt F .bf16) (BU : S32x2048.Idx → Elt F .f32) (BD : S32x1024.Idx → Elt F .f32)
    (hlt : (t.val : ℤ) < nu.toInt)
    (s : Fin 114) (hs : t.val = s.val + 1) (h0 : 0 ≤ (R t).toInt) (hp : opens R t.val % 2 = 1) (hxs : 0 ≤ (X s).toInt) (hes : E t = X s)
    (hn : ¬ 0 ≤ (X t).toInt) :
    iprop(Tbls c te tu tr tx tv ∗ Inv c E R X nu wu wd t.val ∗ owns (c : Thread nD τ) arg6 fullShare x ∗ owns (c : Thread nD τ) arg8 fullShare BU ∗ owns (c : Thread nD τ) arg10 fullShare BD ∗ owns (c : Thread nD τ) arg11 fullShare Y ∗ (∃ W, owes (c : Thread nD τ) 0 W))
    ⊢ wp frame (wpE (defs₀ (F := F)) Variants.none c none) Set.univ
        (cc0_ffn i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4)
        (fun _ => iprop(Tbls c te tu tr tx tv ∗ Inv c E R X nu wu wd (t.val + 1) ∗ owns (c : Thread nD τ) arg6 fullShare x ∗ owns (c : Thread nD τ) arg8 fullShare BU ∗ owns (c : Thread nD τ) arg10 fullShare BD
          ∗ (∃ Y', ⌜After c E V nu wu wd BU BD t x Y Y'⌝ ∗ owns (c : Thread nD τ) arg11 fullShare Y') ∗ (∃ W, owes (c : Thread nD τ) 0 W))) := by
  have h1 : k0_cond1 i (View.readAt (Elt F) tbU.view (Rect.unit (s := S1) ![0] S1.size inb_S1_S1_0).toLoadRect tu (Shape.Idx.first (show 0 < S1.numel by decide))) = 1#1 := (cond1_iff i _).2 (by rw [hnu, ht]; exact hlt)
  have hr : (View.readAt (Elt F) tbR.view (Rect.unit (s := S114) (k0_off1 i) S1.size (k0_off1_inb i)).toLoadRect tr (Shape.Idx.first (show 0 < S1.numel by decide))) = R t := (read_word c tbR _ _ t ((off_word i).trans ht) _ tr rfl).trans (hR t).symm
  have hx : (View.readAt (Elt F) tbX.view (Rect.unit (s := S114) (k0_off15 i) S1.size (k0_off15_inb i)).toLoadRect tx (Shape.Idx.first (show 0 < S1.numel by decide))) = X t := (read_word c tbX _ _ t ((off_word i).trans ht) _ tx rfl).trans (hX t).symm
  have he : (View.readAt (Elt F) tbE.view (Rect.unit (s := S114) (k0_off2 i) S1.size (k0_off2_inb i)).toLoadRect te (Shape.Idx.first (show 0 < S1.numel by decide))) = E t := (read_word c tbE _ _ t ((off_word i).trans ht) _ te rfl).trans (hE t).symm
  have hrk : (R t).toInt = (opens R t.val : ℤ) := ok.run t h0
  have hk : opens R t.val < 115 := by have := opens_le R t.val; have := t.isLt; omega
  have hpos : 1 ≤ opens R t.val := opens_pos ok t.val (by omega)
  have hz : ¬ (R t).toInt = 0 := by omega
  rw [Inv_prev c ok wu wd s t hs hlt, St_fly1 c wu wd (E s) (by omega) hxs, ← hes]
  unfold Held
  iintro ⟨HT, ⟨⟨HQ, HP⟩, ⟨%_, %_, %fu, %fd, -, -, HU, HD⟩⟩, H6, H8, H10, H11, HO⟩
  iapply (head1_later_last c i arg6 harg6 arg8 harg8 arg10 harg10 arg11 harg11 te tu tr tx tv wu wd h1 (by rw [hr]; exact (cond2_iff _).2 h0)
    (by rw [hr]; exact fun h => by have := (cond3_iff hk hrk).1 h; omega)
    (by rw [hr]; exact (cond6_iff hk hrk).2 hp)
    (by rw [hr]; exact fun h => hz ((cond7_iff _).1 h))
    (by rw [hx]; exact fun h => hn ((cond8_iff _).1 h))
    (E t) he.symm (row_up (ok.E_lo t) (ok.E_hi t)) (row_dn (ok.E_lo t) (ok.E_hi t))
    _)
  isplitl [HT]; · iexact HT
  isplitl [HP]; · iexact HP
  isplitl [HU]; · iexists _; iexact HU
  isplitl [HD]; · iexists _; iexact HD
  isplitl [HO]; · iexact HO
  iintro ⟨HT, HP, HH, HO⟩
  iapply (run_tail c i arg6 harg6 arg8 harg8 arg10 harg10 arg11 harg11 te tu tr tx tv wu wd E R X V nu ok t ht hE hR hX hV hnu x Y BU BD h1 hlt iprop(Free0 c wu wd ∗ Free1 c wu wd)
    (by rw [Inv_next c ok wu wd t hlt, St_free c wu wd _ (E t) hn]))
  isplitl [HT]; · iexact HT
  isplitl [HP HQ]
  · isplitl [HQ]; · iexact HQ
    iexact HP
  isplitl [HH]; · iexact HH
  isplitl [H6]; · iexact H6
  isplitl [H8]; · iexact H8
  isplitl [H10]; · iexact H10
  isplitl [H11]; · iexact H11
  iexact HO

end Cert.KernelIdeal.Hand

end
-- ==== Proof.Step.lean ====
module

public import proofs.«01_k».proof.Proof.Slots
public import proofs.«01_k».proof.Proof.Gen.KernelIdeal.Skeleton
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Point
public import proofs.«01_k».proof.Proof.Cond
public import proofs.«01_k».proof.Proof.Words
public import proofs.«01_k».proof.Proof.Inv
public import proofs.«01_k».proof.Proof.Heads
public import proofs.«01_k».proof.Proof.Tail
public import proofs.«01_k».proof.Proof.Idle
public import proofs.«01_k».proof.Proof.Cases

/-! Every point keeps the invariant and leaves its block of the output. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- A block in use that goes on with its run. -/
theorem goes_on (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (E R X V : Fin 114 → BitVec 32) (nu : BitVec 32) (ok : TabOK E R X V nu) (t : Fin 114) (ht : (i 0).val = t.val)
    (hE : ∀ t, E t = tbE.view.read (Elt F) te (at114 t)) (hR : ∀ t, R t = tbR.view.read (Elt F) tr (at114 t))
    (hX : ∀ t, X t = tbX.view.read (Elt F) tx (at114 t)) (hV : ∀ t, V t = tbV.view.read (Elt F) tv (at114 t))
    (hnu : (View.readAt (Elt F) tbU.view (Rect.unit (s := S1) ![0] S1.size inb_S1_S1_0).toLoadRect tu (Shape.Idx.first (show 0 < S1.numel by decide))) = nu)
    (x Y : S1024x1024.Idx → Elt F .bf16) (BU : S32x2048.Idx → Elt F .f32) (BD : S32x1024.Idx → Elt F .f32)
    (hlt : (t.val : ℤ) < nu.toInt) (s : Fin 114) (hs : t.val = s.val + 1) (h0 : (R t).toInt < 0) (hes : E t = E s) (hxs : X t = X s) :
    iprop(Tbls c te tu tr tx tv ∗ Inv c E R X nu wu wd t.val ∗ owns (c : Thread nD τ) arg6 fullShare x ∗ owns (c : Thread nD τ) arg8 fullShare BU ∗ owns (c : Thread nD τ) arg10 fullShare BD ∗ owns (c : Thread nD τ) arg11 fullShare Y ∗ (∃ W, owes (c : Thread nD τ) 0 W))
    ⊢ wp frame (wpE (defs₀ (F := F)) Variants.none c none) Set.univ
        (cc0_ffn i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4)
        (fun _ => iprop(Tbls c te tu tr tx tv ∗ Inv c E R X nu wu wd (t.val + 1) ∗ owns (c : Thread nD τ) arg6 fullShare x ∗ owns (c : Thread nD τ) arg8 fullShare BU ∗ owns (c : Thread nD τ) arg10 fullShare BD
          ∗ (∃ Y', ⌜After c E V nu wu wd BU BD t x Y Y'⌝ ∗ owns (c : Thread nD τ) arg11 fullShare Y') ∗ (∃ W, owes (c : Thread nD τ) 0 W))) := by
  have h1 : k0_cond1 i (View.readAt (Elt F) tbU.view (Rect.unit (s := S1) ![0] S1.size inb_S1_S1_0).toLoadRect tu (Shape.Idx.first (show 0 < S1.numel by decide))) = 1#1 := (cond1_iff i _).2 (by rw [hnu, ht]; exact hlt)
  have hr : (View.readAt (Elt F) tbR.view (Rect.unit (s := S114) (k0_off1 i) S1.size (k0_off1_inb i)).toLoadRect tr (Shape.Idx.first (show 0 < S1.numel by decide))) = R t := (read_word c tbR _ _ t ((off_word i).trans ht) _ tr rfl).trans (hR t).symm
  have hop : opens R (t.val + 1) = opens R t.val := by rw [opens, dif_pos t.isLt, if_neg (not_le.2 h0)]; rfl
  rw [Inv_prev c ok wu wd s t hs hlt, ← hes, ← hxs]
  unfold St
  iintro ⟨HT, ⟨HS, HH⟩, H6, H8, H10, H11, HO⟩
  iapply (head_cont c i arg6 harg6 arg8 harg8 arg10 harg10 arg11 harg11 te tu tr tx tv wu wd h1 (by rw [hr]; exact fun h => by have := (cond2_iff _).1 h; omega) _)
  isplitl [HT]; · iexact HT
  isplitl [HO]; · iexact HO
  iintro ⟨HT, HO⟩
  iapply (run_tail c i arg6 harg6 arg8 harg8 arg10 harg10 arg11 harg11 te tu tr tx tv wu wd E R X V nu ok t ht hE hR hX hV hnu x Y BU BD h1 hlt _
    (by rw [Inv_next c ok wu wd t hlt, hop]; unfold St; exact .rfl))
  isplitl [HT]; · iexact HT
  isplitl [HS]; · iexact HS
  isplitl [HH]; · iexact HH
  isplitl [H6]; · iexact H6
  isplitl [H8]; · iexact H8
  isplitl [H10]; · iexact H10
  isplitl [H11]; · iexact H11
  iexact HO

/-- A point past the blocks in use. -/
theorem past (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (E R X V : Fin 114 → BitVec 32) (nu : BitVec 32) (ok : TabOK E R X V nu) (t : Fin 114) (ht : (i 0).val = t.val)
    (hE : ∀ t, E t = tbE.view.read (Elt F) te (at114 t)) (hR : ∀ t, R t = tbR.view.read (Elt F) tr (at114 t))
    (hX : ∀ t, X t = tbX.view.read (Elt F) tx (at114 t)) (hV : ∀ t, V t = tbV.view.read (Elt F) tv (at114 t))
    (hnu : (View.readAt (Elt F) tbU.view (Rect.unit (s := S1) ![0] S1.size inb_S1_S1_0).toLoadRect tu (Shape.Idx.first (show 0 < S1.numel by decide))) = nu)
    (x Y : S1024x1024.Idx → Elt F .bf16) (BU : S32x2048.Idx → Elt F .f32) (BD : S32x1024.Idx → Elt F .f32)
    (hge : ¬ (t.val : ℤ) < nu.toInt) :
    iprop(Tbls c te tu tr tx tv ∗ Inv c E R X nu wu wd t.val ∗ owns (c : Thread nD τ) arg6 fullShare x ∗ owns (c : Thread nD τ) arg8 fullShare BU ∗ owns (c : Thread nD τ) arg10 fullShare BD ∗ owns (c : Thread nD τ) arg11 fullShare Y ∗ (∃ W, owes (c : Thread nD τ) 0 W))
    ⊢ wp frame (wpE (defs₀ (F := F)) Variants.none c none) Set.univ
        (cc0_ffn i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4)
        (fun _ => iprop(Tbls c te tu tr tx tv ∗ Inv c E R X nu wu wd (t.val + 1) ∗ owns (c : Thread nD τ) arg6 fullShare x ∗ owns (c : Thread nD τ) arg8 fullShare BU ∗ owns (c : Thread nD τ) arg10 fullShare BD
          ∗ (∃ Y', ⌜After c E V nu wu wd BU BD t x Y Y'⌝ ∗ owns (c : Thread nD τ) arg11 fullShare Y') ∗ (∃ W, owes (c : Thread nD τ) 0 W))) := by
  have h1 : ¬ k0_cond1 i (View.readAt (Elt F) tbU.view (Rect.unit (s := S1) ![0] S1.size inb_S1_S1_0).toLoadRect tu (Shape.Idx.first (show 0 < S1.numel by decide))) = 1#1 := fun h => hge (by have := (cond1_iff i _).1 h; rw [hnu, ht] at this; exact this)
  have hn := nu_toNat ok
  have hi : (Inv c E R X nu wu wd (t.val + 1) : sProp 𝕄) = Inv c E R X nu wu wd t.val := by
    rw [Inv_pos _ _ _ _ _ _ _ (by omega), Inv_pos _ _ _ _ _ _ _ (by omega), show lastBlk nu (t.val + 1) = lastBlk nu t.val from Fin.ext (by unfold lastBlk; simp only; omega),
      show min (t.val + 1) nu.toNat = min t.val nu.toNat by omega]
  iintro ⟨HT, HI, H6, H8, H10, H11, HO⟩
  iapply (head_idle c i arg6 harg6 arg8 harg8 arg10 harg10 arg11 harg11 te tu tr tx tv wu wd h1 _)
  isplitl [HT]; · iexact HT
  iintro HT
  isplitl [HT]; · iexact HT
  isplitl [HI]; · rw [hi]; iexact HI
  isplitl [H6]; · iexact H6
  isplitl [H8]; · iexact H8
  isplitl [H10]; · iexact H10
  isplitl [H11]
  · iexists Y; isplitr
    · ipureintro; exact ⟨fun h => absurd h hge, fun _ => rfl⟩
    iexact H11
  iexact HO

/-- Every point. -/
theorem point (c : Dev nD) (i : grid0.Coords) (arg6 : Memref sig .tc .vmem S1024x1024 .bf16) (harg6 : arg6.IsWhole)
    (arg8 : Memref sig .tc .vmem S32x2048 .f32) (harg8 : arg8.IsWhole) (arg10 : Memref sig .tc .vmem S32x1024 .f32) (harg10 : arg10.IsWhole)
    (arg11 : Memref sig .tc .vmem S1024x1024 .bf16) (harg11 : arg11.IsWhole)
    (te : BufOf (F := F) c tbE) (tu : BufOf (F := F) c tbU) (tr : BufOf (F := F) c tbR) (tx : BufOf (F := F) c tbX) (tv : BufOf (F := F) c tbV)
    (wu : BufOf (F := F) c upM) (wd : BufOf (F := F) c dnM)
    (E R X V : Fin 114 → BitVec 32) (nu : BitVec 32) (ok : TabOK E R X V nu) (t : Fin 114) (ht : (i 0).val = t.val)
    (hE : ∀ t, E t = tbE.view.read (Elt F) te (at114 t)) (hR : ∀ t, R t = tbR.view.read (Elt F) tr (at114 t))
    (hX : ∀ t, X t = tbX.view.read (Elt F) tx (at114 t)) (hV : ∀ t, V t = tbV.view.read (Elt F) tv (at114 t))
    (hnu : (View.readAt (Elt F) tbU.view (Rect.unit (s := S1) ![0] S1.size inb_S1_S1_0).toLoadRect tu (Shape.Idx.first (show 0 < S1.numel by decide))) = nu)
    (x Y : S1024x1024.Idx → Elt F .bf16) (BU : S32x2048.Idx → Elt F .f32) (BD : S32x1024.Idx → Elt F .f32) :
    iprop(Tbls c te tu tr tx tv ∗ Inv c E R X nu wu wd t.val ∗ owns (c : Thread nD τ) arg6 fullShare x ∗ owns (c : Thread nD τ) arg8 fullShare BU ∗ owns (c : Thread nD τ) arg10 fullShare BD ∗ owns (c : Thread nD τ) arg11 fullShare Y ∗ (∃ W, owes (c : Thread nD τ) 0 W))
    ⊢ wp frame (wpE (defs₀ (F := F)) Variants.none c none) Set.univ
        (cc0_ffn i tbE (Memref.isWhole_whole _) tbU (Memref.isWhole_whole _) tbR (Memref.isWhole_whole _) tbX (Memref.isWhole_whole _)
          tbV (Memref.isWhole_whole _) arg6 harg6 upM (Memref.isWhole_whole _) arg8 harg8 dnM (Memref.isWhole_whole _) arg10 harg10 arg11 harg11
          upS (Memref.isWhole_whole _) dnS (Memref.isWhole_whole _) upB (Memref.isWhole_whole _) dnB (Memref.isWhole_whole _) cc0_scratch4)
        (fun _ => iprop(Tbls c te tu tr tx tv ∗ Inv c E R X nu wu wd (t.val + 1) ∗ owns (c : Thread nD τ) arg6 fullShare x ∗ owns (c : Thread nD τ) arg8 fullShare BU ∗ owns (c : Thread nD τ) arg10 fullShare BD
          ∗ (∃ Y', ⌜After c E V nu wu wd BU BD t x Y Y'⌝ ∗ owns (c : Thread nD τ) arg11 fullShare Y') ∗ (∃ W, owes (c : Thread nD τ) 0 W))) := by
  by_cases hlt : (t.val : ℤ) < nu.toInt
  swap
  · exact past c i arg6 harg6 arg8 harg8 arg10 harg10 arg11 harg11 te tu tr tx tv wu wd E R X V nu ok t ht hE hR hX hV hnu x Y BU BD hlt
  by_cases hz0 : t.val = 0
  · by_cases hn : 0 ≤ (X t).toInt
    · exact first_next c i arg6 harg6 arg8 harg8 arg10 harg10 arg11 harg11 te tu tr tx tv wu wd E R X V nu ok t ht hE hR hX hV hnu x Y BU BD hlt hz0 hn
    · exact first_last c i arg6 harg6 arg8 harg8 arg10 harg10 arg11 harg11 te tu tr tx tv wu wd E R X V nu ok t ht hE hR hX hV hnu x Y BU BD hlt hz0 hn
  have hs : t.val = (⟨t.val - 1, by have := t.isLt; omega⟩ : Fin 114).val + 1 := by show t.val = t.val - 1 + 1; omega
  rcases ok.step _ t hs with ⟨h0, he, hx⟩ | ⟨h0, hx, he⟩ | h'
  · exact goes_on c i arg6 harg6 arg8 harg8 arg10 harg10 arg11 harg11 te tu tr tx tv wu wd E R X V nu ok t ht hE hR hX hV hnu x Y BU BD hlt _ hs h0 he hx
  · rcases Nat.mod_two_eq_zero_or_one (opens R t.val) with hp | hp
    · by_cases hn : 0 ≤ (X t).toInt
      · exact later0_next c i arg6 harg6 arg8 harg8 arg10 harg10 arg11 harg11 te tu tr tx tv wu wd E R X V nu ok t ht hE hR hX hV hnu x Y BU BD hlt _ hs h0 hp hx he hn
      · exact later0_last c i arg6 harg6 arg8 harg8 arg10 harg10 arg11 harg11 te tu tr tx tv wu wd E R X V nu ok t ht hE hR hX hV hnu x Y BU BD hlt _ hs h0 hp hx he hn
    · by_cases hn : 0 ≤ (X t).toInt
      · exact later1_next c i arg6 harg6 arg8 harg8 arg10 harg10 arg11 harg11 te tu tr tx tv wu wd E R X V nu ok t ht hE hR hX hV hnu x Y BU BD hlt _ hs h0 hp hx he hn
      · exact later1_last c i arg6 harg6 arg8 harg8 arg10 harg10 arg11 harg11 te tu tr tx tv wu wd E R X V nu ok t ht hE hR hX hV hnu x Y BU BD hlt _ hs h0 hp hx he hn
  · omega

end Cert.KernelIdeal.Hand

end
-- ==== Proof.Tables.lean ====
module

public import proofs.«01_k».proof.Proof.Slots
public import proofs.«01_k».proof.Proof.Gen.KernelIdeal.Skeleton
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import Idealize.ShloMosaic.Lib.Routing.Ops
public import proofs.«01_k».proof.Pre_tables_ok
public import proofs.«01_k».proof.Proof.Point
public import proofs.«01_k».proof.Proof.Cond
public import proofs.«01_k».proof.Proof.Words
public import proofs.«01_k».proof.Proof.Inv
public import proofs.«01_k».proof.Proof.Cases
public import proofs.«01_k».proof.Proof.Gen.KernelIdeal.Launch

/-! The condition on the tables, decoded. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

theorem ix1_at114 (j : Fin 114) : (ValueIdx.ix1 j : S114.Idx) = at114 j := funext fun a => by
  obtain ⟨a, ha⟩ := a
  have : a = 0 := by simpa using ha
  subst this; rfl
theorem S1_idx (i j : S1.Idx) : i = j := funext fun a => by
  obtain ⟨a, ha⟩ := a
  have : a = 0 := by simpa using ha
  subst this
  have h1 : (i ⟨0, ha⟩).val < 1 := (i ⟨0, ha⟩).isLt
  have h2 : (j ⟨0, ha⟩).val < 1 := (j ⟨0, ha⟩).isLt
  exact Fin.ext (by omega)

theorem coord_lt (i : grid0.Coords) : (i 0).val < 114 := (i 0).isLt
theorem coord_at (t : Fin grid0.N) : (grid0.coords t 0).val = t.val := by
  rw [Pipeline.Grid.coords_val (S := 1) (B := 114) t 0 (by decide) (by decide)]
  have : t.val < 114 := N_0 ▸ t.isLt
  omega

theorem used_nat {nu : BitVec 32} (h1 : 1 ≤ nu.toInt) (h2 : nu.toInt ≤ 114) : 1 ≤ nu.toNat ∧ nu.toNat ≤ 114 := by
  rw [BitVec.toInt_eq_toNat_cond] at h1 h2
  have := nu.isLt
  split_ifs at h1 h2 <;> omega

theorem min_word (n k : ℕ) (hn : 1 ≤ n) (hn' : n ≤ 114) (hk : k < 114) :
    (Scalar.minsi (BitVec.ofNat 32 k) (Scalar.subi (BitVec.ofNat 32 n) 1#32)).toNat = min k (n - 1) := by
  have hs : Scalar.subi (BitVec.ofNat 32 n) 1#32 = BitVec.ofNat 32 (n - 1) := by
    apply BitVec.eq_of_toNat_eq
    show (BitVec.ofNat 32 n - 1#32).toNat = _
    rw [BitVec.toNat_sub, BitVec.toNat_ofNat, BitVec.toNat_ofNat]
    simp; omega
  rw [hs]
  show (if (BitVec.ofNat 32 k).slt (BitVec.ofNat 32 (n - 1)) then BitVec.ofNat 32 k else BitVec.ofNat 32 (n - 1)).toNat = _
  have e : ∀ m : ℕ, m < 115 → (BitVec.ofNat 32 m).toInt = m := fun m hm => by
    rw [BitVec.toInt_eq_toNat_cond, BitVec.toNat_ofNat]; split_ifs <;> omega
  rw [BitVec.slt, e k (by omega), e (n - 1) (by omega)]
  by_cases h : k < n - 1
  · rw [decide_eq_true (by omega), if_pos rfl, BitVec.toNat_ofNat]; omega
  · rw [decide_eq_false (by omega), if_neg (by decide), BitVec.toNat_ofNat]; omega

/-- The block the row windows stand at: the grid point's own, the last used one from there on. -/
theorem rowBlock (pf : pre0.Contents (Elt F)) (h1 : 1 ≤ (used (pf 1)).toInt) (h2 : (used (pf 1)).toInt ≤ 114) (i : grid0.Coords) :
    cc0_transform_0 Facts₀.inb_S1_S1_0 Facts₀.numel1_S1 pf i = ![min (i 0).val ((used (pf 1)).toNat - 1), 0] := by
  have hi := coord_lt i
  have hn := used_nat h1 h2
  have hpf : pf.at 1 (Rect.unit (s := S1) ![0] S1.size Facts₀.inb_S1_S1_0) Facts₀.numel1_S1 = used (pf 1) := congrArg (pf 1) (S1_idx _ _)
  have hm : (Scalar.minsi (BitVec.ofNat 32 (i 0).val) (Scalar.subi (used (pf 1)) 1#32)).toNat = min (i 0).val ((used (pf 1)).toNat - 1) := by
    have e := min_word (used (pf 1)).toNat (i 0).val hn.1 hn.2 hi
    rwa [BitVec.ofNat_toNat, BitVec.setWidth_eq] at e
  unfold cc0_transform_0
  dsimp only
  rw [hpf, hm]
  rfl

theorem words_rows (n : ℕ) (h : ∀ a, ((![n, 0] : Fin 2 → ℕ) a + 1) * S1024x1024.size a ≤ S116736x1024.size a) :
    (Rect.block (s := S116736x1024) S1024x1024.size ![n, 0] h).WholeWords (EltTy.packing .bf16) := by
  refine Rect.PackedRows.wholeWords (Or.inr ⟨by decide, rfl, Or.inl ⟨?_, ?_⟩⟩)
  · exact ⟨n * 512, by show n * 1024 = 2 * (n * 512); omega⟩
  · exact ⟨512, rfl⟩

theorem ok_of_used (pf : pre0.Contents (Elt F)) (h1 : 1 ≤ (used (pf 1)).toInt) (h2 : (used (pf 1)).toInt ≤ 114) : ok0 pf := by
  have hn := used_nat h1 h2
  have hb : ∀ i : grid0.Coords, ∀ a, ((![min (i 0).val ((used (pf 1)).toNat - 1), 0] : Fin 2 → ℕ) a + 1) * S1024x1024.size a ≤ S116736x1024.size a := by
    intro i a
    obtain ⟨a, ha⟩ := a
    have ha : a < 2 := ha
    interval_cases a
    · show (min (i 0).val ((used (pf 1)).toNat - 1) + 1) * 1024 ≤ 116736; omega
    · show (0 + 1) * 1024 ≤ 1024; omega
  have hr := rowBlock pf h1 h2
  have hr' : ∀ i, cc0_transform_5 Facts₀.inb_S1_S1_0 Facts₀.numel1_S1 pf i = ![min (i 0).val ((used (pf 1)).toNat - 1), 0] := hr
  refine ⟨fun i => ?_, fun i => ?_, rfl, rfl, rfl, fun a a' h => by rw [show a = a' from Fin.ext h], fun c a a' h => ?_, fun u u' hu hf hg => ?_⟩
  · rw [hr]; exact ⟨hb i, .inr (words_rows _ _)⟩
  · rw [hr']; exact ⟨hb i, .inr (words_rows _ _)⟩
  · show cc0_transform_0 _ _ pf c a = cc0_transform_5 _ _ pf c a'
    rw [hr, hr', show a = a' from Fin.ext h]
  · show cc0_transform_5 _ _ pf (grid0.coords u') ≠ cc0_transform_5 _ _ pf (grid0.coords u)
    rw [hr', hr', coord_at, coord_at]
    intro he
    have h0 : min u'.val ((used (pf 1)).toNat - 1) = min u.val ((used (pf 1)).toNat - 1) := congrFun he 0
    have hl : u.val < 114 := N_0 ▸ u.isLt
    have hfl : ((spec0 3).isOut && (u'.val + 1 = grid0.N || decide (∃ h : u'.val + 1 < grid0.N,
      cc0_transform_5 Facts₀.inb_S1_S1_0 Facts₀.numel1_S1 pf (grid0.coords ⟨u'.val + 1, h⟩) ≠ cc0_transform_5 Facts₀.inb_S1_S1_0 Facts₀.numel1_S1 pf (grid0.coords u')))) = true := hg
    rw [Bool.and_eq_true, Bool.or_eq_true, decide_eq_true_iff, decide_eq_true_iff] at hfl
    have hN : grid0.N = 114 := N_0
    rcases hfl.2 with h | ⟨h, hne⟩
    · omega
    · apply hne
      rw [hr', hr', coord_at, coord_at, show min (⟨u'.val + 1, h⟩ : Fin grid0.N).val ((used (pf 1)).toNat - 1) = min u'.val ((used (pf 1)).toNat - 1) from by
        show min (u'.val + 1) _ = _; omega]
section Decode

open Idealize.ShloMosaic.WordCmp (cmpi_sge_eq cmpi_sle_eq cmpi_slt_eq cmpi_eq_eq cmpi_ne_eq ofBool_decide_eq_one_iff)
open Cert.Pre_tables_ok (fn fn_part1 fn_part2 fn_part3 fn_cumsum fn_cumsum_0)

theorem and_one {a b : BitVec 1} : IntOp.andi a b = 1#1 ↔ a = 1#1 ∧ b = 1#1 := by revert a b; decide
theorem or_one {a b : BitVec 1} : IntOp.ori a b = 1#1 ↔ a = 1#1 ∨ b = 1#1 := by revert a b; decide
theorem sge_one {a b : BitVec 32} : IntOp.cmpi .sge a b = 1#1 ↔ b.toInt ≤ a.toInt := by rw [cmpi_sge_eq, ofBool_decide_eq_one_iff]
theorem sle_one {a b : BitVec 32} : IntOp.cmpi .sle a b = 1#1 ↔ a.toInt ≤ b.toInt := by rw [cmpi_sle_eq, ofBool_decide_eq_one_iff]
theorem slt_one {a b : BitVec 32} : IntOp.cmpi .slt a b = 1#1 ↔ a.toInt < b.toInt := by rw [cmpi_slt_eq, ofBool_decide_eq_one_iff]
theorem eq_one {a b : BitVec 32} : IntOp.cmpi .eq a b = 1#1 ↔ a = b := by rw [cmpi_eq_eq, ofBool_decide_eq_one_iff]
theorem ne_one {a b : BitVec 32} : IntOp.cmpi .ne a b = 1#1 ↔ a ≠ b := by rw [cmpi_ne_eq, ofBool_decide_eq_one_iff]

/-- The place of block `j + 1` in a table without its first word, or of block `j` in one without its last. -/
abbrev at113 (t : Fin 113) : (⟨1, ![113]⟩ : Shape).Idx := fun | ⟨0, _⟩ => t

/-- A table's slice from word `k` on, at place `t`. -/
theorem slice_at {n : ℕ} (k : ℕ) (x : IVec S114 32) (h : S114.Slices ![k] (⟨1, ![n]⟩ : Shape)) (i : (⟨1, ![n]⟩ : Shape).Idx) (t' : Fin 114) (ht : t'.val = k + (i 0).val) :
    extractStridedSlice (⟨1, ![n]⟩ : Shape) ![k] x h i = x (at114 t') := by
  refine congrArg x (funext fun a => ?_)
  obtain ⟨a, ha⟩ := a
  have : a = 0 := by simpa using ha
  subst this
  exact Fin.ext (by show k + _ = t'.val; rw [ht]; rfl)

/-- A word broadcast over a table, at any place. -/
theorem bc_word {s : Shape} (d : Fin Cert.Pre_tables_ok.S_.rank → Fin s.rank) (h : Cert.Pre_tables_ok.S_.BroadcastsInDim s d) (v : BitVec 32) (i : s.Idx) :
    broadcastInDim s d h (constantI Cert.Pre_tables_ok.S_ 32 v) i = v := rfl
theorem bc_used {s : Shape} (d : Fin S1.rank → Fin s.rank) (h : S1.BroadcastsInDim s d) (x : IVec S1 32) (i : s.Idx) :
    broadcastInDim s d h x i = used x := congrArg x (S1_idx _ _)

/-- How many runs open up to and including block `j`, as the sum the tables' condition takes. -/
theorem opens_sum (R : Fin 114 → BitVec 32) (f : ℕ → ℕ) (hf : ∀ k (h : k < 114), f k = if 0 ≤ (R ⟨k, h⟩).toInt then 1 else 0) :
    ∀ t, t ≤ 114 → ((List.range t).map f).sum = opens R t
  | 0, _ => rfl
  | t + 1, h => by
    rw [List.range_succ, List.map_append, List.sum_append, opens_sum R f hf t (by omega), opens, dif_pos (by omega : t < 114), ← hf]
    simp

theorem tabOK_of_pre [Cert.Pre_tables_ok.Facts] (a0 : IVec S114 32) (a1 : IVec S1 32) (a2 a3 a4 : IVec S114 32)
    (a5 : FVec F S116736x1024 .bf16) (a6 : FVec F S32x1024x2048 .f32) (a7 : FVec F S32x2048 .f32) (a8 : FVec F S32x1024x1024 .f32) (a9 : FVec F S32x1024 .f32)
    (h0 : (fn (F := F) a0 a1 a2 a3 a4 a5 a6 a7 a8 a9).1 = fun _ => 1#1)
    (h1 : (fn (F := F) a0 a1 a2 a3 a4 a5 a6 a7 a8 a9).2.1 = fun _ => 1#1)
    (h2 : (fn (F := F) a0 a1 a2 a3 a4 a5 a6 a7 a8 a9).2.2.1 = fun _ => 1#1)
    (h3 : (fn (F := F) a0 a1 a2 a3 a4 a5 a6 a7 a8 a9).2.2.2.1 = fun _ => 1#1)
    (h4 : (fn (F := F) a0 a1 a2 a3 a4 a5 a6 a7 a8 a9).2.2.2.2.1 = fun _ => 1#1)
    (h5 : (fn (F := F) a0 a1 a2 a3 a4 a5 a6 a7 a8 a9).2.2.2.2.2 = fun _ => 1#1) :
    TabOK (wordsOf a0) (wordsOf a2) (wordsOf a3) (wordsOf a4) (used a1) := by
  have b0 : 1 ≤ (used a1).toInt ∧ (used a1).toInt ≤ 114 := by
    have e : IntOp.andi (IntOp.cmpi .sge (used a1) 1#32) (IntOp.cmpi .sle (used a1) 114#32) = 1#1 :=
      congrFun h0 (Shape.Idx.first (show 0 < S1.numel by decide))
    rw [and_one, sge_one, sle_one] at e; exact e
  have b1 : ∀ j, ((0 ≤ (wordsOf a0 j).toInt ∧ (wordsOf a0 j).toInt < 32) ∧ 0 ≤ (wordsOf a4 j).toInt) ∧ (wordsOf a4 j).toInt ≤ 1024 := by
    intro j
    have e : IntOp.andi (IntOp.andi (IntOp.andi (IntOp.cmpi .sge (wordsOf a0 j) 0#32) (IntOp.cmpi .slt (wordsOf a0 j) 32#32))
        (IntOp.cmpi .sge (wordsOf a4 j) 0#32)) (IntOp.cmpi .sle (wordsOf a4 j) 1024#32) = 1#1 := congrFun h1 (at114 j)
    rw [and_one, and_one, and_one, sge_one, slt_one, sge_one, sle_one] at e; exact e
  have b2 : ∀ j j' : Fin 114, j'.val = j.val + 1 → (((wordsOf a2 j').toInt < 0 ∧ wordsOf a0 j' = wordsOf a0 j) ∧ wordsOf a3 j' = wordsOf a3 j
      ∨ (0 ≤ (wordsOf a2 j').toInt ∧ 0 ≤ (wordsOf a3 j).toInt) ∧ wordsOf a0 j' = wordsOf a3 j) ∨ (used a1).toInt ≤ (j'.val : ℤ) := by
    intro j j' hj
    have hl : j.val < 113 := by have := j'.isLt; omega
    have s0 : ∀ x h, extractStridedSlice (⟨1, ![113]⟩ : Shape) ![0] x h (at113 ⟨j.val, hl⟩) = x (at114 j) := fun x h => slice_at 0 x h _ _ (by show j.val = 0 + j.val; omega)
    have s1 : ∀ x h, extractStridedSlice (⟨1, ![113]⟩ : Shape) ![1] x h (at113 ⟨j.val, hl⟩) = x (at114 j') := fun x h => slice_at 1 x h _ _ (by show j'.val = 1 + j.val; omega)
    have e := congrFun h2 (at113 ⟨j.val, hl⟩)
    simp only [fn, fn_part1, fn_part2, fn_part3, ori, andi, cmpi, s0, s1, bc_word, bc_used, or_one, and_one, sge_one, slt_one, eq_one] at e
    have hi : (iotaInDim S114 32 0 (at114 j')).toInt = (j'.val : ℤ) := by
      have := j'.isLt
      show (BitVec.ofNat 32 j'.val).toInt = _
      rw [BitVec.toInt_eq_toNat_cond, BitVec.toNat_ofNat]; split_ifs <;> omega
    rw [hi] at e
    exact e
  have b3 : ∀ j : Fin 114, (j.val : ℤ) + 1 = (used a1).toInt → (wordsOf a3 j).toInt < 0 := by
    intro j hj
    have e := congrFun h3 (at114 j)
    simp only [fn, fn_part1, fn_part2, fn_part3, ori, cmpi, bc_word, bc_used, or_one, ne_one, slt_one] at e
    have e : BitVec.ofNat 32 j.val ≠ IntOp.subi (used a1) 1#32 ∨ (wordsOf a3 j).toInt < 0 := e
    refine e.resolve_left fun h => h ?_
    have hl := j.isLt
    have hu : used a1 = BitVec.ofNat 32 (j.val + 1) := ofNat_of_toInt (by omega) (by rw [← hj]; rfl)
    rw [hu]
    apply BitVec.eq_of_toNat_eq
    show _ = (BitVec.ofNat 32 (j.val + 1) - 1#32).toNat
    rw [BitVec.toNat_sub, BitVec.toNat_ofNat, BitVec.toNat_ofNat]
    simp; omega
  have b4 : (wordsOf a2 0).toInt = 0 := by
    have e : IntOp.cmpi .eq (wordsOf a2 0) 0#32 = 1#1 := by
      have e := congrFun h4 (Shape.Idx.first (show 0 < S1.numel by decide))
      have hs : ∀ h, extractStridedSlice S1 ![0] a2 h (Shape.Idx.first (show 0 < S1.numel by decide)) = a2 (at114 0) := fun h => by
        refine congrArg a2 (funext fun a => ?_)
        obtain ⟨a, ha⟩ := a
        have : a = 0 := by simpa using ha
        subst this
        exact Fin.ext rfl
      simp only [fn, fn_part1, fn_part2, fn_part3, cmpi, hs] at e
      exact e
    rw [eq_one] at e; rw [e]; rfl
  have b5 : ∀ j, 0 ≤ (wordsOf a2 j).toInt → (wordsOf a2 j).toInt = opens (wordsOf a2) j.val := by
    intro j hj
    have e := congrFun h5 (at114 j)
    simp only [fn, fn_part1, fn_part2, fn_part3, fn_cumsum, fn_cumsum_0, cmpi, ori, subi, bc_word, or_one, slt_one, eq_one] at e
    have e := e.resolve_left (not_lt.2 hj)
    let f : ℕ → ℕ := fun k => if h : k < 114 then if 0 ≤ (wordsOf a2 ⟨k, h⟩).toInt then 1 else 0 else 0
    have hc := Routing.cumsum1 (N := 114) (Nm1 := 113) rfl
      (extui 32 (cmpi .sge a2 (broadcastInDim S114 ![] Cert.Pre_tables_ok.Facts.bcast_S_S114 (constantI Cert.Pre_tables_ok.S_ 32 0#32))) Cert.Pre_tables_ok.Facts.natLt_1_32) f
      (fun i => by
        rw [ix1_at114]
        show (IntOp.cmpi .sge (wordsOf a2 i) 0#32).setWidth 32 = BitVec.ofNat 32 (if h : i.val < 114 then if 0 ≤ (wordsOf a2 ⟨i.val, h⟩).toInt then 1 else 0 else 0)
        rw [dif_pos i.isLt, cmpi_sge_eq]
        by_cases hp : 0 ≤ (wordsOf a2 i).toInt
        · rw [if_pos hp, decide_eq_true (show (0#32).toInt ≤ _ from hp)]; rfl
        · rw [if_neg hp, decide_eq_false (show ¬ (0#32).toInt ≤ _ from hp)]; rfl)
      (broadcastInDim Cert.Pre_tables_ok.S_ ![] Cert.Pre_tables_ok.Facts.bcast_S_S_ (constantI Cert.Pre_tables_ok.S_ 32 0#32)) rfl
      Cert.Pre_tables_ok.Facts.reduceWindows_S114_S114_w114s1p113_0 Cert.Pre_tables_ok.Facts.h_S_ j
    rw [opens_sum (wordsOf a2) f (fun k h => by show (if h : k < 114 then _ else _) = _; rw [dif_pos h]) _ (by have := j.isLt; omega), opens, dif_pos j.isLt, if_pos hj] at hc
    have hle := opens_le (wordsOf a2) j.val
    have hl := j.isLt
    rw [ix1_at114] at hc
    have e' : wordsOf a2 j = BitVec.ofNat 32 (opens (wordsOf a2) j.val + 1) - 1#32 := e.trans (congrArg (fun z => IntOp.subi z 1#32) hc)
    have e'' : wordsOf a2 j = BitVec.ofNat 32 (opens (wordsOf a2) j.val) := by
      rw [e']
      apply BitVec.eq_of_toNat_eq
      rw [BitVec.toNat_sub, BitVec.toNat_ofNat, BitVec.toNat_ofNat]
      simp; omega
    rw [e'', BitVec.toInt_eq_toNat_cond, BitVec.toNat_ofNat]; split_ifs <;> omega
  exact ⟨b0.1, b0.2, fun j => (b1 j).1.1.1, fun j => (b1 j).1.1.2, fun j => (b1 j).1.2, fun j => (b1 j).2,
    fun j j' h => (b2 j j' h).elim (fun h => h.elim (fun h => .inl ⟨h.1.1, h.1.2, h.2⟩) (fun h => .inr (.inl ⟨h.1.1, h.1.2, h.2⟩))) (fun h => .inr (.inr h)), b3, b4, b5⟩

end Decode

end Cert.KernelIdeal.Hand

end
-- ==== Proof.Frame.lean ====
module

public import proofs.«01_k».proof.Proof.Slots
public import proofs.«01_k».proof.Proof.Gen.KernelIdeal.Skeleton
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Ends
public import proofs.«01_k».proof.Proof.Step
public import proofs.«01_k».proof.Proof.Tables

/-! The region's proof data, the body's obligation, and the run. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (g : Dev nD → PrngReg)

/-- Core `c`'s buffers at the region's entry: the launch's, the output's buffer a copy of the rows. -/
def V (c : Dev nD) (b : Ref sig .tc) : Buf (Elt F) ((c : Thread nD τ).loc b) := StableHlo.after hostOps0 (fun b => m (c, b)) b

theorem hmain : Pipeline.HMainP (Ix := Unit) (Name := ℕ) (U := Pipeline.UD sig nD τ) (Lvl := ℕ) (pcfgs (F := F)) 0 defs₀ Variants.none m main (V m) :=
  Pipeline.hmainP_prefix pcfgs 0 defs₀ Variants.none m main hostOps0 hostOps0_sub rfl main_chain

/-- The tables are as the kernel needs them. -/
def TabsOK : Prop := ∀ c : Dev nD, TabOK (wordsOf (V m c main_arg0)) (wordsOf (V m c main_arg2)) (wordsOf (V m c main_arg3))
  (wordsOf (V m c main_arg4)) (used (V m c main_arg1))

variable (ok : TabsOK m)

/-- The tables' contents, which the region's side condition admits. -/
def adm : (pcfg0 (F := F)).Adm :=
  ⟨fun k => V m 0 (pre0.ref k), ok_of_used _ (ok 0).nu_pos (ok 0).nu_le⟩

abbrev cfgA : Pipeline.Cfg sig Λ₀ := cfg0 (adm m ok)

/-- A grid point as a block number. -/
abbrev blk (t : Fin grid0.N) : Fin 114 := ⟨t.val, N_0 ▸ t.isLt⟩

/-- What the windows' arrays hold at entry, as relational data that says nothing more. -/
def fetches (c : Dev nD) : Pipeline.RDat τ (Elt F) Unit ℕ (Pipeline.UD sig nD τ) ℕ (cfgA m ok) c where
  A w := V m c (Pipeline.arrRef spec0 w)
  after _ _ _ _ := True
  Φ _ := BIBase.emp
  q _ := fullShare
  owed _ := 0

/-- What the kernel leaves in a window's buffer at point `t`: an input as found, the output block as `After` says. -/
def left (c : Dev nD) : (w : Fin 4) → (t : Fin grid0.N) → (Y X : (spec0 w).block.Idx → Elt F (spec0 w).elt) → Prop
  | 0, _, Y, X => X = Y
  | 1, _, Y, X => X = Y
  | 2, _, Y, X => X = Y
  | 3, t, Y, X => ∃ d0 d1 d2, After c (wordsOf (V m c main_arg0)) (wordsOf (V m c main_arg4)) (used (V m c main_arg1)) (V m c main_arg6) (V m c main_arg8)
      ((fetches m ok c).fetched 1 t d1) ((fetches m ok c).fetched 2 t d2) (blk t) ((fetches m ok c).fetched 0 t d0) Y X
  | ⟨_ + 4, h⟩, _, _, _ => absurd h (Nat.not_lt.2 (Nat.le_add_left _ _))

/-- The proof data: the arrays at entry, what each point leaves, the invariant, nothing owed, full shares. -/
def rdat (c : Dev nD) : Pipeline.RDat τ (Elt F) Unit ℕ (Pipeline.UD sig nD τ) ℕ (cfgA m ok) c where
  A w := V m c (Pipeline.arrRef spec0 w)
  after w t Y X := left m ok c w t Y X
  Φ t := iprop(Tbls c (V m c main_arg0) (V m c main_arg1) (V m c main_arg2) (V m c main_arg3) (V m c main_arg4)
    ∗ Inv c (wordsOf (V m c main_arg0)) (wordsOf (V m c main_arg2)) (wordsOf (V m c main_arg3)) (used (V m c main_arg1)) (V m c main_arg6) (V m c main_arg8) t.val
    ∗ (∃ r, prngReg c r) ∗ Kept c upM (V m c main_arg6) ∗ Kept c dnM (V m c main_arg8))
  q _ := fullShare
  owed _ := 0

/-- The body at a point, on the point's staging buffers. -/
abbrev bodyAt (t : Fin grid0.N) (s : (w : Fin 4) → Fin (spec0 w).nbuf) :=
  cc0_ffn (F := F) (grid0.coords t) tbE (Memref.isWhole_whole _) tbU (Memref.isWhole_whole _) tbR (Memref.isWhole_whole _) tbX (Memref.isWhole_whole _)
    tbV (Memref.isWhole_whole _) (spec0_0.stage (s 0)) (hstage0_0 ((s 0).cast nbuf0_0)) upM (Memref.isWhole_whole _)
    (spec0_1.stage (s 1)) (hstage0_1 ((s 1).cast nbuf0_1)) dnM (Memref.isWhole_whole _) (spec0_2.stage (s 2)) (hstage0_2 ((s 2).cast nbuf0_2))
    (spec0_3.stage (s 3)) (hstage0_3 ((s 3).cast nbuf0_3))
    upS (Memref.isWhole_whole _) dnS (Memref.isWhole_whole _) upB (Memref.isWhole_whole _) dnB (Memref.isWhole_whole _) cc0_scratch4

theorem defs₀_row (t : Fin (cfgA m ok).N) :
    defs₀ (F := F) .tc (cfgA m ok).body ((cfgA m ok).bodyArgs t ((cfgA m ok).slots t)) = bodyAt t ((cfgA m ok).slots t) := by
  unfold defs₀; rw [Defs.onTc_tc]

/-- An input window's buffer holds its block wherever the body is handed it. -/
theorem found (c : Dev nD) (w : Fin 4) (hw : (spec0 w).isOut = false) (hk : ∀ t Y X, left m ok c w t Y X → X = Y)
    (t : Fin (cfgA m ok).N) (Y) (h : (rdat m ok c).Finds w t Y) : ∃ d, Y = (fetches m ok c).fetched w t d :=
  (rdat m ok c).finds_in_eq_fetched w hw (fun _ _ _ => by fin_cases w <;> rfl) hk t Y h

theorem sound_body (c : Dev nD) (t : Fin (cfgA m ok).N)
    (Y : (w : Fin 4) → (spec0 w).block.Idx → Elt F (spec0 w).elt) (hY : ∀ w, (rdat m ok c).Finds w t (Y w)) :
    iprop((rdat m ok c).Φ t.castSucc ∗ (rdat m ok c).owesAt () t.castSucc
      ∗ owns (c : Thread nD τ) (spec0_0.stage ((cfgA m ok).slots t 0)) fullShare (Y 0)
      ∗ owns (c : Thread nD τ) (spec0_1.stage ((cfgA m ok).slots t 1)) fullShare (Y 1)
      ∗ owns (c : Thread nD τ) (spec0_2.stage ((cfgA m ok).slots t 2)) fullShare (Y 2)
      ∗ owns (c : Thread nD τ) (spec0_3.stage ((cfgA m ok).slots t 3)) fullShare (Y 3))
    ⊢ wp frame (wpE (defs₀ (F := F)) Variants.none c none) Set.univ (bodyAt t ((cfgA m ok).slots t)) (fun _ =>
      iprop((rdat m ok c).Φ t.succ ∗ (rdat m ok c).owesAt () t.succ
      ∗ (∃ X, ⌜left m ok c 0 t (Y 0) X⌝ ∗ owns (c : Thread nD τ) (spec0_0.stage ((cfgA m ok).slots t 0)) fullShare X)
      ∗ (∃ X, ⌜left m ok c 1 t (Y 1) X⌝ ∗ owns (c : Thread nD τ) (spec0_1.stage ((cfgA m ok).slots t 1)) fullShare X)
      ∗ (∃ X, ⌜left m ok c 2 t (Y 2) X⌝ ∗ owns (c : Thread nD τ) (spec0_2.stage ((cfgA m ok).slots t 2)) fullShare X)
      ∗ (∃ X, ⌜left m ok c 3 t (Y 3) X⌝ ∗ owns (c : Thread nD τ) (spec0_3.stage ((cfgA m ok).slots t 3)) fullShare X))) := by
  obtain ⟨d0, h0⟩ := found m ok c 0 rfl (fun _ _ _ h => h) t (Y 0) (hY 0)
  obtain ⟨d1, h1⟩ := found m ok c 1 rfl (fun _ _ _ h => h) t (Y 1) (hY 1)
  obtain ⟨d2, h2⟩ := found m ok c 2 rfl (fun _ _ _ h => h) t (Y 2) (hY 2)
  have hp := point c (grid0.coords t) (spec0_0.stage ((cfgA m ok).slots t 0)) (hstage0_0 (((cfgA m ok).slots t 0).cast nbuf0_0))
    (spec0_1.stage ((cfgA m ok).slots t 1)) (hstage0_1 (((cfgA m ok).slots t 1).cast nbuf0_1))
    (spec0_2.stage ((cfgA m ok).slots t 2)) (hstage0_2 (((cfgA m ok).slots t 2).cast nbuf0_2))
    (spec0_3.stage ((cfgA m ok).slots t 3)) (hstage0_3 (((cfgA m ok).slots t 3).cast nbuf0_3))
    (V m c main_arg0) (V m c main_arg1) (V m c main_arg2) (V m c main_arg3) (V m c main_arg4) (V m c main_arg6) (V m c main_arg8)
    (wordsOf (V m c main_arg0)) (wordsOf (V m c main_arg2)) (wordsOf (V m c main_arg3)) (wordsOf (V m c main_arg4)) (used (V m c main_arg1))
    (ok c) (blk t) (coord_at t) (fun _ => rfl) (fun _ => rfl) (fun _ => rfl) (fun _ => rfl)
    (congrArg (V m c main_arg1) (S1_idx _ _)) (Y 0) (Y 3) (Y 1) (Y 2)
  rw [show (rdat m ok c).Φ t.castSucc = iprop(Tbls c (V m c main_arg0) (V m c main_arg1) (V m c main_arg2) (V m c main_arg3) (V m c main_arg4)
      ∗ Inv c (wordsOf (V m c main_arg0)) (wordsOf (V m c main_arg2)) (wordsOf (V m c main_arg3)) (used (V m c main_arg1)) (V m c main_arg6) (V m c main_arg8) (blk t).val
      ∗ (∃ r, prngReg c r) ∗ Kept c upM (V m c main_arg6) ∗ Kept c dnM (V m c main_arg8)) from rfl,
    show (rdat m ok c).Φ t.succ = iprop(Tbls c (V m c main_arg0) (V m c main_arg1) (V m c main_arg2) (V m c main_arg3) (V m c main_arg4)
      ∗ Inv c (wordsOf (V m c main_arg0)) (wordsOf (V m c main_arg2)) (wordsOf (V m c main_arg3)) (used (V m c main_arg1)) (V m c main_arg6) (V m c main_arg8) ((blk t).val + 1)
      ∗ (∃ r, prngReg c r) ∗ Kept c upM (V m c main_arg6) ∗ Kept c dnM (V m c main_arg8)) from rfl]
  unfold Pipeline.RDat.owesAt Pipeline.owesWithin
  rw [show (rdat m ok c).owed t.castSucc = 0 from rfl, show (rdat m ok c).owed t.succ = 0 from rfl]
  have key := (Laws.sep_mono hp (BIBase.Entails.rfl (P := iprop((∃ r, prngReg c r) ∗ Kept c upM (V m c main_arg6) ∗ Kept c dnM (V m c main_arg8))))).trans
    (wp_frame_r _ _ _)
  refine BIBase.Entails.trans ?_ (key.trans (wp_mono _ _ _ fun _ => ?_))
  · iintro ⟨⟨HT, HI, Hg, Hku, Hkd⟩, ⟨%W, -, HW⟩, H0, H1, H2, H3⟩
    isplitr [Hg Hku Hkd]; swap
    · isplitl [Hg]; · iexact Hg
      isplitl [Hku]; · iexact Hku
      iexact Hkd
    isplitl [HT]; · iexact HT
    isplitl [HI]; · iexact HI
    isplitl [H0]; · iexact H0
    isplitl [H1]; · iexact H1
    isplitl [H2]; · iexact H2
    isplitl [H3]; · iexact H3
    iexists W; iexact HW
  · iintro ⟨⟨HT, HI, H0, H1, H2, ⟨%X, %hX, H3⟩, ⟨%W, HW⟩⟩, Hg, Hku, Hkd⟩
    isplitl [HT HI Hg Hku Hkd]
    · isplitl [HT]; · iexact HT
      isplitl [HI]; · iexact HI
      isplitl [Hg]; · iexact Hg
      isplitl [Hku]; · iexact Hku
      iexact Hkd
    isplitl [HW]
    · iexists W; isplitr; · ipureintro; exact fun _ _ => Or.inl trivial
      iexact HW
    isplitl [H0]
    · iexists _; isplitr; swap; · iexact H0
      ipureintro; exact rfl
    isplitl [H1]
    · iexists _; isplitr; swap; · iexact H1
      ipureintro; exact rfl
    isplitl [H2]
    · iexists _; isplitr; swap; · iexact H2
      ipureintro; exact rfl
    iexists X; isplitr; swap; · iexact H3
    ipureintro; exact ⟨d0, d1, d2, h1 ▸ h2 ▸ h0 ▸ hX⟩

theorem body_obligation (c : Dev nD) : (rdat m ok c).BodyObligation (defs₀ (F := F)) Variants.none () Set.univ := fun t Y hY => by
  rw [bigSep_W0, bigSep_W0, defs₀_row]
  exact triple_restated (sound_body m ok c t Y hY) rfl .rfl fun _ => .rfl

/-! ## The region's two ends -/

/-- The body's two cells, one per slot, and the arrays it reads itself. -/
abbrev osem0 : Fin 2 → SemLoc sig := ![SemLoc.dma 6, SemLoc.dma 7]
theorem ownSemFacts0 : Pipeline.OwnSemFacts spec0 osem0 := by decide
def H0 : Finset (Ref sig .tc) := {main_arg6, main_arg8}
theorem H0_sub : H0 ⊆ Pipeline.restRefsP sig pre0 spec0 := by decide

theorem own_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0) := by
  rw [Pipeline.ownSems0_eq_of_list c osem0 [0, 1] (by decide) (by decide)]; rfl
theorem hbm_eq (c : Dev nD) :
    (bigSep H0 (fun b => ((c : Thread nD τ).loc b) ↦{fullShare} V m c b) : sProp 𝕄)
      = iprop(pt c upM fullShare (V m c main_arg6) ∗ pt c dnM fullShare (V m c main_arg8)) := by
  rw [BI.bigSep_eq_bigSepL_of_eq [main_arg6, main_arg8] (by decide) (by decide), pt_whole, pt_whole]; rfl
theorem pref_eq (c : Dev nD) (q : PosShare TreeShare) (v : pre0.Contents (Elt F)) :
    (Pipeline.prefHeld pre0 c (fun _ => q) v : sProp 𝕄)
      = iprop((((c : Thread nD τ).loc main_arg0) ↦{q} (show Buf (Elt F) ((c : Thread nD τ).loc main_arg0) from v 0))
        ∗ (((c : Thread nD τ).loc main_arg1) ↦{q} (show Buf (Elt F) ((c : Thread nD τ).loc main_arg1) from v 1))
        ∗ (((c : Thread nD τ).loc main_arg2) ↦{q} (show Buf (Elt F) ((c : Thread nD τ).loc main_arg2) from v 2))
        ∗ (((c : Thread nD τ).loc main_arg3) ↦{q} (show Buf (Elt F) ((c : Thread nD τ).loc main_arg3) from v 3))
        ∗ (((c : Thread nD τ).loc main_arg4) ↦{q} (show Buf (Elt F) ((c : Thread nD τ).loc main_arg4) from v 4))) := by
  unfold Pipeline.prefHeld
  rw [bigSep_univ_eq_bigSepL [0, 1, 2, 3, 4] (by decide) (by decide)]; rfl

theorem adm_at (c : Dev nD) (k : Fin 5) : V m c (pre0.ref k) = (adm m ok).1 k := by
  obtain rfl : c = 0 := Subsingleton.elim _ _
  rfl

theorem tbls_eq (c : Dev nD) (te : BufOf (F := F) c tbE) (tu : BufOf (F := F) c tbU) (tr : BufOf (F := F) c tbR) (tx : BufOf (F := F) c tbX) (tv : BufOf (F := F) c tbV) :
    (Tbls c te tu tr tx tv : sProp 𝕄) = iprop((((c : Thread nD τ).loc main_arg4) ↦{fullShare.right} tv) ∗ (((c : Thread nD τ).loc main_arg1) ↦{fullShare.right} tu)
      ∗ (((c : Thread nD τ).loc main_arg2) ↦{fullShare.right} tr) ∗ (((c : Thread nD τ).loc main_arg0) ↦{fullShare.right} te)
      ∗ (((c : Thread nD τ).loc main_arg3) ↦{fullShare.right} tx)) := by
  unfold Tbls; rw [pt_whole, pt_whole, pt_whole, pt_whole, pt_whole]

theorem hin (c : Dev nD) : iprop(Pipeline.ΦD osem0 spec0 H0 (V m) c ∗ Pipeline.ΦT pre0 (adm m ok).1 c) ⊢ (rdat m ok c).Φ 0 := by
  obtain rfl : c = 0 := Subsingleton.elim _ _
  rw [Pipeline.ΦD_eq, scopedRest0_eq, own_eq, hbm_eq]
  unfold Pipeline.ΦT
  rw [pref_eq]
  rw [show (rdat m ok 0).Φ 0 = iprop(Tbls 0 (V m 0 main_arg0) (V m 0 main_arg1) (V m 0 main_arg2) (V m 0 main_arg3) (V m 0 main_arg4)
      ∗ Inv 0 (wordsOf (V m 0 main_arg0)) (wordsOf (V m 0 main_arg2)) (wordsOf (V m 0 main_arg3)) (used (V m 0 main_arg1)) (V m 0 main_arg6) (V m 0 main_arg8) 0
      ∗ (∃ r, prngReg 0 r) ∗ Kept 0 upM (V m 0 main_arg6) ∗ Kept 0 dnM (V m 0 main_arg8)) from rfl, tbls_eq, Inv_zero,
      show (adm m ok).1 0 = V m 0 main_arg0 from rfl, show (adm m ok).1 1 = V m 0 main_arg1 from rfl, show (adm m ok).1 2 = V m 0 main_arg2 from rfl,
      show (adm m ok).1 3 = V m 0 main_arg3 from rfl, show (adm m ok).1 4 = V m 0 main_arg4 from rfl]
  iintro ⟨⟨⟨HU, HD, ⟨%fu, Hu⟩, ⟨%fd, Hd⟩⟩, Hg, ⟨H6, H7⟩, Hwu, Hwd⟩, HE, HN, HR, HX, HV⟩
  ihave HS := (enter 0 (V m 0 main_arg6) (V m 0 main_arg8)) $$ [HU HD H6 H7 Hwu Hwd]
  · isplitl [HU]; · iexact HU
    isplitl [HD]; · iexact HD
    isplitl [H6]; · iexact H6
    isplitl [H7]; · iexact H7
    isplitl [Hwu]; · iexact Hwu
    iexact Hwd
  icases HS with ⟨HS0, HS1, Hku, Hkd⟩
  isplitl [HE HN HR HX HV]
  · isplitl [HV]; · iexact HV
    isplitl [HN]; · iexact HN
    isplitl [HR]; · iexact HR
    isplitl [HE]; · iexact HE
    iexact HX
  isplitl [HS0 HS1 Hu Hd]
  · isplitl [HS0]; · iexact HS0
    isplitl [HS1]; · iexact HS1
    isplitl [Hu]
    · iexists fu; iapply (pt_in _ _ _ _); iexact Hu
    iexists fd; iapply (pt_in _ _ _ _); iexact Hd
  isplitl [Hg]; · iexact Hg
  isplitl [Hku]; · iexact Hku
  iexact Hkd

include ok in
/-- After the last point no copy is in flight: the last block in use closes the last run. -/
theorem last_free (c : Dev nD) : ¬ 0 ≤ ((wordsOf (V m c main_arg3)) (lastBlk (used (V m c main_arg1)) 114)).toInt := by
  have h1 := (ok c).nu_pos
  have h2 := (ok c).nu_le
  have hn : (used (V m c main_arg1)).toInt = (used (V m c main_arg1)).toNat := by
    have := (used (V m c main_arg1)).isLt
    rw [BitVec.toInt_eq_toNat_cond] at h1 h2 ⊢
    split_ifs at h1 h2 ⊢ <;> omega
  have h := (ok c).last (lastBlk (used (V m c main_arg1)) 114) (by
    show ((min (min 114 (used (V m c main_arg1)).toNat - 1) 113 : ℕ) : ℤ) + 1 = _
    omega)
  omega

theorem hout (c : Dev nD) : (rdat m ok c).Φ (Fin.last (cfgA m ok).N) ⊢ Pipeline.ΦD osem0 spec0 H0 (V m) c := by
  rw [Pipeline.ΦD_eq, scopedRest0_eq, own_eq, hbm_eq]
  rw [show (rdat m ok c).Φ (Fin.last (cfgA m ok).N) = iprop(Tbls c (V m c main_arg0) (V m c main_arg1) (V m c main_arg2) (V m c main_arg3) (V m c main_arg4)
      ∗ Inv c (wordsOf (V m c main_arg0)) (wordsOf (V m c main_arg2)) (wordsOf (V m c main_arg3)) (used (V m c main_arg1)) (V m c main_arg6) (V m c main_arg8) grid0.N
      ∗ (∃ r, prngReg c r) ∗ Kept c upM (V m c main_arg6) ∗ Kept c dnM (V m c main_arg8)) from rfl, Gen.N_0, Inv_pos _ _ _ _ _ _ _ (by decide),
      St_free _ _ _ _ _ (last_free m ok c)]
  unfold Held
  iintro ⟨-, ⟨⟨HS0, HS1⟩, ⟨%hu, %hd, %fu, %fd, -, -, Hu, Hd⟩⟩, Hg, Hku, Hkd⟩
  ihave HS := (leave c (V m c main_arg6) (V m c main_arg8)) $$ [HS0 HS1 Hku Hkd]
  · isplitl [HS0]; · iexact HS0
    isplitl [HS1]; · iexact HS1
    isplitl [Hku]; · iexact Hku
    iexact Hkd
  icases HS with ⟨HU, HD, H6, H7, Hwu, Hwd⟩
  isplitl [HU HD Hu Hd]
  · isplitl [HU]; · iexact HU
    isplitl [HD]; · iexact HD
    isplitl [Hu]
    · iexists fu; iapply (pt_out _ _ _ _); iexact Hu
    iexists fd; iapply (pt_out _ _ _ _); iexact Hd
  isplitl [Hg]; · iexact Hg
  isplitl [H6 H7]
  · isplitl [H6]; · iexact H6
    iexact H7
  isplitl [Hwu]; · iexact Hwu
  iexact Hwd

/-! ## The run -/

set_option backward.isDefEq.respectTransparency.types false in
theorem run_main : θ_run defs (onTc (τ := τ) (main (F := F))) (s₀ m g)
    (fun r => Pipeline.RDat.FramePost (cfgA m ok) (rdat m ok) (V m) r ∧ r.2.sem = fun _ => 0) :=
  Pipeline.RDat.θ_run_frameP_dma (Q' := _) pcfgs (fun _ => adm m ok) (0 : Fin 1) launch0 osem0 defs₀ Variants.none (rdat m ok) ownSemFacts0 H0 H0_sub m g main
    (hbody := body_obligation m ok) (hshare := fun c => (rdat m ok c).share_full fun _ => rfl)
    (howed := fun _ _ => rfl) (V := V m) (hmain := hmain m) (hA := fun _ _ => rfl) (hpf := adm_at m ok)
    (hin := hin m ok) (hout := hout m ok)

/-! ## The frame -/

theorem V_arg (c : Dev nD) (b : Ref sig .tc) (hb : b ≠ main_v0) : V m c b = m ((c : Thread nD τ).loc b) := by
  unfold V; rw [StableHlo.after_cons, StableHlo.after_nil, StableHlo.unary_result_ne main_arg5 main_v0 id _ _ _ hb]

/-- The arguments end as they were. -/
theorem args_kept (r : PUnit × MemSt nD τ sig (Elt F)) (h : Pipeline.RDat.FramePost (cfgA m ok) (rdat m ok) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  have a0 : r.2.mem ((c.tc : Thread nD τ).loc main_arg0) = V m c main_arg0 := (h c).2 main_arg0 (show main_arg0 ∈ Pipeline.restRefs sig spec0 by decide)
  have a1 : r.2.mem ((c.tc : Thread nD τ).loc main_arg1) = V m c main_arg1 := (h c).2 main_arg1 (show main_arg1 ∈ Pipeline.restRefs sig spec0 by decide)
  have a2 : r.2.mem ((c.tc : Thread nD τ).loc main_arg2) = V m c main_arg2 := (h c).2 main_arg2 (show main_arg2 ∈ Pipeline.restRefs sig spec0 by decide)
  have a3 : r.2.mem ((c.tc : Thread nD τ).loc main_arg3) = V m c main_arg3 := (h c).2 main_arg3 (show main_arg3 ∈ Pipeline.restRefs sig spec0 by decide)
  have a4 : r.2.mem ((c.tc : Thread nD τ).loc main_arg4) = V m c main_arg4 := (h c).2 main_arg4 (show main_arg4 ∈ Pipeline.restRefs sig spec0 by decide)
  have a5 : r.2.mem ((c.tc : Thread nD τ).loc main_arg5) = V m c main_arg5 := Pipeline.RDat.FramePost.arr_in h c 0 rfl
  have a6 : r.2.mem ((c.tc : Thread nD τ).loc main_arg6) = V m c main_arg6 := (h c).2 main_arg6 (show main_arg6 ∈ Pipeline.restRefs sig spec0 by decide)
  have a7 : r.2.mem ((c.tc : Thread nD τ).loc main_arg7) = V m c main_arg7 := Pipeline.RDat.FramePost.arr_in h c 1 rfl
  have a8 : r.2.mem ((c.tc : Thread nD τ).loc main_arg8) = V m c main_arg8 := (h c).2 main_arg8 (show main_arg8 ∈ Pipeline.restRefs sig spec0 by decide)
  have a9 : r.2.mem ((c.tc : Thread nD τ).loc main_arg9) = V m c main_arg9 := Pipeline.RDat.FramePost.arr_in h c 2 rfl
  exact ⟨a0.trans (V_arg m c main_arg0 (by decide)), a1.trans (V_arg m c main_arg1 (by decide)), a2.trans (V_arg m c main_arg2 (by decide)), a3.trans (V_arg m c main_arg3 (by decide)), a4.trans (V_arg m c main_arg4 (by decide)), a5.trans (V_arg m c main_arg5 (by decide)), a6.trans (V_arg m c main_arg6 (by decide)), a7.trans (V_arg m c main_arg7 (by decide)), a8.trans (V_arg m c main_arg8 (by decide)), a9.trans (V_arg m c main_arg9 (by decide))⟩

include ok in
/-- Every run ends, with the arguments as they were and every semaphore at zero. -/
theorem frame : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r (h : _ ∧ _) => ⟨args_kept m ok r h.1, h.2⟩) (run_main m g ok)

end Cert.KernelIdeal.Hand

end
-- ==== Proof.OnBits.lean ====
/-
# The experts' frame on the bits

The program that is printed and the one that its idealization prints are the same, of any floats: their kernels, windows and
body tables are equal. So the frame of the second, which is proved of any floats, is the first's.
-/
module

public import proofs.«01_k».proof.Proof.Frame
public import proofs.«01_k».proof.Proof.Gen.Kernel
public import proofs.«01_k».proof.Proof.Gen.Pre_tables_ok
public import proofs.«01_k».proof.Defs

@[expose] public section

set_option maxRecDepth 16384

noncomputable section

namespace Cert.Kernel.Hand

open Cert.Kernel
open Idealize.ShloMosaic Idealize.ShloMosaic.TcCoe Idealize.SL Idealize.SL.Sem

variable {F : FTy → Type} [FloatOps F]

set_option maxHeartbeats 1000000 in
/-- The kernels' tables are equal. -/
theorem kernels_eq : Cert.Kernel.defs₀ (F := F) = Cert.KernelIdeal.defs₀ (F := F) := by
  unfold Cert.Kernel.defs₀ Cert.KernelIdeal.defs₀
  refine congrArg _ (funext fun l => funext fun a => ?_)
  match l, a with
  | 0, (t, s) => rfl
  | ⟨_ + 1, h⟩, _ => exact absurd h (Nat.not_lt.2 (Nat.le_add_left _ _))

set_option maxHeartbeats 1000000 in
/-- The body tables are equal. -/
theorem bodies_eq : Cert.Kernel.defs (F := F) = Cert.KernelIdeal.defs (F := F) :=
  congrArg (Idealize.ShloMosaic.Pipeline.defs Cert.Kernel.pcfgs) kernels_eq

variable (m : (ℓ : Loc nD τ sig) → Buf (Elt F) ℓ) (g : Dev nD → PrngReg)

set_option maxHeartbeats 1000000 in
/-- **The frame**: the arguments end unchanged, the counters at zero. -/
theorem frame (ok : Cert.KernelIdeal.Hand.TabsOK (F := F) m) : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (congrArg (fun D => θ_run D (onTc (τ := τ) (main (F := F))) ⟨m, fun _ => 0, g⟩ _) bodies_eq).mpr (Cert.KernelIdeal.Hand.frame (F := F) m g ok)

/-- The precondition gives the tables that the frame needs. -/
theorem tables (m) (h : Cert.Pre_Kernel m) : Cert.KernelIdeal.Hand.TabsOK (F := Bits) m := fun c => by
  obtain ⟨h0, h1, h2, h3, h4, h5⟩ := h c
  have key := Cert.KernelIdeal.Hand.tabOK_of_pre (F := Bits) _ _ _ _ _ _ _ _ _ _ h0 h1 h2 h3 h4 h5
  rw [Cert.KernelIdeal.Hand.V_arg m c Cert.KernelIdeal.main_arg0 (by decide), Cert.KernelIdeal.Hand.V_arg m c Cert.KernelIdeal.main_arg1 (by decide),
    Cert.KernelIdeal.Hand.V_arg m c Cert.KernelIdeal.main_arg2 (by decide), Cert.KernelIdeal.Hand.V_arg m c Cert.KernelIdeal.main_arg3 (by decide),
    Cert.KernelIdeal.Hand.V_arg m c Cert.KernelIdeal.main_arg4 (by decide)]
  exact key

end Cert.Kernel.Hand
end
-- ==== Proof.Row.lean ====
/-
# The feed-forward formula of one row

`ffnRow` is the clamped SwiGLU expert applied to one row, over the extended reals, with the sigmoid in the half-angle `tanh`
form of the kernel. `half_tanh` says that this form is the logistic function of the reference, at every extended real.
-/
module

public import Idealize.ShloMosaic.Lib.Pointwise

@[expose] public section
noncomputable section
namespace Cert.Ffn
open Idealize.ShloMosaic

/-- The word of one half, read as an extended real. -/
theorem half_word : Ideal.ofBits FTy.f32 1056964608#32 = ((1 / 2 : ℝ) : EReal) := by
  simp only [Ideal.ofBits, Ideal.ieee]
  simp [← EReal.coe_mul]
  norm_num

/-- The word of one. -/
theorem one_word : Ideal.ofBits FTy.f32 0x3F800000#32 = 1 := by
  simp only [Ideal.ofBits, Ideal.ieee]
  simp [← EReal.coe_mul]
  norm_num

/-- `tanh` of half the argument, moved to `[0, 1]`, is the logistic function: on the reals. -/
theorem half_tanh_real (r : ℝ) : 1 / 2 * Real.tanh (1 / 2 * r) + 1 / 2 = (1 + Real.exp (-r))⁻¹ := by
  rw [Real.tanh_eq_sinh_div_cosh, Real.sinh_eq, Real.cosh_eq]
  have h : Real.exp (-r) = Real.exp (-(1 / 2 * r)) * Real.exp (-(1 / 2 * r)) := by
    rw [← Real.exp_add]; congr 1; ring
  have h1 : Real.exp (1 / 2 * r) * Real.exp (-(1 / 2 * r)) = 1 := by
    rw [← Real.exp_add]; simp
  have p1 := Real.exp_pos (1 / 2 * r)
  have p2 := Real.exp_pos (-(1 / 2 * r))
  rw [h]
  generalize Real.exp (1 / 2 * r) = a at *
  generalize Real.exp (-(1 / 2 * r)) = b at *
  have e : a = b⁻¹ := eq_inv_of_mul_eq_one_left h1
  subst e
  field_simp
  ring

/-- The half-angle form is the logistic function, at the infinities too. -/
theorem half_tanh (z : EReal) :
    ((1 / 2 : ℝ) : EReal) * Ideal.tanh (((1 / 2 : ℝ) : EReal) * z) + ((1 / 2 : ℝ) : EReal) = Ideal.div 1 (1 + Ideal.exp (-z)) := by
  have hp : (0 : ℝ) < 1 / 2 := by norm_num
  induction z with
  | bot =>
    have h1 : (1 : EReal) + ⊤ = ⊤ := EReal.add_top_of_ne_bot (by decide)
    rw [EReal.coe_mul_bot_of_pos hp, EReal.neg_bot, Ideal.exp_top, Ideal.tanh_bot, h1, Ideal.div, if_neg (by simp), EReal.inv_top, mul_zero,
      show (-1 : EReal) = ((-1 : ℝ) : EReal) by simp, ← EReal.coe_mul, ← EReal.coe_add]
    norm_num
  | top =>
    rw [EReal.coe_mul_top_of_pos hp, EReal.neg_top, Ideal.exp_bot, Ideal.tanh_top, add_zero, Ideal.div, if_neg (by simp), ← EReal.coe_one, ← EReal.coe_inv,
      ← EReal.coe_mul, ← EReal.coe_mul, ← EReal.coe_add]
    norm_num
  | coe r =>
    have h : (1 : ℝ) + Real.exp (-r) ≠ 0 := by positivity
    rw [← EReal.coe_mul, Ideal.tanh_coe, ← EReal.coe_mul, ← EReal.coe_add, half_tanh_real, ← EReal.coe_neg, Ideal.exp_coe,
      ← EReal.coe_one, ← EReal.coe_add, Ideal.div, if_neg (by exact_mod_cast h), EReal.coe_one, one_mul, EReal.coe_inv]

/-- One entry of the first product, with its bias. -/
def hid (x : Fin 1024 → EReal) (u : Fin 1024 → Fin 2048 → EReal) (bu : Fin 2048 → EReal) (h : Fin 2048) : EReal :=
  ∑ k, x k * u k h + bu h

/-- The clamped SwiGLU of a gate `g` and a linear part `l`. -/
def act (g l : EReal) : EReal :=
  min g (Ideal.ofBits FTy.f32 1088421888#32) *
      (Ideal.ofBits FTy.f32 1056964608#32 *
          Ideal.tanh (Ideal.ofBits FTy.f32 1056964608#32 *
            (Ideal.ofBits FTy.f32 1071242019#32 * min g (Ideal.ofBits FTy.f32 1088421888#32))) +
        Ideal.ofBits FTy.f32 1056964608#32) *
    (min (Ideal.ofBits FTy.f32 1088421888#32) (max (Ideal.ofBits FTy.f32 3235905536#32) l) + 1)

/-- The expert's output for one row, at column `j`. -/
def ffnRow (x : Fin 1024 → EReal) (u : Fin 1024 → Fin 2048 → EReal) (bu : Fin 2048 → EReal) (d : Fin 1024 → Fin 1024 → EReal)
    (bd : Fin 1024 → EReal) (j : Fin 1024) : EReal :=
  ∑ k : Fin 1024, act (hid x u bu ⟨k.val, by omega⟩) (hid x u bu ⟨1024 + k.val, by omega⟩) * d k j + bd j

/-- The same gate with the reference's logistic function. -/
theorem act_eq (g l : EReal) : act g l =
    min g (Ideal.ofBits FTy.f32 1088421888#32) *
        Ideal.div 1 (1 + Ideal.exp (-(Ideal.ofBits FTy.f32 1071242019#32 * min g (Ideal.ofBits FTy.f32 1088421888#32)))) *
      (min (Ideal.ofBits FTy.f32 1088421888#32) (max (Ideal.ofBits FTy.f32 3235905536#32) l) + 1) := by
  rw [act, half_word, half_tanh]

end Cert.Ffn
end
-- ==== Proof.Payload.lean ====
/-
# What the kernel's products compute, entry by entry

The six bodies work on 1024, 512 or 256 rows of a block; each entry of each of them is `ffnRow` of its row.
-/
module

public import proofs.«01_k».proof.Proof.Gen.KernelIdeal.Skeleton
public import proofs.«01_k».proof.Proof.Row

@[expose] public section
noncomputable section
namespace Cert.KernelIdeal.Hand
open Cert.KernelIdeal Cert.KernelIdeal.Gen Cert.Ffn
open Idealize.ShloMosaic

/-- An entry of the body on 1024 rows. -/
theorem pay11_apply (x : Vec Ideal S1024x1024 .bf16) (u : Vec Ideal S1024x2048 .bf16) (bu : Vec Ideal S1x2048 .f32)
    (d : Vec Ideal S1024x1024 .bf16) (bd : Vec Ideal S1x1024 .f32) (y : S1024x1024.Idx) :
    k0_pay11 x u bu d bd y = ffnRow (fun k => x (ix2 (y 0) k)) (fun k h => u (ix2 k h)) (fun h => bu (ix2 0 h))
      (fun k h => d (ix2 k h)) (fun h => bd (ix2 0 h)) (y 1) := by
  pointwise [k0_pay11]
  rfl

/-- An entry of the body on 512 rows. -/
theorem pay12_apply (x : Vec Ideal S512x1024 .bf16) (u : Vec Ideal S1024x2048 .bf16) (bu : Vec Ideal S1x2048 .f32)
    (d : Vec Ideal S1024x1024 .bf16) (bd : Vec Ideal S1x1024 .f32) (y : S512x1024.Idx) :
    k0_pay12 x u bu d bd y = ffnRow (fun k => x (ix2 (y 0) k)) (fun k h => u (ix2 k h)) (fun h => bu (ix2 0 h))
      (fun k h => d (ix2 k h)) (fun h => bd (ix2 0 h)) (y 1) := by
  pointwise [k0_pay12]
  rfl

/-- An entry of the body on 256 rows. -/
theorem pay13_apply (x : Vec Ideal S256x1024 .bf16) (u : Vec Ideal S1024x2048 .bf16) (bu : Vec Ideal S1x2048 .f32)
    (d : Vec Ideal S1024x1024 .bf16) (bd : Vec Ideal S1x1024 .f32) (y : S256x1024.Idx) :
    k0_pay13 x u bu d bd y = ffnRow (fun k => x (ix2 (y 0) k)) (fun k h => u (ix2 k h)) (fun h => bu (ix2 0 h))
      (fun k h => d (ix2 k h)) (fun h => bd (ix2 0 h)) (y 1) := by
  pointwise [k0_pay13]
  rfl

/-- An entry of the body on 256 rows. -/
theorem pay14_apply (x : Vec Ideal S256x1024 .bf16) (u : Vec Ideal S1024x2048 .bf16) (bu : Vec Ideal S1x2048 .f32)
    (d : Vec Ideal S1024x1024 .bf16) (bd : Vec Ideal S1x1024 .f32) (y : S256x1024.Idx) :
    k0_pay14 x u bu d bd y = ffnRow (fun k => x (ix2 (y 0) k)) (fun k h => u (ix2 k h)) (fun h => bu (ix2 0 h))
      (fun k h => d (ix2 k h)) (fun h => bd (ix2 0 h)) (y 1) := by
  pointwise [k0_pay14]
  rfl

/-- An entry of the body on 256 rows. -/
theorem pay16_apply (x : Vec Ideal S256x1024 .bf16) (u : Vec Ideal S1024x2048 .bf16) (bu : Vec Ideal S1x2048 .f32)
    (d : Vec Ideal S1024x1024 .bf16) (bd : Vec Ideal S1x1024 .f32) (y : S256x1024.Idx) :
    k0_pay16 x u bu d bd y = ffnRow (fun k => x (ix2 (y 0) k)) (fun k h => u (ix2 k h)) (fun h => bu (ix2 0 h))
      (fun k h => d (ix2 k h)) (fun h => bd (ix2 0 h)) (y 1) := by
  pointwise [k0_pay16]
  rfl

/-- An entry of the body on 256 rows. -/
theorem pay17_apply (x : Vec Ideal S256x1024 .bf16) (u : Vec Ideal S1024x2048 .bf16) (bu : Vec Ideal S1x2048 .f32)
    (d : Vec Ideal S1024x1024 .bf16) (bd : Vec Ideal S1x1024 .f32) (y : S256x1024.Idx) :
    k0_pay17 x u bu d bd y = ffnRow (fun k => x (ix2 (y 0) k)) (fun k h => u (ix2 k h)) (fun h => bu (ix2 0 h))
      (fun k h => d (ix2 k h)) (fun h => bd (ix2 0 h)) (y 1) := by
  pointwise [k0_pay17]
  rfl

end Cert.KernelIdeal.Hand
end
-- ==== Proof.Entry.lean ====
/-
# An entry of the block that a point leaves

Whatever the number of valid rows of a block, an entry of a valid row is `ffnRow` of the row, of the weights that the block buffers
hold and of the biases that the kernel reads (`Good.entry`). The weights are the expert's rows of the arrays in HBM.
-/
module

public import proofs.«01_k».proof.Proof.Payload
public import proofs.«01_k».proof.Proof.Inv

@[expose] public section
noncomputable section
namespace Cert.KernelIdeal.Hand
open Cert.KernelIdeal Cert.KernelIdeal.Gen Cert.Ffn
open Idealize.ShloMosaic Idealize.ShloMosaic.TcCoe

/-- An entry of the expert's weights in HBM. -/
theorem upW_apply (c : Dev nD) (e : BitVec 32) (hu) (wu : S32x1024x2048.Idx → EReal) (x : Fin 32) (hx : x.val = e.toNat) (k : Fin 1024) (h : Fin 2048) :
    upW (F := Ideal) c e hu wu (ix2 k h) = wu (ix3 x k h) := by
  have h1 : upW (F := Ideal) c e hu wu (ix2 k h)
      = wu ((Rect.unit (s := S32x1024x2048) ![e.toNat, 0, 0] S1x1024x2048.size hu).emb (Shape.reshapeEquiv Facts₀.squeezes_S1x1024x2048_S1024x2048.numel_eq (ix2 k h))) := rfl
  rw [h1, Shape.reshapeEquiv_cons_one]
  refine congrArg wu (funext fun a => Fin.ext ?_)
  rw [Rect.emb_apply]
  match a with
  | ⟨0, _⟩ => show e.toNat + 1 * 0 = x.val; omega
  | ⟨1, _⟩ => show 0 + 1 * k.val = k.val; omega
  | ⟨2, _⟩ => show 0 + 1 * h.val = h.val; omega
theorem dnW_apply (c : Dev nD) (e : BitVec 32) (hd) (wd : S32x1024x1024.Idx → EReal) (x : Fin 32) (hx : x.val = e.toNat) (k : Fin 1024) (h : Fin 1024) :
    dnW (F := Ideal) c e hd wd (ix2 k h) = wd (ix3 x k h) := by
  have h1 : dnW (F := Ideal) c e hd wd (ix2 k h)
      = wd ((Rect.unit (s := S32x1024x1024) ![e.toNat, 0, 0] S1x1024x1024.size hd).emb (Shape.reshapeEquiv Facts₀.squeezes_S1x1024x1024_S1024x1024.numel_eq (ix2 k h))) := rfl
  rw [h1, Shape.reshapeEquiv_cons_one]
  refine congrArg wd (funext fun a => Fin.ext ?_)
  rw [Rect.emb_apply]
  match a with
  | ⟨0, _⟩ => show e.toNat + 1 * 0 = x.val; omega
  | ⟨1, _⟩ => show 0 + 1 * k.val = k.val; omega
  | ⟨2, _⟩ => show 0 + 1 * h.val = h.val; omega
theorem upBias_apply (e : BitVec 32) (hb) (B : S32x2048.Idx → EReal) (x : Fin 32) (hx : x.val = e.toNat) (h : Fin 2048) :
    upBias (F := Ideal) e hb B (ix2 0 h) = B (ix2 x h) := by
  refine congrArg B (funext fun a => Fin.ext ?_)
  rw [Rect.emb_apply]
  match a with
  | ⟨0, _⟩ => show e.toNat + 1 * 0 = x.val; omega
  | ⟨1, _⟩ => show 0 + 1 * h.val = h.val; omega
theorem dnBias_apply (e : BitVec 32) (hb) (B : S32x1024.Idx → EReal) (x : Fin 32) (hx : x.val = e.toNat) (h : Fin 1024) :
    dnBias (F := Ideal) e hb B (ix2 0 h) = B (ix2 x h) := by
  refine congrArg B (funext fun a => Fin.ext ?_)
  rw [Rect.emb_apply]
  match a with
  | ⟨0, _⟩ => show e.toNat + 1 * 0 = x.val; omega
  | ⟨1, _⟩ => show 0 + 1 * h.val = h.val; omega

/-- A row of a window of rows is the row of the block that it starts at, and so many further. -/
theorem window_row (X : S1024x1024.Idx → EReal) (o n : ℕ) (inb : ∀ a, (![o, 0] : Fin 2 → ℕ) a + (![n, 1024] : Fin 2 → ℕ) a ≤ S1024x1024.size a)
    (r : Fin n) (q : Fin 1024) (hq : q.val = o + r.val) (k : Fin 1024) :
    VecWindow.window X ![o, 0] ![n, 1024] inb (ix2 r k) = X (ix2 q k) := by
  refine congrArg X (funext fun a => Fin.ext ?_)
  rw [Rect.emb_apply]
  match a with
  | ⟨0, _⟩ => show o + 1 * r.val = q.val; omega
  | ⟨1, _⟩ => show 0 + 1 * k.val = k.val; omega

/-- An entry of a valid row. -/
theorem Good.entry {v : BitVec 32} {X : S1024x1024.Idx → EReal} {ub : FVec Ideal S1024x2048 .bf16} {bu : Vec Ideal S1x2048 .f32}
    {db : FVec Ideal S1024x1024 .bf16} {bd : Vec Ideal S1x1024 .f32} {Y : S1024x1024.Idx → EReal} (g : Good (F := Ideal) v X ub bu db bd Y)
    (hv : v.toInt ≤ 1024) (r : Fin 1024) (j : Fin 1024) (hr : (r.val : ℤ) < v.toInt) :
    Y (ix2 r j) = ffnRow (fun k => X (ix2 r k)) (fun k h => ub (ix2 k h)) (fun h => bu (ix2 0 h)) (fun k h => db (ix2 k h))
      (fun h => bd (ix2 0 h)) j := by
  by_cases h1 : v.toInt = 1024
  · exact (g.all h1 _).trans (pay11_apply ..)
  by_cases h2 : 512 ≤ v.toInt
  · by_cases r1 : r.val < 512
    · refine (g.half h2 (by omega) (ix2 ⟨r.val, r1⟩ j) (ix2 r j) (Nat.zero_add _).symm rfl).trans ((pay12_apply ..).trans ?_)
      refine congrArg (fun x => ffnRow x _ _ _ _ _) (funext fun k => ?_)
      exact window_row X 0 512 _ ⟨r.val, r1⟩ r (Nat.zero_add _).symm k
    by_cases r2 : r.val < 768
    · refine (g.q2 (by omega) (by omega) (ix2 ⟨r.val - 512, by omega⟩ j) (ix2 r j) (by show r.val = 512 + (r.val - 512); omega) rfl).trans ((pay16_apply ..).trans ?_)
      refine congrArg (fun x => ffnRow x _ _ _ _ _) (funext fun k => ?_)
      exact window_row X 512 256 _ ⟨r.val - 512, by omega⟩ r (by show r.val = 512 + (r.val - 512); omega) k
    · refine (g.q3 (by omega) (by omega) (ix2 ⟨r.val - 768, by omega⟩ j) (ix2 r j) (by show r.val = 768 + (r.val - 768); omega) rfl).trans ((pay17_apply ..).trans ?_)
      refine congrArg (fun x => ffnRow x _ _ _ _ _) (funext fun k => ?_)
      exact window_row X 768 256 _ ⟨r.val - 768, by omega⟩ r (by show r.val = 768 + (r.val - 768); omega) k
  by_cases r1 : r.val < 256
  · refine (g.q0 (by omega) (by omega) (ix2 ⟨r.val, r1⟩ j) (ix2 r j) (Nat.zero_add _).symm rfl).trans ((pay13_apply ..).trans ?_)
    refine congrArg (fun x => ffnRow x _ _ _ _ _) (funext fun k => ?_)
    exact window_row X 0 256 _ ⟨r.val, r1⟩ r (Nat.zero_add _).symm k
  · refine (g.q1 (by omega) (by omega) (ix2 ⟨r.val - 256, by omega⟩ j) (ix2 r j) (by show r.val = 256 + (r.val - 256); omega) rfl).trans ((pay14_apply ..).trans ?_)
    refine congrArg (fun x => ffnRow x _ _ _ _ _) (funext fun k => ?_)
    exact window_row X 256 256 _ ⟨r.val - 256, by omega⟩ r (by show r.val = 256 + (r.val - 256); omega) k

end Cert.KernelIdeal.Hand
end
-- ==== Proof.Leaves.lean ====
/-
# What the output's array holds after the run

The output window stands at its own block at a used point and stays at the last used block from there on; a later point changes
nothing. So what is written back of a used block is what the block's own point left.
-/
module

public import proofs.«01_k».proof.Proof.Entry
public import proofs.«01_k».proof.Proof.Frame
public import Idealize.ShloMosaic.Lib.Pipeline.ArrRel

@[expose] public section
noncomputable section
namespace Cert.KernelIdeal.Hand
open Cert.KernelIdeal Cert.KernelIdeal.Gen Cert.Ffn
open Idealize.ShloMosaic Idealize.ShloMosaic.TcCoe Idealize.SL.Sem

variable (m : (ℓ : Loc nD τ sig) → Buf (Elt Ideal) ℓ) (ok : TabsOK m) (c : Dev nD)

/-- The used blocks' count. -/
abbrev nu : BitVec 32 := used (V m c main_arg1)

/-- The expert of a block. -/
def ex (b : Fin 114) : Fin 32 := ⟨(wordsOf (V m c main_arg0) b).toNat, by
  have h1 := (ok c).E_lo b
  have h2 := (ok c).E_hi b
  rw [BitVec.toInt_eq_toNat_cond] at h1 h2
  split_ifs at h1 h2 <;> omega⟩

/-- The entry that the claim gives row `i` and column `j` of the whole array, in block `b`. -/
def want (b : Fin 114) (i : Fin 116736) (j : Fin 1024) : EReal :=
  ffnRow (fun k => V m c main_arg5 (ix2 i k)) (fun k h => V m c main_arg6 (ix3 (ex m ok c b) k h)) (fun h => V m c main_arg7 (ix2 (ex m ok c b) h))
    (fun k h => V m c main_arg8 (ix3 (ex m ok c b) k h)) (fun h => V m c main_arg9 (ix2 (ex m ok c b) h)) j

/-- The block where the row windows stand at point `t`, under any admissible tables. -/
theorem index_rows_adm (a : (pcfg0 (F := Ideal)).Adm) (h1 : 1 ≤ (used (a.1 1)).toInt) (h2 : (used (a.1 1)).toInt ≤ 114) (t : Fin grid0.N) :
    ((cfg0 a).win 3).index t = ![min t.val ((used (a.1 1)).toNat - 1), 0] := by
  have h := rowBlock (F := Ideal) a.1 h1 h2 (grid0.coords t)
  rw [coord_at] at h
  exact h
theorem index_in_adm (a : (pcfg0 (F := Ideal)).Adm) (h1 : 1 ≤ (used (a.1 1)).toInt) (h2 : (used (a.1 1)).toInt ≤ 114) (t : Fin grid0.N) :
    ((cfg0 a).win 0).index t = ![min t.val ((used (a.1 1)).toNat - 1), 0] := by
  have h := rowBlock (F := Ideal) a.1 h1 h2 (grid0.coords t)
  rw [coord_at] at h
  exact h
theorem index_rows (t : Fin grid0.N) : ((cfgA m ok).win 3).index t = ![min t.val ((nu m 0).toNat - 1), 0] :=
  index_rows_adm (adm m ok) (ok 0).nu_pos (ok 0).nu_le t
theorem index_in (t : Fin grid0.N) : ((cfgA m ok).win 0).index t = ![min t.val ((nu m 0).toNat - 1), 0] :=
  index_in_adm (adm m ok) (ok 0).nu_pos (ok 0).nu_le t

/-- A fetched block of rows, at an entry. -/
theorem fetched0 (t : Fin grid0.N) (d) (r : Fin 1024) (k : Fin 1024) (i : Fin 116736)
    (hi : i.val = min t.val ((nu m 0).toNat - 1) * 1024 + r.val) :
    (fetches m ok c).fetched 0 t d (ix2 r k) = V m c main_arg5 (ix2 i k) := by
  have h : (fetches m ok c).fetched 0 t d (ix2 r k) = V m c main_arg5 ((((cfgA m ok).win 0).rect t).emb (ix2 r k)) := rfl
  rw [h]
  refine congrArg (V m c main_arg5) (funext fun a => Fin.ext ?_)
  refine (Pipeline.Window.rect_emb_val ((cfgA m ok).win 0) t (ix2 r k) a).trans ?_
  have e : ((cfgA m ok).win 0).index t a = (![min t.val ((nu m 0).toNat - 1), 0] : Fin 2 → ℕ) a := congrFun (index_in m ok t) a
  refine (congrArg (fun n => n * ((cfgA m ok).win 0).size a + ((ix2 r k : S1024x1024.Idx) a).val) e).trans ?_
  match a with
  | ⟨0, _⟩ => exact hi.symm
  | ⟨1, _⟩ => exact (congrArg (· + k.val) (Nat.zero_mul 1024)).trans (Nat.zero_add _)
theorem fetched1 (t : Fin grid0.N) (d) : (fetches m ok c).fetched 1 t d = V m c main_arg7 := by
  funext y
  have h : (fetches m ok c).fetched 1 t d y = V m c main_arg7 ((((cfgA m ok).win 1).rect t).emb y) := rfl
  rw [h]
  refine congrArg (V m c main_arg7) (funext fun a => Fin.ext ?_)
  refine (Pipeline.Window.rect_emb_val_of_index_zero ((cfgA m ok).win 1) t a ?_ y)
  match a with
  | ⟨0, _⟩ => rfl
  | ⟨1, _⟩ => rfl
theorem fetched2 (t : Fin grid0.N) (d) : (fetches m ok c).fetched 2 t d = V m c main_arg9 := by
  funext y
  have h : (fetches m ok c).fetched 2 t d y = V m c main_arg9 ((((cfgA m ok).win 2).rect t).emb y) := rfl
  rw [h]
  refine congrArg (V m c main_arg9) (funext fun a => Fin.ext ?_)
  refine (Pipeline.Window.rect_emb_val_of_index_zero ((cfgA m ok).win 2) t a ?_ y)
  match a with
  | ⟨0, _⟩ => rfl
  | ⟨1, _⟩ => rfl

/-- There is one device. -/
theorem one_dev : c = 0 := Fin.ext (by have : c.val < 1 := c.isLt; show c.val = 0; omega)

/-- What a used point leaves of a valid row. -/
theorem after_rows (t : Fin grid0.N) (Y X) (h : left m ok c 3 t Y X) (ht : t.val < (nu m c).toNat) (r : Fin 1024) (i : Fin 116736)
    (hi : i.val = t.val * 1024 + r.val) (hv : (r.val : ℤ) < (wordsOf (V m c main_arg4) (blk t)).toInt) (j : Fin 1024) :
    X (ix2 r j) = want m ok c (blk t) i j := by
  obtain ⟨d0, d1, d2, h1, -⟩ := h
  have hu : 1 ≤ (nu m c).toNat ∧ (nu m c).toNat ≤ 114 := used_nat (ok c).nu_pos (ok c).nu_le
  have hlt : ((blk t).val : ℤ) < (nu m c).toInt := by
    have e : (nu m c).toInt = ((nu m c).toNat : ℤ) := by
      rw [BitVec.toInt_eq_toNat_cond]; split_ifs <;> omega
    rw [e]; exact_mod_cast ht
  obtain ⟨hu', hd, hbu, hbd, hg⟩ := h1 hlt
  refine (hg.entry ((ok c).V_hi _) r j hv).trans ?_
  rw [fetched1, fetched2]
  have e0 : (fun k => (fetches m ok c).fetched 0 t d0 (ix2 r k)) = fun k => V m c main_arg5 (ix2 i k) := funext fun k =>
    fetched0 m ok c t d0 r k i (by
      rw [one_dev c] at ht
      rw [hi, Nat.min_eq_left (by omega)])
  have e1 : (fun k h => upW (F := Ideal) c (wordsOf (V m c main_arg0) (blk t)) hu' (V m c main_arg6) (ix2 k h))
      = fun k h => V m c main_arg6 (ix3 (ex m ok c (blk t)) k h) := funext fun k => funext fun h => upW_apply c _ _ _ _ rfl k h
  have e2 : (fun h => upBias (F := Ideal) (wordsOf (V m c main_arg0) (blk t)) hbu (V m c main_arg7) (ix2 0 h))
      = fun h => V m c main_arg7 (ix2 (ex m ok c (blk t)) h) := funext fun h => upBias_apply _ _ _ _ rfl h
  have e3 : (fun k h => dnW (F := Ideal) c (wordsOf (V m c main_arg0) (blk t)) hd (V m c main_arg8) (ix2 k h))
      = fun k h => V m c main_arg8 (ix3 (ex m ok c (blk t)) k h) := funext fun k => funext fun h => dnW_apply c _ _ _ _ rfl k h
  have e4 : (fun h => dnBias (F := Ideal) (wordsOf (V m c main_arg0) (blk t)) hbd (V m c main_arg9) (ix2 0 h))
      = fun h => V m c main_arg9 (ix2 (ex m ok c (blk t)) h) := funext fun h => dnBias_apply _ _ _ _ rfl h
  rw [e0, e1, e2, e3, e4]
  rfl

/-- What any point leaves of a valid row of the block that the output window stands at. -/
theorem leaves_rows (n : ℕ) : ∀ (t : Fin grid0.N), t.val = n → ∀ X, (rdat m ok c).Leaves 3 t X → ∀ (b : Fin 114), b.val = min t.val ((nu m 0).toNat - 1) →
    ∀ (r : Fin 1024) (i : Fin 116736), i.val = b.val * 1024 + r.val → (r.val : ℤ) < (wordsOf (V m c main_arg4) b).toInt → ∀ j,
    X (ix2 r j) = want m ok c b i j := by
  have hu : 1 ≤ (nu m 0).toNat ∧ (nu m 0).toNat ≤ 114 := used_nat (ok 0).nu_pos (ok 0).nu_le
  have hc := one_dev c
  induction n with
  | zero =>
    intro t ht X hX b hb r i hi hv j
    obtain ⟨Y, -, h⟩ := hX
    have hbt : b = blk t := Fin.ext (by show b.val = t.val; omega)
    subst hbt
    exact after_rows m ok c t Y X h (by rw [hc]; omega) r i hi hv j
  | succ n ih =>
    intro t ht X hX b hb r i hi hv j
    obtain ⟨Y, hY, h⟩ := hX
    by_cases hlt : t.val < (nu m 0).toNat
    · have hbt : b = blk t := Fin.ext (by show b.val = t.val; omega)
      subst hbt
      exact after_rows m ok c t Y X h (by rw [hc]; exact hlt) r i hi hv j
    · obtain ⟨d0, d1, d2, -, h2⟩ := h
      have hXY : X = Y := h2 (by
        rw [hc]
        have e : (nu m 0).toInt = ((nu m 0).toNat : ℤ) := by
          rw [BitVec.toInt_eq_toNat_cond]; split_ifs <;> omega
        show ¬ (t.val : ℤ) < (nu m 0).toInt
        rw [e]; exact_mod_cast hlt)
      subst hXY
      have hpos : t.val ≠ 0 := by omega
      have ht1 : t.val - 1 < grid0.N := Nat.lt_of_le_of_lt (Nat.sub_le _ _) t.isLt
      rw [(rdat m ok c).finds_of_pos (((cfgA m ok).win 3).fetch_out rfl t) hpos] at hY
      have hfl : ((cfgA m ok).win 3).flush ⟨t.val - 1, ht1⟩ = false := by
        unfold Pipeline.Window.flush
        rw [Bool.and_eq_false_iff]
        right
        rw [Bool.or_eq_false_iff]
        refine ⟨decide_eq_false ?_, decide_eq_false ?_⟩
        · have := t.isLt
          show ¬ (t.val - 1 + 1 = grid0.N)
          omega
        · rintro ⟨h, hne⟩
          apply hne
          rw [index_rows m ok, index_rows m ok]
          show (![min (t.val - 1 + 1) _, 0] : Fin 2 → ℕ) = ![min (t.val - 1) _, 0]
          rw [show min (t.val - 1 + 1) ((nu m 0).toNat - 1) = min (t.val - 1) ((nu m 0).toNat - 1) by omega]
      rcases hY with hY | hY
      · exact absurd (hfl.symm.trans hY) Bool.false_ne_true
      · exact ih ⟨t.val - 1, ht1⟩ (by show t.val - 1 = n; omega) X hY b (by show b.val = min (t.val - 1) _; omega) r i hi hv j

end Cert.KernelIdeal.Hand
end
-- ==== Proof.RefValue.lean ====
/-
# What the reference computes, entry by entry

The reference gathers each block's expert out of the weights and runs two batched products. Its entry at a row of block `b` is
`ffnRow` of the row, with the matrices and biases of the expert that the table names for `b`.
-/
module

public import proofs.«01_k».proof.Proof.Gen.ReferenceIdeal
public import proofs.«01_k».proof.Proof.Gen.ReferenceIdeal.Read
public import proofs.«01_k».proof.Proof.Row

@[expose] public section
noncomputable section
namespace Cert.ReferenceIdeal.Hand
open Cert.ReferenceIdeal Cert.ReferenceIdeal.Gen Cert.ReferenceIdeal.Read Cert.Ffn
open Idealize.ShloMosaic

variable {α : Type}

/-- A gathered entry: the operand's, of the slice that the index names. -/
theorem gather_up (x : S32x1024x2048.Idx → α) (idx : IVec S114x1 32) (b : Fin 114) (r : Fin 1024) (h : Fin 2048) (e : Fin 32)
    (he : (idx (ix2 b 0)).toInt = (e.val : ℤ)) :
    Host.gather gather_S32x1024x2048_S114x1_S114x1024x2048_12_0_n_n_0_1_110242048 x idx (ix3 b r h) = x (ix3 e r h) := by
  unfold Host.gather
  congr 1
  funext a
  refine Fin.ext ?_
  show GatherDims.start _ (ix3 b r h) idx a + GatherDims.batchCoord _ (ix3 b r h) a + GatherDims.offCoord _ (ix3 b r h) a = _
  have ha : a = 0 ∨ a = 1 ∨ a = 2 := by
    revert a; decide
  rcases ha with rfl | rfl | rfl
  · have hsi : GatherDims.siIdx gather_S32x1024x2048_S114x1_S114x1024x2048_12_0_n_n_0_1_110242048 (ix3 b r h)
        ⟨List.idxOf (0 : Fin 3) [(0 : Fin 3)], List.idxOf_lt_length_iff.2 (List.mem_singleton.mpr rfl)⟩ = ix2 b 0 := by
      funext b; refine Fin.ext ?_
      match b with
      | ⟨0, _⟩ => rfl
      | ⟨1, _⟩ => rfl
    have hs : GatherDims.start gather_S32x1024x2048_S114x1_S114x1024x2048_12_0_n_n_0_1_110242048 (ix3 b r h) idx 0 = min (idx (ix2 b 0)).toInt.toNat (32 - 1) :=
      (dif_pos (show (0 : Fin 3) ∈ [(0 : Fin 3)] from List.mem_singleton.mpr rfl)).trans
        (congrArg (fun v => min (BitVec.toInt (idx v)).toNat (32 - 1)) hsi)
    have hb : GatherDims.batchCoord gather_S32x1024x2048_S114x1_S114x1024x2048_12_0_n_n_0_1_110242048 (ix3 b r h) 0 = 0 := GatherDims.batchCoord_eq_zero _ _ _ List.not_mem_nil
    have ho : GatherDims.offCoord gather_S32x1024x2048_S114x1_S114x1024x2048_12_0_n_n_0_1_110242048 (ix3 b r h) 0 = 0 :=
      GatherDims.offCoord_eq_zero _ _ _ (fun h => ((GatherDims.mem_sKept _ _).mp h).1 (List.mem_singleton.mpr rfl))
    rw [hs, hb, ho, he]
    show min (e.val : ℤ).toNat (32 - 1) + 0 + 0 = e.val
    have := e.isLt
    omega
  · have hs : GatherDims.start gather_S32x1024x2048_S114x1_S114x1024x2048_12_0_n_n_0_1_110242048 (ix3 b r h) idx 1 = 0 := dif_neg (show (1 : Fin 3) ∉ [(0 : Fin 3)] by decide)
    have hb : GatherDims.batchCoord gather_S32x1024x2048_S114x1_S114x1024x2048_12_0_n_n_0_1_110242048 (ix3 b r h) 1 = 0 := GatherDims.batchCoord_eq_zero _ _ _ List.not_mem_nil
    have ho : GatherDims.offCoord gather_S32x1024x2048_S114x1_S114x1024x2048_12_0_n_n_0_1_110242048 (ix3 b r h) 1 = ((ix3 b r h) 1).val := dif_pos ((GatherDims.mem_sKept _ _).mpr ⟨show (1 : Fin 3) ∉ [(0 : Fin 3)] by decide, List.not_mem_nil⟩)
    rw [hs, hb, ho]
    exact Nat.zero_add _
  · have hs : GatherDims.start gather_S32x1024x2048_S114x1_S114x1024x2048_12_0_n_n_0_1_110242048 (ix3 b r h) idx 2 = 0 := dif_neg (show (2 : Fin 3) ∉ [(0 : Fin 3)] by decide)
    have hb : GatherDims.batchCoord gather_S32x1024x2048_S114x1_S114x1024x2048_12_0_n_n_0_1_110242048 (ix3 b r h) 2 = 0 := GatherDims.batchCoord_eq_zero _ _ _ List.not_mem_nil
    have ho : GatherDims.offCoord gather_S32x1024x2048_S114x1_S114x1024x2048_12_0_n_n_0_1_110242048 (ix3 b r h) 2 = ((ix3 b r h) 2).val := dif_pos ((GatherDims.mem_sKept _ _).mpr ⟨show (2 : Fin 3) ∉ [(0 : Fin 3)] by decide, List.not_mem_nil⟩)
    rw [hs, hb, ho]
    exact Nat.zero_add _

/-- A gathered entry: the operand's, of the slice that the index names. -/
theorem gather_upBias (x : S32x2048.Idx → α) (idx : IVec S114x1 32) (b : Fin 114) (h : Fin 2048) (e : Fin 32)
    (he : (idx (ix2 b 0)).toInt = (e.val : ℤ)) :
    Host.gather gather_S32x2048_S114x1_S114x2048_1_0_n_n_0_1_12048 x idx (ix2 b h) = x (ix2 e h) := by
  unfold Host.gather
  congr 1
  funext a
  refine Fin.ext ?_
  show GatherDims.start _ (ix2 b h) idx a + GatherDims.batchCoord _ (ix2 b h) a + GatherDims.offCoord _ (ix2 b h) a = _
  have ha : a = 0 ∨ a = 1 := by
    revert a; decide
  rcases ha with rfl | rfl
  · have hsi : GatherDims.siIdx gather_S32x2048_S114x1_S114x2048_1_0_n_n_0_1_12048 (ix2 b h)
        ⟨List.idxOf (0 : Fin 2) [(0 : Fin 2)], List.idxOf_lt_length_iff.2 (List.mem_singleton.mpr rfl)⟩ = ix2 b 0 := by
      funext b; refine Fin.ext ?_
      match b with
      | ⟨0, _⟩ => rfl
      | ⟨1, _⟩ => rfl
    have hs : GatherDims.start gather_S32x2048_S114x1_S114x2048_1_0_n_n_0_1_12048 (ix2 b h) idx 0 = min (idx (ix2 b 0)).toInt.toNat (32 - 1) :=
      (dif_pos (show (0 : Fin 2) ∈ [(0 : Fin 2)] from List.mem_singleton.mpr rfl)).trans
        (congrArg (fun v => min (BitVec.toInt (idx v)).toNat (32 - 1)) hsi)
    have hb : GatherDims.batchCoord gather_S32x2048_S114x1_S114x2048_1_0_n_n_0_1_12048 (ix2 b h) 0 = 0 := GatherDims.batchCoord_eq_zero _ _ _ List.not_mem_nil
    have ho : GatherDims.offCoord gather_S32x2048_S114x1_S114x2048_1_0_n_n_0_1_12048 (ix2 b h) 0 = 0 :=
      GatherDims.offCoord_eq_zero _ _ _ (fun h => ((GatherDims.mem_sKept _ _).mp h).1 (List.mem_singleton.mpr rfl))
    rw [hs, hb, ho, he]
    show min (e.val : ℤ).toNat (32 - 1) + 0 + 0 = e.val
    have := e.isLt
    omega
  · have hs : GatherDims.start gather_S32x2048_S114x1_S114x2048_1_0_n_n_0_1_12048 (ix2 b h) idx 1 = 0 := dif_neg (show (1 : Fin 2) ∉ [(0 : Fin 2)] by decide)
    have hb : GatherDims.batchCoord gather_S32x2048_S114x1_S114x2048_1_0_n_n_0_1_12048 (ix2 b h) 1 = 0 := GatherDims.batchCoord_eq_zero _ _ _ List.not_mem_nil
    have ho : GatherDims.offCoord gather_S32x2048_S114x1_S114x2048_1_0_n_n_0_1_12048 (ix2 b h) 1 = ((ix2 b h) 1).val := dif_pos ((GatherDims.mem_sKept _ _).mpr ⟨show (1 : Fin 2) ∉ [(0 : Fin 2)] by decide, List.not_mem_nil⟩)
    rw [hs, hb, ho]
    exact Nat.zero_add _

/-- A gathered entry: the operand's, of the slice that the index names. -/
theorem gather_dn (x : S32x1024x1024.Idx → α) (idx : IVec S114x1 32) (b : Fin 114) (r : Fin 1024) (h : Fin 1024) (e : Fin 32)
    (he : (idx (ix2 b 0)).toInt = (e.val : ℤ)) :
    Host.gather gather_S32x1024x1024_S114x1_S114x1024x1024_12_0_n_n_0_1_110241024 x idx (ix3 b r h) = x (ix3 e r h) := by
  unfold Host.gather
  congr 1
  funext a
  refine Fin.ext ?_
  show GatherDims.start _ (ix3 b r h) idx a + GatherDims.batchCoord _ (ix3 b r h) a + GatherDims.offCoord _ (ix3 b r h) a = _
  have ha : a = 0 ∨ a = 1 ∨ a = 2 := by
    revert a; decide
  rcases ha with rfl | rfl | rfl
  · have hsi : GatherDims.siIdx gather_S32x1024x1024_S114x1_S114x1024x1024_12_0_n_n_0_1_110241024 (ix3 b r h)
        ⟨List.idxOf (0 : Fin 3) [(0 : Fin 3)], List.idxOf_lt_length_iff.2 (List.mem_singleton.mpr rfl)⟩ = ix2 b 0 := by
      funext b; refine Fin.ext ?_
      match b with
      | ⟨0, _⟩ => rfl
      | ⟨1, _⟩ => rfl
    have hs : GatherDims.start gather_S32x1024x1024_S114x1_S114x1024x1024_12_0_n_n_0_1_110241024 (ix3 b r h) idx 0 = min (idx (ix2 b 0)).toInt.toNat (32 - 1) :=
      (dif_pos (show (0 : Fin 3) ∈ [(0 : Fin 3)] from List.mem_singleton.mpr rfl)).trans
        (congrArg (fun v => min (BitVec.toInt (idx v)).toNat (32 - 1)) hsi)
    have hb : GatherDims.batchCoord gather_S32x1024x1024_S114x1_S114x1024x1024_12_0_n_n_0_1_110241024 (ix3 b r h) 0 = 0 := GatherDims.batchCoord_eq_zero _ _ _ List.not_mem_nil
    have ho : GatherDims.offCoord gather_S32x1024x1024_S114x1_S114x1024x1024_12_0_n_n_0_1_110241024 (ix3 b r h) 0 = 0 :=
      GatherDims.offCoord_eq_zero _ _ _ (fun h => ((GatherDims.mem_sKept _ _).mp h).1 (List.mem_singleton.mpr rfl))
    rw [hs, hb, ho, he]
    show min (e.val : ℤ).toNat (32 - 1) + 0 + 0 = e.val
    have := e.isLt
    omega
  · have hs : GatherDims.start gather_S32x1024x1024_S114x1_S114x1024x1024_12_0_n_n_0_1_110241024 (ix3 b r h) idx 1 = 0 := dif_neg (show (1 : Fin 3) ∉ [(0 : Fin 3)] by decide)
    have hb : GatherDims.batchCoord gather_S32x1024x1024_S114x1_S114x1024x1024_12_0_n_n_0_1_110241024 (ix3 b r h) 1 = 0 := GatherDims.batchCoord_eq_zero _ _ _ List.not_mem_nil
    have ho : GatherDims.offCoord gather_S32x1024x1024_S114x1_S114x1024x1024_12_0_n_n_0_1_110241024 (ix3 b r h) 1 = ((ix3 b r h) 1).val := dif_pos ((GatherDims.mem_sKept _ _).mpr ⟨show (1 : Fin 3) ∉ [(0 : Fin 3)] by decide, List.not_mem_nil⟩)
    rw [hs, hb, ho]
    exact Nat.zero_add _
  · have hs : GatherDims.start gather_S32x1024x1024_S114x1_S114x1024x1024_12_0_n_n_0_1_110241024 (ix3 b r h) idx 2 = 0 := dif_neg (show (2 : Fin 3) ∉ [(0 : Fin 3)] by decide)
    have hb : GatherDims.batchCoord gather_S32x1024x1024_S114x1_S114x1024x1024_12_0_n_n_0_1_110241024 (ix3 b r h) 2 = 0 := GatherDims.batchCoord_eq_zero _ _ _ List.not_mem_nil
    have ho : GatherDims.offCoord gather_S32x1024x1024_S114x1_S114x1024x1024_12_0_n_n_0_1_110241024 (ix3 b r h) 2 = ((ix3 b r h) 2).val := dif_pos ((GatherDims.mem_sKept _ _).mpr ⟨show (2 : Fin 3) ∉ [(0 : Fin 3)] by decide, List.not_mem_nil⟩)
    rw [hs, hb, ho]
    exact Nat.zero_add _

/-- A gathered entry: the operand's, of the slice that the index names. -/
theorem gather_dnBias (x : S32x1024.Idx → α) (idx : IVec S114x1 32) (b : Fin 114) (h : Fin 1024) (e : Fin 32)
    (he : (idx (ix2 b 0)).toInt = (e.val : ℤ)) :
    Host.gather gather_S32x1024_S114x1_S114x1024_1_0_n_n_0_1_11024 x idx (ix2 b h) = x (ix2 e h) := by
  unfold Host.gather
  congr 1
  funext a
  refine Fin.ext ?_
  show GatherDims.start _ (ix2 b h) idx a + GatherDims.batchCoord _ (ix2 b h) a + GatherDims.offCoord _ (ix2 b h) a = _
  have ha : a = 0 ∨ a = 1 := by
    revert a; decide
  rcases ha with rfl | rfl
  · have hsi : GatherDims.siIdx gather_S32x1024_S114x1_S114x1024_1_0_n_n_0_1_11024 (ix2 b h)
        ⟨List.idxOf (0 : Fin 2) [(0 : Fin 2)], List.idxOf_lt_length_iff.2 (List.mem_singleton.mpr rfl)⟩ = ix2 b 0 := by
      funext b; refine Fin.ext ?_
      match b with
      | ⟨0, _⟩ => rfl
      | ⟨1, _⟩ => rfl
    have hs : GatherDims.start gather_S32x1024_S114x1_S114x1024_1_0_n_n_0_1_11024 (ix2 b h) idx 0 = min (idx (ix2 b 0)).toInt.toNat (32 - 1) :=
      (dif_pos (show (0 : Fin 2) ∈ [(0 : Fin 2)] from List.mem_singleton.mpr rfl)).trans
        (congrArg (fun v => min (BitVec.toInt (idx v)).toNat (32 - 1)) hsi)
    have hb : GatherDims.batchCoord gather_S32x1024_S114x1_S114x1024_1_0_n_n_0_1_11024 (ix2 b h) 0 = 0 := GatherDims.batchCoord_eq_zero _ _ _ List.not_mem_nil
    have ho : GatherDims.offCoord gather_S32x1024_S114x1_S114x1024_1_0_n_n_0_1_11024 (ix2 b h) 0 = 0 :=
      GatherDims.offCoord_eq_zero _ _ _ (fun h => ((GatherDims.mem_sKept _ _).mp h).1 (List.mem_singleton.mpr rfl))
    rw [hs, hb, ho, he]
    show min (e.val : ℤ).toNat (32 - 1) + 0 + 0 = e.val
    have := e.isLt
    omega
  · have hs : GatherDims.start gather_S32x1024_S114x1_S114x1024_1_0_n_n_0_1_11024 (ix2 b h) idx 1 = 0 := dif_neg (show (1 : Fin 2) ∉ [(0 : Fin 2)] by decide)
    have hb : GatherDims.batchCoord gather_S32x1024_S114x1_S114x1024_1_0_n_n_0_1_11024 (ix2 b h) 1 = 0 := GatherDims.batchCoord_eq_zero _ _ _ List.not_mem_nil
    have ho : GatherDims.offCoord gather_S32x1024_S114x1_S114x1024_1_0_n_n_0_1_11024 (ix2 b h) 1 = ((ix2 b h) 1).val := dif_pos ((GatherDims.mem_sKept _ _).mpr ⟨show (1 : Fin 2) ∉ [(0 : Fin 2)] by decide, List.not_mem_nil⟩)
    rw [hs, hb, ho]
    exact Nat.zero_add _

/-- A word that isn't negative isn't below zero. -/
theorem not_below (v : BitVec 32) (h : 0 ≤ v.toInt) : IntOp.cmpi .slt v 0#32 = 0#1 := by
  have : ¬ v.toInt < 0 := by omega
  simp [IntOp.cmpi, BitVec.slt, this]

/-- The wrapped index of a block is the table's word, which isn't negative. -/
theorem wrapped7 (x0 : IVec S114 32) (b : Fin 114) (h : 0 ≤ (x0 (ix1 b)).toInt) : val_main_v7 (F := Ideal) x0 (ix2 b 0) = x0 (ix1 b) := by
  have hi : idx_main_v7 (ix2 b 0) = ix1 b := funext fun a => Fin.ext (match a with | ⟨0, _⟩ => rfl)
  rw [val_main_v7_apply, hi, val_main_v6_apply, val_main_v3_apply, val_main_v2_apply, val_main_c_apply, not_below _ h]
  rfl

/-- The wrapped index of a block is the table's word, which isn't negative. -/
theorem wrapped15 (x0 : IVec S114 32) (b : Fin 114) (h : 0 ≤ (x0 (ix1 b)).toInt) : val_main_v15 (F := Ideal) x0 (ix2 b 0) = x0 (ix1 b) := by
  have hi : idx_main_v15 (ix2 b 0) = ix1 b := funext fun a => Fin.ext (match a with | ⟨0, _⟩ => rfl)
  rw [val_main_v15_apply, hi, val_main_v14_apply, val_main_v11_apply, val_main_v10_apply, val_main_c_1_apply, not_below _ h]
  rfl

/-- The wrapped index of a block is the table's word, which isn't negative. -/
theorem wrapped42 (x0 : IVec S114 32) (b : Fin 114) (h : 0 ≤ (x0 (ix1 b)).toInt) : val_main_v42 (F := Ideal) x0 (ix2 b 0) = x0 (ix1 b) := by
  have hi : idx_main_v42 (ix2 b 0) = ix1 b := funext fun a => Fin.ext (match a with | ⟨0, _⟩ => rfl)
  rw [val_main_v42_apply, hi, val_main_v41_apply, val_main_v38_apply, val_main_v37_apply, val_main_c_9_apply, not_below _ h]
  rfl

/-- The wrapped index of a block is the table's word, which isn't negative. -/
theorem wrapped50 (x0 : IVec S114 32) (b : Fin 114) (h : 0 ≤ (x0 (ix1 b)).toInt) : val_main_v50 (F := Ideal) x0 (ix2 b 0) = x0 (ix1 b) := by
  have hi : idx_main_v50 (ix2 b 0) = ix1 b := funext fun a => Fin.ext (match a with | ⟨0, _⟩ => rfl)
  rw [val_main_v50_apply, hi, val_main_v49_apply, val_main_v46_apply, val_main_v45_apply, val_main_c_11_apply, not_below _ h]
  rfl

section
variable (x0 : IVec S114 32) (x5 : S116736x1024.Idx → EReal) (x6 : S32x1024x2048.Idx → EReal) (x7 : S32x2048.Idx → EReal)
  (x8 : S32x1024x1024.Idx → EReal) (x9 : S32x1024.Idx → EReal) (e : Fin 32)

/-- The hidden entry of row `r` of block `b`. -/
theorem hidden (b : Fin 114) (r : Fin 1024) (h : Fin 2048) (he : (x0 (ix1 b)).toInt = (e.val : ℤ)) :
    val_main_v19 (F := Ideal) x0 x5 x6 x7 (ix3 b r h)
      = hid (fun k => x5 (ix2 ⟨b.val * 1024 + r.val, by omega⟩ k)) (fun k h => x6 (ix3 e k h)) (fun h => x7 (ix2 e h)) h := by
  have h8 : ∀ k : Fin 1024, val_main_v8 (F := Ideal) x0 x6 (ix3 b k h) = x6 (ix3 e k h) := fun k => by
    unfold val_main_v8
    exact gather_up _ _ b k h e (by rw [wrapped7 x0 b (by omega), he])
  have h16 : val_main_v16 (F := Ideal) x0 x7 (ix2 b h) = x7 (ix2 e h) := by
    unfold val_main_v16
    exact gather_upBias _ _ b h e (by rw [wrapped15 x0 b (by omega), he])
  have h1 : ∀ k : Fin 1024, val_main_v1 (F := Ideal) x5 (ix3 b r k) = x5 (ix2 ⟨b.val * 1024 + r.val, by omega⟩ k) := fun k => by
    rw [val_main_v1_apply, val_main_v0_apply]
    refine congrArg x5 (funext fun a => Fin.ext ?_)
    match a with
    | ⟨0, _⟩ => show ((b.val * 1024 + r.val) * 1024 + k.val) / 1024 = b.val * 1024 + r.val; omega
    | ⟨1, _⟩ => show ((b.val * 1024 + r.val) * 1024 + k.val) % 1024 = k.val; omega
  have il : ∀ k, lidx_main_v9 (ix3 b r h) k = ix3 b r k := fun k => funext fun a => Fin.ext (match a with | ⟨0, _⟩ => rfl | ⟨1, _⟩ => rfl | ⟨2, _⟩ => rfl)
  have ir : ∀ k, ridx_main_v9 (ix3 b r h) k = ix3 b k h := fun k => funext fun a => Fin.ext (match a with | ⟨0, _⟩ => rfl | ⟨1, _⟩ => rfl | ⟨2, _⟩ => rfl)
  have ib : idx_main_v17 (idx_main_v18 (ix3 b r h)) = ix2 b h := funext fun a => Fin.ext (match a with | ⟨0, _⟩ => rfl | ⟨1, _⟩ => rfl)
  rw [val_main_v19_apply, val_main_v9_apply, val_main_v18_apply, val_main_v17_apply, ib, h16]
  unfold hid
  refine congrArg₂ (· + ·) (Finset.sum_congr rfl fun k _ => ?_) rfl
  rw [il, ir, h1, h8]

/-- The gate's entry of row `r` of block `b`. -/
theorem gated (b : Fin 114) (r : Fin 1024) (k : Fin 1024) (he : (x0 (ix1 b)).toInt = (e.val : ℤ)) :
    val_main_v36 (F := Ideal) x0 x5 x6 x7 (ix3 b r k)
      = act (hid (fun k => x5 (ix2 ⟨b.val * 1024 + r.val, by omega⟩ k)) (fun k h => x6 (ix3 e k h)) (fun h => x7 (ix2 e h)) ⟨k.val, by omega⟩)
        (hid (fun k => x5 (ix2 ⟨b.val * 1024 + r.val, by omega⟩ k)) (fun k h => x6 (ix3 e k h)) (fun h => x7 (ix2 e h)) ⟨1024 + k.val, by omega⟩) := by
  rw [act_eq, ← hidden x0 x5 x6 x7 e b r _ he, ← hidden x0 x5 x6 x7 e b r _ he]
  have i20 : idx_main_v20 (ix3 b r k) = ix3 b r ⟨k.val, by omega⟩ := funext fun a => Fin.ext (match a with | ⟨0, _⟩ => rfl | ⟨1, _⟩ => rfl | ⟨2, _⟩ => rfl)
  have i23 : idx_main_v23 (ix3 b r k) = ix3 b r ⟨1024 + k.val, by omega⟩ := funext fun a => Fin.ext (match a with | ⟨0, _⟩ => rfl | ⟨1, _⟩ => rfl | ⟨2, _⟩ => rfl)
  have h22 : val_main_v22 (F := Ideal) x0 x5 x6 x7 (ix3 b r k) = min (val_main_v19 (F := Ideal) x0 x5 x6 x7 (ix3 b r ⟨k.val, by omega⟩)) (Ideal.ofBits FTy.f32 1088421888#32) := by
    rw [val_main_v22_apply, val_main_v20_apply, i20, val_main_v21_apply, val_main_cst_apply]
    rfl
  have h24 : val_main_v24 (F := Ideal) x0 x5 x6 x7 (ix3 b r k) = min (Ideal.ofBits FTy.f32 1088421888#32) (max (Ideal.ofBits FTy.f32 3235905536#32) (val_main_v19 (F := Ideal) x0 x5 x6 x7 (ix3 b r ⟨1024 + k.val, by omega⟩))) := by
    rw [val_main_v24_apply, val_main_call0_v4_apply, val_main_call0_v3_apply, val_main_cst_4_apply, val_main_call0_v2_apply,
      val_main_call0_v1_apply, val_main_call0_v0_apply, val_main_cst_3_apply, val_main_v23_apply, i23]
    rfl
  have h32 : val_main_v32 (F := Ideal) x0 x5 x6 x7 (ix3 b r k) = Ideal.div 1 (1 + Ideal.exp (-(Ideal.ofBits FTy.f32 1071242019#32 * val_main_v22 (F := Ideal) x0 x5 x6 x7 (ix3 b r k)))) := by
    rw [val_main_v32_apply, val_main_v31_apply, val_main_cst_7_apply, val_main_v30_apply, val_main_v29_apply, val_main_cst_6_apply,
      val_main_v28_apply, val_main_v27_apply, val_main_v26_apply, val_main_v25_apply, val_main_cst_5_apply]
    rw [← one_word]
    rfl
  have h35 : val_main_v35 (F := Ideal) x0 x5 x6 x7 (ix3 b r k) = val_main_v24 (F := Ideal) x0 x5 x6 x7 (ix3 b r k) + 1 := by
    rw [val_main_v35_apply, val_main_v34_apply, val_main_cst_8_apply, ← one_word]
    rfl
  rw [val_main_v36_apply, val_main_v33_apply, h35, h32, h24, h22]
  rfl

/-- The reference's entry of row `r` of block `b`. -/
theorem entry (b : Fin 114) (r : Fin 1024) (j : Fin 1024) (he : (x0 (ix1 b)).toInt = (e.val : ℤ)) :
    val_main_v54 (F := Ideal) x0 x5 x6 x7 x8 x9 (ix3 b r j)
      = ffnRow (fun k => x5 (ix2 ⟨b.val * 1024 + r.val, by omega⟩ k)) (fun k h => x6 (ix3 e k h)) (fun h => x7 (ix2 e h))
        (fun k h => x8 (ix3 e k h)) (fun h => x9 (ix2 e h)) j := by
  have h43 : ∀ k : Fin 1024, val_main_v43 (F := Ideal) x0 x8 (ix3 b k j) = x8 (ix3 e k j) := fun k => by
    unfold val_main_v43
    exact gather_dn _ _ b k j e (by rw [wrapped42 x0 b (by omega), he])
  have h51 : val_main_v51 (F := Ideal) x0 x9 (ix2 b j) = x9 (ix2 e j) := by
    unfold val_main_v51
    exact gather_dnBias _ _ b j e (by rw [wrapped50 x0 b (by omega), he])
  have il : ∀ k, lidx_main_v44 (ix3 b r j) k = ix3 b r k := fun k => funext fun a => Fin.ext (match a with | ⟨0, _⟩ => rfl | ⟨1, _⟩ => rfl | ⟨2, _⟩ => rfl)
  have ir : ∀ k, ridx_main_v44 (ix3 b r j) k = ix3 b k j := fun k => funext fun a => Fin.ext (match a with | ⟨0, _⟩ => rfl | ⟨1, _⟩ => rfl | ⟨2, _⟩ => rfl)
  have ib : idx_main_v52 (idx_main_v53 (ix3 b r j)) = ix2 b j := funext fun a => Fin.ext (match a with | ⟨0, _⟩ => rfl | ⟨1, _⟩ => rfl)
  rw [val_main_v54_apply, val_main_v44_apply, val_main_v53_apply, val_main_v52_apply, ib, h51]
  unfold ffnRow
  refine congrArg₂ (· + ·) (Finset.sum_congr rfl fun k _ => ?_) rfl
  rw [il, ir, gated x0 x5 x6 x7 e b r k he, h43]

/-- The reference's entry at a row of the whole array. -/
theorem result (i : S116736x1024.Idx) (b : Fin 114) (r : Fin 1024) (hi : (i 0).val = b.val * 1024 + r.val)
    (he : (x0 (ix1 b)).toInt = (e.val : ℤ)) :
    val_main_v56 (F := Ideal) x0 x5 x6 x7 x8 x9 i
      = ffnRow (fun k => x5 (ix2 (i 0) k)) (fun k h => x6 (ix3 e k h)) (fun h => x7 (ix2 e h))
        (fun k h => x8 (ix3 e k h)) (fun h => x9 (ix2 e h)) (i 1) := by
  have hb := b.isLt
  have hr := r.isLt
  have h1 : (i 1).val < 1024 := (i 1).isLt
  have ii : idx_main_v55 i = ix3 b r (i 1) := funext fun a => Fin.ext (match a with
    | ⟨0, _⟩ => by show ((i 0).val * 1024 + (i 1).val) / 1048576 = b.val; omega
    | ⟨1, _⟩ => by show ((i 0).val * 1024 + (i 1).val) / 1024 % 1024 = r.val; omega
    | ⟨2, _⟩ => by show ((i 0).val * 1024 + (i 1).val) % 1024 = (i 1).val; omega)
  have i0 : (⟨b.val * 1024 + r.val, by omega⟩ : Fin 116736) = i 0 := Fin.ext hi.symm
  rw [val_main_v56_apply, val_main_v55_apply, ii]
  have key := entry x0 x5 x6 x7 x8 x9 e b r (i 1) he
  rw [i0] at key
  exact key

end

end Cert.ReferenceIdeal.Hand
end
-- ==== Proof.Value.lean ====
/-
# The value claim

Once the call has ended, an entry of a row that holds a token is `ffnRow` of the row and of the block's expert, which is what the
reference gives the entry. `filled` reads such rows off the mask, `out_rows` reads them off the output's array, `value` is the claim.
-/
module

public import proofs.«01_k».proof.Proof.Leaves
public import proofs.«01_k».proof.Proof.RefValue
public import proofs.«01_k».proof.Proof.Gen.On_filled_rows
public import proofs.«01_k».proof.Defs
public import Idealize.ShloMosaic.Lib.Pipeline.ValueKit

@[expose] public section
noncomputable section
namespace Cert.KernelIdeal.Hand
open Cert.KernelIdeal Cert.KernelIdeal.Gen Cert.Ffn
open Idealize.ShloMosaic Idealize.ShloMosaic.TcCoe Idealize.SL.Sem

section Mask
/-- The mask has one word per row, whatever the column. -/
theorem mask_row (h) (x : Cert.On_filled_rows.S116736x1.Idx → BitVec 1) (i : Cert.On_filled_rows.S116736x1024.Idx) :
    broadcastInDim Cert.On_filled_rows.S116736x1024 ![0, 1] h x i = x (ix2 ⟨(i 0).val, (i 0).isLt⟩ (0 : Fin 1)) :=
  broadcastInDim_apply _ _ _ _ _ fun a => by match a with | ⟨0, _⟩ => rfl | ⟨1, _⟩ => rfl
/-- A block's word, whatever the row. -/
theorem mask_blk (h) (x : Cert.On_filled_rows.S114x1.Idx → BitVec 1) (b : Fin 114) (r : Fin 1024) :
    broadcastInDim Cert.On_filled_rows.S114x1024 ![0, 1] h x (ix2 b r) = x (ix2 b (0 : Fin 1)) :=
  broadcastInDim_apply _ _ _ _ _ fun a => by match a with | ⟨0, _⟩ => rfl | ⟨1, _⟩ => rfl

variable (a0 : IVec S114 32) (a1 : IVec S1 32) (a2 a3 a4 : IVec S114 32) (a5 : FVec Ideal S116736x1024 .bf16)
  (a6 : FVec Ideal S32x1024x2048 .f32) (a7 : FVec Ideal S32x2048 .f32) (a8 : FVec Ideal S32x1024x1024 .f32) (a9 : FVec Ideal S32x1024 .f32)

/-- A row that the mask keeps lies in a used block, before the block's count of valid rows. -/
theorem filled (i : Cert.On_filled_rows.S116736x1024.Idx) (b : Fin 114) (r : Fin 1024) (hi : (i 0).val = b.val * 1024 + r.val)
    (h : Cert.On_filled_rows.fn (F := Ideal) a0 a1 a2 a3 a4 a5 a6 a7 a8 a9 i = 1#1) :
    (b.val : ℤ) < (used a1).toInt ∧ (r.val : ℤ) < (wordsOf a4 b).toInt := by
  have small : ∀ n : ℕ, n < 2048 → (BitVec.ofNat 32 n).toInt = n := fun n hn => by
    rw [BitVec.toInt_eq_toNat_cond, BitVec.toNat_ofNat]; split_ifs <;> omega
  unfold Cert.On_filled_rows.fn at h
  dsimp only at h
  rw [mask_row] at h
  rw [shapeCast_apply _ _ _ (ix2 b r) (by
    rw [Shape.rowMajor_val_two, Shape.rowMajor_val_two]
    show b.val * 1024 + r.val = (i 0).val * 1 + 0
    omega)] at h
  obtain ⟨h1, h2⟩ := and_one.1 h
  rw [mask_blk] at h1
  have h1 : IntOp.cmpi .slt (BitVec.ofNat 32 b.val) (used a1) = 1#1 := by
    refine Eq.trans ?_ h1
    refine congrArg₂ (IntOp.cmpi .slt) ?_ ?_
    · rfl
    · exact congrArg a1 (S1_idx _ _)
  have h2 : IntOp.cmpi .slt (BitVec.ofNat 32 r.val) (wordsOf a4 b) = 1#1 := by
    refine Eq.trans ?_ h2
    refine congrArg₂ (IntOp.cmpi .slt) ?_ ?_
    · rfl
    · refine congrArg a4 (funext fun a => Fin.ext ?_)
      match a with
      | ⟨0, _⟩ => rfl
  rw [slt_one, small _ (by omega)] at h1
  rw [slt_one, small _ (by omega)] at h2
  exact ⟨h1, h2⟩

end Mask

variable (m : (ℓ : Loc nD τ sig) → Buf (Elt Ideal) ℓ) (ok : TabsOK m) (c : Dev nD)

/-- A point that writes the block `b` back: the block's own, or the last one for the last used block. -/
theorem flushes (b : Fin 114) (hb : b.val < (nu m 0).toNat) :
    ∃ t : Fin grid0.N, ((cfgA m ok).win 3).flush t = true ∧ b.val = min t.val ((nu m 0).toNat - 1) := by
  have hu : 1 ≤ (nu m 0).toNat ∧ (nu m 0).toNat ≤ 114 := used_nat (ok 0).nu_pos (ok 0).nu_le
  have hN : grid0.N = 114 := N_0
  by_cases h : b.val + 1 < (nu m 0).toNat
  · refine ⟨⟨b.val, by omega⟩, ?_, by show b.val = min b.val _; omega⟩
    unfold Pipeline.Window.flush
    rw [Bool.and_eq_true, Bool.or_eq_true]
    refine ⟨rfl, .inr (decide_eq_true ⟨?_, ?_⟩)⟩
    · show b.val + 1 < grid0.N; omega
    · rw [index_rows m ok, index_rows m ok]
      intro e
      have e0 : min (b.val + 1) ((nu m 0).toNat - 1) = min b.val ((nu m 0).toNat - 1) := congrFun e 0
      omega
  · refine ⟨⟨113, by omega⟩, ?_, by show b.val = min 113 _; omega⟩
    unfold Pipeline.Window.flush
    rw [Bool.and_eq_true, Bool.or_eq_true]
    exact ⟨rfl, .inl (decide_eq_true (by show 113 + 1 = grid0.N; omega))⟩

/-- Where an entry of the output's block lies in the array. -/
def place (t : Fin grid0.N) (y : S1024x1024.Idx) : S116736x1024.Idx := (((cfgA m ok).win 3).rect t).emb y
theorem place_row (t : Fin grid0.N) (y : S1024x1024.Idx) : (place m ok t y 0).val = min t.val ((nu m 0).toNat - 1) * 1024 + (y 0).val :=
  (Pipeline.Window.rect_emb_val ((cfgA m ok).win 3) t y (0 : Fin 2)).trans
    (congrArg (fun n => n * 1024 + (y 0).val) (congrFun (index_rows m ok t) (0 : Fin 2)))
theorem place_col (t : Fin grid0.N) (y : S1024x1024.Idx) : (place m ok t y 1).val = (y 1).val :=
  (Pipeline.Window.rect_emb_val ((cfgA m ok).win 3) t y (1 : Fin 2)).trans
    ((congrArg (fun n => n * 1024 + (y 1).val) (congrFun (index_rows m ok t) (1 : Fin 2))).trans
      ((congrArg (· + (y 1).val) (Nat.zero_mul 1024)).trans (Nat.zero_add _)))

/-- What a point that writes back leaves, at the place where it goes. -/
theorem flushed_rows (t : Fin grid0.N) (X : S1024x1024.Idx → EReal) (hX : (rdat m ok c).Leaves 3 t X) (y : S1024x1024.Idx) (b : Fin 114) (q : Fin 1024)
    (hi : (place m ok t y 0).val = b.val * 1024 + q.val) (hq : (q.val : ℤ) < (wordsOf (V m c main_arg4) b).toInt) :
    X y = want m ok c b (place m ok t y 0) (place m ok t y 1) := by
  have hy0 : (y 0).val < 1024 := (y 0).isLt
  have hi' := (place_row m ok t y).symm.trans hi
  have hbq : b.val = min t.val ((nu m 0).toNat - 1) ∧ q.val = (y 0).val := by
    have := q.isLt
    omega
  refine Eq.trans ?_ (leaves_rows m ok c t.val t rfl X hX b hbq.1 q (place m ok t y 0) hi hq (place m ok t y 1))
  refine congrArg X (funext fun a => Fin.ext ?_)
  match a with
  | ⟨0, _⟩ => exact hbq.2.symm
  | ⟨1, _⟩ => exact (place_col m ok t y).symm

/-- The output's array at a row that holds a token. -/
theorem out_rows (r : PUnit × MemSt nD τ sig (Elt Ideal)) (h : Pipeline.RDat.FramePost (cfgA m ok) (rdat m ok) (V m) r)
    (i : S116736x1024.Idx) (b : Fin 114) (q : Fin 1024) (hi : (i 0).val = b.val * 1024 + q.val) (hb : b.val < (nu m 0).toNat)
    (hq : (q.val : ℤ) < (wordsOf (V m c main_arg4) b).toInt) :
    r.2.mem ((c.tc : Thread nD τ).loc main_v0) i = want m ok c b (i 0) (i 1) := by
  obtain ⟨after, hL, hA⟩ := Pipeline.RDat.FramePost.exists_exact h c
  have e : r.2.mem ((c.tc : Thread nD τ).loc main_v0) = ((rdat m ok c).withAfter after).arrAt 3 (cfgA m ok).N := hA 3
  rw [e]
  obtain ⟨t, hf, ht⟩ := flushes m ok b hb
  refine Pipeline.Dat.arrAt_forall_of_flushed ((rdat m ok c).withAfter after) 3
    (fun (i : S116736x1024.Idx) (v : EReal) => ∀ (b : Fin 114) (q : Fin 1024), (i 0).val = b.val * 1024 + q.val → b.val < (nu m 0).toNat →
      (q.val : ℤ) < (wordsOf (V m c main_arg4) b).toInt → v = want m ok c b (i 0) (i 1)) ?_ _ t i t.isLt hf ?_ b q hi hb hq
  · intro t hf y b q hi hb hq
    exact flushed_rows m ok c t (after 3 t) (hL 3 t hf) y b q hi hq
  · refine (Pipeline.Window.emb_mem_blk_iff ((cfgA m ok).win 3) t i).2 fun a => ?_
    have e := congrFun (index_rows m ok t) a
    have hq := q.isLt
    match a with
    | ⟨0, ha⟩ =>
      have e : ((cfgA m ok).win 3).index t ⟨0, ha⟩ = min t.val ((nu m 0).toNat - 1) := e
      show ((cfgA m ok).win 3).index t ⟨0, ha⟩ * 1024 ≤ (i 0).val ∧ (i 0).val < ((cfgA m ok).win 3).index t ⟨0, ha⟩ * 1024 + 1024
      rw [e]; omega
    | ⟨1, ha⟩ =>
      have e : ((cfgA m ok).win 3).index t ⟨1, ha⟩ = 0 := e
      have hl : (i 1).val < 1024 := (i 1).isLt
      show ((cfgA m ok).win 3).index t ⟨1, ha⟩ * 1024 ≤ (i 1).val ∧ (i 1).val < ((cfgA m ok).win 3).index t ⟨1, ha⟩ * 1024 + 1024
      rw [e]; omega

/-- On the rows that hold a token the kernel gives what the reference gives. -/
theorem value (g : Dev nD → PrngReg) (m' : (ℓ : Loc Cert.ReferenceIdeal.nD Cert.ReferenceIdeal.τ Cert.ReferenceIdeal.sig) → Buf (Elt Ideal) ℓ)
    (g' : Dev Cert.ReferenceIdeal.nD → PrngReg) (ok : TabsOK m)
    (ha :
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))) :
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![116736, 1024]⟩ : Shape).Idx, (Cert.On_filled_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![116736, 1024]⟩ : Shape).Idx, (Cert.On_filled_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) i = 1#1 → r.2.mem ((c.tc : Thread Cert.ReferenceIdeal.nD Cert.ReferenceIdeal.τ).loc Cert.ReferenceIdeal.main_v56) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)) := by
  refine ⟨fun c => Cert.ReferenceIdeal.Value.res_main_v56 (F := Ideal) m' c, (θ_run _ _ _).mono (fun r h c => ⟨fun i hm => ?_, args_kept m ok r h.1 c⟩) (run_main m g ok),
    (θ_run _ _ _).mono (fun r h c => ⟨fun i _ => congrFun (h c).1 i, (h c).2⟩) (Cert.ReferenceIdeal.Value.run (F := Ideal) m' g')⟩
  have hl : (i 0).val < 116736 := (i 0).isLt
  have hi : (i 0).val = ((⟨(i 0).val / 1024, by omega⟩ : Fin 114)).val * 1024 + ((⟨(i 0).val % 1024, by omega⟩ : Fin 1024)).val := by
    show (i 0).val = (i 0).val / 1024 * 1024 + (i 0).val % 1024
    omega
  generalize (⟨(i 0).val / 1024, _⟩ : Fin 114) = b at hi
  generalize (⟨(i 0).val % 1024, _⟩ : Fin 1024) = q at hi
  obtain ⟨h1, h2⟩ := filled _ _ _ _ _ _ _ _ _ _ i b q hi hm
  rw [← V_arg m c main_arg1 (by decide)] at h1
  rw [← V_arg m c main_arg4 (by decide)] at h2
  have hu : 1 ≤ (nu m c).toNat ∧ (nu m c).toNat ≤ 114 := used_nat (ok c).nu_pos (ok c).nu_le
  have hb : b.val < (nu m 0).toNat := by
    have e : (nu m c).toInt = ((nu m c).toNat : ℤ) := by
      rw [BitVec.toInt_eq_toNat_cond]; split_ifs <;> omega
    have h1 : (b.val : ℤ) < (nu m c).toInt := h1
    rw [e] at h1
    rw [← one_dev c]
    exact_mod_cast h1
  refine (out_rows m ok c r h.1 i b q hi hb h2).trans ?_
  obtain ⟨e0, -, -, -, -, e5, e6, e7, e8, e9⟩ := ha c
  have he : (V m c main_arg0 (ix1 b)).toInt = ((ex m ok c b).val : ℤ) := by
    have h1 := (ok c).E_lo b
    have h2 := (ok c).E_hi b
    rw [show V m c main_arg0 (ix1 b) = wordsOf (V m c main_arg0) b from congrArg _ (ix1_at114 b)]
    show (wordsOf (V m c main_arg0) b).toInt = ((wordsOf (V m c main_arg0) b).toNat : ℤ)
    rw [BitVec.toInt_eq_toNat_cond] at h1 h2 ⊢
    split_ifs at h1 h2 ⊢ <;> omega
  have a0 := (V_arg m c main_arg0 (by decide)).trans e0.symm
  have a5 := (V_arg m c main_arg5 (by decide)).trans e5.symm
  have a6 := (V_arg m c main_arg6 (by decide)).trans e6.symm
  have a7 := (V_arg m c main_arg7 (by decide)).trans e7.symm
  have a8 := (V_arg m c main_arg8 (by decide)).trans e8.symm
  have a9 := (V_arg m c main_arg9 (by decide)).trans e9.symm
  refine Eq.trans ?_ (congrFun (Cert.ReferenceIdeal.Read.val_main_v56_eq m' c) i).symm
  refine Eq.trans ?_ (Cert.ReferenceIdeal.Hand.result _ _ _ _ _ _ (ex m ok c b) i b q hi ((congrArg (fun f => BitVec.toInt (f (ix1 b))) a0).symm.trans he)).symm
  exact congrFun (congr (congr (congr (congr (congrArg ffnRow (funext fun k => congrFun a5 _)) (funext fun k => funext fun h => congrFun a6 _))
    (funext fun h => congrFun a7 _)) (funext fun k => funext fun h => congrFun a8 _)) (funext fun h => congrFun a9 _)) _

end Cert.KernelIdeal.Hand
end
-- ==== Proof.Mix.Turn.lean ====
/-
# The turned tokens of a tile

The mixer reads the state-space branch with the tokens of a tile in an order of their own: token `8 a + s` of the tile is
row `a` of plane `s`. It writes the rows of each plane, 128 lanes at a time, to every eighth row of a scratch buffer, and
then reads the buffer whole: that turns the tokens into their order. Here is what the buffer holds after so many of these
writes.
-/
module

public import proofs.«01_k».proof.Proof.Gen.Kernel2Ideal.Frame.Runs
public import Idealize.ShloMosaic.Lib.Pointwise
public import Idealize.ShloMosaic.Lib.VecWindow
public import Idealize.ShloMosaic.Lib.WholeRead
public import Idealize.ShloMosaic.Lib.Pipeline.Value

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile in the order of its tokens: chunk `a` of 128 lanes, token `r`, lane `q`. -/
def turned (x : Vec F S8x64x512 .bf16) : FVec F S4x512x128 .f32 :=
  extf .f32 (fun j : S4x512x128.Idx => x (ix3 ⟨(j 1).val % 8, Nat.mod_lt _ (by norm_num)⟩
    ⟨(j 1).val / 8, by have : (j 1).val < 512 := (j 1).isLt; omega⟩
    ⟨128 * (j 0).val + (j 2).val, by have h0 : (j 0).val < 4 := (j 0).isLt; have h2 : (j 2).val < 128 := (j 2).isLt; omega⟩))
    bitsLt_bf16_f32

/-- The rows that the first `n` writes fill: the writes go plane by plane, and chunk by chunk within a plane. -/
def Filled (x : Vec F S8x64x512 .bf16) (g : S4x512x128.Idx → F .f32) (n : ℕ) : Prop :=
  ∀ j : S4x512x128.Idx, 4 * ((j 1).val % 8) + (j 0).val < n → g j = turned x j

/-- What a write puts in a row. -/
theorem pay4_at (v : Vec F S1x64x128 .bf16) (j : S1x64x128.Idx) :
    k0_pay4 v j = FloatOps.extf .f32 bitsLt_bf16_f32 (v j) := by
  have e : k0_pay4 v = extf .f32 (shapeCast S1x64x128 (shapeCast S64x128 v shapeCasts_S1x64x128_S64x128) shapeCasts_S64x128_S1x64x128) bitsLt_bf16_f32 := rfl
  rw [e, shapeCast_shapeCast]; rfl

/-- One write more: plane `s`, chunk `a`. -/
theorem Filled.step {x : Vec F S8x64x512 .bf16} {arg7 : Memref sig .tc .vmem S8x64x512 .bf16} (h7 : arg7.IsWhole)
    {v : View sig .tc .vmem S4x512x128 .f32} {f : v.ty.Contents (Elt F)} {L : List (View.Piece (Elt F) S4x512x128 .f32)}
    {n : ℕ} (a s : ℕ) (ha : a < 4) (hs : s < 8)
    (i1 : ∀ b, S1x64x128.size b = 0 ∨ (![a, s, 0] : Fin 3 → ℕ) b + (![1, 8, 1] : Fin 3 → ℕ) b * (S1x64x128.size b - 1) < S4x512x128.size b)
    (i2 : ∀ b, 0 < (![1, 8, 1] : Fin 3 → ℕ) b)
    (i3 : ∀ b, (![s, 0, 128 * a] : Fin 3 → ℕ) b + S1x64x128.size b ≤ S8x64x512.size b)
    (hn : n = 4 * s + a) (h : Filled x (v.read (Elt F) (v.writes (Elt F) f L)) n) :
    Filled x (v.read (Elt F) (v.writes (Elt F) f (⟨⟨⟨![a, s, 0], S1x64x128.size, ![1, 8, 1], i1⟩, i2⟩,
      k0_pay4 (View.readAt (Elt F) arg7.view (Rect.unit (s := S8x64x512) ![s, 0, 128 * a] S1x64x128.size i3).toLoadRect (h7.unread x))⟩ :: L))) (n + 1) := by
  subst hn
  intro j hj
  have h1 : (j 1).val < 512 := (j 1).isLt
  have h0 : (j 0).val < 4 := (j 0).isLt
  have h2 : (j 2).val < 128 := (j 2).isLt
  by_cases hc : (j 1).val % 8 = s ∧ (j 0).val = a
  · obtain ⟨rfl, rfl⟩ := hc
    rw [View.read_writes_cons_hit_of_coords v f _ _ L (ix3 0 ⟨(j 1).val / 8, by omega⟩ ⟨(j 2).val, h2⟩ : S1x64x128.Idx) j (fun b => by
      match b with
      | ⟨0, _⟩ => show (j 0).val = (j 0).val + 1 * 0; omega
      | ⟨1, _⟩ => show (j 1).val = (j 1).val % 8 + 8 * ((j 1).val / 8); omega
      | ⟨2, _⟩ => show (j 2).val = 0 + 1 * (j 2).val; omega)]
    rw [pay4_at, h7.readAt_unread]
    unfold turned extf
    refine congrArg (fun i => FloatOps.extf .f32 bitsLt_bf16_f32 (x i)) (funext fun b => Fin.ext ?_)
    match b with
    | ⟨0, _⟩ => show (j 1).val % 8 + 1 * 0 = (j 1).val % 8; omega
    | ⟨1, _⟩ => show 0 + 1 * ((j 1).val / 8) = (j 1).val / 8; omega
    | ⟨2, _⟩ => show 128 * (j 0).val + 1 * (j 2).val = 128 * (j 0).val + (j 2).val; omega
  · rw [View.read_writes_cons_miss]
    · exact h j (by omega)
    · intro hm
      have hm := (LoadRect.mem_set _).1 hm
      obtain ⟨p, hp, e0⟩ := hm 0
      obtain ⟨q, hq, e1⟩ := hm 1
      have hp : p < 1 := hp
      have e0 : (j 0).val = a + 1 * p := e0
      have e1 : (j 1).val = s + 8 * q := e1
      omega

/-- After the last write the buffer reads the tile in the order of its tokens. -/
theorem Filled.all {x : Vec F S8x64x512 .bf16} {g : S4x512x128.Idx → F .f32} (h : Filled x g 32) : g = turned x :=
  funext fun j => h j (by have h0 : (j 0).val < 4 := (j 0).isLt; omega)

end Cert.Kernel2Ideal.Hand

end
-- ==== Proof.Mix.First.lean ====
/-
# The first half of a tile: the turn

The body's first eight parts read the tile's rows and turn the tokens of the state-space branch into their order.
-/
module

public import proofs.«01_k».proof.Proof.Mix.Turn
public import Idealize.ShloMosaic.Lib.Pointwise
public import Idealize.ShloMosaic.Lib.VecWindow
public import Idealize.ShloMosaic.Lib.WholeRead
public import Idealize.ShloMosaic.Lib.Pipeline.Value

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole memref's own sizes, held at the contents that read `X`, reads `X`. -/
theorem load_whole {sp : Space} {s : Shape} {e : EltTy} {m : Memref sig .tc sp s e} (h : m.IsWhole) (X : s.Idx → Elt F e) {off : Fin s.rank → ℕ}
    (inb : ∀ a, off a + s.size a ≤ s.size a) :
    View.readAt (Elt F) m.view (Rect.unit off s.size inb).toLoadRect (h.unread X) = X := by
  rw [View.readAt_full, h.read_unread]
/-- A chunk of 128 lanes of the tile in the order of its tokens. -/
def chunk (x6 : Vec F S8x64x512 .bf16) (off : Fin 3 → ℕ) (inb : ∀ a, off a + S1x512x128.size a ≤ S4x512x128.size a) : Vec F S1x512x128 .f32 :=
  fun x => turned x6 ((Rect.unit (s := S4x512x128) off S1x512x128.size inb).toLoadRect.idx x)

/-- The state-space branch of a tile after the GELU, its tokens in their order. -/
def branch (x6 : Vec F S8x64x512 .bf16) : FVec F S512x512 .bf16 :=
  k0_pay40 (chunk x6 ![0, 0, 0] inb_S4x512x128_S1x512x128_0_0_0) (chunk x6 ![1, 0, 0] inb_S4x512x128_S1x512x128_1_0_0)
    (chunk x6 ![2, 0, 0] inb_S4x512x128_S1x512x128_2_0_0) (chunk x6 ![3, 0, 0] inb_S4x512x128_S1x512x128_3_0_0)

set_option maxHeartbeats 1000000 in
/-- The first part: the modulated rows, and the first three writes of the turn. -/
theorem part1 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x2048 .f32) (harg6 : arg6.IsWhole) (arg7 : Memref sig .tc .vmem S8x64x512 .bf16) (harg7 : arg7.IsWhole) (arg8 : Memref sig .tc .vmem S512x512 .bf16) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S2x32x1024 .bf16) (harg21 : arg21.IsWhole) (arg22 : Memref sig .tc .vmem S32x128 .f32) (harg22 : arg22.IsWhole) (arg23 : Memref sig .tc .vmem S512x512 .bf16) (harg23 : arg23.IsWhole) (arg24 : Memref sig .tc .vmem S32x32 .bf16) (harg24 : arg24.IsWhole) (arg25 : Memref sig .tc .vmem S512x1024 .f32) (harg25 : arg25.IsWhole) (arg26 : Memref sig .tc .vmem S512x1024 .bf16) (harg26 : arg26.IsWhole) (arg27 : Memref sig .tc .vmem S4x512 .i32) (harg27 : arg27.IsWhole) (arg28 : Memref sig .tc .vmem S4x512 .f32) (harg28 : arg28.IsWhole) (arg29 : Memref sig .tc .vmem S1x32x128 .f32) (harg29 : arg29.IsWhole) (arg30 : Memref sig .tc .vmem S4x512x128 .f32) (harg30 : arg30.IsWhole)
    (x0 : Vec F S512x1024 .f32) (x1 : Vec F S1x1024 .f32) (x2 : Vec F S1x1024 .f32) (x6 : Vec F S8x64x512 .bf16) (fs : arg30.view.ty.Contents (Elt F)) (E : Set ℕ) (K : PUnit → sProp 𝕄)
    (k : (Σ' (v0 : Vec F S512x1024 .f32), FVec F S512x1024 .bf16) → Prog (TpuEff nD τ sig (Elt F) Λ₀ .tc) PUnit) :
    iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg7.view.loc (c : Thread nD τ) ↦[arg7.view.set]{fullShare} harg7.unread x6)
      ∗ (arg30.view.loc (c : Thread nD τ) ↦[arg30.view.set]{fullShare} fs)
      ∗ (iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg7.view.loc (c : Thread nD τ) ↦[arg7.view.set]{fullShare} harg7.unread x6)
      ∗ (∃ f, ⌜Filled x6 (arg30.view.read (Elt F) f) 3⌝ ∗ arg30.view.loc (c : Thread nD τ) ↦[arg30.view.set]{fullShare} f)) -∗ wp frame (wpE (defs₀ (F := F)) Variants.none c none) E (k ⟨x0, k0_pay3 x0 x1 x2⟩) K))
    ⊢ wp frame (wpE (defs₀ (F := F)) Variants.none c none) E (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 >>= k) K := by
  simp only [k0_part1_eq_skeleton]; unfold k0_part1_skel
  iintro ⟨H0, H1, H2, H6, HS, Hk⟩
  sl_exec
  rw [load_whole harg1, load_whole harg2, load_whole harg3]
  iapply Hk
  isplitl [H0]; · iexact H0
  isplitl [H1]; · iexact H1
  isplitl [H2]; · iexact H2
  isplitl [H6]; · iexact H6
  iexists _; isplitr; swap; · iexact HS
  ipureintro
  exact Filled.step harg7 2 0 (by norm_num) (by norm_num) _ _ _ rfl (Filled.step harg7 1 0 (by norm_num) (by norm_num) _ _ _ rfl (Filled.step harg7 0 0 (by norm_num) (by norm_num) _ _ _ rfl (show Filled x6 (arg30.view.read (Elt F) (arg30.view.writes (Elt F) fs [])) 0 from fun j hj => absurd hj (Nat.not_lt_zero _))))

set_option maxHeartbeats 1000000 in
/-- Parts two to eight: the other writes of the turn, and the buffer read whole. -/
theorem parts2to8 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x2048 .f32) (harg6 : arg6.IsWhole) (arg7 : Memref sig .tc .vmem S8x64x512 .bf16) (harg7 : arg7.IsWhole) (arg8 : Memref sig .tc .vmem S512x512 .bf16) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S2x32x1024 .bf16) (harg21 : arg21.IsWhole) (arg22 : Memref sig .tc .vmem S32x128 .f32) (harg22 : arg22.IsWhole) (arg23 : Memref sig .tc .vmem S512x512 .bf16) (harg23 : arg23.IsWhole) (arg24 : Memref sig .tc .vmem S32x32 .bf16) (harg24 : arg24.IsWhole) (arg25 : Memref sig .tc .vmem S512x1024 .f32) (harg25 : arg25.IsWhole) (arg26 : Memref sig .tc .vmem S512x1024 .bf16) (harg26 : arg26.IsWhole) (arg27 : Memref sig .tc .vmem S4x512 .i32) (harg27 : arg27.IsWhole) (arg28 : Memref sig .tc .vmem S4x512 .f32) (harg28 : arg28.IsWhole) (arg29 : Memref sig .tc .vmem S1x32x128 .f32) (harg29 : arg29.IsWhole) (arg30 : Memref sig .tc .vmem S4x512x128 .f32) (harg30 : arg30.IsWhole)
    (x6 : Vec F S8x64x512 .bf16) (x8 : Vec F S512x1024 .bf16) (fs : arg30.view.ty.Contents (Elt F)) (hf : Filled x6 (arg30.view.read (Elt F) fs) 3) (E : Set ℕ) (K : PUnit → sProp 𝕄)
    (k : (Σ' (v226 : FVec F S512x512 .bf16) (v227 : Vec F S512x1024 .bf16), FVec F S512x1024 .f32) → Prog (TpuEff nD τ sig (Elt F) Λ₀ .tc) PUnit) :
    iprop((arg7.view.loc (c : Thread nD τ) ↦[arg7.view.set]{fullShare} harg7.unread x6) ∗ (arg9.view.loc (c : Thread nD τ) ↦[arg9.view.set]{fullShare} harg9.unread x8) ∗ (arg30.view.loc (c : Thread nD τ) ↦[arg30.view.set]{fullShare} fs)
      ∗ (iprop((arg7.view.loc (c : Thread nD τ) ↦[arg7.view.set]{fullShare} harg7.unread x6) ∗ (arg9.view.loc (c : Thread nD τ) ↦[arg9.view.set]{fullShare} harg9.unread x8)
      ∗ (∃ f, arg30.view.loc (c : Thread nD τ) ↦[arg30.view.set]{fullShare} f)) -∗ wp frame (wpE (defs₀ (F := F)) Variants.none c none) E (k ⟨branch x6, x8, constant S512x1024 .f32 0x00000000#32⟩) K))
    ⊢ wp frame (wpE (defs₀ (F := F)) Variants.none c none) E (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 >>= fun v56 => k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v56 >>= fun _ => k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 >>= fun v110 => k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v110 >>= fun v140 => k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v140 >>= fun _ => k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 >>= fun v194 => k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v194 >>= k) K := by
  iintro ⟨H6, H8, HS, Hk⟩
  simp only [k0_part2_eq_skeleton, k0_part3_eq_skeleton, k0_part4_eq_skeleton, k0_part5_eq_skeleton, k0_part6_eq_skeleton, k0_part7_eq_skeleton, k0_part8_eq_skeleton]
  unfold k0_part2_skel k0_part3_skel k0_part4_skel k0_part5_skel k0_part6_skel k0_part7_skel k0_part8_skel
  sl_exec
  have hA : Filled x6 (arg30.view.read (Elt F) (arg30.view.writes (Elt F) fs (parts2to8.sl.HS_29 arg7 harg7 x6))) 32 :=
    Filled.step harg7 3 7 (by norm_num) (by norm_num) _ _ _ rfl (Filled.step harg7 2 7 (by norm_num) (by norm_num) _ _ _ rfl (Filled.step harg7 1 7 (by norm_num) (by norm_num) _ _ _ rfl (Filled.step harg7 0 7 (by norm_num) (by norm_num) _ _ _ rfl (Filled.step harg7 3 6 (by norm_num) (by norm_num) _ _ _ rfl (Filled.step harg7 2 6 (by norm_num) (by norm_num) _ _ _ rfl (Filled.step harg7 1 6 (by norm_num) (by norm_num) _ _ _ rfl (Filled.step harg7 0 6 (by norm_num) (by norm_num) _ _ _ rfl (Filled.step harg7 3 5 (by norm_num) (by norm_num) _ _ _ rfl (Filled.step harg7 2 5 (by norm_num) (by norm_num) _ _ _ rfl (Filled.step harg7 1 5 (by norm_num) (by norm_num) _ _ _ rfl (Filled.step harg7 0 5 (by norm_num) (by norm_num) _ _ _ rfl (Filled.step harg7 3 4 (by norm_num) (by norm_num) _ _ _ rfl (Filled.step harg7 2 4 (by norm_num) (by norm_num) _ _ _ rfl (Filled.step harg7 1 4 (by norm_num) (by norm_num) _ _ _ rfl (Filled.step harg7 0 4 (by norm_num) (by norm_num) _ _ _ rfl (Filled.step harg7 3 3 (by norm_num) (by norm_num) _ _ _ rfl (Filled.step harg7 2 3 (by norm_num) (by norm_num) _ _ _ rfl (Filled.step harg7 1 3 (by norm_num) (by norm_num) _ _ _ rfl (Filled.step harg7 0 3 (by norm_num) (by norm_num) _ _ _ rfl (Filled.step harg7 3 2 (by norm_num) (by norm_num) _ _ _ rfl (Filled.step harg7 2 2 (by norm_num) (by norm_num) _ _ _ rfl (Filled.step harg7 1 2 (by norm_num) (by norm_num) _ _ _ rfl (Filled.step harg7 0 2 (by norm_num) (by norm_num) _ _ _ rfl (Filled.step harg7 3 1 (by norm_num) (by norm_num) _ _ _ rfl (Filled.step harg7 2 1 (by norm_num) (by norm_num) _ _ _ rfl (Filled.step harg7 1 1 (by norm_num) (by norm_num) _ _ _ rfl (Filled.step harg7 0 1 (by norm_num) (by norm_num) _ _ _ rfl (Filled.step harg7 3 0 (by norm_num) (by norm_num) _ _ _ rfl (show Filled x6 (arg30.view.read (Elt F) (arg30.view.writes (Elt F) fs [])) 3 from hf)))))))))))))))))))))))))))))
  have e : ∀ (off : Fin 3 → ℕ) (inb : ∀ a, off a + S1x512x128.size a ≤ S4x512x128.size a),
      View.readAt (Elt F) arg30.view (Rect.unit (s := S4x512x128) off S1x512x128.size inb).toLoadRect
        (arg30.view.writes (Elt F) fs (parts2to8.sl.HS_29 arg7 harg7 x6)) = chunk x6 off inb :=
    fun off inb => funext fun x => congrFun hA.all _
  rw [load_whole harg9, e, e, e, e]
  iapply Hk
  isplitl [H6]; · iexact H6
  isplitl [H8]; · iexact H8
  iexists _; iexact HS

end Cert.Kernel2Ideal.Hand

end
-- ==== Proof.Mix.Second.lean ====
/-
# The second half of a tile

The gates, the merge, the layer norm and the router's part of the body, part by part: the inputs are left as they were,
and each output holds a named function of the inputs.
-/
module

public import proofs.«01_k».proof.Proof.Mix.First
public import Idealize.ShloMosaic.Lib.Pointwise
public import Idealize.ShloMosaic.Lib.VecWindow
public import Idealize.ShloMosaic.Lib.WholeRead
public import Idealize.ShloMosaic.Lib.Pipeline.Value

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The entries of `X` that a rectangle reads. -/
def look {s : Shape} {e : EltTy} (X : s.Idx → Elt F e) (r : Rect s) : r.shape.Idx → Elt F e := fun x => X (r.toLoadRect.idx x)

/-- A load through a whole memref, held at the contents that read `X`, reads `X` in the load's rectangle. -/
theorem load_part {sp : Space} {s : Shape} {e : EltTy} {m : Memref sig .tc sp s e} (h : m.IsWhole) (X : s.Idx → Elt F e) (r : Rect s) :
    View.readAt (Elt F) m.view r.toLoadRect (h.unread X) = look X r := funext fun x => h.readAt_unread X _ x

set_option maxHeartbeats 1000000 in
/-- The two gates and the state-space branch. -/
theorem part9 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x2048 .f32) (harg6 : arg6.IsWhole) (arg7 : Memref sig .tc .vmem S8x64x512 .bf16) (harg7 : arg7.IsWhole) (arg8 : Memref sig .tc .vmem S512x512 .bf16) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S2x32x1024 .bf16) (harg21 : arg21.IsWhole) (arg22 : Memref sig .tc .vmem S32x128 .f32) (harg22 : arg22.IsWhole) (arg23 : Memref sig .tc .vmem S512x512 .bf16) (harg23 : arg23.IsWhole) (arg24 : Memref sig .tc .vmem S32x32 .bf16) (harg24 : arg24.IsWhole) (arg25 : Memref sig .tc .vmem S512x1024 .f32) (harg25 : arg25.IsWhole) (arg26 : Memref sig .tc .vmem S512x1024 .bf16) (harg26 : arg26.IsWhole) (arg27 : Memref sig .tc .vmem S4x512 .i32) (harg27 : arg27.IsWhole) (arg28 : Memref sig .tc .vmem S4x512 .f32) (harg28 : arg28.IsWhole) (arg29 : Memref sig .tc .vmem S1x32x128 .f32) (harg29 : arg29.IsWhole) (arg30 : Memref sig .tc .vmem S4x512x128 .f32) (harg30 : arg30.IsWhole)
    (v11 : FVec F S512x1024 .bf16) (v226 : FVec F S512x512 .bf16) (v227 : Vec F S512x1024 .bf16) (cst_206 : FVec F S512x1024 .f32) (x9 : Vec F S1x1024 .f32) (x3 : Vec F S1024x1024 .bf16) (x5 : Vec F S1x2048 .f32) (x4 : Vec F S1024x1024 .bf16) (x10 : Vec F S512x1024 .bf16) (x7 : Vec F S512x512 .bf16) (x11 : Vec F S512x1024 .bf16)  (E : Set ℕ) (K : PUnit → sProp 𝕄)
    (k : (Σ' (v250 : FVec F S512x1024 .f32) (v258 : FVec F S512x1024 .f32) (v260 : FVec F S512x1024 .f32) (v261 : Vec F S512x512 .bf16) (v262 : Vec F S512x1024 .bf16), FVec F S512x1024 .f32) → Prog (TpuEff nD τ sig (Elt F) Λ₀ .tc) PUnit) :
    iprop((arg10.view.loc (c : Thread nD τ) ↦[arg10.view.set]{fullShare} harg10.unread x9) ∗ (arg4.view.loc (c : Thread nD τ) ↦[arg4.view.set]{fullShare} harg4.unread x3) ∗ (arg6.view.loc (c : Thread nD τ) ↦[arg6.view.set]{fullShare} harg6.unread x5) ∗ (arg5.view.loc (c : Thread nD τ) ↦[arg5.view.set]{fullShare} harg5.unread x4) ∗ (arg11.view.loc (c : Thread nD τ) ↦[arg11.view.set]{fullShare} harg11.unread x10) ∗ (arg8.view.loc (c : Thread nD τ) ↦[arg8.view.set]{fullShare} harg8.unread x7) ∗ (arg12.view.loc (c : Thread nD τ) ↦[arg12.view.set]{fullShare} harg12.unread x11) ∗ (iprop((arg10.view.loc (c : Thread nD τ) ↦[arg10.view.set]{fullShare} harg10.unread x9) ∗ (arg4.view.loc (c : Thread nD τ) ↦[arg4.view.set]{fullShare} harg4.unread x3) ∗ (arg6.view.loc (c : Thread nD τ) ↦[arg6.view.set]{fullShare} harg6.unread x5) ∗ (arg5.view.loc (c : Thread nD τ) ↦[arg5.view.set]{fullShare} harg5.unread x4) ∗ (arg11.view.loc (c : Thread nD τ) ↦[arg11.view.set]{fullShare} harg11.unread x10) ∗ (arg8.view.loc (c : Thread nD τ) ↦[arg8.view.set]{fullShare} harg8.unread x7) ∗ (arg12.view.loc (c : Thread nD τ) ↦[arg12.view.set]{fullShare} harg12.unread x11)) -∗ wp frame (wpE (defs₀ (F := F)) Variants.none c none) E (k (⟨k0_pay41 v11 x3 (look x5 (Rect.unit (s := S1x2048) ![0, 0] S1x1024.size inb_S1x2048_S1x1024_0_0)), k0_pay42 v11 x4 (look x5 (Rect.unit (s := S1x2048) ![0, 1024] S1x1024.size inb_S1x2048_S1x1024_0_1024)), k0_pay43 v226 v227 cst_206 x9 x10, x7, x11, (constant S512x1024 .f32 0x00000000#32)⟩)) K))
    ⊢ wp frame (wpE (defs₀ (F := F)) Variants.none c none) E (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v11 v226 v227 cst_206 >>= k) K := by
  iintro ⟨H9, H3, H5, H4, H10, H7, H11, Hk⟩
  simp only [k0_part9_eq_skeleton]; unfold k0_part9_skel
  sl_exec
  rw [load_whole harg10, load_whole harg4, load_part harg6, load_whole harg5, load_part harg6, load_whole harg11, load_whole harg8, load_whole harg12]
  iapply Hk
  isplitl [H9]
  · iexact H9
  isplitl [H3]
  · iexact H3
  isplitl [H5]
  · iexact H5
  isplitl [H4]
  · iexact H4
  isplitl [H10]
  · iexact H10
  isplitl [H7]
  · iexact H7
  iexact H11

set_option maxHeartbeats 1000000 in
/-- The merge, and the layer norm of it. -/
theorem part10 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x2048 .f32) (harg6 : arg6.IsWhole) (arg7 : Memref sig .tc .vmem S8x64x512 .bf16) (harg7 : arg7.IsWhole) (arg8 : Memref sig .tc .vmem S512x512 .bf16) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S2x32x1024 .bf16) (harg21 : arg21.IsWhole) (arg22 : Memref sig .tc .vmem S32x128 .f32) (harg22 : arg22.IsWhole) (arg23 : Memref sig .tc .vmem S512x512 .bf16) (harg23 : arg23.IsWhole) (arg24 : Memref sig .tc .vmem S32x32 .bf16) (harg24 : arg24.IsWhole) (arg25 : Memref sig .tc .vmem S512x1024 .f32) (harg25 : arg25.IsWhole) (arg26 : Memref sig .tc .vmem S512x1024 .bf16) (harg26 : arg26.IsWhole) (arg27 : Memref sig .tc .vmem S4x512 .i32) (harg27 : arg27.IsWhole) (arg28 : Memref sig .tc .vmem S4x512 .f32) (harg28 : arg28.IsWhole) (arg29 : Memref sig .tc .vmem S1x32x128 .f32) (harg29 : arg29.IsWhole) (arg30 : Memref sig .tc .vmem S4x512x128 .f32) (harg30 : arg30.IsWhole)
    (v0 : Vec F S512x1024 .f32) (v250 : FVec F S512x1024 .f32) (v258 : FVec F S512x1024 .f32) (v260 : FVec F S512x1024 .f32) (v261 : Vec F S512x512 .bf16) (v262 : Vec F S512x1024 .bf16) (cst_230 : FVec F S512x1024 .f32) (x12 : Vec F S1x1024 .f32) (x13 : Vec F S1024x1024 .bf16) (x14 : Vec F S1x1024 .f32) (x15 : Vec F S1x1024 .f32) (x16 : Vec F S1x1024 .f32) (x17 : Vec F S1x1024 .f32)  (E : Set ℕ) (K : PUnit → sProp 𝕄)
    (k : (Σ' (v288 : Vec F S1x1024 .f32) (v289 : Vec F S1x1024 .f32) (v295 : FVec F S512x1024 .f32) (v300 : FVec F S512x1 .f32), F .f32) → Prog (TpuEff nD τ sig (Elt F) Λ₀ .tc) PUnit) :
    iprop((arg13.view.loc (c : Thread nD τ) ↦[arg13.view.set]{fullShare} harg13.unread x12) ∗ (arg14.view.loc (c : Thread nD τ) ↦[arg14.view.set]{fullShare} harg14.unread x13) ∗ (arg15.view.loc (c : Thread nD τ) ↦[arg15.view.set]{fullShare} harg15.unread x14) ∗ (arg16.view.loc (c : Thread nD τ) ↦[arg16.view.set]{fullShare} harg16.unread x15) ∗ (arg17.view.loc (c : Thread nD τ) ↦[arg17.view.set]{fullShare} harg17.unread x16) ∗ (arg18.view.loc (c : Thread nD τ) ↦[arg18.view.set]{fullShare} harg18.unread x17) ∗ (iprop((arg13.view.loc (c : Thread nD τ) ↦[arg13.view.set]{fullShare} harg13.unread x12) ∗ (arg14.view.loc (c : Thread nD τ) ↦[arg14.view.set]{fullShare} harg14.unread x13) ∗ (arg15.view.loc (c : Thread nD τ) ↦[arg15.view.set]{fullShare} harg15.unread x14) ∗ (arg16.view.loc (c : Thread nD τ) ↦[arg16.view.set]{fullShare} harg16.unread x15) ∗ (arg17.view.loc (c : Thread nD τ) ↦[arg17.view.set]{fullShare} harg17.unread x16) ∗ (arg18.view.loc (c : Thread nD τ) ↦[arg18.view.set]{fullShare} harg18.unread x17)) -∗ wp frame (wpE (defs₀ (F := F)) Variants.none c none) E (k (⟨x16, x17, k0_pay44 v0 v250 v258 v260 v261 v262 cst_230 x12 x13 x14 x15, k0_pay45 v0 v250 v258 v260 v261 v262 cst_230 x12 x13 x14 x15, (Scalar.ofBits .f32 0x3727C5AC#32)⟩)) K))
    ⊢ wp frame (wpE (defs₀ (F := F)) Variants.none c none) E (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v0 v250 v258 v260 v261 v262 cst_230 >>= k) K := by
  iintro ⟨H12, H13, H14, H15, H16, H17, Hk⟩
  simp only [k0_part10_eq_skeleton]; unfold k0_part10_skel
  sl_exec
  rw [load_whole harg13, load_whole harg14, load_whole harg15, load_whole harg16, load_whole harg17, load_whole harg18]
  iapply Hk
  isplitl [H12]
  · iexact H12
  isplitl [H13]
  · iexact H13
  isplitl [H14]
  · iexact H14
  isplitl [H15]
  · iexact H15
  isplitl [H16]
  · iexact H16
  iexact H17

set_option maxHeartbeats 1000000 in
/-- The new row and the next row are stored; the router's logits. -/
theorem part11 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x2048 .f32) (harg6 : arg6.IsWhole) (arg7 : Memref sig .tc .vmem S8x64x512 .bf16) (harg7 : arg7.IsWhole) (arg8 : Memref sig .tc .vmem S512x512 .bf16) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S2x32x1024 .bf16) (harg21 : arg21.IsWhole) (arg22 : Memref sig .tc .vmem S32x128 .f32) (harg22 : arg22.IsWhole) (arg23 : Memref sig .tc .vmem S512x512 .bf16) (harg23 : arg23.IsWhole) (arg24 : Memref sig .tc .vmem S32x32 .bf16) (harg24 : arg24.IsWhole) (arg25 : Memref sig .tc .vmem S512x1024 .f32) (harg25 : arg25.IsWhole) (arg26 : Memref sig .tc .vmem S512x1024 .bf16) (harg26 : arg26.IsWhole) (arg27 : Memref sig .tc .vmem S4x512 .i32) (harg27 : arg27.IsWhole) (arg28 : Memref sig .tc .vmem S4x512 .f32) (harg28 : arg28.IsWhole) (arg29 : Memref sig .tc .vmem S1x32x128 .f32) (harg29 : arg29.IsWhole) (arg30 : Memref sig .tc .vmem S4x512x128 .f32) (harg30 : arg30.IsWhole)
    (v288 : Vec F S1x1024 .f32) (v289 : Vec F S1x1024 .f32) (v295 : FVec F S512x1024 .f32) (v300 : FVec F S512x1 .f32) (cst_252 : F .f32) (x18 : Vec F S1x1024 .f32) (x19 : Vec F S1x1024 .f32) (x20 : Vec F S2x32x1024 .bf16) (x21 : Vec F S32x128 .f32) (f24 : arg25.view.ty.Contents (Elt F)) (f25 : arg26.view.ty.Contents (Elt F)) (E : Set ℕ) (K : PUnit → sProp 𝕄)
    (k : (FVec F S32x512 .f32) → Prog (TpuEff nD τ sig (Elt F) Λ₀ .tc) PUnit) :
    iprop((arg19.view.loc (c : Thread nD τ) ↦[arg19.view.set]{fullShare} harg19.unread x18) ∗ (arg20.view.loc (c : Thread nD τ) ↦[arg20.view.set]{fullShare} harg20.unread x19) ∗ (arg21.view.loc (c : Thread nD τ) ↦[arg21.view.set]{fullShare} harg21.unread x20) ∗ (arg22.view.loc (c : Thread nD τ) ↦[arg22.view.set]{fullShare} harg22.unread x21) ∗ (arg25.view.loc (c : Thread nD τ) ↦[arg25.view.set]{fullShare} f24) ∗ (arg26.view.loc (c : Thread nD τ) ↦[arg26.view.set]{fullShare} f25) ∗ (iprop((arg19.view.loc (c : Thread nD τ) ↦[arg19.view.set]{fullShare} harg19.unread x18) ∗ (arg20.view.loc (c : Thread nD τ) ↦[arg20.view.set]{fullShare} harg20.unread x19) ∗ (arg21.view.loc (c : Thread nD τ) ↦[arg21.view.set]{fullShare} harg21.unread x20) ∗ (arg22.view.loc (c : Thread nD τ) ↦[arg22.view.set]{fullShare} harg22.unread x21) ∗ owns (c : Thread nD τ) arg25 fullShare (k0_pay46 v288 v289 v295 v300 cst_252) ∗ owns (c : Thread nD τ) arg26 fullShare (k0_pay48 v288 v289 v295 v300 cst_252 x18 x19)) -∗ wp frame (wpE (defs₀ (F := F)) Variants.none c none) E (k ((k0_pay49 v288 v289 v295 v300 cst_252 x18 x19 (look x20 (Rect.unit (s := S2x32x1024) ![0, 0, 0] S1x32x1024.size inb_S2x32x1024_S1x32x1024_0_0_0)) (look x20 (Rect.unit (s := S2x32x1024) ![0, 0, 0] S1x32x1024.size inb_S2x32x1024_S1x32x1024_0_0_0)) (look x20 (Rect.unit (s := S2x32x1024) ![1, 0, 0] S1x32x1024.size inb_S2x32x1024_S1x32x1024_1_0_0)) (look x21 (Rect.unit (s := S32x128) ![0, 0] S32x1.size inb_S32x128_S32x1_0_0))))) K))
    ⊢ wp frame (wpE (defs₀ (F := F)) Variants.none c none) E (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v288 v289 v295 v300 cst_252 >>= k) K := by
  iintro ⟨H18, H19, H20, H21, H24, H25, Hk⟩
  simp only [k0_part11_eq_skeleton]; unfold k0_part11_skel
  sl_exec
  rw [load_whole harg19, load_whole harg20, load_part harg21, load_part harg21, load_part harg22]
  iapply Hk
  isplitl [H18]
  · iexact H18
  isplitl [H19]
  · iexact H19
  isplitl [H20]
  · iexact H20
  isplitl [H21]
  · iexact H21
  isplitl [H24]
  · unfold owns; iexists _; isplitr; swap
    · iexact H24
    ipureintro; exact View.read_writes_full _ _ _ _ _
  unfold owns; iexists _; isplitr; swap
  · iexact H25
  ipureintro; exact View.read_writes_full _ _ _ _ _

set_option maxHeartbeats 1000000 in
/-- The router's ranks: nothing is loaded or stored. -/
theorem part12 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x2048 .f32) (harg6 : arg6.IsWhole) (arg7 : Memref sig .tc .vmem S8x64x512 .bf16) (harg7 : arg7.IsWhole) (arg8 : Memref sig .tc .vmem S512x512 .bf16) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S2x32x1024 .bf16) (harg21 : arg21.IsWhole) (arg22 : Memref sig .tc .vmem S32x128 .f32) (harg22 : arg22.IsWhole) (arg23 : Memref sig .tc .vmem S512x512 .bf16) (harg23 : arg23.IsWhole) (arg24 : Memref sig .tc .vmem S32x32 .bf16) (harg24 : arg24.IsWhole) (arg25 : Memref sig .tc .vmem S512x1024 .f32) (harg25 : arg25.IsWhole) (arg26 : Memref sig .tc .vmem S512x1024 .bf16) (harg26 : arg26.IsWhole) (arg27 : Memref sig .tc .vmem S4x512 .i32) (harg27 : arg27.IsWhole) (arg28 : Memref sig .tc .vmem S4x512 .f32) (harg28 : arg28.IsWhole) (arg29 : Memref sig .tc .vmem S1x32x128 .f32) (harg29 : arg29.IsWhole) (arg30 : Memref sig .tc .vmem S4x512x128 .f32) (harg30 : arg30.IsWhole)
    (v336 : FVec F S32x512 .f32) (E : Set ℕ) (K : PUnit → sProp 𝕄)
    (k : (Σ' (v337 : IVec S32x512 32) (v339 : FVec F S1x512 .f32) (v347 : IVec S32x512 1) (v351 : FVec F S1x512 .f32) (v359 : IVec S32x512 1) (v363 : FVec F S1x512 .f32) (v371 : IVec S32x512 1) (v375 : FVec F S1x512 .f32), IVec S1x512 32) → Prog (TpuEff nD τ sig (Elt F) Λ₀ .tc) PUnit) :
    wp frame (wpE (defs₀ (F := F)) Variants.none c none) E (k (⟨(iota .tc S32x512 32 [0] iota_S32x512_d0_w32), k0_pay50 v336, k0_pay51 v336, k0_pay53 v336, k0_pay54 v336, k0_pay56 v336, k0_pay57 v336, k0_pay59 v336, k0_pay60 v336⟩)) K
    ⊢ wp frame (wpE (defs₀ (F := F)) Variants.none c none) E (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v336 >>= k) K := by
  iintro Hk
  simp only [k0_part12_eq_skeleton]; unfold k0_part12_skel
  sl_exec
  iexact Hk

set_option maxHeartbeats 1000000 in
/-- The positions of the chosen experts. -/
theorem part13 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x2048 .f32) (harg6 : arg6.IsWhole) (arg7 : Memref sig .tc .vmem S8x64x512 .bf16) (harg7 : arg7.IsWhole) (arg8 : Memref sig .tc .vmem S512x512 .bf16) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S2x32x1024 .bf16) (harg21 : arg21.IsWhole) (arg22 : Memref sig .tc .vmem S32x128 .f32) (harg22 : arg22.IsWhole) (arg23 : Memref sig .tc .vmem S512x512 .bf16) (harg23 : arg23.IsWhole) (arg24 : Memref sig .tc .vmem S32x32 .bf16) (harg24 : arg24.IsWhole) (arg25 : Memref sig .tc .vmem S512x1024 .f32) (harg25 : arg25.IsWhole) (arg26 : Memref sig .tc .vmem S512x1024 .bf16) (harg26 : arg26.IsWhole) (arg27 : Memref sig .tc .vmem S4x512 .i32) (harg27 : arg27.IsWhole) (arg28 : Memref sig .tc .vmem S4x512 .f32) (harg28 : arg28.IsWhole) (arg29 : Memref sig .tc .vmem S1x32x128 .f32) (harg29 : arg29.IsWhole) (arg30 : Memref sig .tc .vmem S4x512x128 .f32) (harg30 : arg30.IsWhole)
    (v337 : IVec S32x512 32) (v339 : FVec F S1x512 .f32) (v347 : IVec S32x512 1) (v351 : FVec F S1x512 .f32) (v359 : IVec S32x512 1) (v363 : FVec F S1x512 .f32) (v371 : IVec S32x512 1) (v375 : FVec F S1x512 .f32) (v381 : IVec S1x512 32) (x22 : Vec F S512x512 .bf16) (x23 : Vec F S32x32 .bf16)  (E : Set ℕ) (K : PUnit → sProp 𝕄)
    (k : (Σ' (v383 : IVec S32x512 1) (v399 : FVec F S4x512 .f32) (v411 : FVec F S32x128 .f32) (v424 : FVec F S32x512 .f32) (v428 : FVec F S1x512 .f32), F .f32) → Prog (TpuEff nD τ sig (Elt F) Λ₀ .tc) PUnit) :
    iprop((arg23.view.loc (c : Thread nD τ) ↦[arg23.view.set]{fullShare} harg23.unread x22) ∗ (arg24.view.loc (c : Thread nD τ) ↦[arg24.view.set]{fullShare} harg24.unread x23) ∗ (iprop((arg23.view.loc (c : Thread nD τ) ↦[arg23.view.set]{fullShare} harg23.unread x22) ∗ (arg24.view.loc (c : Thread nD τ) ↦[arg24.view.set]{fullShare} harg24.unread x23)) -∗ wp frame (wpE (defs₀ (F := F)) Variants.none c none) E (k (⟨k0_pay61 v337 v381, k0_pay62 v339 v351 v363 v375, k0_pay64 (F := F) v337 v347 v359 v371 v381, k0_pay65 v337 v347 v359 v371 v381 x22 x23, k0_pay66 v337 v347 v359 v371 v381 x22 x23, (Scalar.ofBits .f32 0x00000000#32)⟩)) K))
    ⊢ wp frame (wpE (defs₀ (F := F)) Variants.none c none) E (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v337 v339 v347 v351 v359 v363 v371 v375 v381 >>= k) K := by
  iintro ⟨H22, H23, Hk⟩
  simp only [k0_part13_eq_skeleton]; unfold k0_part13_skel
  sl_exec
  rw [load_whole harg23, load_whole harg24]
  iapply Hk
  isplitl [H22]
  · iexact H22
  iexact H23

set_option maxHeartbeats 1000000 in
/-- The last three stores. -/
theorem tailStores (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x2048 .f32) (harg6 : arg6.IsWhole) (arg7 : Memref sig .tc .vmem S8x64x512 .bf16) (harg7 : arg7.IsWhole) (arg8 : Memref sig .tc .vmem S512x512 .bf16) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S2x32x1024 .bf16) (harg21 : arg21.IsWhole) (arg22 : Memref sig .tc .vmem S32x128 .f32) (harg22 : arg22.IsWhole) (arg23 : Memref sig .tc .vmem S512x512 .bf16) (harg23 : arg23.IsWhole) (arg24 : Memref sig .tc .vmem S32x32 .bf16) (harg24 : arg24.IsWhole) (arg25 : Memref sig .tc .vmem S512x1024 .f32) (harg25 : arg25.IsWhole) (arg26 : Memref sig .tc .vmem S512x1024 .bf16) (harg26 : arg26.IsWhole) (arg27 : Memref sig .tc .vmem S4x512 .i32) (harg27 : arg27.IsWhole) (arg28 : Memref sig .tc .vmem S4x512 .f32) (harg28 : arg28.IsWhole) (arg29 : Memref sig .tc .vmem S1x32x128 .f32) (harg29 : arg29.IsWhole) (arg30 : Memref sig .tc .vmem S4x512x128 .f32) (harg30 : arg30.IsWhole)
    (v359 v371 v383 : IVec S32x512 1) (v399 : FVec F S4x512 .f32) (v411 : FVec F S32x128 .f32) (v424 : FVec F S32x512 .f32) (v428 : FVec F S1x512 .f32) (cst_301 : F .f32)
    (f26 : arg27.view.ty.Contents (Elt F)) (f27 : arg28.view.ty.Contents (Elt F)) (f28 : arg29.view.ty.Contents (Elt F)) (E : Set ℕ) (K : PUnit → sProp 𝕄) :
    iprop((arg27.view.loc (c : Thread nD τ) ↦[arg27.view.set]{fullShare} f26) ∗ (arg28.view.loc (c : Thread nD τ) ↦[arg28.view.set]{fullShare} f27) ∗ (arg29.view.loc (c : Thread nD τ) ↦[arg29.view.set]{fullShare} f28) ∗ (iprop(owns (c : Thread nD τ) arg27 fullShare (k0_pay1 v359 v371 v383 v424 v428 cst_301) ∗ owns (c : Thread nD τ) arg28 fullShare (v399) ∗ owns (c : Thread nD τ) arg29 fullShare (k0_pay2 v411)) -∗ K ⟨⟩))
    ⊢ wp frame (wpE (defs₀ (F := F)) Variants.none c none) E (do
      let v443 : Vec F S4x512 .i32 ← Prog.lift (.load arg27 (Rect.unit (s := S4x512) ![0, 0] S4x512.size inb_S4x512_S4x512_0_0).toLoadRect (View.loadsAt_vmem h_S4x512))
      Prog.lift (.store arg27 (Rect.unit (s := S4x512) ![0, 0] S4x512.size inb_S4x512_S4x512_0_0) (k0_pay1 v359 v371 v383 v424 v428 cst_301) Finset.univ (View.stores_vmem_bits_univ h_S4x512 rfl) (.inl rfl))
      let v444 : Vec F S1x32x128 .f32 ← Prog.lift (.load arg29 (Rect.unit (s := S1x32x128) ![0, 0, 0] S1x32x128.size inb_S1x32x128_S1x32x128_0_0_0).toLoadRect (View.loadsAt_vmem h_S1x32x128))
      Prog.lift (.store arg29 (Rect.unit (s := S1x32x128) ![0, 0, 0] S1x32x128.size inb_S1x32x128_S1x32x128_0_0_0) (k0_pay2 v411) Finset.univ (View.stores_vmem_bits_univ h_S1x32x128 rfl) (.inl rfl))
      let v447 : Vec F S4x512 .f32 ← Prog.lift (.load arg28 (Rect.unit (s := S4x512) ![0, 0] S4x512.size inb_S4x512_S4x512_0_0).toLoadRect (View.loadsAt_vmem h_S4x512))
      Prog.lift (.store arg28 (Rect.unit (s := S4x512) ![0, 0] S4x512.size inb_S4x512_S4x512_0_0) v399 Finset.univ (View.stores_vmem_bits_univ h_S4x512 rfl) (.inl rfl))
      pure ⟨⟩) K := by
  iintro ⟨H26, H27, H28, Hk⟩
  sl_exec
  sl_step
  iapply Hk
  isplitl [H26]
  · unfold owns; iexists _; isplitr; swap
    · iexact H26
    ipureintro; exact View.read_writes_full _ _ _ _ _
  isplitl [H27]
  · unfold owns; iexists _; isplitr; swap
    · iexact H27
    ipureintro; exact View.read_writes_full _ _ _ _ _
  unfold owns; iexists _; isplitr; swap
  · iexact H28
  ipureintro; exact View.read_writes_full _ _ _ _ _

end Cert.Kernel2Ideal.Hand

end
-- ==== Proof.Mix.Body.lean ====
/-
# The body's run

The parts of the body chained: every input's staging buffer ends as it was, and each output's holds a named function of the
inputs.
-/
module

public import proofs.«01_k».proof.Proof.Mix.Second
public import Idealize.ShloMosaic.Lib.Pointwise
public import Idealize.ShloMosaic.Lib.VecWindow
public import Idealize.ShloMosaic.Lib.WholeRead
public import Idealize.ShloMosaic.Lib.Pipeline.Value

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Owning a whole memref at the value `x` is its points-to at the contents that read `x`. -/
theorem pts_of_owns {sp : Space} {s : Shape} {e : EltTy} {c : Dev nD} {m : Memref sig .tc sp s e} (h : m.IsWhole) (x : s.Idx → Elt F e) :
    owns (c : Thread nD τ) m fullShare x ⊢ (m.view.loc (c : Thread nD τ) ↦[m.view.set]{fullShare} h.unread x : sProp 𝕄) := by
  unfold owns
  iintro ⟨%f, %hf, H⟩
  obtain rfl := h.eq_unread hf
  iexact H

/-- And back. -/
theorem owns_of_pts {sp : Space} {s : Shape} {e : EltTy} {c : Dev nD} {m : Memref sig .tc sp s e} (h : m.IsWhole) (x : s.Idx → Elt F e) :
    (m.view.loc (c : Thread nD τ) ↦[m.view.set]{fullShare} h.unread x : sProp 𝕄) ⊢ owns (c : Thread nD τ) m fullShare x := by
  unfold owns
  iintro H
  iexists h.unread x
  isplitr
  · ipureintro; exact h.read_unread x
  iexact H

/-- Owning a memref at some value is owning its elements. -/
theorem pts_of_some {sp : Space} {s : Shape} {e : EltTy} {c : Dev nD} {m : Memref sig .tc sp s e} :
    (∃ d, owns (c : Thread nD τ) m fullShare d) ⊢ (∃ f, m.view.loc (c : Thread nD τ) ↦[m.view.set]{fullShare} f : sProp 𝕄) := by
  unfold owns
  iintro ⟨%d, %f, %hf, H⟩
  iexists f
  iexact H

/-- And back. -/
theorem some_of_pts {sp : Space} {s : Shape} {e : EltTy} {c : Dev nD} {m : Memref sig .tc sp s e} :
    (∃ f, m.view.loc (c : Thread nD τ) ↦[m.view.set]{fullShare} f : sProp 𝕄) ⊢ ∃ d, owns (c : Thread nD τ) m fullShare d := by
  unfold owns
  iintro ⟨%f, H⟩
  iexists m.view.read (Elt F) f, f
  isplitr
  · ipureintro; rfl
  iexact H

/-- The merged rows less their mean. -/
def centred (x0 : Vec F S512x1024 .f32) (x1 : Vec F S1x1024 .f32) (x2 : Vec F S1x1024 .f32) (x3 : Vec F S1024x1024 .bf16) (x4 : Vec F S1024x1024 .bf16) (x5 : Vec F S1x2048 .f32) (x6 : Vec F S8x64x512 .bf16) (x7 : Vec F S512x512 .bf16) (x8 : Vec F S512x1024 .bf16) (x9 : Vec F S1x1024 .f32) (x10 : Vec F S512x1024 .bf16) (x11 : Vec F S512x1024 .bf16) (x12 : Vec F S1x1024 .f32) (x13 : Vec F S1024x1024 .bf16) (x14 : Vec F S1x1024 .f32) (x15 : Vec F S1x1024 .f32) : FVec F S512x1024 .f32 := k0_pay44 x0 (k0_pay41 (k0_pay3 x0 x1 x2) x3 (look x5 (Rect.unit (s := S1x2048) ![0, 0] S1x1024.size inb_S1x2048_S1x1024_0_0))) (k0_pay42 (k0_pay3 x0 x1 x2) x4 (look x5 (Rect.unit (s := S1x2048) ![0, 1024] S1x1024.size inb_S1x2048_S1x1024_0_1024))) (k0_pay43 (branch x6) x8 (constant S512x1024 .f32 0x00000000#32) x9 x10) x7 x11 (constant S512x1024 .f32 0x00000000#32) x12 x13 x14 x15

/-- The merged rows' variances. -/
def spread (x0 : Vec F S512x1024 .f32) (x1 : Vec F S1x1024 .f32) (x2 : Vec F S1x1024 .f32) (x3 : Vec F S1024x1024 .bf16) (x4 : Vec F S1024x1024 .bf16) (x5 : Vec F S1x2048 .f32) (x6 : Vec F S8x64x512 .bf16) (x7 : Vec F S512x512 .bf16) (x8 : Vec F S512x1024 .bf16) (x9 : Vec F S1x1024 .f32) (x10 : Vec F S512x1024 .bf16) (x11 : Vec F S512x1024 .bf16) (x12 : Vec F S1x1024 .f32) (x13 : Vec F S1024x1024 .bf16) (x14 : Vec F S1x1024 .f32) (x15 : Vec F S1x1024 .f32) : FVec F S512x1 .f32 := k0_pay45 x0 (k0_pay41 (k0_pay3 x0 x1 x2) x3 (look x5 (Rect.unit (s := S1x2048) ![0, 0] S1x1024.size inb_S1x2048_S1x1024_0_0))) (k0_pay42 (k0_pay3 x0 x1 x2) x4 (look x5 (Rect.unit (s := S1x2048) ![0, 1024] S1x1024.size inb_S1x2048_S1x1024_0_1024))) (k0_pay43 (branch x6) x8 (constant S512x1024 .f32 0x00000000#32) x9 x10) x7 x11 (constant S512x1024 .f32 0x00000000#32) x12 x13 x14 x15

/-- What the layer norm adds to a variance. -/
def eps : F .f32 := Scalar.ofBits .f32 0x3727C5AC#32

/-- The tile's new rows. -/
def outNew (x0 : Vec F S512x1024 .f32) (x1 : Vec F S1x1024 .f32) (x2 : Vec F S1x1024 .f32) (x3 : Vec F S1024x1024 .bf16) (x4 : Vec F S1024x1024 .bf16) (x5 : Vec F S1x2048 .f32) (x6 : Vec F S8x64x512 .bf16) (x7 : Vec F S512x512 .bf16) (x8 : Vec F S512x1024 .bf16) (x9 : Vec F S1x1024 .f32) (x10 : Vec F S512x1024 .bf16) (x11 : Vec F S512x1024 .bf16) (x12 : Vec F S1x1024 .f32) (x13 : Vec F S1024x1024 .bf16) (x14 : Vec F S1x1024 .f32) (x15 : Vec F S1x1024 .f32) (x16 : Vec F S1x1024 .f32) (x17 : Vec F S1x1024 .f32) : FVec F S512x1024 .f32 := k0_pay46 x16 x17 (centred x0 x1 x2 x3 x4 x5 x6 x7 x8 x9 x10 x11 x12 x13 x14 x15) (spread x0 x1 x2 x3 x4 x5 x6 x7 x8 x9 x10 x11 x12 x13 x14 x15) eps

/-- The tile's next rows. -/
def outNext (x0 : Vec F S512x1024 .f32) (x1 : Vec F S1x1024 .f32) (x2 : Vec F S1x1024 .f32) (x3 : Vec F S1024x1024 .bf16) (x4 : Vec F S1024x1024 .bf16) (x5 : Vec F S1x2048 .f32) (x6 : Vec F S8x64x512 .bf16) (x7 : Vec F S512x512 .bf16) (x8 : Vec F S512x1024 .bf16) (x9 : Vec F S1x1024 .f32) (x10 : Vec F S512x1024 .bf16) (x11 : Vec F S512x1024 .bf16) (x12 : Vec F S1x1024 .f32) (x13 : Vec F S1024x1024 .bf16) (x14 : Vec F S1x1024 .f32) (x15 : Vec F S1x1024 .f32) (x16 : Vec F S1x1024 .f32) (x17 : Vec F S1x1024 .f32) (x18 : Vec F S1x1024 .f32) (x19 : Vec F S1x1024 .f32) : FVec F S512x1024 .bf16 := k0_pay48 x16 x17 (centred x0 x1 x2 x3 x4 x5 x6 x7 x8 x9 x10 x11 x12 x13 x14 x15) (spread x0 x1 x2 x3 x4 x5 x6 x7 x8 x9 x10 x11 x12 x13 x14 x15) eps x18 x19

/-- The tile's router logits. -/
def logits (x0 : Vec F S512x1024 .f32) (x1 : Vec F S1x1024 .f32) (x2 : Vec F S1x1024 .f32) (x3 : Vec F S1024x1024 .bf16) (x4 : Vec F S1024x1024 .bf16) (x5 : Vec F S1x2048 .f32) (x6 : Vec F S8x64x512 .bf16) (x7 : Vec F S512x512 .bf16) (x8 : Vec F S512x1024 .bf16) (x9 : Vec F S1x1024 .f32) (x10 : Vec F S512x1024 .bf16) (x11 : Vec F S512x1024 .bf16) (x12 : Vec F S1x1024 .f32) (x13 : Vec F S1024x1024 .bf16) (x14 : Vec F S1x1024 .f32) (x15 : Vec F S1x1024 .f32) (x16 : Vec F S1x1024 .f32) (x17 : Vec F S1x1024 .f32) (x18 : Vec F S1x1024 .f32) (x19 : Vec F S1x1024 .f32) (x20 : Vec F S2x32x1024 .bf16) (x21 : Vec F S32x128 .f32) : FVec F S32x512 .f32 := (k0_pay49 x16 x17 (centred x0 x1 x2 x3 x4 x5 x6 x7 x8 x9 x10 x11 x12 x13 x14 x15) (spread x0 x1 x2 x3 x4 x5 x6 x7 x8 x9 x10 x11 x12 x13 x14 x15) eps x18 x19 (look x20 (Rect.unit (s := S2x32x1024) ![0, 0, 0] S1x32x1024.size inb_S2x32x1024_S1x32x1024_0_0_0)) (look x20 (Rect.unit (s := S2x32x1024) ![0, 0, 0] S1x32x1024.size inb_S2x32x1024_S1x32x1024_0_0_0)) (look x20 (Rect.unit (s := S2x32x1024) ![1, 0, 0] S1x32x1024.size inb_S2x32x1024_S1x32x1024_1_0_0)) (look x21 (Rect.unit (s := S32x128) ![0, 0] S32x1.size inb_S32x128_S32x1_0_0)))

/-- The positions of the tile's chosen experts, of the logits. -/
def outPos (l : FVec F S32x512 .f32) (x22 : Vec F S512x512 .bf16) (x23 : Vec F S32x32 .bf16) : IVec S4x512 32 :=
  k0_pay1 (k0_pay54 l) (k0_pay57 l) (k0_pay61 (iota .tc S32x512 32 [0] iota_S32x512_d0_w32) (k0_pay60 l)) (k0_pay65 (iota .tc S32x512 32 [0] iota_S32x512_d0_w32) (k0_pay51 l) (k0_pay54 l) (k0_pay57 l) (k0_pay60 l) x22 x23) (k0_pay66 (iota .tc S32x512 32 [0] iota_S32x512_d0_w32) (k0_pay51 l) (k0_pay54 l) (k0_pay57 l) (k0_pay60 l) x22 x23) (Scalar.ofBits .f32 0x00000000#32)

/-- The weights of the tile's chosen experts, of the logits. -/
def outGates (l : FVec F S32x512 .f32) : FVec F S4x512 .f32 := k0_pay62 (k0_pay50 l) (k0_pay53 l) (k0_pay56 l) (k0_pay59 l)

/-- The tile's counts, of the logits. -/
def outCounts (l : FVec F S32x512 .f32) : FVec F S1x32x128 .f32 := k0_pay2 (k0_pay64 (F := F) (iota .tc S32x512 32 [0] iota_S32x512_d0_w32) (k0_pay51 l) (k0_pay54 l) (k0_pay57 l) (k0_pay60 l))

set_option maxHeartbeats 1000000 in
/-- **The body's run.** -/
theorem body_run (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x2048 .f32) (harg6 : arg6.IsWhole) (arg7 : Memref sig .tc .vmem S8x64x512 .bf16) (harg7 : arg7.IsWhole) (arg8 : Memref sig .tc .vmem S512x512 .bf16) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S2x32x1024 .bf16) (harg21 : arg21.IsWhole) (arg22 : Memref sig .tc .vmem S32x128 .f32) (harg22 : arg22.IsWhole) (arg23 : Memref sig .tc .vmem S512x512 .bf16) (harg23 : arg23.IsWhole) (arg24 : Memref sig .tc .vmem S32x32 .bf16) (harg24 : arg24.IsWhole) (arg25 : Memref sig .tc .vmem S512x1024 .f32) (harg25 : arg25.IsWhole) (arg26 : Memref sig .tc .vmem S512x1024 .bf16) (harg26 : arg26.IsWhole) (arg27 : Memref sig .tc .vmem S4x512 .i32) (harg27 : arg27.IsWhole) (arg28 : Memref sig .tc .vmem S4x512 .f32) (harg28 : arg28.IsWhole) (arg29 : Memref sig .tc .vmem S1x32x128 .f32) (harg29 : arg29.IsWhole) (arg30 : Memref sig .tc .vmem S4x512x128 .f32) (harg30 : arg30.IsWhole)
    (x0 : Vec F S512x1024 .f32) (x1 : Vec F S1x1024 .f32) (x2 : Vec F S1x1024 .f32) (x3 : Vec F S1024x1024 .bf16) (x4 : Vec F S1024x1024 .bf16) (x5 : Vec F S1x2048 .f32) (x6 : Vec F S8x64x512 .bf16) (x7 : Vec F S512x512 .bf16) (x8 : Vec F S512x1024 .bf16) (x9 : Vec F S1x1024 .f32) (x10 : Vec F S512x1024 .bf16) (x11 : Vec F S512x1024 .bf16) (x12 : Vec F S1x1024 .f32) (x13 : Vec F S1024x1024 .bf16) (x14 : Vec F S1x1024 .f32) (x15 : Vec F S1x1024 .f32) (x16 : Vec F S1x1024 .f32) (x17 : Vec F S1x1024 .f32) (x18 : Vec F S1x1024 .f32) (x19 : Vec F S1x1024 .f32) (x20 : Vec F S2x32x1024 .bf16) (x21 : Vec F S32x128 .f32) (x22 : Vec F S512x512 .bf16) (x23 : Vec F S32x32 .bf16) (E : Set ℕ) (K : PUnit → sProp 𝕄) :
    iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg6.view.loc (c : Thread nD τ) ↦[arg6.view.set]{fullShare} harg6.unread x5) ∗ (arg7.view.loc (c : Thread nD τ) ↦[arg7.view.set]{fullShare} harg7.unread x6) ∗ (arg8.view.loc (c : Thread nD τ) ↦[arg8.view.set]{fullShare} harg8.unread x7) ∗ (arg9.view.loc (c : Thread nD τ) ↦[arg9.view.set]{fullShare} harg9.unread x8) ∗ (arg10.view.loc (c : Thread nD τ) ↦[arg10.view.set]{fullShare} harg10.unread x9) ∗ (arg11.view.loc (c : Thread nD τ) ↦[arg11.view.set]{fullShare} harg11.unread x10) ∗ (arg12.view.loc (c : Thread nD τ) ↦[arg12.view.set]{fullShare} harg12.unread x11) ∗ (arg13.view.loc (c : Thread nD τ) ↦[arg13.view.set]{fullShare} harg13.unread x12) ∗ (arg14.view.loc (c : Thread nD τ) ↦[arg14.view.set]{fullShare} harg14.unread x13) ∗ (arg15.view.loc (c : Thread nD τ) ↦[arg15.view.set]{fullShare} harg15.unread x14) ∗ (arg16.view.loc (c : Thread nD τ) ↦[arg16.view.set]{fullShare} harg16.unread x15) ∗ (arg17.view.loc (c : Thread nD τ) ↦[arg17.view.set]{fullShare} harg17.unread x16) ∗ (arg18.view.loc (c : Thread nD τ) ↦[arg18.view.set]{fullShare} harg18.unread x17) ∗ (arg19.view.loc (c : Thread nD τ) ↦[arg19.view.set]{fullShare} harg19.unread x18) ∗ (arg20.view.loc (c : Thread nD τ) ↦[arg20.view.set]{fullShare} harg20.unread x19) ∗ (arg21.view.loc (c : Thread nD τ) ↦[arg21.view.set]{fullShare} harg21.unread x20) ∗ (arg22.view.loc (c : Thread nD τ) ↦[arg22.view.set]{fullShare} harg22.unread x21) ∗ (arg23.view.loc (c : Thread nD τ) ↦[arg23.view.set]{fullShare} harg23.unread x22) ∗ (arg24.view.loc (c : Thread nD τ) ↦[arg24.view.set]{fullShare} harg24.unread x23) ∗ (∃ f, arg25.view.loc (c : Thread nD τ) ↦[arg25.view.set]{fullShare} f) ∗ (∃ f, arg26.view.loc (c : Thread nD τ) ↦[arg26.view.set]{fullShare} f) ∗ (∃ f, arg27.view.loc (c : Thread nD τ) ↦[arg27.view.set]{fullShare} f) ∗ (∃ f, arg28.view.loc (c : Thread nD τ) ↦[arg28.view.set]{fullShare} f) ∗ (∃ f, arg29.view.loc (c : Thread nD τ) ↦[arg29.view.set]{fullShare} f) ∗ (∃ f, arg30.view.loc (c : Thread nD τ) ↦[arg30.view.set]{fullShare} f) ∗ (iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg6.view.loc (c : Thread nD τ) ↦[arg6.view.set]{fullShare} harg6.unread x5) ∗ (arg7.view.loc (c : Thread nD τ) ↦[arg7.view.set]{fullShare} harg7.unread x6) ∗ (arg8.view.loc (c : Thread nD τ) ↦[arg8.view.set]{fullShare} harg8.unread x7) ∗ (arg9.view.loc (c : Thread nD τ) ↦[arg9.view.set]{fullShare} harg9.unread x8) ∗ (arg10.view.loc (c : Thread nD τ) ↦[arg10.view.set]{fullShare} harg10.unread x9) ∗ (arg11.view.loc (c : Thread nD τ) ↦[arg11.view.set]{fullShare} harg11.unread x10) ∗ (arg12.view.loc (c : Thread nD τ) ↦[arg12.view.set]{fullShare} harg12.unread x11) ∗ (arg13.view.loc (c : Thread nD τ) ↦[arg13.view.set]{fullShare} harg13.unread x12) ∗ (arg14.view.loc (c : Thread nD τ) ↦[arg14.view.set]{fullShare} harg14.unread x13) ∗ (arg15.view.loc (c : Thread nD τ) ↦[arg15.view.set]{fullShare} harg15.unread x14) ∗ (arg16.view.loc (c : Thread nD τ) ↦[arg16.view.set]{fullShare} harg16.unread x15) ∗ (arg17.view.loc (c : Thread nD τ) ↦[arg17.view.set]{fullShare} harg17.unread x16) ∗ (arg18.view.loc (c : Thread nD τ) ↦[arg18.view.set]{fullShare} harg18.unread x17) ∗ (arg19.view.loc (c : Thread nD τ) ↦[arg19.view.set]{fullShare} harg19.unread x18) ∗ (arg20.view.loc (c : Thread nD τ) ↦[arg20.view.set]{fullShare} harg20.unread x19) ∗ (arg21.view.loc (c : Thread nD τ) ↦[arg21.view.set]{fullShare} harg21.unread x20) ∗ (arg22.view.loc (c : Thread nD τ) ↦[arg22.view.set]{fullShare} harg22.unread x21) ∗ (arg23.view.loc (c : Thread nD τ) ↦[arg23.view.set]{fullShare} harg23.unread x22) ∗ (arg24.view.loc (c : Thread nD τ) ↦[arg24.view.set]{fullShare} harg24.unread x23) ∗ owns (c : Thread nD τ) arg25 fullShare (outNew x0 x1 x2 x3 x4 x5 x6 x7 x8 x9 x10 x11 x12 x13 x14 x15 x16 x17) ∗ owns (c : Thread nD τ) arg26 fullShare (outNext x0 x1 x2 x3 x4 x5 x6 x7 x8 x9 x10 x11 x12 x13 x14 x15 x16 x17 x18 x19) ∗ owns (c : Thread nD τ) arg27 fullShare (outPos (logits x0 x1 x2 x3 x4 x5 x6 x7 x8 x9 x10 x11 x12 x13 x14 x15 x16 x17 x18 x19 x20 x21) x22 x23) ∗ owns (c : Thread nD τ) arg28 fullShare (outGates (logits x0 x1 x2 x3 x4 x5 x6 x7 x8 x9 x10 x11 x12 x13 x14 x15 x16 x17 x18 x19 x20 x21)) ∗ owns (c : Thread nD τ) arg29 fullShare (outCounts (logits x0 x1 x2 x3 x4 x5 x6 x7 x8 x9 x10 x11 x12 x13 x14 x15 x16 x17 x18 x19 x20 x21)) ∗ (∃ f, arg30.view.loc (c : Thread nD τ) ↦[arg30.view.set]{fullShare} f)) -∗ K ⟨⟩))
    ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_mix_eq_skeleton]; unfold cc0_mix_skel
  iintro ⟨H0, H1, H2, H3, H4, H5, H6, H7, H8, H9, H10, H11, H12, H13, H14, H15, H16, H17, H18, H19, H20, H21, H22, H23, ⟨%f24, H24⟩, ⟨%f25, H25⟩, ⟨%f26, H26⟩, ⟨%f27, H27⟩, ⟨%f28, H28⟩, ⟨%fs, HS⟩, Hk⟩
  iapply part1 (fs := fs)
  isplitl [H0]; · iexact H0
  isplitl [H1]; · iexact H1
  isplitl [H2]; · iexact H2
  isplitl [H6]; · iexact H6
  isplitl [HS]; · iexact HS
  iintro ⟨H0, H1, H2, H6, ⟨%f3, %hf3, HS⟩⟩
  dsimp only
  iapply parts2to8 (fs := f3) (hf := hf3)
  isplitl [H6]; · iexact H6
  isplitl [H8]; · iexact H8
  isplitl [HS]; · iexact HS
  iintro ⟨H6, H8, HS⟩
  dsimp only
  iapply part9
  isplitl [H9]; · iexact H9
  isplitl [H3]; · iexact H3
  isplitl [H5]; · iexact H5
  isplitl [H4]; · iexact H4
  isplitl [H10]; · iexact H10
  isplitl [H7]; · iexact H7
  isplitl [H11]; · iexact H11
  iintro ⟨H9, H3, H5, H4, H10, H7, H11⟩
  dsimp only
  iapply part10
  isplitl [H12]; · iexact H12
  isplitl [H13]; · iexact H13
  isplitl [H14]; · iexact H14
  isplitl [H15]; · iexact H15
  isplitl [H16]; · iexact H16
  isplitl [H17]; · iexact H17
  iintro ⟨H12, H13, H14, H15, H16, H17⟩
  dsimp only
  iapply part11 (f24 := f24) (f25 := f25)
  isplitl [H18]; · iexact H18
  isplitl [H19]; · iexact H19
  isplitl [H20]; · iexact H20
  isplitl [H21]; · iexact H21
  isplitl [H24]; · iexact H24
  isplitl [H25]; · iexact H25
  iintro ⟨H18, H19, H20, H21, H24, H25⟩
  dsimp only
  iapply part12
  dsimp only
  iapply part13
  isplitl [H22]; · iexact H22
  isplitl [H23]; · iexact H23
  iintro ⟨H22, H23⟩
  dsimp only
  iapply tailStores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (f26 := f26) (f27 := f27) (f28 := f28)
  isplitl [H26]; · iexact H26
  isplitl [H27]; · iexact H27
  isplitl [H28]; · iexact H28
  iintro ⟨H26, H27, H28⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact HS

end Cert.Kernel2Ideal.Hand

end
-- ==== Proof.Mix.Frame.lean ====
/-
# The launch and the frame

The pipeline's proof data with the body's run, and what follows: every array of the pipeline ends at what the data give, the
arguments end unchanged, and every semaphore counter ends at zero.
-/
module

public import proofs.«01_k».proof.Proof.Mix.Body
public import Idealize.ShloMosaic.Lib.Pointwise
public import Idealize.ShloMosaic.Lib.VecWindow
public import Idealize.ShloMosaic.Lib.WholeRead
public import Idealize.ShloMosaic.Lib.Pipeline.Value
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At grid point `t`: the tile's new rows. -/
def newAt (c : Dev nD) (t : Fin cfg0.N) : FVec F S512x1024 .f32 := outNew (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

/-- At grid point `t`: the tile's next rows. -/
def nextAt (c : Dev nD) (t : Fin cfg0.N) : FVec F S512x1024 .bf16 := outNext (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)

/-- At grid point `t`: the positions of the tile's experts. -/
def posAt (c : Dev nD) (t : Fin cfg0.N) : IVec S4x512 32 := outPos (logits (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) (iblk m c 22 t) (iblk m c 23 t)

/-- At grid point `t`: the weights of the tile's experts. -/
def gatesAt (c : Dev nD) (t : Fin cfg0.N) : FVec F S4x512 .f32 := outGates (logits (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t))

/-- At grid point `t`: the tile's counts. -/
def countsAt (c : Dev nD) (t : Fin cfg0.N) : FVec F S1x32x128 .f32 := outCounts (logits (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t))

/-- The proof data: the inputs' buffers keep their blocks, the outputs' hold the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => newAt m c t
    | ⟨25, _⟩ => nextAt m c t
    | ⟨26, _⟩ => posAt m c t
    | ⟨27, _⟩ => gatesAt m c t
    | ⟨28, _⟩ => countsAt m c t
    | ⟨_ + 29, h⟩ => absurd h (Nat.not_lt.2 (Nat.le_add_left _ _))
  Φ _ := Pipeline.ΦA spec0 c
  q w := Pipeline.shareOf spec0 w
  owed _ := 0

/-- The data's arrays are the region's. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = newAt m c t := by dsimp only [dats]
theorem after_25 (c : Dev nD) (t : Fin cfg0.N) : (dats m 0 c).after 25 t = nextAt m c t := by dsimp only [dats]
theorem after_26 (c : Dev nD) (t : Fin cfg0.N) : (dats m 0 c).after 26 t = posAt m c t := by dsimp only [dats]
theorem after_27 (c : Dev nD) (t : Fin cfg0.N) : (dats m 0 c).after 27 t = gatesAt m c t := by dsimp only [dats]
theorem after_28 (c : Dev nD) (t : Fin cfg0.N) : (dats m 0 c).after 28 t = countsAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d
theorem before_20 (c : Dev nD) (t : Fin cfg0.N) (d) : (dats m 0 c).before 20 t d = iblk m c 20 t :=
  before0_20_of m (dats m 0 c) (A_eq m c 20) (after_20 m c) t d
theorem before_21 (c : Dev nD) (t : Fin cfg0.N) (d) : (dats m 0 c).before 21 t d = iblk m c 21 t :=
  before0_21_of m (dats m 0 c) (A_eq m c 21) (after_21 m c) t d
theorem before_22 (c : Dev nD) (t : Fin cfg0.N) (d) : (dats m 0 c).before 22 t d = iblk m c 22 t :=
  before0_22_of m (dats m 0 c) (A_eq m c 22) (after_22 m c) t d
theorem before_23 (c : Dev nD) (t : Fin cfg0.N) (d) : (dats m 0 c).before 23 t d = iblk m c 23 t :=
  before0_23_of m (dats m 0 c) (A_eq m c 23) (after_23 m c) t d

/-- What the body starts from at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

/-- What the body ends with. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28]
  rw [show (dats m 0 c).Φ t.castSucc = Pipeline.ΦA spec0 c from rfl, PhiA0_eq]
  unfold newAt nextAt posAt gatesAt countsAt
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (body_run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) Set.univ _)
  isplitl [H0]; · iapply (pts_of_owns (hs0_0 t) (iblk m c 0 t)); iexact H0
  isplitl [H1]; · iapply (pts_of_owns (hs0_1 t) (iblk m c 1 t)); iexact H1
  isplitl [H2]; · iapply (pts_of_owns (hs0_2 t) (iblk m c 2 t)); iexact H2
  isplitl [H3]; · iapply (pts_of_owns (hs0_3 t) (iblk m c 3 t)); iexact H3
  isplitl [H4]; · iapply (pts_of_owns (hs0_4 t) (iblk m c 4 t)); iexact H4
  isplitl [H5]; · iapply (pts_of_owns (hs0_5 t) (iblk m c 5 t)); iexact H5
  isplitl [H6]; · iapply (pts_of_owns (hs0_6 t) (iblk m c 6 t)); iexact H6
  isplitl [H7]; · iapply (pts_of_owns (hs0_7 t) (iblk m c 7 t)); iexact H7
  isplitl [H8]; · iapply (pts_of_owns (hs0_8 t) (iblk m c 8 t)); iexact H8
  isplitl [H9]; · iapply (pts_of_owns (hs0_9 t) (iblk m c 9 t)); iexact H9
  isplitl [H10]; · iapply (pts_of_owns (hs0_10 t) (iblk m c 10 t)); iexact H10
  isplitl [H11]; · iapply (pts_of_owns (hs0_11 t) (iblk m c 11 t)); iexact H11
  isplitl [H12]; · iapply (pts_of_owns (hs0_12 t) (iblk m c 12 t)); iexact H12
  isplitl [H13]; · iapply (pts_of_owns (hs0_13 t) (iblk m c 13 t)); iexact H13
  isplitl [H14]; · iapply (pts_of_owns (hs0_14 t) (iblk m c 14 t)); iexact H14
  isplitl [H15]; · iapply (pts_of_owns (hs0_15 t) (iblk m c 15 t)); iexact H15
  isplitl [H16]; · iapply (pts_of_owns (hs0_16 t) (iblk m c 16 t)); iexact H16
  isplitl [H17]; · iapply (pts_of_owns (hs0_17 t) (iblk m c 17 t)); iexact H17
  isplitl [H18]; · iapply (pts_of_owns (hs0_18 t) (iblk m c 18 t)); iexact H18
  isplitl [H19]; · iapply (pts_of_owns (hs0_19 t) (iblk m c 19 t)); iexact H19
  isplitl [H20]; · iapply (pts_of_owns (hs0_20 t) (iblk m c 20 t)); iexact H20
  isplitl [H21]; · iapply (pts_of_owns (hs0_21 t) (iblk m c 21 t)); iexact H21
  isplitl [H22]; · iapply (pts_of_owns (hs0_22 t) (iblk m c 22 t)); iexact H22
  isplitl [H23]; · iapply (pts_of_owns (hs0_23 t) (iblk m c 23 t)); iexact H23
  isplitl [H24]; · iapply pts_of_some; iexists _; iexact H24
  isplitl [H25]; · iapply pts_of_some; iexists _; iexact H25
  isplitl [H26]; · iapply pts_of_some; iexists _; iexact H26
  isplitl [H27]; · iapply pts_of_some; iexists _; iexact H27
  isplitl [H28]; · iapply pts_of_some; iexists _; iexact H28
  isplitl [HS]; · iapply pts_of_some; iexact HS
  iintro ⟨H0, H1, H2, H3, H4, H5, H6, H7, H8, H9, H10, H11, H12, H13, H14, H15, H16, H17, H18, H19, H20, H21, H22, H23, H24, H25, H26, H27, H28, HS⟩
  isplitl [HS Hg]
  · isplitl [HS]
    · iapply some_of_pts; iexact HS
    iexact Hg
  isplitl [Ho]; · iexact Ho
  isplitl [H0]; · iapply (owns_of_pts (hs0_0 t) (iblk m c 0 t)); iexact H0
  isplitl [H1]; · iapply (owns_of_pts (hs0_1 t) (iblk m c 1 t)); iexact H1
  isplitl [H2]; · iapply (owns_of_pts (hs0_2 t) (iblk m c 2 t)); iexact H2
  isplitl [H3]; · iapply (owns_of_pts (hs0_3 t) (iblk m c 3 t)); iexact H3
  isplitl [H4]; · iapply (owns_of_pts (hs0_4 t) (iblk m c 4 t)); iexact H4
  isplitl [H5]; · iapply (owns_of_pts (hs0_5 t) (iblk m c 5 t)); iexact H5
  isplitl [H6]; · iapply (owns_of_pts (hs0_6 t) (iblk m c 6 t)); iexact H6
  isplitl [H7]; · iapply (owns_of_pts (hs0_7 t) (iblk m c 7 t)); iexact H7
  isplitl [H8]; · iapply (owns_of_pts (hs0_8 t) (iblk m c 8 t)); iexact H8
  isplitl [H9]; · iapply (owns_of_pts (hs0_9 t) (iblk m c 9 t)); iexact H9
  isplitl [H10]; · iapply (owns_of_pts (hs0_10 t) (iblk m c 10 t)); iexact H10
  isplitl [H11]; · iapply (owns_of_pts (hs0_11 t) (iblk m c 11 t)); iexact H11
  isplitl [H12]; · iapply (owns_of_pts (hs0_12 t) (iblk m c 12 t)); iexact H12
  isplitl [H13]; · iapply (owns_of_pts (hs0_13 t) (iblk m c 13 t)); iexact H13
  isplitl [H14]; · iapply (owns_of_pts (hs0_14 t) (iblk m c 14 t)); iexact H14
  isplitl [H15]; · iapply (owns_of_pts (hs0_15 t) (iblk m c 15 t)); iexact H15
  isplitl [H16]; · iapply (owns_of_pts (hs0_16 t) (iblk m c 16 t)); iexact H16
  isplitl [H17]; · iapply (owns_of_pts (hs0_17 t) (iblk m c 17 t)); iexact H17
  isplitl [H18]; · iapply (owns_of_pts (hs0_18 t) (iblk m c 18 t)); iexact H18
  isplitl [H19]; · iapply (owns_of_pts (hs0_19 t) (iblk m c 19 t)); iexact H19
  isplitl [H20]; · iapply (owns_of_pts (hs0_20 t) (iblk m c 20 t)); iexact H20
  isplitl [H21]; · iapply (owns_of_pts (hs0_21 t) (iblk m c 21 t)); iexact H21
  isplitl [H22]; · iapply (owns_of_pts (hs0_22 t) (iblk m c 22 t)); iexact H22
  isplitl [H23]; · iapply (owns_of_pts (hs0_23 t) (iblk m c 23 t)); iexact H23
  isplitl [H24]; · iexact H24
  isplitl [H25]; · iexact H25
  isplitl [H26]; · iexact H26
  isplitl [H27]; · iexact H27
  iexact H28

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

attribute [local irreducible] newAt nextAt posAt gatesAt countsAt

set_option maxHeartbeats 1000000 in
/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch ends with the pipeline's arrays as the data give them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame_of m ρ (dats m) (A_eq m) (run_main m ρ)

/-- **The frame**: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  θ_run_and (unchanged m ρ) ((θ_run defs _ _).mono (fun _ h => h.2) (run_main_quiescent m ρ))

end Cert.Kernel2Ideal.Hand

end
-- ==== Proof.Mix.Block.lean ====
/-
# What a grid point reads

Grid point `t` reads rows `512 t` to `512 t + 511` of the arrays that hold a row a token, the block `t` of the state-space
branch's planes, two column blocks of the gates' matrix, and every other argument whole.
-/
module

public import proofs.«01_k».proof.Proof.Mix.Frame
public import Idealize.ShloMosaic.Lib.Pointwise
public import Idealize.ShloMosaic.Lib.VecWindow
public import Idealize.ShloMosaic.Lib.WholeRead
public import Idealize.ShloMosaic.Lib.Pipeline.Value
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

/-- The grid's points are the tiles. -/
theorem points (t : Fin cfg0.N) : t.val < 32 := lt_of_lt_of_eq t.isLt (by decide +kernel : grid0.N = 32)

/-- Where window 0 lies. -/
theorem index_0 : ∀ t : Fin cfg0.N, (cfg0.win 0).index t = ![t.val, 0] := (by decide +kernel : ∀ t : Fin grid0.N, win0_0.index t = ![t.val, 0])

/-- Where window 1 lies. -/
theorem index_1 : ∀ t : Fin cfg0.N, (cfg0.win 1).index t = ![0, 0] := (by decide +kernel : ∀ t : Fin grid0.N, win0_1.index t = ![0, 0])

/-- Where window 2 lies. -/
theorem index_2 : ∀ t : Fin cfg0.N, (cfg0.win 2).index t = ![0, 0] := (by decide +kernel : ∀ t : Fin grid0.N, win0_2.index t = ![0, 0])

/-- Where window 3 lies. -/
theorem index_3 : ∀ t : Fin cfg0.N, (cfg0.win 3).index t = ![0, 1] := (by decide +kernel : ∀ t : Fin grid0.N, win0_3.index t = ![0, 1])

/-- Where window 4 lies. -/
theorem index_4 : ∀ t : Fin cfg0.N, (cfg0.win 4).index t = ![0, 2] := (by decide +kernel : ∀ t : Fin grid0.N, win0_4.index t = ![0, 2])

/-- Where window 5 lies. -/
theorem index_5 : ∀ t : Fin cfg0.N, (cfg0.win 5).index t = ![0, 0] := (by decide +kernel : ∀ t : Fin grid0.N, win0_5.index t = ![0, 0])

/-- Where window 6 lies. -/
theorem index_6 : ∀ t : Fin cfg0.N, (cfg0.win 6).index t = ![0, t.val, 0] := (by decide +kernel : ∀ t : Fin grid0.N, win0_6.index t = ![0, t.val, 0])

/-- Where window 7 lies. -/
theorem index_7 : ∀ t : Fin cfg0.N, (cfg0.win 7).index t = ![t.val, 0] := (by decide +kernel : ∀ t : Fin grid0.N, win0_7.index t = ![t.val, 0])

/-- Where window 8 lies. -/
theorem index_8 : ∀ t : Fin cfg0.N, (cfg0.win 8).index t = ![0, 0] := (by decide +kernel : ∀ t : Fin grid0.N, win0_8.index t = ![0, 0])

/-- Where window 9 lies. -/
theorem index_9 : ∀ t : Fin cfg0.N, (cfg0.win 9).index t = ![0, 0] := (by decide +kernel : ∀ t : Fin grid0.N, win0_9.index t = ![0, 0])

/-- Where window 10 lies. -/
theorem index_10 : ∀ t : Fin cfg0.N, (cfg0.win 10).index t = ![0, 0] := (by decide +kernel : ∀ t : Fin grid0.N, win0_10.index t = ![0, 0])

/-- Where window 11 lies. -/
theorem index_11 : ∀ t : Fin cfg0.N, (cfg0.win 11).index t = ![0, 0] := (by decide +kernel : ∀ t : Fin grid0.N, win0_11.index t = ![0, 0])

/-- Where window 12 lies. -/
theorem index_12 : ∀ t : Fin cfg0.N, (cfg0.win 12).index t = ![0, 0] := (by decide +kernel : ∀ t : Fin grid0.N, win0_12.index t = ![0, 0])

/-- Where window 13 lies. -/
theorem index_13 : ∀ t : Fin cfg0.N, (cfg0.win 13).index t = ![0, 0] := (by decide +kernel : ∀ t : Fin grid0.N, win0_13.index t = ![0, 0])

/-- Where window 14 lies. -/
theorem index_14 : ∀ t : Fin cfg0.N, (cfg0.win 14).index t = ![0, 0] := (by decide +kernel : ∀ t : Fin grid0.N, win0_14.index t = ![0, 0])

/-- Where window 15 lies. -/
theorem index_15 : ∀ t : Fin cfg0.N, (cfg0.win 15).index t = ![0, 0] := (by decide +kernel : ∀ t : Fin grid0.N, win0_15.index t = ![0, 0])

/-- Where window 16 lies. -/
theorem index_16 : ∀ t : Fin cfg0.N, (cfg0.win 16).index t = ![0, 0] := (by decide +kernel : ∀ t : Fin grid0.N, win0_16.index t = ![0, 0])

/-- Where window 17 lies. -/
theorem index_17 : ∀ t : Fin cfg0.N, (cfg0.win 17).index t = ![0, 0] := (by decide +kernel : ∀ t : Fin grid0.N, win0_17.index t = ![0, 0])

/-- Where window 18 lies. -/
theorem index_18 : ∀ t : Fin cfg0.N, (cfg0.win 18).index t = ![0, 0] := (by decide +kernel : ∀ t : Fin grid0.N, win0_18.index t = ![0, 0])

/-- Where window 19 lies. -/
theorem index_19 : ∀ t : Fin cfg0.N, (cfg0.win 19).index t = ![0, 0] := (by decide +kernel : ∀ t : Fin grid0.N, win0_19.index t = ![0, 0])

/-- Where window 24 lies. -/
theorem index_24 : ∀ t : Fin cfg0.N, (cfg0.win 24).index t = ![t.val, 0] := (by decide +kernel : ∀ t : Fin grid0.N, win0_24.index t = ![t.val, 0])

/-- Where window 25 lies. -/
theorem index_25 : ∀ t : Fin cfg0.N, (cfg0.win 25).index t = ![t.val, 0] := (by decide +kernel : ∀ t : Fin grid0.N, win0_25.index t = ![t.val, 0])

/-- An entry of window 0's block. -/
theorem iblk_0 (t : Fin cfg0.N) (r : Fin 512) (k : Fin 1024) : iblk m c 0 t (ix2 r k) = m ((c : Thread nD τ).loc main_arg0) (ix2 ⟨512 * t.val + r.val, by have := points t; omega⟩ k) := by
  have e : iblk m c 0 t (ix2 r k) = m ((c : Thread nD τ).loc main_arg0) (((cfg0.win 0).rect t).emb (ix2 r k)) := rfl
  rw [e]
  refine congrArg (m ((c : Thread nD τ).loc main_arg0)) (funext fun d => Fin.ext ?_)
  have h := Pipeline.Window.rect_emb_val (cfg0.win 0) t (ix2 r k) d
  rw [h, index_0 t]
  match d with
  | ⟨0, _⟩ => show t.val * 512 + r.val = 512 * t.val + r.val; omega
  | ⟨1, _⟩ => show 0 * 1024 + k.val = k.val; omega

/-- An entry of window 1's block. -/
theorem iblk_1 (t : Fin cfg0.N) (r : Fin 1) (k : Fin 1024) : iblk m c 1 t (ix2 r k) = m ((c : Thread nD τ).loc main_arg1) (ix2 r k) := by
  have e : iblk m c 1 t (ix2 r k) = m ((c : Thread nD τ).loc main_arg1) (((cfg0.win 1).rect t).emb (ix2 r k)) := rfl
  rw [e]
  refine congrArg (m ((c : Thread nD τ).loc main_arg1)) (funext fun d => Fin.ext ?_)
  have h := Pipeline.Window.rect_emb_val (cfg0.win 1) t (ix2 r k) d
  rw [h, index_1 t]
  match d with
  | ⟨0, _⟩ => show 0 * 1 + r.val = r.val; omega
  | ⟨1, _⟩ => show 0 * 1024 + k.val = k.val; omega

/-- An entry of window 2's block. -/
theorem iblk_2 (t : Fin cfg0.N) (r : Fin 1) (k : Fin 1024) : iblk m c 2 t (ix2 r k) = m ((c : Thread nD τ).loc main_arg2) (ix2 r k) := by
  have e : iblk m c 2 t (ix2 r k) = m ((c : Thread nD τ).loc main_arg2) (((cfg0.win 2).rect t).emb (ix2 r k)) := rfl
  rw [e]
  refine congrArg (m ((c : Thread nD τ).loc main_arg2)) (funext fun d => Fin.ext ?_)
  have h := Pipeline.Window.rect_emb_val (cfg0.win 2) t (ix2 r k) d
  rw [h, index_2 t]
  match d with
  | ⟨0, _⟩ => show 0 * 1 + r.val = r.val; omega
  | ⟨1, _⟩ => show 0 * 1024 + k.val = k.val; omega

/-- An entry of window 3's block. -/
theorem iblk_3 (t : Fin cfg0.N) (r : Fin 1024) (k : Fin 1024) : iblk m c 3 t (ix2 r k) = m ((c : Thread nD τ).loc main_arg3) (ix2 r ⟨1024 + k.val, by omega⟩) := by
  have e : iblk m c 3 t (ix2 r k) = m ((c : Thread nD τ).loc main_arg3) (((cfg0.win 3).rect t).emb (ix2 r k)) := rfl
  rw [e]
  refine congrArg (m ((c : Thread nD τ).loc main_arg3)) (funext fun d => Fin.ext ?_)
  have h := Pipeline.Window.rect_emb_val (cfg0.win 3) t (ix2 r k) d
  rw [h, index_3 t]
  match d with
  | ⟨0, _⟩ => show 0 * 1024 + r.val = r.val; omega
  | ⟨1, _⟩ => show 1 * 1024 + k.val = 1024 + k.val; omega

/-- An entry of window 4's block. -/
theorem iblk_4 (t : Fin cfg0.N) (r : Fin 1024) (k : Fin 1024) : iblk m c 4 t (ix2 r k) = m ((c : Thread nD τ).loc main_arg3) (ix2 r ⟨2048 + k.val, by omega⟩) := by
  have e : iblk m c 4 t (ix2 r k) = m ((c : Thread nD τ).loc main_arg3) (((cfg0.win 4).rect t).emb (ix2 r k)) := rfl
  rw [e]
  refine congrArg (m ((c : Thread nD τ).loc main_arg3)) (funext fun d => Fin.ext ?_)
  have h := Pipeline.Window.rect_emb_val (cfg0.win 4) t (ix2 r k) d
  rw [h, index_4 t]
  match d with
  | ⟨0, _⟩ => show 0 * 1024 + r.val = r.val; omega
  | ⟨1, _⟩ => show 2 * 1024 + k.val = 2048 + k.val; omega

/-- An entry of window 5's block. -/
theorem iblk_5 (t : Fin cfg0.N) (r : Fin 1) (k : Fin 2048) : iblk m c 5 t (ix2 r k) = m ((c : Thread nD τ).loc main_arg4) (ix2 r k) := by
  have e : iblk m c 5 t (ix2 r k) = m ((c : Thread nD τ).loc main_arg4) (((cfg0.win 5).rect t).emb (ix2 r k)) := rfl
  rw [e]
  refine congrArg (m ((c : Thread nD τ).loc main_arg4)) (funext fun d => Fin.ext ?_)
  have h := Pipeline.Window.rect_emb_val (cfg0.win 5) t (ix2 r k) d
  rw [h, index_5 t]
  match d with
  | ⟨0, _⟩ => show 0 * 1 + r.val = r.val; omega
  | ⟨1, _⟩ => show 0 * 2048 + k.val = k.val; omega

/-- An entry of window 6's block. -/
theorem iblk_6 (t : Fin cfg0.N) (a : Fin 8) (b : Fin 64) (q : Fin 512) : iblk m c 6 t (ix3 a b q) = m ((c : Thread nD τ).loc main_arg5) (ix3 a ⟨64 * t.val + b.val, by have := points t; omega⟩ q) := by
  have e : iblk m c 6 t (ix3 a b q) = m ((c : Thread nD τ).loc main_arg5) (((cfg0.win 6).rect t).emb (ix3 a b q)) := rfl
  rw [e]
  refine congrArg (m ((c : Thread nD τ).loc main_arg5)) (funext fun d => Fin.ext ?_)
  have h := Pipeline.Window.rect_emb_val (cfg0.win 6) t (ix3 a b q) d
  rw [h, index_6 t]
  match d with
  | ⟨0, _⟩ => show 0 * 8 + a.val = a.val; omega
  | ⟨1, _⟩ => show t.val * 64 + b.val = 64 * t.val + b.val; omega
  | ⟨2, _⟩ => show 0 * 512 + q.val = q.val; omega

/-- An entry of window 7's block. -/
theorem iblk_7 (t : Fin cfg0.N) (r : Fin 512) (k : Fin 512) : iblk m c 7 t (ix2 r k) = m ((c : Thread nD τ).loc main_arg6) (ix2 ⟨512 * t.val + r.val, by have := points t; omega⟩ k) := by
  have e : iblk m c 7 t (ix2 r k) = m ((c : Thread nD τ).loc main_arg6) (((cfg0.win 7).rect t).emb (ix2 r k)) := rfl
  rw [e]
  refine congrArg (m ((c : Thread nD τ).loc main_arg6)) (funext fun d => Fin.ext ?_)
  have h := Pipeline.Window.rect_emb_val (cfg0.win 7) t (ix2 r k) d
  rw [h, index_7 t]
  match d with
  | ⟨0, _⟩ => show t.val * 512 + r.val = 512 * t.val + r.val; omega
  | ⟨1, _⟩ => show 0 * 512 + k.val = k.val; omega

/-- An entry of window 8's block. -/
theorem iblk_8 (t : Fin cfg0.N) (r : Fin 512) (k : Fin 1024) : iblk m c 8 t (ix2 r k) = m ((c : Thread nD τ).loc main_arg7) (ix2 r k) := by
  have e : iblk m c 8 t (ix2 r k) = m ((c : Thread nD τ).loc main_arg7) (((cfg0.win 8).rect t).emb (ix2 r k)) := rfl
  rw [e]
  refine congrArg (m ((c : Thread nD τ).loc main_arg7)) (funext fun d => Fin.ext ?_)
  have h := Pipeline.Window.rect_emb_val (cfg0.win 8) t (ix2 r k) d
  rw [h, index_8 t]
  match d with
  | ⟨0, _⟩ => show 0 * 512 + r.val = r.val; omega
  | ⟨1, _⟩ => show 0 * 1024 + k.val = k.val; omega

/-- An entry of window 9's block. -/
theorem iblk_9 (t : Fin cfg0.N) (r : Fin 1) (k : Fin 1024) : iblk m c 9 t (ix2 r k) = m ((c : Thread nD τ).loc main_arg8) (ix2 r k) := by
  have e : iblk m c 9 t (ix2 r k) = m ((c : Thread nD τ).loc main_arg8) (((cfg0.win 9).rect t).emb (ix2 r k)) := rfl
  rw [e]
  refine congrArg (m ((c : Thread nD τ).loc main_arg8)) (funext fun d => Fin.ext ?_)
  have h := Pipeline.Window.rect_emb_val (cfg0.win 9) t (ix2 r k) d
  rw [h, index_9 t]
  match d with
  | ⟨0, _⟩ => show 0 * 1 + r.val = r.val; omega
  | ⟨1, _⟩ => show 0 * 1024 + k.val = k.val; omega

/-- An entry of window 10's block. -/
theorem iblk_10 (t : Fin cfg0.N) (r : Fin 512) (k : Fin 1024) : iblk m c 10 t (ix2 r k) = m ((c : Thread nD τ).loc main_arg9) (ix2 r k) := by
  have e : iblk m c 10 t (ix2 r k) = m ((c : Thread nD τ).loc main_arg9) (((cfg0.win 10).rect t).emb (ix2 r k)) := rfl
  rw [e]
  refine congrArg (m ((c : Thread nD τ).loc main_arg9)) (funext fun d => Fin.ext ?_)
  have h := Pipeline.Window.rect_emb_val (cfg0.win 10) t (ix2 r k) d
  rw [h, index_10 t]
  match d with
  | ⟨0, _⟩ => show 0 * 512 + r.val = r.val; omega
  | ⟨1, _⟩ => show 0 * 1024 + k.val = k.val; omega

/-- An entry of window 11's block. -/
theorem iblk_11 (t : Fin cfg0.N) (r : Fin 512) (k : Fin 1024) : iblk m c 11 t (ix2 r k) = m ((c : Thread nD τ).loc main_arg10) (ix2 r k) := by
  have e : iblk m c 11 t (ix2 r k) = m ((c : Thread nD τ).loc main_arg10) (((cfg0.win 11).rect t).emb (ix2 r k)) := rfl
  rw [e]
  refine congrArg (m ((c : Thread nD τ).loc main_arg10)) (funext fun d => Fin.ext ?_)
  have h := Pipeline.Window.rect_emb_val (cfg0.win 11) t (ix2 r k) d
  rw [h, index_11 t]
  match d with
  | ⟨0, _⟩ => show 0 * 512 + r.val = r.val; omega
  | ⟨1, _⟩ => show 0 * 1024 + k.val = k.val; omega

/-- An entry of window 12's block. -/
theorem iblk_12 (t : Fin cfg0.N) (r : Fin 1) (k : Fin 1024) : iblk m c 12 t (ix2 r k) = m ((c : Thread nD τ).loc main_arg11) (ix2 r k) := by
  have e : iblk m c 12 t (ix2 r k) = m ((c : Thread nD τ).loc main_arg11) (((cfg0.win 12).rect t).emb (ix2 r k)) := rfl
  rw [e]
  refine congrArg (m ((c : Thread nD τ).loc main_arg11)) (funext fun d => Fin.ext ?_)
  have h := Pipeline.Window.rect_emb_val (cfg0.win 12) t (ix2 r k) d
  rw [h, index_12 t]
  match d with
  | ⟨0, _⟩ => show 0 * 1 + r.val = r.val; omega
  | ⟨1, _⟩ => show 0 * 1024 + k.val = k.val; omega

/-- An entry of window 13's block. -/
theorem iblk_13 (t : Fin cfg0.N) (r : Fin 1024) (k : Fin 1024) : iblk m c 13 t (ix2 r k) = m ((c : Thread nD τ).loc main_arg12) (ix2 r k) := by
  have e : iblk m c 13 t (ix2 r k) = m ((c : Thread nD τ).loc main_arg12) (((cfg0.win 13).rect t).emb (ix2 r k)) := rfl
  rw [e]
  refine congrArg (m ((c : Thread nD τ).loc main_arg12)) (funext fun d => Fin.ext ?_)
  have h := Pipeline.Window.rect_emb_val (cfg0.win 13) t (ix2 r k) d
  rw [h, index_13 t]
  match d with
  | ⟨0, _⟩ => show 0 * 1024 + r.val = r.val; omega
  | ⟨1, _⟩ => show 0 * 1024 + k.val = k.val; omega

/-- An entry of window 14's block. -/
theorem iblk_14 (t : Fin cfg0.N) (r : Fin 1) (k : Fin 1024) : iblk m c 14 t (ix2 r k) = m ((c : Thread nD τ).loc main_arg13) (ix2 r k) := by
  have e : iblk m c 14 t (ix2 r k) = m ((c : Thread nD τ).loc main_arg13) (((cfg0.win 14).rect t).emb (ix2 r k)) := rfl
  rw [e]
  refine congrArg (m ((c : Thread nD τ).loc main_arg13)) (funext fun d => Fin.ext ?_)
  have h := Pipeline.Window.rect_emb_val (cfg0.win 14) t (ix2 r k) d
  rw [h, index_14 t]
  match d with
  | ⟨0, _⟩ => show 0 * 1 + r.val = r.val; omega
  | ⟨1, _⟩ => show 0 * 1024 + k.val = k.val; omega

/-- An entry of window 15's block. -/
theorem iblk_15 (t : Fin cfg0.N) (r : Fin 1) (k : Fin 1024) : iblk m c 15 t (ix2 r k) = m ((c : Thread nD τ).loc main_arg14) (ix2 r k) := by
  have e : iblk m c 15 t (ix2 r k) = m ((c : Thread nD τ).loc main_arg14) (((cfg0.win 15).rect t).emb (ix2 r k)) := rfl
  rw [e]
  refine congrArg (m ((c : Thread nD τ).loc main_arg14)) (funext fun d => Fin.ext ?_)
  have h := Pipeline.Window.rect_emb_val (cfg0.win 15) t (ix2 r k) d
  rw [h, index_15 t]
  match d with
  | ⟨0, _⟩ => show 0 * 1 + r.val = r.val; omega
  | ⟨1, _⟩ => show 0 * 1024 + k.val = k.val; omega

/-- An entry of window 16's block. -/
theorem iblk_16 (t : Fin cfg0.N) (r : Fin 1) (k : Fin 1024) : iblk m c 16 t (ix2 r k) = m ((c : Thread nD τ).loc main_arg15) (ix2 r k) := by
  have e : iblk m c 16 t (ix2 r k) = m ((c : Thread nD τ).loc main_arg15) (((cfg0.win 16).rect t).emb (ix2 r k)) := rfl
  rw [e]
  refine congrArg (m ((c : Thread nD τ).loc main_arg15)) (funext fun d => Fin.ext ?_)
  have h := Pipeline.Window.rect_emb_val (cfg0.win 16) t (ix2 r k) d
  rw [h, index_16 t]
  match d with
  | ⟨0, _⟩ => show 0 * 1 + r.val = r.val; omega
  | ⟨1, _⟩ => show 0 * 1024 + k.val = k.val; omega

/-- An entry of window 17's block. -/
theorem iblk_17 (t : Fin cfg0.N) (r : Fin 1) (k : Fin 1024) : iblk m c 17 t (ix2 r k) = m ((c : Thread nD τ).loc main_arg16) (ix2 r k) := by
  have e : iblk m c 17 t (ix2 r k) = m ((c : Thread nD τ).loc main_arg16) (((cfg0.win 17).rect t).emb (ix2 r k)) := rfl
  rw [e]
  refine congrArg (m ((c : Thread nD τ).loc main_arg16)) (funext fun d => Fin.ext ?_)
  have h := Pipeline.Window.rect_emb_val (cfg0.win 17) t (ix2 r k) d
  rw [h, index_17 t]
  match d with
  | ⟨0, _⟩ => show 0 * 1 + r.val = r.val; omega
  | ⟨1, _⟩ => show 0 * 1024 + k.val = k.val; omega

/-- An entry of window 18's block. -/
theorem iblk_18 (t : Fin cfg0.N) (r : Fin 1) (k : Fin 1024) : iblk m c 18 t (ix2 r k) = m ((c : Thread nD τ).loc main_arg17) (ix2 r k) := by
  have e : iblk m c 18 t (ix2 r k) = m ((c : Thread nD τ).loc main_arg17) (((cfg0.win 18).rect t).emb (ix2 r k)) := rfl
  rw [e]
  refine congrArg (m ((c : Thread nD τ).loc main_arg17)) (funext fun d => Fin.ext ?_)
  have h := Pipeline.Window.rect_emb_val (cfg0.win 18) t (ix2 r k) d
  rw [h, index_18 t]
  match d with
  | ⟨0, _⟩ => show 0 * 1 + r.val = r.val; omega
  | ⟨1, _⟩ => show 0 * 1024 + k.val = k.val; omega

/-- An entry of window 19's block. -/
theorem iblk_19 (t : Fin cfg0.N) (r : Fin 1) (k : Fin 1024) : iblk m c 19 t (ix2 r k) = m ((c : Thread nD τ).loc main_arg18) (ix2 r k) := by
  have e : iblk m c 19 t (ix2 r k) = m ((c : Thread nD τ).loc main_arg18) (((cfg0.win 19).rect t).emb (ix2 r k)) := rfl
  rw [e]
  refine congrArg (m ((c : Thread nD τ).loc main_arg18)) (funext fun d => Fin.ext ?_)
  have h := Pipeline.Window.rect_emb_val (cfg0.win 19) t (ix2 r k) d
  rw [h, index_19 t]
  match d with
  | ⟨0, _⟩ => show 0 * 1 + r.val = r.val; omega
  | ⟨1, _⟩ => show 0 * 1024 + k.val = k.val; omega

end Cert.Kernel2Ideal.Hand
end
-- ==== Proof.Mix.Row.lean ====
/-
# The mixer's formula of one token

The mixer reads one token's row `h` of the residual stream, its row `ys` of the state-space branch and its row `yf` of the
Fourier branch. `newRow` is the row of the residual stream after the merge and the layer norm, `nextRow` the modulated
row handed to the router and the experts, as the reference writes them. The kernel spells the sigmoids in the half-angle
`tanh` form and moves the halves about: `gate_eq`, `gelu_eq` and `merged_eq` say that this changes nothing, at every
extended real.
-/
module

public import proofs.«01_k».proof.Proof.Row

@[expose] public section
noncomputable section
namespace Cert.Mix
open Idealize.ShloMosaic Cert.Ffn

/-- The matrices, biases and modulations that every token shares. -/
structure Weights where
  /-- The scale of the gates' input. -/
  m1 : Fin 1024 → EReal
  /-- The shift of the gates' input. -/
  s1 : Fin 1024 → EReal
  /-- The matrix of the state-space branch's gate. -/
  wa : Fin 1024 → Fin 1024 → EReal
  /-- The matrix of the Fourier branch's gate. -/
  wb : Fin 1024 → Fin 1024 → EReal
  /-- The bias of the state-space branch's gate. -/
  ba : Fin 1024 → EReal
  /-- The bias of the Fourier branch's gate. -/
  bb : Fin 1024 → EReal
  /-- The matrix of the gated linear unit. -/
  wg : Fin 512 → Fin 1024 → EReal
  /-- Its bias. -/
  bg : Fin 1024 → EReal
  /-- The matrix out of the gated linear unit. -/
  ws : Fin 512 → Fin 1024 → EReal
  /-- The matrix out of the Fourier branch. -/
  wf : Fin 512 → Fin 1024 → EReal
  /-- Its bias. -/
  bf : Fin 1024 → EReal
  /-- The matrix of the merge. -/
  wo : Fin 1024 → Fin 1024 → EReal
  /-- Its bias. -/
  bo : Fin 1024 → EReal
  /-- The gain of the merged branches. -/
  g1 : Fin 1024 → EReal
  /-- The layer norm's scale. -/
  lw : Fin 1024 → EReal
  /-- The layer norm's shift. -/
  lb : Fin 1024 → EReal
  /-- The scale of the experts' input. -/
  m2 : Fin 1024 → EReal
  /-- The shift of the experts' input. -/
  s2 : Fin 1024 → EReal

/-- A row through a matrix, and a bias. -/
def lin {n m : Nat} (x : Fin n → EReal) (w : Fin n → Fin m → EReal) (b : Fin m → EReal) (j : Fin m) : EReal :=
  ∑ k, x k * w k j + b j

/-- The logistic function, as the reference writes it. -/
def logistic (z : EReal) : EReal := Ideal.div 1 (1 + Ideal.exp (-z))

/-- The logistic function in the half-angle form. -/
def logisticK (z : EReal) : EReal :=
  Ideal.ofBits FTy.f32 1056964608#32 * Ideal.tanh (Ideal.ofBits FTy.f32 1056964608#32 * z) + Ideal.ofBits FTy.f32 1056964608#32

/-- The `tanh` of the approximate GELU. -/
def geluTanh (x : EReal) : EReal :=
  Ideal.tanh (Ideal.ofBits FTy.f32 1061962282#32 * (x + Ideal.ofBits FTy.f32 1027024659#32 * (x * x * x)))

/-- The approximate GELU, as the reference writes it. -/
def gelu (x : EReal) : EReal := x * (Ideal.ofBits FTy.f32 1056964608#32 * (1 + geluTanh x))

/-- The approximate GELU, as the kernel writes it. -/
def geluK (x : EReal) : EReal := Ideal.ofBits FTy.f32 1056964608#32 * x * (1 + geluTanh x)

/-- The gated linear unit of a row. -/
def glu (x : Fin 512 → EReal) (w : Fin 512 → Fin 1024 → EReal) (b : Fin 1024 → EReal) (q : Fin 512) : EReal :=
  lin x w b ⟨q.val, by omega⟩ * logistic (lin x w b ⟨512 + q.val, by omega⟩)

/-- The same with the kernel's logistic function. -/
def gluK (x : Fin 512 → EReal) (w : Fin 512 → Fin 1024 → EReal) (b : Fin 1024 → EReal) (q : Fin 512) : EReal :=
  lin x w b ⟨q.val, by omega⟩ * logisticK (lin x w b ⟨512 + q.val, by omega⟩)

/-- The kernel's `tanh` of half the gate's argument. -/
def gateK (h m s : Fin 1024 → EReal) (w : Fin 1024 → Fin 1024 → EReal) (b : Fin 1024 → EReal) (j : Fin 1024) : EReal :=
  Ideal.tanh (∑ k, (h k * (Ideal.ofBits FTy.f32 1056964608#32 * m k) + Ideal.ofBits FTy.f32 1056964608#32 * s k) * w k j
    + Ideal.ofBits FTy.f32 1056964608#32 * b j)

/-- The residual stream and the merged branches, before the layer norm, as the kernel writes it: `ta` and `tb` are the gates'
`tanh`, `s` and `f` the two branches. -/
def mergedK (h ta tb s f : Fin 1024 → EReal) (wo : Fin 1024 → Fin 1024 → EReal) (bo g1 : Fin 1024 → EReal) (j : Fin 1024) : EReal :=
  Ideal.ofBits FTy.f32 1066940400#32 * h j
    + g1 j * (Ideal.ofBits FTy.f32 1056964608#32 * ∑ x, ((ta x + 1) * s x + (tb x + 1) * f x) * wo x j + bo j)

/-- The same of the gates themselves, as the reference writes it. -/
def mergedR (h ga gb s f : Fin 1024 → EReal) (wo : Fin 1024 → Fin 1024 → EReal) (bo g1 : Fin 1024 → EReal) (j : Fin 1024) : EReal :=
  Ideal.ofBits FTy.f32 1066940400#32 * h j + g1 j * lin (fun x => ga x * s x + gb x * f x) wo bo j

/-- The mean of a row. -/
def mean (f : Fin 1024 → EReal) : EReal := Ideal.div (∑ k, f k) (Ideal.ofBits FTy.f32 1149239296#32)

/-- The variance of a row. -/
def var (f : Fin 1024 → EReal) : EReal := mean fun k => (f k - mean f) * (f k - mean f)

/-- The layer norm of a row. -/
def norm (f w b : Fin 1024 → EReal) (j : Fin 1024) : EReal :=
  (f j - mean f) * Ideal.rsqrt (var f + Ideal.ofBits FTy.f32 925353388#32) * w j + b j

/-- The token's row before the layer norm. -/
def mergedRow (p : Weights) (h : Fin 1024 → EReal) (ys yf : Fin 512 → EReal) : Fin 1024 → EReal :=
  mergedR h
    (fun j => logistic (lin (fun k => h k * p.m1 k + p.s1 k) p.wa p.ba j))
    (fun j => logistic (lin (fun k => h k * p.m1 k + p.s1 k) p.wb p.bb j))
    (fun j => ∑ q, glu (fun k => gelu (ys k)) p.wg p.bg q * p.ws q j)
    (lin yf p.wf p.bf) p.wo p.bo p.g1

/-- The token's new row of the residual stream. -/
def newRow (p : Weights) (h : Fin 1024 → EReal) (ys yf : Fin 512 → EReal) (j : Fin 1024) : EReal :=
  norm (mergedRow p h ys yf) p.lw p.lb j

/-- The token's row of the experts' input. -/
def nextRow (p : Weights) (h : Fin 1024 → EReal) (ys yf : Fin 512 → EReal) (j : Fin 1024) : EReal :=
  newRow p h ys yf j * p.m2 j + p.s2 j

/-- A half distributes over a sum of two. -/
theorem half_add (a b : EReal) :
    Ideal.ofBits FTy.f32 1056964608#32 * (a + b) = Ideal.ofBits FTy.f32 1056964608#32 * a + Ideal.ofBits FTy.f32 1056964608#32 * b := by
  rw [half_word]
  exact EReal.left_distrib_of_nonneg_of_ne_top (by exact_mod_cast (by norm_num : (0 : ℝ) ≤ 1 / 2)) (EReal.coe_ne_top _) a b

/-- A half distributes over a finite sum. -/
theorem half_sum {ι : Type} (s : Finset ι) (f : ι → EReal) :
    Ideal.ofBits FTy.f32 1056964608#32 * ∑ k ∈ s, f k = ∑ k ∈ s, Ideal.ofBits FTy.f32 1056964608#32 * f k := by
  classical
  induction s using Finset.induction_on with
  | empty => simp
  | insert a s ha ih => rw [Finset.sum_insert ha, Finset.sum_insert ha, half_add, ih]

/-- The kernel's logistic function is the reference's. -/
theorem logisticK_eq (z : EReal) : logisticK z = logistic z := by
  unfold logisticK logistic
  rw [half_word, half_tanh]

/-- The kernel's GELU is the reference's. -/
theorem gelu_eq (x : EReal) : geluK x = gelu x := by
  unfold geluK gelu
  rw [← mul_assoc, mul_comm x]

/-- The kernel's gated linear unit is the reference's. -/
theorem glu_eq (x : Fin 512 → EReal) (w : Fin 512 → Fin 1024 → EReal) (b : Fin 1024 → EReal) (q : Fin 512) :
    gluK x w b q = glu x w b q := by
  unfold gluK glu
  rw [logisticK_eq]

/-- Half of the kernel's gate, moved by one, is the reference's gate. -/
theorem gate_eq (h m s : Fin 1024 → EReal) (w : Fin 1024 → Fin 1024 → EReal) (b : Fin 1024 → EReal) (j : Fin 1024) :
    Ideal.ofBits FTy.f32 1056964608#32 * (gateK h m s w b j + 1) = logistic (lin (fun k => h k * m k + s k) w b j) := by
  have e : ∑ k, (h k * (Ideal.ofBits FTy.f32 1056964608#32 * m k) + Ideal.ofBits FTy.f32 1056964608#32 * s k) * w k j
      + Ideal.ofBits FTy.f32 1056964608#32 * b j = Ideal.ofBits FTy.f32 1056964608#32 * lin (fun k => h k * m k + s k) w b j := by
    unfold lin
    rw [half_add, half_sum]
    refine congrArg (· + _) (Finset.sum_congr rfl fun k _ => ?_)
    show _ = _ * ((h k * m k + s k) * w k j)
    rw [mul_left_comm (h k), ← half_add, mul_assoc]
  rw [← logisticK_eq]
  unfold gateK logisticK
  rw [e, half_add, mul_one]

/-- The kernel's merge of the gates' `tanh` is the reference's merge of the gates. -/
theorem merged_eq (h ta tb s f : Fin 1024 → EReal) (wo : Fin 1024 → Fin 1024 → EReal) (bo g1 : Fin 1024 → EReal) (j : Fin 1024) :
    mergedK h ta tb s f wo bo g1 j
      = mergedR h (fun x => Ideal.ofBits FTy.f32 1056964608#32 * (ta x + 1)) (fun x => Ideal.ofBits FTy.f32 1056964608#32 * (tb x + 1))
        s f wo bo g1 j := by
  unfold mergedK mergedR lin
  rw [half_sum]
  refine congrArg (fun t => _ + g1 j * (t + bo j)) (Finset.sum_congr rfl fun k _ => ?_)
  show _ = (Ideal.ofBits FTy.f32 1056964608#32 * (ta k + 1) * s k + Ideal.ofBits FTy.f32 1056964608#32 * (tb k + 1) * f k) * wo k j
  rw [← mul_assoc, half_add, mul_assoc, mul_assoc]

end Cert.Mix
end
-- ==== Proof.Mix.Payload.lean ====
/-
# What the mixer's payloads compute, entry by entry

The mixer works on 512 tokens at a time. Each entry of what it stores for them is the formula of its token.
-/
module

public import proofs.«01_k».proof.Proof.Gen.Kernel2Ideal.Skeleton
public import proofs.«01_k».proof.Proof.Mix.Row

@[expose] public section
noncomputable section
namespace Cert.Kernel2Ideal.Hand
open Cert.Kernel2Ideal Cert.Kernel2Ideal.Gen Cert.Mix
open Idealize.ShloMosaic

/-- An entry of the gates' input: halves of the modulated row. -/
theorem pay3_apply (v0 : Vec Ideal S512x1024 .f32) (v1 v6 : Vec Ideal S1x1024 .f32) (r : Fin 512) (k : Fin 1024) :
    k0_pay3 v0 v1 v6 (ix2 r k) = v0 (ix2 r k) * (Ideal.ofBits FTy.f32 1056964608#32 * v1 (ix2 0 k)) + Ideal.ofBits FTy.f32 1056964608#32 * v6 (ix2 0 k) := by
  pointwise [k0_pay3]

/-- An entry of the state-space branch after the GELU: chunk `k / 128` of the four that make up the row. -/
theorem pay40_apply (a b c d : Vec Ideal S1x512x128 .f32) (r k : Fin 512) (ys : Fin 512 → EReal)
    (ha : ∀ q : Fin 128, a (ix3 0 r q) = ys ⟨q.val, by omega⟩) (hb : ∀ q : Fin 128, b (ix3 0 r q) = ys ⟨128 + q.val, by omega⟩)
    (hc : ∀ q : Fin 128, c (ix3 0 r q) = ys ⟨256 + q.val, by omega⟩) (hd : ∀ q : Fin 128, d (ix3 0 r q) = ys ⟨384 + q.val, by omega⟩) :
    k0_pay40 a b c d (ix2 r k) = geluK (ys k) := by
  have hk := k.isLt
  have e : ys k = if h : k.val < 128 then a (ix3 0 r ⟨k.val, h⟩) else if h : k.val - 128 < 128 then b (ix3 0 r ⟨k.val - 128, h⟩)
      else if h : k.val - 128 - 128 < 128 then c (ix3 0 r ⟨k.val - 128 - 128, h⟩) else d (ix3 0 r ⟨k.val - 128 - 128 - 128, by omega⟩) := by
    split
    · rw [ha]
    split
    · rw [hb]; congr 1; ext; show k.val = 128 + (k.val - 128); omega
    split
    · rw [hc]; congr 1; ext; show k.val = 256 + (k.val - 128 - 128); omega
    · rw [hd]; congr 1; ext; show k.val = 384 + (k.val - 128 - 128 - 128); omega
  rw [e]
  pointwise [k0_pay40]
  rfl

/-- An entry of the first gate's `tanh`. -/
theorem pay41_apply (v0 : Vec Ideal S512x1024 .f32) (v1 v6 : Vec Ideal S1x1024 .f32) (w : Vec Ideal S1024x1024 .bf16)
    (b : Vec Ideal S1x1024 .f32) (r : Fin 512) (j : Fin 1024) :
    k0_pay41 (k0_pay3 v0 v1 v6) w b (ix2 r j) = gateK (fun k => v0 (ix2 r k)) (fun k => v1 (ix2 0 k)) (fun k => v6 (ix2 0 k))
      (fun k j => w (ix2 k j)) (fun j => b (ix2 0 j)) j := by
  pointwise [k0_pay41, k0_pay3]
  rfl

/-- An entry of the second gate's `tanh`. -/
theorem pay42_apply (v0 : Vec Ideal S512x1024 .f32) (v1 v6 : Vec Ideal S1x1024 .f32) (w : Vec Ideal S1024x1024 .bf16)
    (b : Vec Ideal S1x1024 .f32) (r : Fin 512) (j : Fin 1024) :
    k0_pay42 (k0_pay3 v0 v1 v6) w b (ix2 r j) = gateK (fun k => v0 (ix2 r k)) (fun k => v1 (ix2 0 k)) (fun k => v6 (ix2 0 k))
      (fun k j => w (ix2 k j)) (fun j => b (ix2 0 j)) j := by
  pointwise [k0_pay42, k0_pay3]
  rfl

/-- An entry of the state-space branch. -/
theorem pay43_apply (x : FVec Ideal S512x512 .bf16) (w : Vec Ideal S512x1024 .bf16) (b : Vec Ideal S1x1024 .f32)
    (ws : Vec Ideal S512x1024 .bf16) (r : Fin 512) (j : Fin 1024) :
    k0_pay43 x w (constant S512x1024 .f32 0x00000000#32) b ws (ix2 r j)
      = ∑ q, gluK (fun k => x (ix2 r k)) (fun k j => w (ix2 k j)) (fun j => b (ix2 0 j)) q * ws (ix2 q j) := by
  pointwise [k0_pay43]
  rfl

/-- The merged row that the layer norm reads. -/
abbrev merged (v0 : Vec Ideal S512x1024 .f32) (ta tb s : FVec Ideal S512x1024 .f32) (yf : Vec Ideal S512x512 .bf16)
    (wf : Vec Ideal S512x1024 .bf16) (bf : Vec Ideal S1x1024 .f32) (wo : Vec Ideal S1024x1024 .bf16) (bo g1 : Vec Ideal S1x1024 .f32)
    (r : Fin 512) : Fin 1024 → EReal :=
  mergedK (fun k => v0 (ix2 r k)) (fun k => ta (ix2 r k)) (fun k => tb (ix2 r k)) (fun k => s (ix2 r k))
    (lin (fun k => yf (ix2 r k)) (fun k j => wf (ix2 k j)) (fun j => bf (ix2 0 j))) (fun k j => wo (ix2 k j)) (fun j => bo (ix2 0 j))
    (fun j => g1 (ix2 0 j))

/-- An entry of the centred merged row. -/
theorem pay44_apply (v0 : Vec Ideal S512x1024 .f32) (ta tb s : FVec Ideal S512x1024 .f32) (yf : Vec Ideal S512x512 .bf16)
    (wf : Vec Ideal S512x1024 .bf16) (bf : Vec Ideal S1x1024 .f32) (wo : Vec Ideal S1024x1024 .bf16) (bo g1 : Vec Ideal S1x1024 .f32)
    (r : Fin 512) (j : Fin 1024) :
    k0_pay44 v0 ta tb s yf wf (constant S512x1024 .f32 0x00000000#32) bf wo bo g1 (ix2 r j)
      = merged v0 ta tb s yf wf bf wo bo g1 r j - mean (merged v0 ta tb s yf wf bf wo bo g1 r) := by
  pointwise [k0_pay44]
  rfl

/-- The variance of the merged row. -/
theorem pay45_apply (v0 : Vec Ideal S512x1024 .f32) (ta tb s : FVec Ideal S512x1024 .f32) (yf : Vec Ideal S512x512 .bf16)
    (wf : Vec Ideal S512x1024 .bf16) (bf : Vec Ideal S1x1024 .f32) (wo : Vec Ideal S1024x1024 .bf16) (bo g1 : Vec Ideal S1x1024 .f32)
    (r : Fin 512) :
    k0_pay45 v0 ta tb s yf wf (constant S512x1024 .f32 0x00000000#32) bf wo bo g1 (ix2 r 0)
      = var (merged v0 ta tb s yf wf bf wo bo g1 r) := by
  pointwise [k0_pay45]
  refine congrArg (fun t => Ideal.div t _) (Finset.sum_congr rfl fun k _ => ?_)
  exact congrArg₂ (· * ·) (pay44_apply v0 ta tb s yf wf bf wo bo g1 r k) (pay44_apply v0 ta tb s yf wf bf wo bo g1 r k)

/-- An entry of the normed row, from the centred row and its variance. -/
theorem pay46_apply (lw lb : Vec Ideal S1x1024 .f32) (x : FVec Ideal S512x1024 .f32) (v : FVec Ideal S512x1 .f32) (r : Fin 512) (j : Fin 1024) :
    k0_pay46 lw lb x v (Scalar.ofBits (F := Ideal) .f32 0x3727C5AC#32) (ix2 r j)
      = x (ix2 r j) * Ideal.rsqrt (v (ix2 r 0) + Ideal.ofBits FTy.f32 925353388#32) * lw (ix2 0 j) + lb (ix2 0 j) := by
  pointwise [k0_pay46]

/-- An entry of the experts' input, from the normed row. -/
theorem pay48_apply (lw lb : Vec Ideal S1x1024 .f32) (x : FVec Ideal S512x1024 .f32) (v : FVec Ideal S512x1 .f32) (e : Ideal .f32)
    (m2 s2 : Vec Ideal S1x1024 .f32) (r : Fin 512) (j : Fin 1024) :
    k0_pay48 lw lb x v e m2 s2 (ix2 r j) = k0_pay46 lw lb x v e (ix2 r j) * m2 (ix2 0 j) + s2 (ix2 0 j) := by
  pointwise [k0_pay48, k0_pay47]

end Cert.Kernel2Ideal.Hand
end
-- ==== Proof.Mix.Tile.lean ====
/-
# A tile's rows

Each row that the mixer stores for a tile is the formula of its token, given the token's rows and the shared weights.
-/
module

public import proofs.«01_k».proof.Proof.Mix.Body
public import proofs.«01_k».proof.Proof.Mix.Payload
public import Idealize.ShloMosaic.Lib.Pointwise
public import Idealize.ShloMosaic.Lib.VecWindow
public import Idealize.ShloMosaic.Lib.WholeRead
public import Idealize.ShloMosaic.Lib.Pipeline.Value
public import Idealize.ShloMosaic.Lib.Claim

@[expose] public section

set_option maxRecDepth 16384

noncomputable section

namespace Cert.Kernel2Ideal.Hand

open Cert.Kernel2Ideal Cert.Kernel2Ideal.Gen Cert.Mix
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A chunk of the turned tile: token `r` is row `r / 8` of plane `r % 8`. -/
theorem chunk_apply (x6 : Vec Ideal S8x64x512 .bf16) (a : ℕ) (ha : a < 4) (inb) (r : Fin 512) (q : Fin 128) :
    chunk x6 ![a, 0, 0] inb (ix3 0 r q)
      = x6 (ix3 ⟨r.val % 8, Nat.mod_lt _ (by norm_num)⟩ ⟨r.val / 8, by omega⟩ ⟨128 * a + q.val, by omega⟩) := by
  have e : (Rect.unit (s := S4x512x128) ![a, 0, 0] S1x512x128.size inb).toLoadRect.idx (ix3 0 r q) = ix3 ⟨a, ha⟩ r q :=
    funext fun d => Fin.ext (by match d with
      | ⟨0, _⟩ => show a + 1 * 0 = a; omega
      | ⟨1, _⟩ => show 0 + 1 * r.val = r.val; omega
      | ⟨2, _⟩ => show 0 + 1 * q.val = q.val; omega)
  unfold chunk
  rw [e]
  rfl

/-- An entry of the state-space branch after the GELU. -/
theorem branch_apply (x6 : Vec Ideal S8x64x512 .bf16) (r k : Fin 512) :
    branch x6 (ix2 r k) = geluK (x6 (ix3 ⟨r.val % 8, Nat.mod_lt _ (by norm_num)⟩ ⟨r.val / 8, by omega⟩ k)) := by
  unfold branch
  refine pay40_apply _ _ _ _ r k (fun k => x6 (ix3 ⟨r.val % 8, Nat.mod_lt _ (by norm_num)⟩ ⟨r.val / 8, by omega⟩ k)) ?_ ?_ ?_ ?_ <;> intro q
  · refine (chunk_apply x6 0 (by norm_num) _ r q).trans (congrArg (fun t => x6 (ix3 _ _ t)) (Fin.ext ?_))
    show 128 * 0 + q.val = q.val; omega
  · exact chunk_apply x6 1 (by norm_num) _ r q
  · exact chunk_apply x6 2 (by norm_num) _ r q
  · exact chunk_apply x6 3 (by norm_num) _ r q

/-- The first gate's biases. -/
theorem look_left (x5 : Vec Ideal S1x2048 .f32) (inb) (j : Fin 1024) :
    look x5 (Rect.unit (s := S1x2048) ![0, 0] S1x1024.size inb) (ix2 0 j) = x5 (ix2 0 ⟨j.val, by omega⟩) :=
  congrArg x5 (funext fun d => Fin.ext (by match d with
    | ⟨0, _⟩ => rfl
    | ⟨1, _⟩ => show 0 + 1 * j.val = j.val; omega))

/-- The second gate's biases. -/
theorem look_right (x5 : Vec Ideal S1x2048 .f32) (inb) (j : Fin 1024) :
    look x5 (Rect.unit (s := S1x2048) ![0, 1024] S1x1024.size inb) (ix2 0 j) = x5 (ix2 0 ⟨1024 + j.val, by omega⟩) :=
  congrArg x5 (funext fun d => Fin.ext (by match d with
    | ⟨0, _⟩ => rfl
    | ⟨1, _⟩ => show 1024 + 1 * j.val = 1024 + j.val; omega))

section

variable (x0 : Vec Ideal S512x1024 .f32) (x1 : Vec Ideal S1x1024 .f32) (x2 : Vec Ideal S1x1024 .f32) (x3 : Vec Ideal S1024x1024 .bf16) (x4 : Vec Ideal S1024x1024 .bf16) (x5 : Vec Ideal S1x2048 .f32) (x6 : Vec Ideal S8x64x512 .bf16) (x7 : Vec Ideal S512x512 .bf16) (x8 : Vec Ideal S512x1024 .bf16) (x9 : Vec Ideal S1x1024 .f32) (x10 : Vec Ideal S512x1024 .bf16) (x11 : Vec Ideal S512x1024 .bf16) (x12 : Vec Ideal S1x1024 .f32) (x13 : Vec Ideal S1024x1024 .bf16) (x14 : Vec Ideal S1x1024 .f32) (x15 : Vec Ideal S1x1024 .f32)
    (p : Weights) (h : Fin 1024 → EReal) (ys yf : Fin 512 → EReal) (r : Fin 512)
    (h0 : ∀ k, x0 (ix2 r k) = h k) (h1 : ∀ k, x1 (ix2 0 k) = p.m1 k) (h2 : ∀ k, x2 (ix2 0 k) = p.s1 k)
    (h3 : ∀ k j, x3 (ix2 k j) = p.wa k j) (h4 : ∀ k j, x4 (ix2 k j) = p.wb k j)
    (h5 : ∀ j : Fin 1024, x5 (ix2 0 ⟨j.val, by omega⟩) = p.ba j) (h5' : ∀ j : Fin 1024, x5 (ix2 0 ⟨1024 + j.val, by omega⟩) = p.bb j)
    (h6 : ∀ k, x6 (ix3 ⟨r.val % 8, Nat.mod_lt _ (by norm_num)⟩ ⟨r.val / 8, by omega⟩ k) = ys k) (h7 : ∀ k, x7 (ix2 r k) = yf k)
    (h8 : ∀ k j, x8 (ix2 k j) = p.wg k j) (h9 : ∀ j, x9 (ix2 0 j) = p.bg j) (h10 : ∀ k j, x10 (ix2 k j) = p.ws k j)
    (h11 : ∀ k j, x11 (ix2 k j) = p.wf k j) (h12 : ∀ j, x12 (ix2 0 j) = p.bf j) (h13 : ∀ k j, x13 (ix2 k j) = p.wo k j)
    (h14 : ∀ j, x14 (ix2 0 j) = p.bo j) (h15 : ∀ j, x15 (ix2 0 j) = p.g1 j)

include h0 h1 h2 h3 h4 h5 h5' h6 h7 h8 h9 h10 h11 h12 h13 h14 h15

/-- The row that the layer norm reads. -/
theorem merged_row : merged x0
    (k0_pay41 (k0_pay3 x0 x1 x2) x3 (look x5 (Rect.unit (s := S1x2048) ![0, 0] S1x1024.size inb_S1x2048_S1x1024_0_0)))
    (k0_pay42 (k0_pay3 x0 x1 x2) x4 (look x5 (Rect.unit (s := S1x2048) ![0, 1024] S1x1024.size inb_S1x2048_S1x1024_0_1024)))
    (k0_pay43 (branch x6) x8 (constant S512x1024 .f32 0x00000000#32) x9 x10) x7 x11 x12 x13 x14 x15 r = mergedRow p h ys yf := by
  have ba : (fun j => look x5 (Rect.unit (s := S1x2048) ![0, 0] S1x1024.size inb_S1x2048_S1x1024_0_0) (ix2 0 j)) = p.ba := funext fun j => (look_left x5 _ j).trans (h5 j)
  have bb : (fun j => look x5 (Rect.unit (s := S1x2048) ![0, 1024] S1x1024.size inb_S1x2048_S1x1024_0_1024) (ix2 0 j)) = p.bb := funext fun j => (look_right x5 _ j).trans (h5' j)
  have e0 : (fun k => x0 (ix2 r k)) = h := funext h0
  have e1 : (fun k => x1 (ix2 0 k)) = p.m1 := funext h1
  have e2 : (fun k => x2 (ix2 0 k)) = p.s1 := funext h2
  have e3 : (fun k j => x3 (ix2 k j)) = p.wa := funext fun k => funext (h3 k)
  have e4 : (fun k j => x4 (ix2 k j)) = p.wb := funext fun k => funext (h4 k)
  have e8 : (fun k j => x8 (ix2 k j)) = p.wg := funext fun k => funext (h8 k)
  have e9 : (fun j => x9 (ix2 0 j)) = p.bg := funext h9
  have e6 : (fun k => branch x6 (ix2 r k)) = fun k => gelu (ys k) := funext fun k => by rw [branch_apply, h6, gelu_eq]
  have ea : (fun j => k0_pay41 (k0_pay3 x0 x1 x2) x3 (look x5 (Rect.unit (s := S1x2048) ![0, 0] S1x1024.size inb_S1x2048_S1x1024_0_0)) (ix2 r j))
      = gateK h p.m1 p.s1 p.wa p.ba := funext fun j => by
    rw [pay41_apply, e0, e1, e2, e3, ba]
  have eb : (fun j => k0_pay42 (k0_pay3 x0 x1 x2) x4 (look x5 (Rect.unit (s := S1x2048) ![0, 1024] S1x1024.size inb_S1x2048_S1x1024_0_1024)) (ix2 r j))
      = gateK h p.m1 p.s1 p.wb p.bb := funext fun j => by
    rw [pay42_apply, e0, e1, e2, e4, bb]
  have es : (fun j => k0_pay43 (branch x6) x8 (constant S512x1024 .f32 0x00000000#32) x9 x10 (ix2 r j))
      = fun j => ∑ q, glu (fun k => gelu (ys k)) p.wg p.bg q * p.ws q j := funext fun j => by
    rw [pay43_apply, e6, e8, e9]
    exact Finset.sum_congr rfl fun q _ => by rw [glu_eq, h10]
  have e7 : (fun k => x7 (ix2 r k)) = yf := funext h7
  have e11 : (fun k j => x11 (ix2 k j)) = p.wf := funext fun k => funext (h11 k)
  have e12 : (fun j => x12 (ix2 0 j)) = p.bf := funext h12
  have e13 : (fun k j => x13 (ix2 k j)) = p.wo := funext fun k => funext (h13 k)
  have e14 : (fun j => x14 (ix2 0 j)) = p.bo := funext h14
  have e15 : (fun j => x15 (ix2 0 j)) = p.g1 := funext h15
  unfold merged
  rw [ea, eb, es, e0, e7, e11, e12, e13, e14, e15]
  refine funext fun j => ?_
  rw [merged_eq]
  unfold mergedRow
  simp only [gate_eq]

variable (x16 : Vec Ideal S1x1024 .f32) (x17 : Vec Ideal S1x1024 .f32) (h16 : ∀ j, x16 (ix2 0 j) = p.lw j) (h17 : ∀ j, x17 (ix2 0 j) = p.lb j)

include h16 h17

/-- A tile's new rows. -/
theorem outNew_apply (j : Fin 1024) : outNew x0 x1 x2 x3 x4 x5 x6 x7 x8 x9 x10 x11 x12 x13 x14 x15 x16 x17 (ix2 r j) = newRow p h ys yf j := by
  have e := merged_row x0 x1 x2 x3 x4 x5 x6 x7 x8 x9 x10 x11 x12 x13 x14 x15 p h ys yf r h0 h1 h2 h3 h4 h5 h5' h6 h7 h8 h9 h10 h11 h12 h13 h14 h15
  unfold outNew eps
  rw [pay46_apply]
  unfold centred spread
  rw [pay44_apply, pay45_apply, e, h16, h17]
  rfl

/-- A tile's next rows. -/
theorem outNext_apply (x18 : Vec Ideal S1x1024 .f32) (x19 : Vec Ideal S1x1024 .f32) (h18 : ∀ j, x18 (ix2 0 j) = p.m2 j)
    (h19 : ∀ j, x19 (ix2 0 j) = p.s2 j) (j : Fin 1024) : outNext x0 x1 x2 x3 x4 x5 x6 x7 x8 x9 x10 x11 x12 x13 x14 x15 x16 x17 x18 x19 (ix2 r j) = nextRow p h ys yf j := by
  have e := outNew_apply x0 x1 x2 x3 x4 x5 x6 x7 x8 x9 x10 x11 x12 x13 x14 x15 p h ys yf r h0 h1 h2 h3 h4 h5 h5' h6 h7 h8 h9 h10 h11 h12 h13 h14 h15 x16 x17 h16 h17 j
  unfold outNew at e
  unfold outNext
  rw [pay48_apply, e, h18, h19]
  rfl

end

end Cert.Kernel2Ideal.Hand
end
-- ==== Proof.Mix.RefValue.lean ====
/-
# What the mixer's reference computes, entry by entry

The entry of token `n` is the formula of the token: its row of the residual stream, of the state-space branch (whose array keeps
the eight sequences apart: token `n` is step `n / 8` of sequence `n % 8`) and of the Fourier branch.
-/
module

public import proofs.«01_k».proof.Proof.Gen.Reference2Ideal
public import proofs.«01_k».proof.Proof.Gen.Reference2Ideal.Read
public import proofs.«01_k».proof.Proof.Mix.Row

@[expose] public section
noncomputable section
namespace Cert.Reference2Ideal.Hand
open Cert.Reference2Ideal Cert.Reference2Ideal.Gen Cert.Reference2Ideal.Read Cert.Ffn Cert.Mix
open Idealize.ShloMosaic

/-- The arrays' matrices, biases and modulations. -/
def weights (x1 x2 : FVec Ideal S1x1024 .f32) (x3 : FVec Ideal S1024x3072 .bf16) (x4 : FVec Ideal S1x2048 .f32)
    (x7 : FVec Ideal S512x1024 .bf16) (x8 : FVec Ideal S1x1024 .f32) (x9 x10 : FVec Ideal S512x1024 .bf16) (x11 : FVec Ideal S1x1024 .f32)
    (x12 : FVec Ideal S1024x1024 .bf16) (x13 x14 x15 x16 x17 x18 : FVec Ideal S1x1024 .f32) : Weights where
  m1 k := x1 (ix2 0 k)
  s1 k := x2 (ix2 0 k)
  wa k j := x3 (ix2 k ⟨1024 + j.val, by omega⟩)
  wb k j := x3 (ix2 k ⟨2048 + j.val, by omega⟩)
  ba j := x4 (ix2 0 ⟨j.val, by omega⟩)
  bb j := x4 (ix2 0 ⟨1024 + j.val, by omega⟩)
  wg k j := x7 (ix2 k j)
  bg j := x8 (ix2 0 j)
  ws k j := x9 (ix2 k j)
  wf k j := x10 (ix2 k j)
  bf j := x11 (ix2 0 j)
  wo k j := x12 (ix2 k j)
  bo j := x13 (ix2 0 j)
  g1 j := x14 (ix2 0 j)
  lw j := x15 (ix2 0 j)
  lb j := x16 (ix2 0 j)
  m2 j := x17 (ix2 0 j)
  s2 j := x18 (ix2 0 j)

/-- Token `n`'s row of the state-space branch's array. -/
def ysRow (x5 : FVec Ideal S8x2048x512 .bf16) (n : Fin 16384) (q : Fin 512) : EReal :=
  x5 (ix3 ⟨n.val % 8, Nat.mod_lt _ (by norm_num)⟩ ⟨n.val / 8, by omega⟩ q)

section

variable (x0 : FVec Ideal S16384x1024 .f32) (x1 x2 : FVec Ideal S1x1024 .f32) (x3 : FVec Ideal S1024x3072 .bf16) (x4 : FVec Ideal S1x2048 .f32)
    (x5 : FVec Ideal S8x2048x512 .bf16) (x6 : FVec Ideal S16384x512 .bf16)
    (x7 : FVec Ideal S512x1024 .bf16) (x8 : FVec Ideal S1x1024 .f32) (x9 x10 : FVec Ideal S512x1024 .bf16) (x11 : FVec Ideal S1x1024 .f32)
    (x12 : FVec Ideal S1024x1024 .bf16) (x13 x14 x15 x16 x17 x18 : FVec Ideal S1x1024 .f32)

/-- The state-space branch's array, a row a token. -/
theorem ys_entry (n : Fin 16384) (q : Fin 512) : val_main_v2 (F := Ideal) x5 (ix2 n q) = ysRow x5 n q := by
  rw [val_main_v2_apply, val_main_v1_apply, val_main_v0_apply]
  have hn := n.isLt
  have hq := q.isLt
  refine congrArg x5 (funext fun a => Fin.ext (match a with
    | ⟨0, _⟩ => ?_
    | ⟨1, _⟩ => ?_
    | ⟨2, _⟩ => ?_))
  · show (n.val * 512 + q.val) / 512 % 8 = n.val % 8; omega
  · show (n.val * 512 + q.val) / 4096 = n.val / 8; omega
  · show (n.val * 512 + q.val) % 512 = q.val; omega

/-- The GELU of it. -/
theorem gelu_entry (i : S16384x512.Idx) : val_main_v24 (F := Ideal) x5 i = gelu (val_main_v2 (F := Ideal) x5 i) := by
  rw [val_main_v24_apply, val_main_v23_apply, val_main_v22_apply, val_main_cst_2_apply, val_main_v21_apply, val_main_v20_apply, val_main_cst_1_apply,
    val_main_v19_apply, val_main_v18_apply, val_main_v17_apply, val_main_cst_0_apply, val_main_v16_apply, val_main_v15_apply, val_main_v14_apply,
    val_main_cst_apply, val_main_v13_apply, val_main_v12_apply]
  unfold gelu geluTanh
  rw [← one_word]
  rfl

/-- The row through the gated linear unit's matrix. -/
theorem pre_entry (n : Fin 16384) (j : Fin 1024) : val_main_v28 (F := Ideal) x5 x7 x8 (ix2 n j)
    = lin (fun k => gelu (ysRow x5 n k)) (fun k j => x7 (ix2 k j)) (fun j => x8 (ix2 0 j)) j := by
  have il : ∀ k, lidx_main_v26 (ix2 n j) k = ix2 n k := fun k => funext fun a => Fin.ext (match a with | ⟨0, _⟩ => rfl | ⟨1, _⟩ => rfl)
  have ir : ∀ k, ridx_main_v26 (ix2 n j) k = ix2 k j := fun k => funext fun a => Fin.ext (match a with | ⟨0, _⟩ => rfl | ⟨1, _⟩ => rfl)
  have ib : idx_main_v27 (ix2 n j) = ix2 0 j := funext fun a => Fin.ext (match a with | ⟨0, _⟩ => rfl | ⟨1, _⟩ => rfl)
  rw [val_main_v28_apply, val_main_v26_apply, val_main_v27_apply, ib]
  unfold lin
  refine congrArg₂ (· + ·) (Finset.sum_congr rfl fun k _ => ?_) rfl
  rw [il, ir, gelu_entry, ys_entry, val_main_v25_apply]
  rfl

/-- The gated linear unit. -/
theorem glu_entry (n : Fin 16384) (q : Fin 512) : val_main_v37 (F := Ideal) x5 x7 x8 (ix2 n q)
    = glu (fun k => gelu (ysRow x5 n k)) (fun k j => x7 (ix2 k j)) (fun j => x8 (ix2 0 j)) q := by
  have ia : idx_main_v29 (ix2 n q) = ix2 n ⟨q.val, by omega⟩ := funext fun a => Fin.ext (match a with | ⟨0, _⟩ => rfl | ⟨1, _⟩ => rfl)
  have ib : idx_main_v30 (ix2 n q) = ix2 n ⟨512 + q.val, by omega⟩ := funext fun a => Fin.ext (match a with | ⟨0, _⟩ => rfl | ⟨1, _⟩ => rfl)
  rw [val_main_v37_apply, val_main_v29_apply, ia, val_main_v36_apply, val_main_v35_apply, val_main_cst_4_apply, val_main_v34_apply,
    val_main_v33_apply, val_main_cst_3_apply, val_main_v32_apply, val_main_v31_apply, val_main_v30_apply, ib, pre_entry, pre_entry]
  unfold glu Mix.logistic
  rw [← one_word]
  rfl

/-- The state-space branch. -/
theorem s_entry (n : Fin 16384) (j : Fin 1024) : val_main_v39 (F := Ideal) x5 x7 x8 x9 (ix2 n j)
    = ∑ q, glu (fun k => gelu (ysRow x5 n k)) (fun k j => x7 (ix2 k j)) (fun j => x8 (ix2 0 j)) q * x9 (ix2 q j) := by
  have il : ∀ k, lidx_main_v39 (ix2 n j) k = ix2 n k := fun k => funext fun a => Fin.ext (match a with | ⟨0, _⟩ => rfl | ⟨1, _⟩ => rfl)
  have ir : ∀ k, ridx_main_v39 (ix2 n j) k = ix2 k j := fun k => funext fun a => Fin.ext (match a with | ⟨0, _⟩ => rfl | ⟨1, _⟩ => rfl)
  rw [val_main_v39_apply]
  refine Finset.sum_congr rfl fun k _ => ?_
  rw [il, ir, glu_entry, val_main_v38_apply]
  rfl

/-- The Fourier branch. -/
theorem f_entry (n : Fin 16384) (j : Fin 1024) : val_main_v44 (F := Ideal) x6 x10 x11 (ix2 n j)
    = lin (fun k => x6 (ix2 n k)) (fun k j => x10 (ix2 k j)) (fun j => x11 (ix2 0 j)) j := by
  have il : ∀ k, lidx_main_v42 (ix2 n j) k = ix2 n k := fun k => funext fun a => Fin.ext (match a with | ⟨0, _⟩ => rfl | ⟨1, _⟩ => rfl)
  have ir : ∀ k, ridx_main_v42 (ix2 n j) k = ix2 k j := fun k => funext fun a => Fin.ext (match a with | ⟨0, _⟩ => rfl | ⟨1, _⟩ => rfl)
  have ib : idx_main_v43 (ix2 n j) = ix2 0 j := funext fun a => Fin.ext (match a with | ⟨0, _⟩ => rfl | ⟨1, _⟩ => rfl)
  rw [val_main_v44_apply, val_main_v42_apply, val_main_v43_apply, ib]
  unfold lin
  refine congrArg₂ (· + ·) (Finset.sum_congr rfl fun k _ => ?_) rfl
  rw [il, ir, val_main_v40_apply, val_main_v41_apply]
  rfl

/-- The gates' argument. -/
theorem gate_arg (n : Fin 16384) (j : Fin 2048) : val_main_v11 (F := Ideal) x0 x1 x2 x3 x4 (ix2 n j)
    = ∑ k : Fin 1024, (x0 (ix2 n k) * x1 (ix2 0 k) + x2 (ix2 0 k)) * x3 (ix2 k ⟨1024 + j.val, by omega⟩) + x4 (ix2 0 j) := by
  have il : ∀ k, lidx_main_v9 (ix2 n j) k = ix2 n k := fun k => funext fun a => Fin.ext (match a with | ⟨0, _⟩ => rfl | ⟨1, _⟩ => rfl)
  have ir : ∀ k, idx_main_v7 (ridx_main_v9 (ix2 n j) k) = ix2 k ⟨1024 + j.val, by omega⟩ := fun k => funext fun a => Fin.ext (match a with | ⟨0, _⟩ => rfl | ⟨1, _⟩ => rfl)
  have ib : idx_main_v10 (ix2 n j) = ix2 0 j := funext fun a => Fin.ext (match a with | ⟨0, _⟩ => rfl | ⟨1, _⟩ => rfl)
  have i3 : ∀ k, idx_main_v3 (ix2 n k) = ix2 0 k := fun k => funext fun a => Fin.ext (match a with | ⟨0, _⟩ => rfl | ⟨1, _⟩ => rfl)
  have i5 : ∀ k, idx_main_v5 (ix2 n k) = ix2 0 k := fun k => funext fun a => Fin.ext (match a with | ⟨0, _⟩ => rfl | ⟨1, _⟩ => rfl)
  rw [val_main_v11_apply, val_main_v9_apply, val_main_v10_apply, ib]
  refine congrArg₂ (· + ·) (Finset.sum_congr rfl fun k _ => ?_) rfl
  rw [il, val_main_v8_apply, val_main_v7_apply, ir, val_main_v6_apply, val_main_v5_apply, i5, val_main_v4_apply, val_main_v3_apply, i3]
  rfl

/-- The gates. -/
theorem gate_entry (i : S16384x2048.Idx) : val_main_v50 (F := Ideal) x0 x1 x2 x3 x4 i = Mix.logistic (val_main_v11 (F := Ideal) x0 x1 x2 x3 x4 i) := by
  rw [val_main_v50_apply, val_main_v49_apply, val_main_cst_6_apply, val_main_v48_apply, val_main_v47_apply, val_main_cst_5_apply,
    val_main_v46_apply, val_main_v45_apply]
  unfold Mix.logistic
  rw [← one_word]
  rfl

/-- The row before the layer norm. -/
theorem merged_entry (n : Fin 16384) (j : Fin 1024) : val_main_v64 (F := Ideal) x0 x1 x2 x3 x4 x5 x6 x7 x8 x9 x10 x11 x12 x13 x14 (ix2 n j)
    = mergedRow (weights x1 x2 x3 x4 x7 x8 x9 x10 x11 x12 x13 x14 x15 x16 x17 x18) (fun k => x0 (ix2 n k)) (ysRow x5 n) (fun k => x6 (ix2 n k)) j := by
  have i51 : ∀ k : Fin 1024, idx_main_v51 (ix2 n k) = ix2 n ⟨k.val, by omega⟩ := fun k => funext fun a => Fin.ext (match a with | ⟨0, _⟩ => rfl | ⟨1, _⟩ => rfl)
  have i52 : ∀ k : Fin 1024, idx_main_v52 (ix2 n k) = ix2 n ⟨1024 + k.val, by omega⟩ := fun k => funext fun a => Fin.ext (match a with | ⟨0, _⟩ => rfl | ⟨1, _⟩ => rfl)
  have il : ∀ k, lidx_main_v59 (ix2 n j) k = ix2 n k := fun k => funext fun a => Fin.ext (match a with | ⟨0, _⟩ => rfl | ⟨1, _⟩ => rfl)
  have ir : ∀ k, ridx_main_v59 (ix2 n j) k = ix2 k j := fun k => funext fun a => Fin.ext (match a with | ⟨0, _⟩ => rfl | ⟨1, _⟩ => rfl)
  have ib : idx_main_v60 (ix2 n j) = ix2 0 j := funext fun a => Fin.ext (match a with | ⟨0, _⟩ => rfl | ⟨1, _⟩ => rfl)
  have ig : idx_main_v62 (ix2 n j) = ix2 0 j := funext fun a => Fin.ext (match a with | ⟨0, _⟩ => rfl | ⟨1, _⟩ => rfl)
  rw [val_main_v64_apply, val_main_v54_apply, val_main_v53_apply, val_main_cst_7_apply, val_main_v63_apply, val_main_v62_apply, ig,
    val_main_v61_apply, val_main_v60_apply, ib, val_main_v59_apply]
  unfold mergedRow mergedR
  refine congrArg₂ (· + ·) rfl (congrArg₂ (· * ·) rfl ?_)
  rw [lin.eq_def]
  refine congrArg₂ (· + ·) (Finset.sum_congr rfl fun k _ => ?_) rfl
  rw [il, ir, val_main_v58_apply, val_main_v57_apply, val_main_v55_apply, val_main_v56_apply, val_main_v51_apply, val_main_v52_apply,
    i51, i52, gate_entry, gate_entry, gate_arg, gate_arg, s_entry, f_entry]
  have e : (⟨1024 + (1024 + k.val), by omega⟩ : Fin 3072) = ⟨2048 + k.val, by omega⟩ := Fin.ext (by show 1024 + (1024 + k.val) = 2048 + k.val; omega)
  rw [e]
  rfl

/-- The mean of a token's row. -/
theorem mean_entry (n : Fin 16384) : val_main_v68 (F := Ideal) x0 x1 x2 x3 x4 x5 x6 x7 x8 x9 x10 x11 x12 x13 x14 (ix2 n 0)
    = mean fun k => val_main_v64 (F := Ideal) x0 x1 x2 x3 x4 x5 x6 x7 x8 x9 x10 x11 x12 x13 x14 (ix2 n k) := by
  have i66 : idx_main_v66 (ix2 n 0) = ix1 n := funext fun a => Fin.ext (match a with | ⟨0, _⟩ => rfl)
  have i65 : ∀ k, idx_main_v65 (ix1 n) k = ix2 n k := fun k => funext fun a => Fin.ext (match a with | ⟨0, _⟩ => rfl | ⟨1, _⟩ => rfl)
  rw [val_main_v68_apply, val_main_v67_apply, val_main_cst_9_apply, val_main_v66_apply, i66, val_main_v65_apply, val_main_cst_8_apply]
  refine congrArg₂ Ideal.div (((congrArg (· + _) Ideal.ofBits_zero_f32).trans (zero_add _)).trans (Finset.sum_congr rfl fun k _ => ?_)) rfl
  rw [i65]

/-- The variance of a token's row. -/
theorem var_entry (n : Fin 16384) : val_main_v75 (F := Ideal) x0 x1 x2 x3 x4 x5 x6 x7 x8 x9 x10 x11 x12 x13 x14 (ix2 n 0)
    = var fun k => val_main_v64 (F := Ideal) x0 x1 x2 x3 x4 x5 x6 x7 x8 x9 x10 x11 x12 x13 x14 (ix2 n k) := by
  have i73 : idx_main_v73 (ix2 n 0) = ix1 n := funext fun a => Fin.ext (match a with | ⟨0, _⟩ => rfl)
  have i72 : ∀ k, idx_main_v72 (ix1 n) k = ix2 n k := fun k => funext fun a => Fin.ext (match a with | ⟨0, _⟩ => rfl | ⟨1, _⟩ => rfl)
  have i69 : ∀ k : Fin 1024, idx_main_v69 (ix2 n k) = ix2 n 0 := fun k => funext fun a => Fin.ext (match a with | ⟨0, _⟩ => rfl | ⟨1, _⟩ => rfl)
  rw [val_main_v75_apply, val_main_v74_apply, val_main_cst_11_apply, val_main_v73_apply, i73, val_main_v72_apply, val_main_cst_10_apply]
  refine congrArg₂ Ideal.div (((congrArg (· + _) Ideal.ofBits_zero_f32).trans (zero_add _)).trans (Finset.sum_congr rfl fun k _ => ?_)) rfl
  rw [i72, val_main_v71_apply, val_main_v70_apply, val_main_v69_apply, i69, mean_entry]
  rfl

/-- **The new row of token `n`.** -/
theorem new_entry (n : Fin 16384) (j : Fin 1024) : val_main_v86 (F := Ideal) x0 x1 x2 x3 x4 x5 x6 x7 x8 x9 x10 x11 x12 x13 x14 x15 x16 (ix2 n j)
    = newRow (weights x1 x2 x3 x4 x7 x8 x9 x10 x11 x12 x13 x14 x15 x16 x17 x18) (fun k => x0 (ix2 n k)) (ysRow x5 n) (fun k => x6 (ix2 n k)) j := by
  have i76 : idx_main_v76 (ix2 n j) = ix2 n 0 := funext fun a => Fin.ext (match a with | ⟨0, _⟩ => rfl | ⟨1, _⟩ => rfl)
  have i81 : idx_main_v81 (ix2 n j) = ix2 n 0 := funext fun a => Fin.ext (match a with | ⟨0, _⟩ => rfl | ⟨1, _⟩ => rfl)
  have i83 : idx_main_v83 (ix2 n j) = ix2 0 j := funext fun a => Fin.ext (match a with | ⟨0, _⟩ => rfl | ⟨1, _⟩ => rfl)
  have i85 : idx_main_v85 (ix2 n j) = ix2 0 j := funext fun a => Fin.ext (match a with | ⟨0, _⟩ => rfl | ⟨1, _⟩ => rfl)
  have hm : (fun k => val_main_v64 (F := Ideal) x0 x1 x2 x3 x4 x5 x6 x7 x8 x9 x10 x11 x12 x13 x14 (ix2 n k))
      = mergedRow (weights x1 x2 x3 x4 x7 x8 x9 x10 x11 x12 x13 x14 x15 x16 x17 x18) (fun k => x0 (ix2 n k)) (ysRow x5 n) (fun k => x6 (ix2 n k)) :=
    funext fun k => merged_entry x0 x1 x2 x3 x4 x5 x6 x7 x8 x9 x10 x11 x12 x13 x14 x15 x16 x17 x18 n k
  rw [val_main_v86_apply, val_main_v85_apply, i85, val_main_v84_apply, val_main_v83_apply, i83, val_main_v82_apply, val_main_v81_apply, i81,
    val_main_v80_apply, val_main_v79_apply, val_main_v78_apply, val_main_cst_12_apply, val_main_v77_apply, val_main_v76_apply, i76, mean_entry, var_entry,
    hm, merged_entry x0 x1 x2 x3 x4 x5 x6 x7 x8 x9 x10 x11 x12 x13 x14 x15 x16 x17 x18 n j]
  rfl

/-- **The experts' input of token `n`.** -/
theorem next_entry (n : Fin 16384) (j : Fin 1024) : val_main_v91 (F := Ideal) x0 x1 x2 x3 x4 x5 x6 x7 x8 x9 x10 x11 x12 x13 x14 x15 x16 x17 x18 (ix2 n j)
    = nextRow (weights x1 x2 x3 x4 x7 x8 x9 x10 x11 x12 x13 x14 x15 x16 x17 x18) (fun k => x0 (ix2 n k)) (ysRow x5 n) (fun k => x6 (ix2 n k)) j := by
  have i87 : idx_main_v87 (ix2 n j) = ix2 0 j := funext fun a => Fin.ext (match a with | ⟨0, _⟩ => rfl | ⟨1, _⟩ => rfl)
  have i89 : idx_main_v89 (ix2 n j) = ix2 0 j := funext fun a => Fin.ext (match a with | ⟨0, _⟩ => rfl | ⟨1, _⟩ => rfl)
  rw [val_main_v91_apply, val_main_v90_apply, val_main_v89_apply, i89, val_main_v88_apply, val_main_v87_apply, i87,
    new_entry x0 x1 x2 x3 x4 x5 x6 x7 x8 x9 x10 x11 x12 x13 x14 x15 x16 x17 x18 n j]
  rfl

end

end Cert.Reference2Ideal.Hand
end
-- ==== Proof.Mix.RefArrays.lean ====
/-
# The reference's two arrays

The rows of the two arrays that the reference returns, as one function of the arguments.
-/
module

public import proofs.«01_k».proof.Proof.Mix.RefValue
public import proofs.«01_k».proof.Proof.Gen.Reference2Ideal
public import proofs.«01_k».proof.Proof.Gen.Reference2Ideal.Read
public import proofs.«01_k».proof.Proof.Mix.Row

@[expose] public section
noncomputable section
namespace Cert.Reference2Ideal.Hand
open Cert.Reference2Ideal Cert.Reference2Ideal.Gen Cert.Reference2Ideal.Read Cert.Ffn Cert.Mix
open Idealize.ShloMosaic

section

variable (x0 : FVec Ideal S16384x1024 .f32) (x1 x2 : FVec Ideal S1x1024 .f32) (x3 : FVec Ideal S1024x3072 .bf16) (x4 : FVec Ideal S1x2048 .f32)
    (x5 : FVec Ideal S8x2048x512 .bf16) (x6 : FVec Ideal S16384x512 .bf16)
    (x7 : FVec Ideal S512x1024 .bf16) (x8 : FVec Ideal S1x1024 .f32) (x9 x10 : FVec Ideal S512x1024 .bf16) (x11 : FVec Ideal S1x1024 .f32)
    (x12 : FVec Ideal S1024x1024 .bf16) (x13 x14 x15 x16 x17 x18 : FVec Ideal S1x1024 .f32)

/-- The new rows, as an array. -/
def newArray : FVec Ideal S16384x1024 .f32 := fun i =>
  newRow (weights x1 x2 x3 x4 x7 x8 x9 x10 x11 x12 x13 x14 x15 x16 x17 x18) (fun k => x0 (ix2 (i 0) k)) (ysRow x5 (i 0)) (fun k => x6 (ix2 (i 0) k)) (i 1)

/-- The next rows, as an array. -/
def nextArray : FVec Ideal S16384x1024 .bf16 := fun i =>
  nextRow (weights x1 x2 x3 x4 x7 x8 x9 x10 x11 x12 x13 x14 x15 x16 x17 x18) (fun k => x0 (ix2 (i 0) k)) (ysRow x5 (i 0)) (fun k => x6 (ix2 (i 0) k)) (i 1)

variable (y0 : FVec Ideal S16384x1024 .f32) (y1 y2 : FVec Ideal S1x1024 .f32) (y3 : FVec Ideal S1024x3072 .bf16) (y4 : FVec Ideal S1x2048 .f32)
    (y5 : FVec Ideal S8x2048x512 .bf16) (y6 : FVec Ideal S16384x512 .bf16)
    (y7 : FVec Ideal S512x1024 .bf16) (y8 : FVec Ideal S1x1024 .f32) (y9 y10 : FVec Ideal S512x1024 .bf16) (y11 : FVec Ideal S1x1024 .f32)
    (y12 : FVec Ideal S1024x1024 .bf16) (y13 y14 y15 y16 y17 y18 : FVec Ideal S1x1024 .f32)
  (e0 : y0 = x0) (e1 : y1 = x1) (e2 : y2 = x2) (e3 : y3 = x3) (e4 : y4 = x4) (e5 : y5 = x5) (e6 : y6 = x6) (e7 : y7 = x7) (e8 : y8 = x8) (e9 : y9 = x9) (e10 : y10 = x10) (e11 : y11 = x11) (e12 : y12 = x12) (e13 : y13 = x13) (e14 : y14 = x14) (e15 : y15 = x15) (e16 : y16 = x16) (e17 : y17 = x17) (e18 : y18 = x18)

include e0 e1 e2 e3 e4 e5 e6 e7 e8 e9 e10 e11 e12 e13 e14 e15 e16 e17 e18

/-- The reference's first array, of equal arguments. -/
theorem new_of_eq : val_main_v86 (F := Ideal) y0 y1 y2 y3 y4 y5 y6 y7 y8 y9 y10 y11 y12 y13 y14 y15 y16 = newArray x0 x1 x2 x3 x4 x5 x6 x7 x8 x9 x10 x11 x12 x13 x14 x15 x16 x17 x18 := by
  subst e0 e1 e2 e3 e4 e5 e6 e7 e8 e9 e10 e11 e12 e13 e14 e15 e16 e17 e18
  refine funext fun i => ?_
  have hi : i = ix2 (i 0) (i 1) := funext fun a => match a with | ⟨0, _⟩ => rfl | ⟨1, _⟩ => rfl
  refine (congrArg (val_main_v86 (F := Ideal) y0 y1 y2 y3 y4 y5 y6 y7 y8 y9 y10 y11 y12 y13 y14 y15 y16) hi).trans ?_
  exact new_entry y0 y1 y2 y3 y4 y5 y6 y7 y8 y9 y10 y11 y12 y13 y14 y15 y16 y17 y18 (i 0) (i 1)

/-- The reference's second array, of equal arguments. -/
theorem next_of_eq : val_main_v91 (F := Ideal) y0 y1 y2 y3 y4 y5 y6 y7 y8 y9 y10 y11 y12 y13 y14 y15 y16 y17 y18 = nextArray x0 x1 x2 x3 x4 x5 x6 x7 x8 x9 x10 x11 x12 x13 x14 x15 x16 x17 x18 := by
  subst e0 e1 e2 e3 e4 e5 e6 e7 e8 e9 e10 e11 e12 e13 e14 e15 e16 e17 e18
  refine funext fun i => ?_
  have hi : i = ix2 (i 0) (i 1) := funext fun a => match a with | ⟨0, _⟩ => rfl | ⟨1, _⟩ => rfl
  refine (congrArg (val_main_v91 (F := Ideal) y0 y1 y2 y3 y4 y5 y6 y7 y8 y9 y10 y11 y12 y13 y14 y15 y16 y17 y18) hi).trans ?_
  exact next_entry y0 y1 y2 y3 y4 y5 y6 y7 y8 y9 y10 y11 y12 y13 y14 y15 y16 y17 y18 (i 0) (i 1)

end

end Cert.Reference2Ideal.Hand
end
-- ==== Proof.Mix.Value.lean ====
/-
# The arrays that the mixer leaves

Each grid point writes its tile's rows to the block of its own; the blocks cover the two arrays.
-/
module

public import proofs.«01_k».proof.Proof.Mix.Block
public import proofs.«01_k».proof.Proof.Mix.Tile
public import proofs.«01_k».proof.Proof.Mix.RefArrays
public import Idealize.ShloMosaic.Lib.Pointwise
public import Idealize.ShloMosaic.Lib.VecWindow
public import Idealize.ShloMosaic.Lib.WholeRead
public import Idealize.ShloMosaic.Lib.Pipeline.Value
public import Idealize.ShloMosaic.Lib.Pipeline.ValueKit
public import Idealize.ShloMosaic.Lib.Claim

@[expose] public section

set_option maxRecDepth 16384

noncomputable section

namespace Cert.Kernel2Ideal.Hand

open Cert.Kernel2Ideal Cert.Kernel2Ideal.Gen Cert.Mix
open Cert.Reference2Ideal.Hand (weights ysRow newArray nextArray)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

/-- The shared weights, of the memory at launch. -/
def shared : Weights := weights (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-- The new rows that the memory at launch gives. -/
def wantNew : FVec Ideal S16384x1024 .f32 := newArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-- The next rows that the memory at launch gives. -/
def wantNext : FVec Ideal S16384x1024 .bf16 := nextArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-- The token of a tile's row. -/
def token (t : Fin cfg0.N) (r : Fin 512) : Fin 16384 := ⟨512 * t.val + r.val, by have := points t; omega⟩

/-- The token's row of the residual stream. -/
def hRow (n : Fin 16384) (k : Fin 1024) : EReal := m ((c : Thread nD τ).loc main_arg0) (ix2 n k)

/-- The token's row of the Fourier branch. -/
def yfRow (n : Fin 16384) (k : Fin 512) : EReal := m ((c : Thread nD τ).loc main_arg6) (ix2 n k)

/-- The token's row of the state-space branch is the tile's turned row. -/
theorem ys_of_tile (t : Fin cfg0.N) (r k : Fin 512) :
    iblk m c 6 t (ix3 ⟨r.val % 8, Nat.mod_lt _ (by norm_num)⟩ ⟨r.val / 8, by omega⟩ k) = ysRow (m ((c : Thread nD τ).loc main_arg5)) (token t r) k := by
  rw [iblk_6]
  unfold ysRow token
  refine congrArg (m ((c : Thread nD τ).loc main_arg5)) (funext fun d => Fin.ext ?_)
  match d with
  | ⟨0, _⟩ => show r.val % 8 = (512 * t.val + r.val) % 8; omega
  | ⟨1, _⟩ => show 64 * t.val + r.val / 8 = (512 * t.val + r.val) / 8; omega
  | ⟨2, _⟩ => rfl

/-- An entry of a tile's new rows. -/
theorem newAt_apply (t : Fin cfg0.N) (r : Fin 512) (j : Fin 1024) : newAt m c t (ix2 r j)
    = newRow (shared m c) (hRow m c (token t r)) (ysRow (m ((c : Thread nD τ).loc main_arg5)) (token t r)) (yfRow m c (token t r)) j :=
  outNew_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (shared m c) (hRow m c (token t r)) (ysRow (m ((c : Thread nD τ).loc main_arg5)) (token t r)) (yfRow m c (token t r)) r
    (fun k => iblk_0 m c t r k)
    (fun j => iblk_1 m c t 0 j)
    (fun j => iblk_2 m c t 0 j)
    (fun k j => iblk_3 m c t k j)
    (fun k j => iblk_4 m c t k j)
    (fun j => iblk_5 m c t 0 _) (fun j => iblk_5 m c t 0 _)
    (fun k => ys_of_tile m c t r k)
    (fun k => iblk_7 m c t r k)
    (fun k j => iblk_8 m c t k j)
    (fun j => iblk_9 m c t 0 j)
    (fun k j => iblk_10 m c t k j)
    (fun k j => iblk_11 m c t k j)
    (fun j => iblk_12 m c t 0 j)
    (fun k j => iblk_13 m c t k j)
    (fun j => iblk_14 m c t 0 j)
    (fun j => iblk_15 m c t 0 j)
    (iblk m c 16 t) (iblk m c 17 t) (fun j => iblk_16 m c t 0 j) (fun j => iblk_17 m c t 0 j) j

/-- Where an entry of the new rows' block lies. -/
theorem place_24 (t : Fin cfg0.N) (r : Fin 512) (j : Fin 1024) : ((cfg0.win 24).rect t).emb (ix2 r j) = ix2 (token t r) j := by
  refine funext fun d => Fin.ext ?_
  have h := Pipeline.Window.rect_emb_val (cfg0.win 24) t (ix2 r j) d
  rw [h, index_24 t]
  match d with
  | ⟨0, _⟩ => show t.val * 512 + r.val = 512 * t.val + r.val; omega
  | ⟨1, _⟩ => show 0 * 1024 + j.val = j.val; omega

/-- What a grid point writes to the new rows. -/
theorem flushed_24 (t : Fin cfg0.N) (y : S512x1024.Idx) : (dats m 0 c).flushed 24 t y = newAt m c t y := by
  have e : (dats m 0 c).flushed 24 t = (cfg0.win 24).cut (grid0.coords t) ((dats m 0 c).after 24 t) := rfl
  rw [e, after_24]
  rfl

/-- Every grid point writes. -/
theorem flush_24 : ∀ t : Fin cfg0.N, (cfg0.win 24).flush t = true := (by decide +kernel : ∀ t : Fin grid0.N, win0_24.flush t = true)

/-- **The array of the new rows.** -/
theorem array_24 : (dats m 0 c).arrAt 24 cfg0.N = wantNew m c := by
  refine funext fun i => Pipeline.Dat.arrAt_forall_of_cover (dats m 0 c) 24 (fun (i : S16384x1024.Idx) (v : EReal) => v = wantNew m c i) ?_ ?_ i
  · intro t hf y
    show (dats m 0 c).flushed 24 t y = wantNew m c (((cfg0.win 24).rect t).emb y)
    obtain ⟨r, j, hy⟩ : ∃ (r : Fin 512) (j : Fin 1024), y = ix2 r j :=
      ⟨y 0, y 1, funext fun a => match a with | ⟨0, _⟩ => rfl | ⟨1, _⟩ => rfl⟩
    subst hy
    refine (flushed_24 m c t (ix2 r j)).trans ((newAt_apply m c t r j).trans (Eq.trans ?_ (congrArg (wantNew m c) (place_24 t r j)).symm))
    rfl
  · intro i
    have h0 : (i 0).val < 16384 := (i 0).isLt
    have h1 : (i 1).val < 1024 := (i 1).isLt
    refine ⟨⟨(i 0).val / 512, lt_of_lt_of_eq (by omega : (i 0).val / 512 < 32) (by decide +kernel : 32 = grid0.N)⟩, flush_24 _, ?_⟩
    refine (Pipeline.Window.emb_mem_blk_iff (cfg0.win 24) _ i).2 fun a => ?_
    rw [index_24]
    match a with
    | ⟨0, _⟩ => show (i 0).val / 512 * 512 ≤ (i 0).val ∧ (i 0).val < (i 0).val / 512 * 512 + 512; omega
    | ⟨1, _⟩ => show 0 * 1024 ≤ (i 1).val ∧ (i 1).val < 0 * 1024 + 1024; omega

/-- An entry of a tile's next rows. -/
theorem nextAt_apply (t : Fin cfg0.N) (r : Fin 512) (j : Fin 1024) : nextAt m c t (ix2 r j)
    = nextRow (shared m c) (hRow m c (token t r)) (ysRow (m ((c : Thread nD τ).loc main_arg5)) (token t r)) (yfRow m c (token t r)) j :=
  outNext_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (shared m c) (hRow m c (token t r)) (ysRow (m ((c : Thread nD τ).loc main_arg5)) (token t r)) (yfRow m c (token t r)) r
    (fun k => iblk_0 m c t r k)
    (fun j => iblk_1 m c t 0 j)
    (fun j => iblk_2 m c t 0 j)
    (fun k j => iblk_3 m c t k j)
    (fun k j => iblk_4 m c t k j)
    (fun j => iblk_5 m c t 0 _) (fun j => iblk_5 m c t 0 _)
    (fun k => ys_of_tile m c t r k)
    (fun k => iblk_7 m c t r k)
    (fun k j => iblk_8 m c t k j)
    (fun j => iblk_9 m c t 0 j)
    (fun k j => iblk_10 m c t k j)
    (fun k j => iblk_11 m c t k j)
    (fun j => iblk_12 m c t 0 j)
    (fun k j => iblk_13 m c t k j)
    (fun j => iblk_14 m c t 0 j)
    (fun j => iblk_15 m c t 0 j)
    (iblk m c 16 t) (iblk m c 17 t) (fun j => iblk_16 m c t 0 j) (fun j => iblk_17 m c t 0 j) (iblk m c 18 t) (iblk m c 19 t) (fun j => iblk_18 m c t 0 j) (fun j => iblk_19 m c t 0 j) j

/-- Where an entry of the next rows' block lies. -/
theorem place_25 (t : Fin cfg0.N) (r : Fin 512) (j : Fin 1024) : ((cfg0.win 25).rect t).emb (ix2 r j) = ix2 (token t r) j := by
  refine funext fun d => Fin.ext ?_
  have h := Pipeline.Window.rect_emb_val (cfg0.win 25) t (ix2 r j) d
  rw [h, index_25 t]
  match d with
  | ⟨0, _⟩ => show t.val * 512 + r.val = 512 * t.val + r.val; omega
  | ⟨1, _⟩ => show 0 * 1024 + j.val = j.val; omega

/-- What a grid point writes to the next rows. -/
theorem flushed_25 (t : Fin cfg0.N) (y : S512x1024.Idx) : (dats m 0 c).flushed 25 t y = nextAt m c t y := by
  have e : (dats m 0 c).flushed 25 t = (cfg0.win 25).cut (grid0.coords t) ((dats m 0 c).after 25 t) := rfl
  rw [e, after_25]
  rfl

/-- Every grid point writes. -/
theorem flush_25 : ∀ t : Fin cfg0.N, (cfg0.win 25).flush t = true := (by decide +kernel : ∀ t : Fin grid0.N, win0_25.flush t = true)

/-- **The array of the next rows.** -/
theorem array_25 : (dats m 0 c).arrAt 25 cfg0.N = wantNext m c := by
  refine funext fun i => Pipeline.Dat.arrAt_forall_of_cover (dats m 0 c) 25 (fun (i : S16384x1024.Idx) (v : EReal) => v = wantNext m c i) ?_ ?_ i
  · intro t hf y
    show (dats m 0 c).flushed 25 t y = wantNext m c (((cfg0.win 25).rect t).emb y)
    obtain ⟨r, j, hy⟩ : ∃ (r : Fin 512) (j : Fin 1024), y = ix2 r j :=
      ⟨y 0, y 1, funext fun a => match a with | ⟨0, _⟩ => rfl | ⟨1, _⟩ => rfl⟩
    subst hy
    refine (flushed_25 m c t (ix2 r j)).trans ((nextAt_apply m c t r j).trans (Eq.trans ?_ (congrArg (wantNext m c) (place_25 t r j)).symm))
    rfl
  · intro i
    have h0 : (i 0).val < 16384 := (i 0).isLt
    have h1 : (i 1).val < 1024 := (i 1).isLt
    refine ⟨⟨(i 0).val / 512, lt_of_lt_of_eq (by omega : (i 0).val / 512 < 32) (by decide +kernel : 32 = grid0.N)⟩, flush_25 _, ?_⟩
    refine (Pipeline.Window.emb_mem_blk_iff (cfg0.win 25) _ i).2 fun a => ?_
    rw [index_25]
    match a with
    | ⟨0, _⟩ => show (i 0).val / 512 * 512 ≤ (i 0).val ∧ (i 0).val < (i 0).val / 512 * 512 + 512; omega
    | ⟨1, _⟩ => show 0 * 1024 ≤ (i 1).val ∧ (i 1).val < 0 * 1024 + 1024; omega

end Cert.Kernel2Ideal.Hand
end
-- ==== Proof.Mix.Result.lean ====
/-
# The mixer's value claim

From equal arguments the mixer's two arrays of rows are the reference's.
-/
module

public import proofs.«01_k».proof.Proof.Mix.Value
public import proofs.«01_k».proof.Proof.Gen.Reference2Ideal
public import proofs.«01_k».proof.Proof.Gen.Reference2Ideal.Run
public import proofs.«01_k».proof.Proof.Gen.Reference2Ideal.Read
public import proofs.«01_k».proof.Defs

@[expose] public section
noncomputable section
namespace Cert.Kernel2Ideal.Hand
open Idealize.ShloMosaic Idealize.ShloMosaic.TcCoe Idealize.SL Idealize.SL.Sem

/-- The mixer's run: the two arrays of rows, and the arguments as they were. -/
theorem run_values (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = wantNew m c ∧ r.2.mem ((c.tc : Thread nD τ).loc main_v0_1) = wantNext m c) :=
  (θ_run _ _ _).mono (fun r h c => ⟨((h c).1 24).trans (array_24 m c), ((h c).1 25).trans (array_25 m c)⟩) (run_main m g)

/-- **The value claim.** -/
theorem value : Cert.algebraic_Kernel2Ideal_Reference2Ideal (hKernel2Ideal := Cert.Kernel2Ideal.Gen.facts) (hReference2Ideal := Cert.Reference2Ideal.Gen.facts) := by
  intro m g m' g' _ ha
  refine ⟨fun c => Cert.Reference2Ideal.Value.res_main_v86 (F := Ideal) m' c, fun c => Cert.Reference2Ideal.Value.res_main_v91 (F := Ideal) m' c, ?_,
    Cert.Reference2Ideal.Value.run (F := Ideal) m' g'⟩
  refine (θ_run _ _ _).mono (fun r h c => ⟨(h.1 c).1.trans ?_, (h.1 c).2.trans ?_, h.2 c⟩) (θ_run_and (run_values m g) (unchanged m g))
  · obtain ⟨e0, e1, e2, e3, e4, e5, e6, e7, e8, e9, e10, e11, e12, e13, e14, e15, e16, e17, e18, -, -, -, -⟩ := ha c
    exact (Cert.Reference2Ideal.Hand.new_of_eq _ _ _ _ _ _ _ _ _ _ _ _ _ _ _ _ _ _ _ _ _ _ _ _ _ _ _ _ _ _ _ _ _ _ _ _ _ _ e0 e1 e2 e3 e4 e5 e6 e7 e8 e9 e10 e11 e12 e13 e14 e15 e16 e17 e18).symm.trans (Cert.Reference2Ideal.Read.val_main_v86_eq m' c).symm
  · obtain ⟨e0, e1, e2, e3, e4, e5, e6, e7, e8, e9, e10, e11, e12, e13, e14, e15, e16, e17, e18, -, -, -, -⟩ := ha c
    exact (Cert.Reference2Ideal.Hand.next_of_eq _ _ _ _ _ _ _ _ _ _ _ _ _ _ _ _ _ _ _ _ _ _ _ _ _ _ _ _ _ _ _ _ _ _ _ _ _ _ e0 e1 e2 e3 e4 e5 e6 e7 e8 e9 e10 e11 e12 e13 e14 e15 e16 e17 e18).symm.trans (Cert.Reference2Ideal.Read.val_main_v91_eq m' c).symm

end Cert.Kernel2Ideal.Hand
end
-- ==== Proof.Proj.Block.lean ====
/-
# What a grid point of the projection reads

Grid point `t` reads rows `1024 t` to `1024 t + 1023` of the input, rows `16 t` to `16 t + 15` of the codes of the grid's rows, the
first 512 columns of the state-space branch's matrix, and every other argument whole.
-/
module

public import proofs.«01_k».proof.Proof.Gen.Kernel3Ideal.Frame
public import Idealize.ShloMosaic.Lib.Pointwise
public import Idealize.ShloMosaic.Lib.VecWindow
public import Idealize.ShloMosaic.Lib.Pipeline.Value

@[expose] public section

set_option maxRecDepth 16384

noncomputable section

namespace Cert.Kernel3Ideal.Hand

open Cert.Kernel3Ideal Cert.Kernel3Ideal.Gen
open Idealize.ShloMosaic Idealize.ShloMosaic.TcCoe

variable (m : (ℓ : Loc nD τ sig) → Buf (Elt Ideal) ℓ) (c : Dev nD)

/-- The grid's points are the tiles. -/
theorem points (t : Fin cfg0.N) : t.val < 16 := lt_of_lt_of_eq t.isLt (by decide +kernel : grid0.N = 16)

/-- Where window 0 lies. -/
theorem index_0 : ∀ t : Fin cfg0.N, (cfg0.win 0).index t = ![t.val, 0] := (by decide +kernel : ∀ t : Fin grid0.N, win0_0.index t = ![t.val, 0])

/-- Where window 1 lies. -/
theorem index_1 : ∀ t : Fin cfg0.N, (cfg0.win 1).index t = ![t.val, 0] := (by decide +kernel : ∀ t : Fin grid0.N, win0_1.index t = ![t.val, 0])

/-- Where window 2 lies. -/
theorem index_2 : ∀ t : Fin cfg0.N, (cfg0.win 2).index t = ![0, 0] := (by decide +kernel : ∀ t : Fin grid0.N, win0_2.index t = ![0, 0])

/-- Where window 3 lies. -/
theorem index_3 : ∀ t : Fin cfg0.N, (cfg0.win 3).index t = ![0, 0] := (by decide +kernel : ∀ t : Fin grid0.N, win0_3.index t = ![0, 0])

/-- Where window 4 lies. -/
theorem index_4 : ∀ t : Fin cfg0.N, (cfg0.win 4).index t = ![0, 0] := (by decide +kernel : ∀ t : Fin grid0.N, win0_4.index t = ![0, 0])

/-- Where window 5 lies. -/
theorem index_5 : ∀ t : Fin cfg0.N, (cfg0.win 5).index t = ![0, 0] := (by decide +kernel : ∀ t : Fin grid0.N, win0_5.index t = ![0, 0])

/-- Where window 6 lies. -/
theorem index_6 : ∀ t : Fin cfg0.N, (cfg0.win 6).index t = ![0, 0] := (by decide +kernel : ∀ t : Fin grid0.N, win0_6.index t = ![0, 0])

/-- Where window 7 lies. -/
theorem index_7 : ∀ t : Fin cfg0.N, (cfg0.win 7).index t = ![0, 0] := (by decide +kernel : ∀ t : Fin grid0.N, win0_7.index t = ![0, 0])

/-- Where window 8 lies. -/
theorem index_8 : ∀ t : Fin cfg0.N, (cfg0.win 8).index t = ![0, 0] := (by decide +kernel : ∀ t : Fin grid0.N, win0_8.index t = ![0, 0])

/-- Where window 9 lies. -/
theorem index_9 : ∀ t : Fin cfg0.N, (cfg0.win 9).index t = ![0, 0] := (by decide +kernel : ∀ t : Fin grid0.N, win0_9.index t = ![0, 0])

/-- Where window 10 lies. -/
theorem index_10 : ∀ t : Fin cfg0.N, (cfg0.win 10).index t = ![0, t.val, 0] := (by decide +kernel : ∀ t : Fin grid0.N, win0_10.index t = ![0, t.val, 0])

/-- Where window 11 lies. -/
theorem index_11 : ∀ t : Fin cfg0.N, (cfg0.win 11).index t = ![t.val, 0] := (by decide +kernel : ∀ t : Fin grid0.N, win0_11.index t = ![t.val, 0])

/-- Where window 12 lies. -/
theorem index_12 : ∀ t : Fin cfg0.N, (cfg0.win 12).index t = ![t.val, 0] := (by decide +kernel : ∀ t : Fin grid0.N, win0_12.index t = ![t.val, 0])

/-- Where window 13 lies. -/
theorem index_13 : ∀ t : Fin cfg0.N, (cfg0.win 13).index t = ![t.val, 0] := (by decide +kernel : ∀ t : Fin grid0.N, win0_13.index t = ![t.val, 0])

/-- An entry of window 0's block. -/
theorem iblk_0 (t : Fin cfg0.N) (r : Fin 1024) (k : Fin 1024) : iblk m c 0 t (ix2 r k) = m ((c : Thread nD τ).loc main_arg0) (ix2 ⟨1024 * t.val + r.val, by have := points t; omega⟩ k) := by
  have e : iblk m c 0 t (ix2 r k) = m ((c : Thread nD τ).loc main_arg0) (((cfg0.win 0).rect t).emb (ix2 r k)) := rfl
  rw [e]
  refine congrArg (m ((c : Thread nD τ).loc main_arg0)) (funext fun d => Fin.ext ?_)
  have h := Pipeline.Window.rect_emb_val (cfg0.win 0) t (ix2 r k) d
  rw [h, index_0 t]
  match d with
  | ⟨0, _⟩ => show t.val * 1024 + r.val = 1024 * t.val + r.val; omega
  | ⟨1, _⟩ => show 0 * 1024 + k.val = k.val; omega

/-- An entry of window 1's block. -/
theorem iblk_1 (t : Fin cfg0.N) (r : Fin 16) (k : Fin 512) : iblk m c 1 t (ix2 r k) = m ((c : Thread nD τ).loc main_arg1) (ix2 ⟨16 * t.val + r.val, by have := points t; omega⟩ k) := by
  have e : iblk m c 1 t (ix2 r k) = m ((c : Thread nD τ).loc main_arg1) (((cfg0.win 1).rect t).emb (ix2 r k)) := rfl
  rw [e]
  refine congrArg (m ((c : Thread nD τ).loc main_arg1)) (funext fun d => Fin.ext ?_)
  have h := Pipeline.Window.rect_emb_val (cfg0.win 1) t (ix2 r k) d
  rw [h, index_1 t]
  match d with
  | ⟨0, _⟩ => show t.val * 16 + r.val = 16 * t.val + r.val; omega
  | ⟨1, _⟩ => show 0 * 512 + k.val = k.val; omega

/-- An entry of window 2's block. -/
theorem iblk_2 (t : Fin cfg0.N) (r : Fin 64) (k : Fin 512) : iblk m c 2 t (ix2 r k) = m ((c : Thread nD τ).loc main_arg2) (ix2 r k) := by
  have e : iblk m c 2 t (ix2 r k) = m ((c : Thread nD τ).loc main_arg2) (((cfg0.win 2).rect t).emb (ix2 r k)) := rfl
  rw [e]
  refine congrArg (m ((c : Thread nD τ).loc main_arg2)) (funext fun d => Fin.ext ?_)
  have h := Pipeline.Window.rect_emb_val (cfg0.win 2) t (ix2 r k) d
  rw [h, index_2 t]
  match d with
  | ⟨0, _⟩ => show 0 * 64 + r.val = r.val; omega
  | ⟨1, _⟩ => show 0 * 512 + k.val = k.val; omega

/-- An entry of window 3's block. -/
theorem iblk_3 (t : Fin cfg0.N) (r : Fin 1) (k : Fin 1024) : iblk m c 3 t (ix2 r k) = m ((c : Thread nD τ).loc main_arg3) (ix2 r k) := by
  have e : iblk m c 3 t (ix2 r k) = m ((c : Thread nD τ).loc main_arg3) (((cfg0.win 3).rect t).emb (ix2 r k)) := rfl
  rw [e]
  refine congrArg (m ((c : Thread nD τ).loc main_arg3)) (funext fun d => Fin.ext ?_)
  have h := Pipeline.Window.rect_emb_val (cfg0.win 3) t (ix2 r k) d
  rw [h, index_3 t]
  match d with
  | ⟨0, _⟩ => show 0 * 1 + r.val = r.val; omega
  | ⟨1, _⟩ => show 0 * 1024 + k.val = k.val; omega

/-- An entry of window 4's block. -/
theorem iblk_4 (t : Fin cfg0.N) (r : Fin 1) (k : Fin 1024) : iblk m c 4 t (ix2 r k) = m ((c : Thread nD τ).loc main_arg4) (ix2 r k) := by
  have e : iblk m c 4 t (ix2 r k) = m ((c : Thread nD τ).loc main_arg4) (((cfg0.win 4).rect t).emb (ix2 r k)) := rfl
  rw [e]
  refine congrArg (m ((c : Thread nD τ).loc main_arg4)) (funext fun d => Fin.ext ?_)
  have h := Pipeline.Window.rect_emb_val (cfg0.win 4) t (ix2 r k) d
  rw [h, index_4 t]
  match d with
  | ⟨0, _⟩ => show 0 * 1 + r.val = r.val; omega
  | ⟨1, _⟩ => show 0 * 1024 + k.val = k.val; omega

/-- An entry of window 5's block. -/
theorem iblk_5 (t : Fin cfg0.N) (r : Fin 1) (k : Fin 1024) : iblk m c 5 t (ix2 r k) = m ((c : Thread nD τ).loc main_arg5) (ix2 r k) := by
  have e : iblk m c 5 t (ix2 r k) = m ((c : Thread nD τ).loc main_arg5) (((cfg0.win 5).rect t).emb (ix2 r k)) := rfl
  rw [e]
  refine congrArg (m ((c : Thread nD τ).loc main_arg5)) (funext fun d => Fin.ext ?_)
  have h := Pipeline.Window.rect_emb_val (cfg0.win 5) t (ix2 r k) d
  rw [h, index_5 t]
  match d with
  | ⟨0, _⟩ => show 0 * 1 + r.val = r.val; omega
  | ⟨1, _⟩ => show 0 * 1024 + k.val = k.val; omega

/-- An entry of window 6's block. -/
theorem iblk_6 (t : Fin cfg0.N) (r : Fin 1) (k : Fin 1024) : iblk m c 6 t (ix2 r k) = m ((c : Thread nD τ).loc main_arg6) (ix2 r k) := by
  have e : iblk m c 6 t (ix2 r k) = m ((c : Thread nD τ).loc main_arg6) (((cfg0.win 6).rect t).emb (ix2 r k)) := rfl
  rw [e]
  refine congrArg (m ((c : Thread nD τ).loc main_arg6)) (funext fun d => Fin.ext ?_)
  have h := Pipeline.Window.rect_emb_val (cfg0.win 6) t (ix2 r k) d
  rw [h, index_6 t]
  match d with
  | ⟨0, _⟩ => show 0 * 1 + r.val = r.val; omega
  | ⟨1, _⟩ => show 0 * 1024 + k.val = k.val; omega

/-- An entry of window 7's block. -/
theorem iblk_7 (t : Fin cfg0.N) (r : Fin 1024) (k : Fin 512) : iblk m c 7 t (ix2 r k) = m ((c : Thread nD τ).loc main_arg7) (ix2 r ⟨k.val, by omega⟩) := by
  have e : iblk m c 7 t (ix2 r k) = m ((c : Thread nD τ).loc main_arg7) (((cfg0.win 7).rect t).emb (ix2 r k)) := rfl
  rw [e]
  refine congrArg (m ((c : Thread nD τ).loc main_arg7)) (funext fun d => Fin.ext ?_)
  have h := Pipeline.Window.rect_emb_val (cfg0.win 7) t (ix2 r k) d
  rw [h, index_7 t]
  match d with
  | ⟨0, _⟩ => show 0 * 1024 + r.val = r.val; omega
  | ⟨1, _⟩ => show 0 * 512 + k.val = k.val; omega

/-- An entry of window 8's block. -/
theorem iblk_8 (t : Fin cfg0.N) (r : Fin 1024) (k : Fin 1024) : iblk m c 8 t (ix2 r k) = m ((c : Thread nD τ).loc main_arg8) (ix2 r k) := by
  have e : iblk m c 8 t (ix2 r k) = m ((c : Thread nD τ).loc main_arg8) (((cfg0.win 8).rect t).emb (ix2 r k)) := rfl
  rw [e]
  refine congrArg (m ((c : Thread nD τ).loc main_arg8)) (funext fun d => Fin.ext ?_)
  have h := Pipeline.Window.rect_emb_val (cfg0.win 8) t (ix2 r k) d
  rw [h, index_8 t]
  match d with
  | ⟨0, _⟩ => show 0 * 1024 + r.val = r.val; omega
  | ⟨1, _⟩ => show 0 * 1024 + k.val = k.val; omega

/-- An entry of window 9's block. -/
theorem iblk_9 (t : Fin cfg0.N) (r : Fin 1) (k : Fin 1536) : iblk m c 9 t (ix2 r k) = m ((c : Thread nD τ).loc main_arg9) (ix2 r k) := by
  have e : iblk m c 9 t (ix2 r k) = m ((c : Thread nD τ).loc main_arg9) (((cfg0.win 9).rect t).emb (ix2 r k)) := rfl
  rw [e]
  refine congrArg (m ((c : Thread nD τ).loc main_arg9)) (funext fun d => Fin.ext ?_)
  have h := Pipeline.Window.rect_emb_val (cfg0.win 9) t (ix2 r k) d
  rw [h, index_9 t]
  match d with
  | ⟨0, _⟩ => show 0 * 1 + r.val = r.val; omega
  | ⟨1, _⟩ => show 0 * 1536 + k.val = k.val; omega

end Cert.Kernel3Ideal.Hand
end
-- ==== Proof.Proj.Row.lean ====
/-
# The projection's formula of one token

The projection call reads one token's row of the input, adds the position code (the half `er` of its grid row and the half `ec`
of its grid column), normalizes the row, modulates it, and takes it through the input matrices. `codedRow` is the row with its
code, `normRow` the row of the residual stream, `inRow` the modulated row.
-/
module

public import proofs.«01_k».proof.Proof.Mix.Row

@[expose] public section
noncomputable section
namespace Cert.Proj
open Idealize.ShloMosaic Cert.Mix

/-- The row with its position code. -/
def codedRow (x : Fin 1024 → EReal) (er ec : Fin 512 → EReal) (k : Fin 1024) : EReal :=
  x k + if h : k.val < 512 then er ⟨k.val, h⟩ else ec ⟨k.val - 512, by omega⟩

/-- The row of the residual stream. -/
def normRow (x : Fin 1024 → EReal) (er ec : Fin 512 → EReal) (lg lb : Fin 1024 → EReal) (k : Fin 1024) : EReal :=
  norm (codedRow x er ec) lg lb k

/-- The row that the input matrices read. -/
def inRow (x : Fin 1024 → EReal) (er ec : Fin 512 → EReal) (lg lb m s : Fin 1024 → EReal) (k : Fin 1024) : EReal :=
  normRow x er ec lg lb k * m k + s k

end Cert.Proj
end
-- ==== Proof.Proj.Payload.lean ====
/-
# What the projection's payloads compute, entry by entry

The projection call works on 1024 tokens at a time: 16 rows of the grid of 64 columns. Each entry of what it stores for them is
the formula of its token.
-/
module

public import proofs.«01_k».proof.Proof.Gen.Kernel3Ideal.Skeleton
public import proofs.«01_k».proof.Proof.Proj.Row
public import Idealize.ShloMosaic.Lib.Pipeline.Value

@[expose] public section
noncomputable section
namespace Cert.Kernel3Ideal.Hand
open Cert.Kernel3Ideal Cert.Kernel3Ideal.Gen Cert.Mix Cert.Proj
open Idealize.ShloMosaic

section
variable (v0 : Vec Ideal S1024x1024 .f32) (v1 : Vec Ideal S16x512 .f32) (v6 : Vec Ideal S64x512 .f32) (v10 v11 : Vec Ideal S1x1024 .f32)

/-- The codes of the tile's grid columns: the 64 rows of `v6`, again and again. -/
theorem columns_apply (h) (r : Fin 1024) (k : Fin 512) :
    concatenate S1024x512 0 (List.replicate 16 ⟨S64x512, v6⟩) h (ix2 r k) = v6 (ix2 ⟨r.val % 64, Nat.mod_lt _ (by norm_num)⟩ k) :=
  concatenate_replicate_apply 0 16 v6 h rfl (ix2 r k) (ix2 ⟨r.val % 64, Nat.mod_lt _ (by norm_num)⟩ k) rfl
    (fun b hb => match b with
      | ⟨0, _⟩ => absurd rfl hb
      | ⟨1, _⟩ => rfl)

/-- The row that the layer norm reads. -/
abbrev coded (r : Fin 1024) : Fin 1024 → EReal :=
  codedRow (fun k => v0 (ix2 r k)) (fun k => v1 (ix2 ⟨r.val / 64, by omega⟩ k)) (fun k => v6 (ix2 ⟨r.val % 64, Nat.mod_lt _ (by norm_num)⟩ k))

/-- An entry of the normed row. -/
theorem pay1_apply (r j : Fin 1024) : k0_pay1 v0 v1 v6 v10 v11 (ix2 r j)
    = norm (coded v0 v1 v6 r) (fun k => v10 (ix2 0 k)) (fun k => v11 (ix2 0 k)) j := by
  unfold k0_pay1
  dsimp only
  generalize hc : concatenate S1024x512 0 [⟨S64x512, v6⟩, _, _, _, _, _, _, _, _, _, _, _, _, _, _, _] _ = col
  have hcol : ∀ (r : Fin 1024) (k : Fin 512), col (ix2 r k) = v6 (ix2 ⟨r.val % 64, Nat.mod_lt _ (by norm_num)⟩ k) :=
    fun r k => hc ▸ columns_apply v6 _ r k
  clear hc
  generalize hd : concatenate S1024x1024 1 _ _ = code
  generalize hx : addf _ code = x
  have e : ∀ r k : Fin 1024, x (ix2 r k) = coded v0 v1 v6 r k := fun r k => by
    rw [← hx, ← hd]
    pointwise
    unfold coded codedRow
    simp only [hcol]
  clear hx hd hcol
  pointwise
  simp only [e]
  rfl

/-- An entry of the modulated row. -/
theorem pay3_apply (v33 v36 : Vec Ideal S1x1024 .f32) (r k : Fin 1024) : k0_pay3 (k0_pay2 v0 v1 v6 v10 v11 v33) v36 (ix2 r k)
    = norm (coded v0 v1 v6 r) (fun k => v10 (ix2 0 k)) (fun k => v11 (ix2 0 k)) k * v33 (ix2 0 k) + v36 (ix2 0 k) := by
  rw [← pay1_apply]
  pointwise [k0_pay3, k0_pay2]

/-- An entry of the state-space branch's rows. -/
theorem pay4_apply (x : FVec Ideal S1024x1024 .f32) (v36 : Vec Ideal S1x1024 .f32) (w : Vec Ideal S1024x512 .bf16) (b : Vec Ideal S1x512 .f32)
    (r : Fin 1024) (j : Fin 512) : k0_pay4 x v36 w b (ix2 r j)
    = lin (fun k => k0_pay3 x v36 (ix2 r k)) (fun k j => w (ix2 k j)) (fun j => b (ix2 0 j)) j := by
  unfold k0_pay4
  generalize k0_pay3 x v36 = u
  pointwise
  rfl

/-- An entry of the Fourier branch's real parts. -/
theorem pay46_apply (u : FVec Ideal S1024x1024 .bf16) (w : Vec Ideal S1024x1024 .bf16) (b : Vec Ideal S1x1024 .f32)
    (r : Fin 1024) (j : Fin 512) : k0_pay46 u w b (ix2 r j)
    = lin (fun k => u (ix2 r k)) (fun k j => w (ix2 k j)) (fun j => b (ix2 0 j)) ⟨j.val, by omega⟩ := by
  pointwise [k0_pay46, k0_pay45]
  rfl

/-- An entry of its imaginary parts. -/
theorem pay47_apply (u : FVec Ideal S1024x1024 .bf16) (w : Vec Ideal S1024x1024 .bf16) (b : Vec Ideal S1x1024 .f32)
    (r : Fin 1024) (j : Fin 512) : k0_pay47 u w b (ix2 r j)
    = lin (fun k => u (ix2 r k)) (fun k j => w (ix2 k j)) (fun j => b (ix2 0 j)) ⟨512 + j.val, by omega⟩ := by
  pointwise [k0_pay47, k0_pay45]
  rfl

/-- A plane's rows are stored as they are. -/
theorem pay9_apply (v : Vec Ideal S1x128x128 .f32) (r q : Fin 128) : k0_pay9 v (ix3 0 r q) = v (ix3 0 r q) := by
  pointwise [k0_pay9]

/-- A column block of the rows goes to the scratch buffer as it is. -/
theorem pay5_apply (x : FVec Ideal S1024x1024 .f32) (v36 : Vec Ideal S1x1024 .f32) (w : Vec Ideal S1024x512 .bf16) (b : Vec Ideal S1x512 .f32)
    (r : Fin 1024) (q : Fin 128) :
    k0_pay5 x v36 w b (ix3 0 r q) = k0_pay4 x v36 w b (ix2 r ⟨q.val, by omega⟩)
    ∧ k0_pay6 x v36 w b (ix3 0 r q) = k0_pay4 x v36 w b (ix2 r ⟨128 + q.val, by omega⟩)
    ∧ k0_pay7 x v36 w b (ix3 0 r q) = k0_pay4 x v36 w b (ix2 r ⟨256 + q.val, by omega⟩)
    ∧ k0_pay8 x v36 w b (ix3 0 r q) = k0_pay4 x v36 w b (ix2 r ⟨384 + q.val, by omega⟩) := by
  unfold k0_pay5 k0_pay6 k0_pay7 k0_pay8
  generalize k0_pay4 x v36 w b = u
  refine ⟨?_, ?_, ?_, ?_⟩ <;> pointwise
end

end Cert.Kernel3Ideal.Hand
end
-- ==== Proof.Proj.Body.lean ====
/-
# What a grid point leaves

After a grid point each output's staging buffer holds a named function of the point's blocks. The rows of the state-space
branch go through a scratch buffer of four planes, which is read back with stride eight: row `8 R + t` of the tile becomes row
`R` of plane `t`.
-/
module

public import proofs.«01_k».proof.Proof.Gen.Kernel3Ideal.Frame
public import proofs.«01_k».proof.Proof.Proj.Payload
public import Idealize.ShloMosaic.Lib.Pointwise
public import Idealize.ShloMosaic.Lib.VecWindow
public import Idealize.ShloMosaic.Lib.WholeRead
public import Idealize.ShloMosaic.Lib.Pipeline.Value
public import Idealize.ShloMosaic.Lib.Pipeline.ValueKit

@[expose] public section
set_option maxRecDepth 16384
noncomputable section
namespace Cert.Kernel3Ideal.Hand
open Cert.Kernel3Ideal Cert.Kernel3Ideal.Gen
open Idealize.ShloMosaic Idealize.ShloMosaic.TcCoe

/-- A load of a whole buffer reads what it holds. -/
theorem read_whole {s : Shape} {e : EltTy} {m : Memref sig .tc .vmem s e} (h : m.IsWhole) (x : s.Idx → Elt Ideal e)
    {off : Fin s.rank → ℕ} (h0 : ∀ a, off a = 0) (inb : ∀ a, off a + s.size a ≤ s.size a) :
    m.view.readAt (Elt Ideal) (Rect.unit off s.size inb).toLoadRect (h.unread x) = x :=
  funext fun i => (h.readAt_unread x _ i).trans (congrArg x (funext fun a => Fin.ext (by
    show off a + 1 * (i a).val = (i a).val
    rw [h0]; omega)))

/-- Both coordinates of the corner are nought. -/
theorem corner : ∀ a : Fin 2, (![0, 0] : Fin 2 → ℕ) a = 0 := by decide

section

variable  (c : Dev nD) (i : grid0.Coords) (arg1 : Memref sig .tc .vmem S1024x1024 .f32) (harg1 : arg1.IsWhole) (arg2 : Memref sig .tc .vmem S16x512 .f32) (harg2 : arg2.IsWhole) (arg3 : Memref sig .tc .vmem S64x512 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x512 .bf16) (harg8 : arg8.IsWhole) (arg9 : Memref sig .tc .vmem S1024x1024 .bf16) (harg9 : arg9.IsWhole) (arg10 : Memref sig .tc .vmem S1x1536 .f32) (harg10 : arg10.IsWhole) (arg11 : Memref sig .tc .vmem S8x128x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x1024 .f32) (harg14 : arg14.IsWhole) (arg15 : Memref sig .tc .vmem S4x1024x128 .f32) (harg15 : arg15.IsWhole) (x0 : Vec Ideal S1024x1024 .f32) (x1 : Vec Ideal S16x512 .f32) (x2 : Vec Ideal S64x512 .f32) (x3 : Vec Ideal S1x1024 .f32) (x4 : Vec Ideal S1x1024 .f32) (x5 : Vec Ideal S1x1024 .f32) (x6 : Vec Ideal S1x1024 .f32) (x7 : Vec Ideal S1024x512 .bf16) (x8 : Vec Ideal S1024x1024 .bf16) (x9 : Vec Ideal S1x1536 .f32)

/-- The biases of the state-space branch. -/
abbrev biasP : Vec Ideal S1x512 .f32 := fun y => x9 (ix2 0 ⟨(y 1).val, lt_trans (y 1).isLt (by decide)⟩)

/-- The biases of the Fourier branch. -/
abbrev biasF : Vec Ideal S1x1024 .f32 := fun y => x9 (ix2 0 ⟨512 + (y 1).val, Nat.add_lt_add_left (y 1).isLt 512⟩)

/-- The tile's modulated rows. -/
abbrev rowsIn : FVec Ideal S1024x1024 .bf16 := k0_pay3 (k0_pay2 x0 x1 x2 x3 x4 x5) x6

/-- The tile's rows of the state-space branch. -/
abbrev rowsP : FVec Ideal S1024x512 .f32 := k0_pay4 (k0_pay2 x0 x1 x2 x3 x4 x5) x6 x7 (biasP x9)

omit harg10 in
/-- The load of the first biases. -/
theorem biasP_eq (harg10 : arg10.IsWhole) (inb) : arg10.view.readAt (Elt Ideal) (Rect.unit (s := S1x1536) ![0, 0] S1x512.size inb).toLoadRect (harg10.unread x9) = biasP x9 :=
  funext fun y => (harg10.readAt_unread x9 _ y).trans (congrArg x9 (funext fun a => Fin.ext (match a with
    | ⟨0, _⟩ => by have h : (y 0).val < 1 := (y 0).isLt
                   show 0 + 1 * (y 0).val = 0; omega
    | ⟨1, _⟩ => by show 0 + 1 * (y 1).val = (y 1).val; omega)))

omit harg10 in
/-- The load of the other biases. -/
theorem biasF_eq (harg10 : arg10.IsWhole) (inb) : arg10.view.readAt (Elt Ideal) (Rect.unit (s := S1x1536) ![0, 512] S1x1024.size inb).toLoadRect (harg10.unread x9) = biasF x9 :=
  funext fun y => (harg10.readAt_unread x9 _ y).trans (congrArg x9 (funext fun a => Fin.ext (match a with
    | ⟨0, _⟩ => by have h : (y 0).val < 1 := (y 0).isLt
                   show 0 + 1 * (y 0).val = 0; omega
    | ⟨1, _⟩ => by show 512 + 1 * (y 1).val = 512 + (y 1).val; omega)))

/-- The modulated rows, as the run names them. -/
theorem in_eq : kernelRun0_A.sl.r_2 c arg1 harg1 arg2 harg2 arg3 harg3 arg4 harg4 arg5 harg5 arg6 harg6 arg7 harg7 x0 x1 x2 x3 x4 x5 x6 = rowsIn x0 x1 x2 x3 x4 x5 x6 := by
  unfold kernelRun0_A.sl.r_2 kernelRun0_A.sl.r kernelRun0_A.sl.r_1
  rw [read_whole harg1 x0 corner, read_whole harg2 x1 corner, read_whole harg3 x2 corner, read_whole harg4 x3 corner, read_whole harg5 x4 corner, read_whole harg6 x5 corner, read_whole harg7 x6 corner]

/-- The normed rows. -/
theorem out_h : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 = k0_pay1 x0 x1 x2 x3 x4 := by
  unfold out0_A_13 kernelRun0_A
  dsimp only
  refine (View.read_writes_full _ _ _ _ _).trans ?_
  rw [read_whole harg1 x0 corner, read_whole harg2 x1 corner, read_whole harg3 x2 corner, read_whole harg4 x3 corner, read_whole harg5 x4 corner]

/-- The real parts' rows. -/
theorem out_r : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 = k0_pay46 (rowsIn x0 x1 x2 x3 x4 x5 x6) x8 (biasF x9) := by
  unfold out0_A_11 kernelRun0_A
  dsimp only
  refine (View.read_writes_full _ _ _ _ _).trans ?_
  rw [in_eq, read_whole harg9 x8 corner, biasF_eq]

/-- The imaginary parts' rows. -/
theorem out_i : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 = k0_pay47 (rowsIn x0 x1 x2 x3 x4 x5 x6) x8 (biasF x9) := by
  unfold out0_A_12 kernelRun0_A
  dsimp only
  refine (View.read_writes_full _ _ _ _ _).trans ?_
  unfold kernelRun0_A.sl.r_7
  rw [in_eq, read_whole harg9 x8 corner, biasF_eq]

omit x0 x1 x2 x3 x4 x5 x6 x7 x8 x9 in
/-- An array's entry, of equal coordinates. -/
theorem entry_eq (u : FVec Ideal S1024x512 .f32) {r r' : Fin 1024} {k k' : Fin 512} (h : r.val = r'.val) (h' : k.val = k'.val) :
    u (ix2 r k) = u (ix2 r' k') := by rw [Fin.ext h, Fin.ext h']

omit x0 x1 x2 x3 x4 x5 x6 x7 x8 x9 in
/-- The four planes, entry by entry. -/
theorem plane_apply (u : FVec Ideal S1024x1024 .f32) (v36 : Vec Ideal S1x1024 .f32) (w : Vec Ideal S1024x512 .bf16) (b : Vec Ideal S1x512 .f32)
    (x : S1x1024x128.Idx) :
    k0_pay5 u v36 w b x = k0_pay4 u v36 w b (ix2 (x 1) ⟨(x 2).val, lt_trans (x 2).isLt (by decide)⟩)
    ∧ k0_pay6 u v36 w b x = k0_pay4 u v36 w b (ix2 (x 1) ⟨128 + (x 2).val, (Nat.add_lt_add_left (x 2).isLt 128).trans (by decide)⟩)
    ∧ k0_pay7 u v36 w b x = k0_pay4 u v36 w b (ix2 (x 1) ⟨256 + (x 2).val, (Nat.add_lt_add_left (x 2).isLt 256).trans (by decide)⟩)
    ∧ k0_pay8 u v36 w b x = k0_pay4 u v36 w b (ix2 (x 1) ⟨384 + (x 2).val, Nat.add_lt_add_left (x 2).isLt 384⟩) := by
  have hx : x = ix3 0 (x 1) (x 2) := funext fun a => match a with
    | ⟨0, _⟩ => Subsingleton.elim (α := Fin 1) _ _
    | ⟨1, _⟩ => rfl
    | ⟨2, _⟩ => rfl
  have h := pay5_apply u v36 w b (x 1) (x 2)
  exact ⟨(congrArg (k0_pay5 u v36 w b) hx).trans h.1, (congrArg (k0_pay6 u v36 w b) hx).trans h.2.1,
    (congrArg (k0_pay7 u v36 w b) hx).trans h.2.2.1, (congrArg (k0_pay8 u v36 w b) hx).trans h.2.2.2⟩

omit x0 x1 x2 x3 x4 x5 x6 x7 x8 x9 in
/-- The column that plane `p` holds. -/
theorem plane_col (p : ℕ) (x : S1x1024x128.Idx) (y : S4x1024x128.Idx) (h0 : (y 0).val = p + (x 0).val) (h2 : (y 2).val = (x 2).val) :
    128 * p + (x 2).val = 128 * (y 0).val + (y 2).val := by
  have hx0 : (x 0).val < 1 := (x 0).isLt
  omega

/-- What the scratch buffer holds: four planes, of 128 columns each. -/
theorem scratch_apply (y : S4x1024x128.Idx) : View.canon (kernelRun0_A.sl.HS0_4 c arg1 harg1 arg2 harg2 arg3 harg3 arg4 harg4 arg5 harg5 arg6 harg6 arg7 harg7 arg8 harg8 arg10 harg10 x0 x1 x2 x3 x4 x5 x6 x7 x9) y
    = rowsP x0 x1 x2 x3 x4 x5 x6 x7 x9 (ix2 (y 1) ⟨128 * (y 0).val + (y 2).val, by have h : (y 0).val < 4 := (y 0).isLt; have h' : (y 2).val < 128 := (y 2).isLt; omega⟩) := by
  unfold kernelRun0_A.sl.HS0_4 kernelRun0_A.sl.r kernelRun0_A.sl.r_1
  rw [read_whole harg1 x0 corner, read_whole harg2 x1 corner, read_whole harg3 x2 corner, read_whole harg4 x3 corner, read_whole harg5 x4 corner, read_whole harg6 x5 corner, read_whole harg7 x6 corner, read_whole harg8 x7 corner, biasP_eq]
  canon_tiles x h
  · exact (plane_apply _ _ _ _ x).2.2.2.trans (entry_eq _ h1.symm (plane_col 3 x y h0 h2))
  · exact (plane_apply _ _ _ _ x).2.2.1.trans (entry_eq _ h1.symm (plane_col 2 x y h0 h2))
  · exact (plane_apply _ _ _ _ x).2.1.trans (entry_eq _ h1.symm (plane_col 1 x y h0 h2))
  · exact (plane_apply _ _ _ _ x).1.trans (entry_eq _ h1.symm ((Nat.zero_add _).symm.trans (plane_col 0 x y (h0.trans (Nat.zero_add _).symm) h2)))

/-- A load from it, with stride eight. -/
theorem load_apply (j t : ℕ) (hj : j < 4) (ht : t < 8) (inb) (R q : Fin 128) :
    arg15.view.readCov (kernelRun0_A.sl.HS0_4 c arg1 harg1 arg2 harg2 arg3 harg3 arg4 harg4 arg5 harg5 arg6 harg6 arg7 harg7 arg8 harg8 arg10 harg10 x0 x1 x2 x3 x4 x5 x6 x7 x9) { off := ![j, t, 0], size := S1x128x128.size, stride := ![1, 8, 1], inb := inb } (ix3 0 R q)
    = rowsP x0 x1 x2 x3 x4 x5 x6 x7 x9 (ix2 ⟨8 * R.val + t, by omega⟩ ⟨128 * j + q.val, by omega⟩) := by
  refine (congrFun (View.readCov_eq_canon _ _ _ (fun y => View.cover_of_tiled_head _ _ _ (by rfl) _)) _).trans
    ((scratch_apply c arg1 harg1 arg2 harg2 arg3 harg3 arg4 harg4 arg5 harg5 arg6 harg6 arg7 harg7 arg8 harg8 arg10 harg10 x0 x1 x2 x3 x4 x5 x6 x7 x9 _).trans (entry_eq _ ?_ ?_))
  · show t + 8 * R.val = 8 * R.val + t
    omega
  · show 128 * (j + 1 * 0) + (0 + 1 * q.val) = 128 * j + q.val
    omega

/-- What is stored of such a load. -/
theorem store_apply (j t : ℕ) (hj : j < 4) (ht : t < 8) (inb) (x : S1x128x128.Idx) (y : S8x128x512.Idx)
    (h0 : (y 0).val = t + (x 0).val) (h1 : (y 1).val = (x 1).val) (h2 : (y 2).val = 128 * j + (x 2).val) :
    k0_pay9 (arg15.view.readCov (kernelRun0_A.sl.HS0_4 c arg1 harg1 arg2 harg2 arg3 harg3 arg4 harg4 arg5 harg5 arg6 harg6 arg7 harg7 arg8 harg8 arg10 harg10 x0 x1 x2 x3 x4 x5 x6 x7 x9) { off := ![j, t, 0], size := S1x128x128.size, stride := ![1, 8, 1], inb := inb }) x
    = rowsP x0 x1 x2 x3 x4 x5 x6 x7 x9 (ix2 ⟨8 * (y 1).val + (y 0).val, by have h : (y 0).val < 8 := (y 0).isLt; have h' : (y 1).val < 128 := (y 1).isLt; omega⟩ (y 2)) := by
  have hx : x = ix3 0 (x 1) (x 2) := funext fun a => match a with
    | ⟨0, _⟩ => Subsingleton.elim (α := Fin 1) _ _
    | ⟨1, _⟩ => rfl
    | ⟨2, _⟩ => rfl
  have hx0 : (x 0).val < 1 := (x 0).isLt
  refine (congrArg (k0_pay9 _) hx).trans ((pay9_apply _ (x 1) (x 2)).trans ((load_apply (arg15 := arg15) c arg1 harg1 arg2 harg2 arg3 harg3 arg4 harg4 arg5 harg5 arg6 harg6 arg7 harg7 arg8 harg8 arg10 harg10 x0 x1 x2 x3 x4 x5 x6 x7 x9 j t hj ht inb (x 1) (x 2)).trans (entry_eq _ ?_ h2.symm)))
  show 8 * (x 1).val + t = 8 * (y 1).val + (y 0).val
  omega

/-- **The state-space branch's rows**: row `8 R + t` of the tile is row `R` of plane `t`. -/
theorem out_p (y : S8x128x512.Idx) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y
    = rowsP x0 x1 x2 x3 x4 x5 x6 x7 x9 (ix2 ⟨8 * (y 1).val + (y 0).val, by have h : (y 0).val < 8 := (y 0).isLt; have h' : (y 1).val < 128 := (y 1).isLt; omega⟩ (y 2)) := by
  unfold out0_A_10 kernelRun0_A
  dsimp only
  rw [View.read_writes_eq_canon _ _ _ (fun y => View.cover_of_tiled_head _ _ _ (by rfl) y)]
  canon_tiles x h
  all_goals
    exact store_apply (arg15 := arg15) c arg1 harg1 arg2 harg2 arg3 harg3 arg4 harg4 arg5 harg5 arg6 harg6 arg7 harg7 arg8 harg8 arg10 harg10 x0 x1 x2 x3 x4 x5 x6 x7 x9 _ _ (by decide) (by decide) _ x y (by omega) h1 (by omega)

end
end Cert.Kernel3Ideal.Hand
end
-- ==== Proof.Proj.RefValue.lean ====
/-
# What the projection's reference computes, entry by entry

The entry of token `n` is the formula of the token: its row of the input, and the position code of its grid row `n / 64` and grid
column `n % 64`. In the state-space branch's array token `n` is step `n / 8` of sequence `n % 8`.
-/
module

public import proofs.«01_k».proof.Proof.Gen.Reference3Ideal
public import proofs.«01_k».proof.Proof.Gen.Reference3Ideal.Read
public import proofs.«01_k».proof.Proof.Proj.Row
public import Idealize.ShloMosaic.Lib.Pointwise

@[expose] public section
noncomputable section
namespace Cert.Reference3Ideal.Hand
open Cert.Reference3Ideal Cert.Reference3Ideal.Gen Cert.Reference3Ideal.Read Cert.Ffn Cert.Mix Cert.Proj
open Idealize.ShloMosaic

variable (x0 : FVec Ideal S16384x1024 .f32) (x1 : FVec Ideal S256x512 .f32) (x2 : FVec Ideal S64x512 .f32)
    (x3 x4 x5 x6 : FVec Ideal S1x1024 .f32) (x7 : FVec Ideal S1024x3072 .bf16) (x8 : FVec Ideal S1024x1024 .bf16) (x9 : FVec Ideal S1x1536 .f32)

/-- Token `n`'s row with its position code. -/
def tokenCoded (n : Fin 16384) : Fin 1024 → EReal :=
  codedRow (fun k => x0 (ix2 n k)) (fun k => x1 (ix2 ⟨n.val / 64, by omega⟩ k)) (fun k => x2 (ix2 ⟨n.val % 64, Nat.mod_lt _ (by norm_num)⟩ k))

/-- Token `n`'s row of the residual stream. -/
def tokenRow (n : Fin 16384) : Fin 1024 → EReal :=
  norm (tokenCoded x0 x1 x2 n) (fun k => x3 (ix2 0 k)) (fun k => x4 (ix2 0 k))

/-- Token `n`'s modulated row. -/
def tokenIn (n : Fin 16384) (k : Fin 1024) : EReal := tokenRow x0 x1 x2 x3 x4 n k * x5 (ix2 0 k) + x6 (ix2 0 k)

/-- Token `n`'s row of the state-space branch. -/
def tokenP (n : Fin 16384) : Fin 512 → EReal :=
  lin (tokenIn x0 x1 x2 x3 x4 x5 x6 n) (fun k j => x7 (ix2 k ⟨j.val, by omega⟩)) (fun j => x9 (ix2 0 ⟨j.val, by omega⟩))

/-- Token `n`'s row of the Fourier branch. -/
def tokenF (n : Fin 16384) : Fin 1024 → EReal :=
  lin (tokenIn x0 x1 x2 x3 x4 x5 x6 n) (fun k j => x8 (ix2 k j)) (fun j => x9 (ix2 0 ⟨512 + j.val, by omega⟩))

/-- The position code's entry. -/
theorem code_entry (n : Fin 16384) (k : Fin 1024) : val_main_v5 (F := Ideal) x1 x2 (ix2 n k)
    = if h : k.val < 512 then x1 (ix2 ⟨n.val / 64, by omega⟩ ⟨k.val, h⟩) else x2 (ix2 ⟨n.val % 64, Nat.mod_lt _ (by norm_num)⟩ ⟨k.val - 512, by omega⟩) := by
  have hn := n.isLt
  have hk := k.isLt
  have i5 : idx_main_v5 (ix2 n k) = ix3 ⟨n.val / 64, by omega⟩ ⟨n.val % 64, Nat.mod_lt _ (by norm_num)⟩ k := funext fun a => Fin.ext (match a with
    | ⟨0, _⟩ => by show (n.val * 1024 + k.val) / 65536 = n.val / 64; omega
    | ⟨1, _⟩ => by show (n.val * 1024 + k.val) / 1024 % 64 = n.val % 64; omega
    | ⟨2, _⟩ => by show (n.val * 1024 + k.val) % 1024 = k.val; omega)
  have e1 : ∀ (a : Fin 256) (b : Fin 64) (c : Fin 512), val_main_v1 (F := Ideal) x1 (ix3 a b c) = x1 (ix2 a c) := fun a b c => by
    rw [val_main_v1_apply, val_main_v0_apply]
    exact congrArg x1 (funext fun d => Fin.ext (match d with | ⟨0, _⟩ => rfl | ⟨1, _⟩ => rfl))
  have e3 : ∀ (a : Fin 256) (b : Fin 64) (c : Fin 512), val_main_v3 (F := Ideal) x2 (ix3 a b c) = x2 (ix2 b c) := fun a b c => by
    rw [val_main_v3_apply, val_main_v2_apply]
    exact congrArg x2 (funext fun d => Fin.ext (match d with | ⟨0, _⟩ => rfl | ⟨1, _⟩ => rfl))
  rw [val_main_v5_apply, i5]
  unfold val_main_v4
  generalize val_main_v1 (F := Ideal) x1 = y1 at e1 ⊢
  generalize val_main_v3 (F := Ideal) x2 = y3 at e3 ⊢
  pointwise
  simp only [e1, e3]

/-- The row that the layer norm reads. -/
theorem coded_entry (n : Fin 16384) (k : Fin 1024) : val_main_v6 (F := Ideal) x0 x1 x2 (ix2 n k) = tokenCoded x0 x1 x2 n k := by
  rw [val_main_v6_apply, code_entry]
  rfl

/-- Its mean. -/
theorem mean_entry (n : Fin 16384) : val_main_v10 (F := Ideal) x0 x1 x2 (ix2 n 0) = mean (tokenCoded x0 x1 x2 n) := by
  have i8 : idx_main_v8 (ix2 n 0) = ix1 n := funext fun a => Fin.ext (match a with | ⟨0, _⟩ => rfl)
  have i7 : ∀ k, idx_main_v7 (ix1 n) k = ix2 n k := fun k => funext fun a => Fin.ext (match a with | ⟨0, _⟩ => rfl | ⟨1, _⟩ => rfl)
  rw [val_main_v10_apply, val_main_v9_apply, val_main_cst_0_apply, val_main_v8_apply, i8, val_main_v7_apply, val_main_cst_apply]
  refine congrArg₂ Ideal.div (((congrArg (· + _) Ideal.ofBits_zero_f32).trans (zero_add _)).trans (Finset.sum_congr rfl fun k _ => ?_)) rfl
  rw [i7, coded_entry]

/-- Its variance. -/
theorem var_entry (n : Fin 16384) : val_main_v17 (F := Ideal) x0 x1 x2 (ix2 n 0) = var (tokenCoded x0 x1 x2 n) := by
  have i15 : idx_main_v15 (ix2 n 0) = ix1 n := funext fun a => Fin.ext (match a with | ⟨0, _⟩ => rfl)
  have i14 : ∀ k, idx_main_v14 (ix1 n) k = ix2 n k := fun k => funext fun a => Fin.ext (match a with | ⟨0, _⟩ => rfl | ⟨1, _⟩ => rfl)
  have i11 : ∀ k : Fin 1024, idx_main_v11 (ix2 n k) = ix2 n 0 := fun k => funext fun a => Fin.ext (match a with | ⟨0, _⟩ => rfl | ⟨1, _⟩ => rfl)
  rw [val_main_v17_apply, val_main_v16_apply, val_main_cst_2_apply, val_main_v15_apply, i15, val_main_v14_apply, val_main_cst_1_apply]
  refine congrArg₂ Ideal.div (((congrArg (· + _) Ideal.ofBits_zero_f32).trans (zero_add _)).trans (Finset.sum_congr rfl fun k _ => ?_)) rfl
  rw [i14, val_main_v13_apply, val_main_v12_apply, val_main_v11_apply, i11, mean_entry, coded_entry]
  rfl

/-- **The row of the residual stream.** -/
theorem row_entry (n : Fin 16384) (j : Fin 1024) : val_main_v28 (F := Ideal) x0 x1 x2 x3 x4 (ix2 n j) = tokenRow x0 x1 x2 x3 x4 n j := by
  have i18 : idx_main_v18 (ix2 n j) = ix2 n 0 := funext fun a => Fin.ext (match a with | ⟨0, _⟩ => rfl | ⟨1, _⟩ => rfl)
  have i23 : idx_main_v23 (ix2 n j) = ix2 n 0 := funext fun a => Fin.ext (match a with | ⟨0, _⟩ => rfl | ⟨1, _⟩ => rfl)
  have i25 : idx_main_v25 (ix2 n j) = ix2 0 j := funext fun a => Fin.ext (match a with | ⟨0, _⟩ => rfl | ⟨1, _⟩ => rfl)
  have i27 : idx_main_v27 (ix2 n j) = ix2 0 j := funext fun a => Fin.ext (match a with | ⟨0, _⟩ => rfl | ⟨1, _⟩ => rfl)
  rw [val_main_v28_apply, val_main_v27_apply, i27, val_main_v26_apply, val_main_v25_apply, i25, val_main_v24_apply, val_main_v23_apply, i23,
    val_main_v22_apply, val_main_v21_apply, val_main_v20_apply, val_main_cst_3_apply, val_main_v19_apply, val_main_v18_apply, i18, mean_entry, var_entry, coded_entry]
  rfl

/-- The modulated row. -/
theorem in_entry (n : Fin 16384) (j : Fin 1024) : val_main_v32 (F := Ideal) x0 x1 x2 x3 x4 x5 x6 (ix2 n j) = tokenIn x0 x1 x2 x3 x4 x5 x6 n j := by
  have i29 : idx_main_v29 (ix2 n j) = ix2 0 j := funext fun a => Fin.ext (match a with | ⟨0, _⟩ => rfl | ⟨1, _⟩ => rfl)
  have i31 : idx_main_v31 (ix2 n j) = ix2 0 j := funext fun a => Fin.ext (match a with | ⟨0, _⟩ => rfl | ⟨1, _⟩ => rfl)
  rw [val_main_v32_apply, val_main_v31_apply, i31, val_main_v30_apply, val_main_v29_apply, i29, row_entry]
  rfl

/-- The row of the state-space branch. -/
theorem p_entry (n : Fin 16384) (j : Fin 512) : val_main_v38 (F := Ideal) x0 x1 x2 x3 x4 x5 x6 x7 x9 (ix2 n j) = tokenP x0 x1 x2 x3 x4 x5 x6 x7 x9 n j := by
  have il : ∀ k, lidx_main_v35 (ix2 n j) k = ix2 n k := fun k => funext fun a => Fin.ext (match a with | ⟨0, _⟩ => rfl | ⟨1, _⟩ => rfl)
  have ir : ∀ k, idx_main_v33 (ridx_main_v35 (ix2 n j) k) = ix2 k ⟨j.val, by omega⟩ := fun k => funext fun a => Fin.ext (match a with | ⟨0, _⟩ => rfl | ⟨1, _⟩ => rfl)
  have ib : idx_main_v36 (idx_main_v37 (ix2 n j)) = ix2 0 ⟨j.val, by omega⟩ := funext fun a => Fin.ext (match a with | ⟨0, _⟩ => rfl | ⟨1, _⟩ => rfl)
  rw [val_main_v38_apply, val_main_v35_apply, val_main_v37_apply, val_main_v36_apply, ib]
  refine congrArg₂ (· + ·) (Finset.sum_congr rfl fun k _ => ?_) rfl
  rw [il, in_entry, val_main_v34_apply, val_main_v33_apply, ir]
  rfl

/-- The row of the Fourier branch. -/
theorem f_entry (n : Fin 16384) (j : Fin 1024) : val_main_v43 (F := Ideal) x0 x1 x2 x3 x4 x5 x6 x8 x9 (ix2 n j) = tokenF x0 x1 x2 x3 x4 x5 x6 x8 x9 n j := by
  have il : ∀ k, lidx_main_v40 (ix2 n j) k = ix2 n k := fun k => funext fun a => Fin.ext (match a with | ⟨0, _⟩ => rfl | ⟨1, _⟩ => rfl)
  have ir : ∀ k, ridx_main_v40 (ix2 n j) k = ix2 k j := fun k => funext fun a => Fin.ext (match a with | ⟨0, _⟩ => rfl | ⟨1, _⟩ => rfl)
  have ib : idx_main_v41 (idx_main_v42 (ix2 n j)) = ix2 0 ⟨512 + j.val, by omega⟩ := funext fun a => Fin.ext (match a with | ⟨0, _⟩ => rfl | ⟨1, _⟩ => rfl)
  rw [val_main_v43_apply, val_main_v40_apply, val_main_v42_apply, val_main_v41_apply, ib]
  refine congrArg₂ (· + ·) (Finset.sum_congr rfl fun k _ => ?_) rfl
  rw [il, in_entry, val_main_v39_apply, ir]
  rfl

/-- **The state-space branch's array.** -/
theorem steps_entry (q : Fin 8) (R : Fin 2048) (j : Fin 512) : val_main_v46 (F := Ideal) x0 x1 x2 x3 x4 x5 x6 x7 x9 (ix3 q R j)
    = tokenP x0 x1 x2 x3 x4 x5 x6 x7 x9 ⟨8 * R.val + q.val, by omega⟩ j := by
  have hq := q.isLt
  have hR := R.isLt
  have hj := j.isLt
  have i : idx_main_v44 (idx_main_v45 (ix3 q R j)) = ix2 ⟨8 * R.val + q.val, by omega⟩ j := funext fun a => Fin.ext (match a with
    | ⟨0, _⟩ => by show ((R.val * 8 + q.val) * 512 + j.val) / 512 = 8 * R.val + q.val; omega
    | ⟨1, _⟩ => by show ((R.val * 8 + q.val) * 512 + j.val) % 512 = j.val; omega)
  rw [val_main_v46_apply, val_main_v45_apply, val_main_v44_apply, i, p_entry]
  rfl

/-- **The real parts' array.** -/
theorem real_entry (n : Fin 16384) (j : Fin 512) : val_main_v48 (F := Ideal) x0 x1 x2 x3 x4 x5 x6 x8 x9 (ix2 n j)
    = tokenF x0 x1 x2 x3 x4 x5 x6 x8 x9 n ⟨j.val, by omega⟩ := by
  have i : idx_main_v47 (ix2 n j) = ix2 n ⟨j.val, by omega⟩ := funext fun a => Fin.ext (match a with | ⟨0, _⟩ => rfl | ⟨1, _⟩ => rfl)
  rw [val_main_v48_apply, val_main_v47_apply, i, f_entry]
  rfl

/-- **The imaginary parts' array.** -/
theorem imag_entry (n : Fin 16384) (j : Fin 512) : val_main_v50 (F := Ideal) x0 x1 x2 x3 x4 x5 x6 x8 x9 (ix2 n j)
    = tokenF x0 x1 x2 x3 x4 x5 x6 x8 x9 n ⟨512 + j.val, by omega⟩ := by
  have i : idx_main_v49 (ix2 n j) = ix2 n ⟨512 + j.val, by omega⟩ := funext fun a => Fin.ext (match a with | ⟨0, _⟩ => rfl | ⟨1, _⟩ => rfl)
  rw [val_main_v50_apply, val_main_v49_apply, i, f_entry]
  rfl

end Cert.Reference3Ideal.Hand
end
-- ==== Proof.Proj.RefArrays.lean ====
/-
# The arrays that the projection's reference returns

The reference's four arrays, each as one function of the arguments.
-/
module

public import proofs.«01_k».proof.Proof.Proj.RefValue

@[expose] public section
noncomputable section
namespace Cert.Reference3Ideal.Hand
open Cert.Reference3Ideal Cert.Reference3Ideal.Gen Cert.Reference3Ideal.Read Cert.Proj
open Idealize.ShloMosaic

variable (x0 : FVec Ideal S16384x1024 .f32) (x1 : FVec Ideal S256x512 .f32) (x2 : FVec Ideal S64x512 .f32)
    (x3 x4 x5 x6 : FVec Ideal S1x1024 .f32) (x7 : FVec Ideal S1024x3072 .bf16) (x8 : FVec Ideal S1024x1024 .bf16) (x9 : FVec Ideal S1x1536 .f32)

/-- The state-space branch's rows, as an array. -/
def stepsArray : FVec Ideal S8x2048x512 .bf16 := fun i => tokenP x0 x1 x2 x3 x4 x5 x6 x7 x9 ⟨8 * (i 1).val + (i 0).val, by have h : (i 1).val < 2048 := (i 1).isLt; have h' : (i 0).val < 8 := (i 0).isLt; omega⟩ (i 2)

/-- The Fourier branch's real parts, as an array. -/
def realArray : FVec Ideal S16384x512 .bf16 := fun i => tokenF x0 x1 x2 x3 x4 x5 x6 x8 x9 (i 0) ⟨(i 1).val, lt_trans (i 1).isLt (by decide)⟩

/-- The Fourier branch's imaginary parts, as an array. -/
def imagArray : FVec Ideal S16384x512 .bf16 := fun i => tokenF x0 x1 x2 x3 x4 x5 x6 x8 x9 (i 0) ⟨512 + (i 1).val, Nat.add_lt_add_left (i 1).isLt 512⟩

/-- The residual stream's rows, as an array. -/
def rowArray : FVec Ideal S16384x1024 .f32 := fun i => tokenRow x0 x1 x2 x3 x4 (i 0) (i 1)

variable (y0 : FVec Ideal S16384x1024 .f32) (y1 : FVec Ideal S256x512 .f32) (y2 : FVec Ideal S64x512 .f32)
    (y3 y4 y5 y6 : FVec Ideal S1x1024 .f32) (y7 : FVec Ideal S1024x3072 .bf16) (y8 : FVec Ideal S1024x1024 .bf16) (y9 : FVec Ideal S1x1536 .f32)
  (e0 : y0 = x0) (e1 : y1 = x1) (e2 : y2 = x2) (e3 : y3 = x3) (e4 : y4 = x4) (e5 : y5 = x5) (e6 : y6 = x6) (e7 : y7 = x7) (e8 : y8 = x8) (e9 : y9 = x9)

include e0 e1 e2 e3 e4 e5 e6 e7 e8 e9

/-- The state-space branch's rows, of equal arguments. -/
theorem steps_of_eq : val_main_v46 (F := Ideal) y0 y1 y2 y3 y4 y5 y6 y7 y9 = stepsArray x0 x1 x2 x3 x4 x5 x6 x7 x9 := by
  subst e0 e1 e2 e3 e4 e5 e6 e7 e8 e9
  refine funext fun i => ?_
  have hi : i = ix3 (i 0) (i 1) (i 2) := funext fun a => match a with | ⟨0, _⟩ => rfl | ⟨1, _⟩ => rfl | ⟨2, _⟩ => rfl
  refine (congrArg (val_main_v46 (F := Ideal) y0 y1 y2 y3 y4 y5 y6 y7 y9) hi).trans ?_
  exact steps_entry y0 y1 y2 y3 y4 y5 y6 y7 y9 (i 0) (i 1) (i 2)

/-- The Fourier branch's real parts, of equal arguments. -/
theorem real_of_eq : val_main_v48 (F := Ideal) y0 y1 y2 y3 y4 y5 y6 y8 y9 = realArray x0 x1 x2 x3 x4 x5 x6 x8 x9 := by
  subst e0 e1 e2 e3 e4 e5 e6 e7 e8 e9
  refine funext fun i => ?_
  have hi : i = ix2 (i 0) (i 1) := funext fun a => match a with | ⟨0, _⟩ => rfl | ⟨1, _⟩ => rfl
  refine (congrArg (val_main_v48 (F := Ideal) y0 y1 y2 y3 y4 y5 y6 y8 y9) hi).trans ?_
  exact real_entry y0 y1 y2 y3 y4 y5 y6 y8 y9 (i 0) (i 1)

/-- The Fourier branch's imaginary parts, of equal arguments. -/
theorem imag_of_eq : val_main_v50 (F := Ideal) y0 y1 y2 y3 y4 y5 y6 y8 y9 = imagArray x0 x1 x2 x3 x4 x5 x6 x8 x9 := by
  subst e0 e1 e2 e3 e4 e5 e6 e7 e8 e9
  refine funext fun i => ?_
  have hi : i = ix2 (i 0) (i 1) := funext fun a => match a with | ⟨0, _⟩ => rfl | ⟨1, _⟩ => rfl
  refine (congrArg (val_main_v50 (F := Ideal) y0 y1 y2 y3 y4 y5 y6 y8 y9) hi).trans ?_
  exact imag_entry y0 y1 y2 y3 y4 y5 y6 y8 y9 (i 0) (i 1)

/-- The residual stream's rows, of equal arguments. -/
theorem row_of_eq : val_main_v28 (F := Ideal) y0 y1 y2 y3 y4 = rowArray x0 x1 x2 x3 x4 := by
  subst e0 e1 e2 e3 e4 e5 e6 e7 e8 e9
  refine funext fun i => ?_
  have hi : i = ix2 (i 0) (i 1) := funext fun a => match a with | ⟨0, _⟩ => rfl | ⟨1, _⟩ => rfl
  refine (congrArg (val_main_v28 (F := Ideal) y0 y1 y2 y3 y4) hi).trans ?_
  exact row_entry y0 y1 y2 y3 y4 (i 0) (i 1)

end Cert.Reference3Ideal.Hand
end
-- ==== Proof.Proj.Value.lean ====
/-
# The arrays that the projection leaves

Each grid point writes its tile's rows to the blocks of its own; the blocks cover the four arrays.
-/
module

public import proofs.«01_k».proof.Proof.Proj.Block
public import proofs.«01_k».proof.Proof.Proj.Body
public import proofs.«01_k».proof.Proof.Proj.RefArrays
public import proofs.«01_k».proof.Proof.Gen.Kernel3Ideal.Value
public import Idealize.ShloMosaic.Lib.Pipeline.ValueKit

@[expose] public section

set_option maxRecDepth 16384

noncomputable section

namespace Cert.Kernel3Ideal.Hand

open Cert.Kernel3Ideal Cert.Kernel3Ideal.Gen Cert.Mix Cert.Proj
open Cert.Reference3Ideal.Hand (tokenCoded tokenRow tokenIn tokenP tokenF stepsArray realArray imagArray rowArray)
open Idealize.ShloMosaic Idealize.ShloMosaic.TcCoe

variable (m : (ℓ : Loc nD τ sig) → Buf (Elt Ideal) ℓ) (c : Dev nD)

/-- The state-space branch's rows that the memory at launch gives. -/
def want_steps : FVec Ideal S8x2048x512 .bf16 := stepsArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9))

/-- The Fourier branch's real parts that the memory at launch gives. -/
def want_real : FVec Ideal S16384x512 .bf16 := realArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9))

/-- The Fourier branch's imaginary parts that the memory at launch gives. -/
def want_imag : FVec Ideal S16384x512 .bf16 := imagArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9))

/-- The residual stream's rows that the memory at launch gives. -/
def want_row : FVec Ideal S16384x1024 .f32 := rowArray (m ((c : Thread nD τ).loc main_arg0)) (m ((c : Thread nD τ).loc main_arg1)) (m ((c : Thread nD τ).loc main_arg2)) (m ((c : Thread nD τ).loc main_arg3)) (m ((c : Thread nD τ).loc main_arg4))

/-- The token of a tile's row. -/
def token (t : Fin cfg0.N) (r : Fin 1024) : Fin 16384 := ⟨1024 * t.val + r.val, by have := points t; omega⟩

/-- The row that the layer norm reads is the token's. -/
theorem coded_eq (t : Fin cfg0.N) (r : Fin 1024) : coded (iblk m c 0 t) (iblk m c 1 t) (iblk m c 2 t) r = tokenCoded (m ((c : Thread nD τ).loc main_arg0)) (m ((c : Thread nD τ).loc main_arg1)) (m ((c : Thread nD τ).loc main_arg2)) (token t r) := by
  unfold coded tokenCoded
  have h0 : (fun k => iblk m c 0 t (ix2 r k)) = fun k => (m ((c : Thread nD τ).loc main_arg0)) (ix2 (token t r) k) := funext fun k => iblk_0 m c t r k
  have h1 : (fun k => iblk m c 1 t (ix2 ⟨r.val / 64, by omega⟩ k)) = fun k => (m ((c : Thread nD τ).loc main_arg1)) (ix2 ⟨(token t r).val / 64, by have := (token t r).isLt; omega⟩ k) :=
    funext fun k => (iblk_1 m c t _ k).trans (congrArg (m ((c : Thread nD τ).loc main_arg1)) (congrArg (fun n => ix2 n k) (Fin.ext (by
      show 16 * t.val + r.val / 64 = (1024 * t.val + r.val) / 64; omega))))
  have h2 : (fun k => iblk m c 2 t (ix2 ⟨r.val % 64, Nat.mod_lt _ (by norm_num)⟩ k)) = fun k => (m ((c : Thread nD τ).loc main_arg2)) (ix2 ⟨(token t r).val % 64, Nat.mod_lt _ (by norm_num)⟩ k) :=
    funext fun k => (iblk_2 m c t _ k).trans (congrArg (m ((c : Thread nD τ).loc main_arg2)) (congrArg (fun n => ix2 n k) (Fin.ext (by
      show r.val % 64 = (1024 * t.val + r.val) % 64; omega))))
  exact congr (congr (congrArg codedRow h0) h1) h2

/-- The normed row is the token's. -/
theorem rowAt (t : Fin cfg0.N) (r j : Fin 1024) : k0_pay1 (iblk m c 0 t) (iblk m c 1 t) (iblk m c 2 t) (iblk m c 3 t) (iblk m c 4 t) (ix2 r j) = tokenRow (m ((c : Thread nD τ).loc main_arg0)) (m ((c : Thread nD τ).loc main_arg1)) (m ((c : Thread nD τ).loc main_arg2)) (m ((c : Thread nD τ).loc main_arg3)) (m ((c : Thread nD τ).loc main_arg4)) (token t r) j := by
  rw [pay1_apply, coded_eq]
  unfold tokenRow
  exact congrFun (congr (congrArg (norm _) (funext fun k => iblk_3 m c t 0 k)) (funext fun k => iblk_4 m c t 0 k)) j

/-- The modulated row is the token's. -/
theorem inAt (t : Fin cfg0.N) (r j : Fin 1024) : rowsIn (iblk m c 0 t) (iblk m c 1 t) (iblk m c 2 t) (iblk m c 3 t) (iblk m c 4 t) (iblk m c 5 t) (iblk m c 6 t) (ix2 r j) = tokenIn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (token t r) j := by
  refine (pay3_apply _ _ _ _ _ _ _ r j).trans ?_
  rw [← pay1_apply, rowAt, iblk_5, iblk_6]
  rfl

/-- The state-space branch's row is the token's. -/
theorem pAt (t : Fin cfg0.N) (r : Fin 1024) (j : Fin 512) : rowsP (iblk m c 0 t) (iblk m c 1 t) (iblk m c 2 t) (iblk m c 3 t) (iblk m c 4 t) (iblk m c 5 t) (iblk m c 6 t) (iblk m c 7 t) (iblk m c 9 t) (ix2 r j) = tokenP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (token t r) j := by
  refine (pay4_apply _ _ _ _ r j).trans ?_
  unfold tokenP
  exact congrFun (congr (congr (congrArg lin (funext fun k => inAt m c t r k)) (funext fun k => funext fun j => iblk_7 m c t k j))
    (funext fun j => iblk_9 m c t 0 _)) j

/-- The Fourier branch's row is the token's. -/
theorem fAt (t : Fin cfg0.N) (r j : Fin 1024) :
    lin (fun k => rowsIn (iblk m c 0 t) (iblk m c 1 t) (iblk m c 2 t) (iblk m c 3 t) (iblk m c 4 t) (iblk m c 5 t) (iblk m c 6 t) (ix2 r k)) (fun k j => iblk m c 8 t (ix2 k j)) (fun j => biasF (iblk m c 9 t) (ix2 0 j)) j
    = tokenF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (token t r) j := by
  unfold tokenF
  exact congrFun (congr (congr (congrArg lin (funext fun k => inAt m c t r k)) (funext fun k => funext fun j => iblk_8 m c t k j))
    (funext fun j => iblk_9 m c t 0 _)) j

/-- Where an entry of the state-space branch's block lies. -/
theorem place_10 (t : Fin cfg0.N) (q : Fin 8) (R : Fin 128) (j : Fin 512) : ((cfg0.win 10).rect t).emb (ix3 q R j) = ix3 q ⟨128 * t.val + R.val, by have := points t; omega⟩ j := by
  refine funext fun d => Fin.ext ?_
  have h := Pipeline.Window.rect_emb_val (cfg0.win 10) t (ix3 q R j) d
  rw [h, index_10 t]
  match d with
  | ⟨0, _⟩ => show 0 * 8 + q.val = q.val; omega
  | ⟨1, _⟩ => show t.val * 128 + R.val = 128 * t.val + R.val; omega
  | ⟨2, _⟩ => show 0 * 512 + j.val = j.val; omega

/-- What a grid point writes to the state-space branch's array. -/
theorem flushed_10 (t : Fin cfg0.N) (q : Fin 8) (R : Fin 128) (j : Fin 512) : (dats m 0 c).flushed 10 t (ix3 q R j)
    = tokenP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (token t ⟨8 * R.val + q.val, by omega⟩) j :=
  (congrFun (Cert.Kernel3Ideal.Value.flushed10_A m c t) (ix3 q R j)).trans ((out_p _ _ _ _ _ _ _ _ _ _ _ _ _ _ _ _ _ _ _ _ _ _ _ _ _ _ _ _ _ _ _ _ _ _ _ _ _ _ _ _ _ _ (ix3 q R j)).trans (pAt m c t ⟨8 * R.val + q.val, by omega⟩ j))

/-- Every grid point writes it. -/
theorem flush_10 : ∀ t : Fin cfg0.N, (cfg0.win 10).flush t = true := (by decide +kernel : ∀ t : Fin grid0.N, win0_10.flush t = true)

/-- **The state-space branch's array.** -/
theorem array_10 : (dats m 0 c).arrAt 10 cfg0.N = want_steps m c := by
  refine funext fun i => Pipeline.Dat.arrAt_forall_of_cover (dats m 0 c) 10 (fun (i : S8x2048x512.Idx) (v : EReal) => v = want_steps m c i) ?_ ?_ i
  · intro t hf y
    show (dats m 0 c).flushed 10 t y = want_steps m c (((cfg0.win 10).rect t).emb y)
    obtain ⟨q, R, j, hy⟩ : ∃ (q : Fin 8) (R : Fin 128) (j : Fin 512), y = ix3 q R j :=
      ⟨y 0, y 1, y 2, funext fun a => match a with | ⟨0, _⟩ => rfl | ⟨1, _⟩ => rfl | ⟨2, _⟩ => rfl⟩
    subst hy
    refine (flushed_10 m c t q R j).trans (Eq.trans ?_ (congrArg (want_steps m c) (place_10 t q R j)).symm)
    unfold want_steps stepsArray
    refine congrArg (fun n => tokenP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) n j) (Fin.ext ?_)
    show 1024 * t.val + (8 * R.val + q.val) = 8 * (128 * t.val + R.val) + q.val
    omega
  · intro i
    have h0 : (i 0).val < 8 := (i 0).isLt
    have h1 : (i 1).val < 2048 := (i 1).isLt
    have h2 : (i 2).val < 512 := (i 2).isLt
    refine ⟨⟨(i 1).val / 128, lt_of_lt_of_eq (by omega : (i 1).val / 128 < 16) (by decide +kernel : 16 = grid0.N)⟩, flush_10 _, ?_⟩
    refine (Pipeline.Window.emb_mem_blk_iff (cfg0.win 10) _ i).2 fun a => ?_
    rw [index_10]
    match a with
    | ⟨0, _⟩ => show 0 * 8 ≤ (i 0).val ∧ (i 0).val < 0 * 8 + 8; omega
    | ⟨1, _⟩ => show (i 1).val / 128 * 128 ≤ (i 1).val ∧ (i 1).val < (i 1).val / 128 * 128 + 128; omega
    | ⟨2, _⟩ => show 0 * 512 ≤ (i 2).val ∧ (i 2).val < 0 * 512 + 512; omega

/-- Where an entry of the block of the Fourier branch's real parts lies. -/
theorem place_11 (t : Fin cfg0.N) (r : Fin 1024) (j : Fin 512) : ((cfg0.win 11).rect t).emb (ix2 r j) = ix2 (token t r) j := by
  refine funext fun d => Fin.ext ?_
  have h := Pipeline.Window.rect_emb_val (cfg0.win 11) t (ix2 r j) d
  rw [h, index_11 t]
  match d with
  | ⟨0, _⟩ => show t.val * 1024 + r.val = 1024 * t.val + r.val; omega
  | ⟨1, _⟩ => show 0 * 512 + j.val = j.val; omega

/-- What a grid point writes to that array. -/
theorem flushed_11 (t : Fin cfg0.N) (r : Fin 1024) (j : Fin 512) : (dats m 0 c).flushed 11 t (ix2 r j) = want_real m c (ix2 (token t r) j) :=
  (congrFun (Cert.Kernel3Ideal.Value.flushed11_A m c t) (ix2 r j)).trans ((congrFun (out_r _ _ _ _ _ _ _ _ _ _ _ _ _ _ _ _ _ _ _ _ _ _ _ _ _ _ _ _ _ _ _ _ _ _ _ _ _ _ _ _ _ _) (ix2 r j)).trans ((pay46_apply _ _ _ r j).trans (fAt m c t r _)))

/-- Every grid point writes it. -/
theorem flush_11 : ∀ t : Fin cfg0.N, (cfg0.win 11).flush t = true := (by decide +kernel : ∀ t : Fin grid0.N, win0_11.flush t = true)

/-- **The array of the Fourier branch's real parts.** -/
theorem array_11 : (dats m 0 c).arrAt 11 cfg0.N = want_real m c := by
  refine funext fun i => Pipeline.Dat.arrAt_forall_of_cover (dats m 0 c) 11 (fun (i : S16384x512.Idx) (v : EReal) => v = want_real m c i) ?_ ?_ i
  · intro t hf y
    show (dats m 0 c).flushed 11 t y = want_real m c (((cfg0.win 11).rect t).emb y)
    obtain ⟨r, j, hy⟩ : ∃ (r : Fin 1024) (j : Fin 512), y = ix2 r j :=
      ⟨y 0, y 1, funext fun a => match a with | ⟨0, _⟩ => rfl | ⟨1, _⟩ => rfl⟩
    subst hy
    exact (flushed_11 m c t r j).trans (congrArg (want_real m c) (place_11 t r j)).symm
  · intro i
    have h0 : (i 0).val < 16384 := (i 0).isLt
    have h1 : (i 1).val < 512 := (i 1).isLt
    refine ⟨⟨(i 0).val / 1024, lt_of_lt_of_eq (by omega : (i 0).val / 1024 < 16) (by decide +kernel : 16 = grid0.N)⟩, flush_11 _, ?_⟩
    refine (Pipeline.Window.emb_mem_blk_iff (cfg0.win 11) _ i).2 fun a => ?_
    rw [index_11]
    match a with
    | ⟨0, _⟩ => show (i 0).val / 1024 * 1024 ≤ (i 0).val ∧ (i 0).val < (i 0).val / 1024 * 1024 + 1024; omega
    | ⟨1, _⟩ => show 0 * 512 ≤ (i 1).val ∧ (i 1).val < 0 * 512 + 512; omega

/-- Where an entry of the block of the Fourier branch's imaginary parts lies. -/
theorem place_12 (t : Fin cfg0.N) (r : Fin 1024) (j : Fin 512) : ((cfg0.win 12).rect t).emb (ix2 r j) = ix2 (token t r) j := by
  refine funext fun d => Fin.ext ?_
  have h := Pipeline.Window.rect_emb_val (cfg0.win 12) t (ix2 r j) d
  rw [h, index_12 t]
  match d with
  | ⟨0, _⟩ => show t.val * 1024 + r.val = 1024 * t.val + r.val; omega
  | ⟨1, _⟩ => show 0 * 512 + j.val = j.val; omega

/-- What a grid point writes to that array. -/
theorem flushed_12 (t : Fin cfg0.N) (r : Fin 1024) (j : Fin 512) : (dats m 0 c).flushed 12 t (ix2 r j) = want_imag m c (ix2 (token t r) j) :=
  (congrFun (Cert.Kernel3Ideal.Value.flushed12_A m c t) (ix2 r j)).trans ((congrFun (out_i _ _ _ _ _ _ _ _ _ _ _ _ _ _ _ _ _ _ _ _ _ _ _ _ _ _ _ _ _ _ _ _ _ _ _ _ _ _ _ _ _ _) (ix2 r j)).trans ((pay47_apply _ _ _ r j).trans (fAt m c t r _)))

/-- Every grid point writes it. -/
theorem flush_12 : ∀ t : Fin cfg0.N, (cfg0.win 12).flush t = true := (by decide +kernel : ∀ t : Fin grid0.N, win0_12.flush t = true)

/-- **The array of the Fourier branch's imaginary parts.** -/
theorem array_12 : (dats m 0 c).arrAt 12 cfg0.N = want_imag m c := by
  refine funext fun i => Pipeline.Dat.arrAt_forall_of_cover (dats m 0 c) 12 (fun (i : S16384x512.Idx) (v : EReal) => v = want_imag m c i) ?_ ?_ i
  · intro t hf y
    show (dats m 0 c).flushed 12 t y = want_imag m c (((cfg0.win 12).rect t).emb y)
    obtain ⟨r, j, hy⟩ : ∃ (r : Fin 1024) (j : Fin 512), y = ix2 r j :=
      ⟨y 0, y 1, funext fun a => match a with | ⟨0, _⟩ => rfl | ⟨1, _⟩ => rfl⟩
    subst hy
    exact (flushed_12 m c t r j).trans (congrArg (want_imag m c) (place_12 t r j)).symm
  · intro i
    have h0 : (i 0).val < 16384 := (i 0).isLt
    have h1 : (i 1).val < 512 := (i 1).isLt
    refine ⟨⟨(i 0).val / 1024, lt_of_lt_of_eq (by omega : (i 0).val / 1024 < 16) (by decide +kernel : 16 = grid0.N)⟩, flush_12 _, ?_⟩
    refine (Pipeline.Window.emb_mem_blk_iff (cfg0.win 12) _ i).2 fun a => ?_
    rw [index_12]
    match a with
    | ⟨0, _⟩ => show (i 0).val / 1024 * 1024 ≤ (i 0).val ∧ (i 0).val < (i 0).val / 1024 * 1024 + 1024; omega
    | ⟨1, _⟩ => show 0 * 512 ≤ (i 1).val ∧ (i 1).val < 0 * 512 + 512; omega

/-- Where an entry of the block of the residual stream's rows lies. -/
theorem place_13 (t : Fin cfg0.N) (r : Fin 1024) (j : Fin 1024) : ((cfg0.win 13).rect t).emb (ix2 r j) = ix2 (token t r) j := by
  refine funext fun d => Fin.ext ?_
  have h := Pipeline.Window.rect_emb_val (cfg0.win 13) t (ix2 r j) d
  rw [h, index_13 t]
  match d with
  | ⟨0, _⟩ => show t.val * 1024 + r.val = 1024 * t.val + r.val; omega
  | ⟨1, _⟩ => show 0 * 1024 + j.val = j.val; omega

/-- What a grid point writes to that array. -/
theorem flushed_13 (t : Fin cfg0.N) (r : Fin 1024) (j : Fin 1024) : (dats m 0 c).flushed 13 t (ix2 r j) = want_row m c (ix2 (token t r) j) :=
  (congrFun (Cert.Kernel3Ideal.Value.flushed13_A m c t) (ix2 r j)).trans ((congrFun (out_h _ _ _ _ _ _ _ _ _ _ _ _ _ _ _ _ _ _ _ _ _ _ _ _ _ _ _ _ _ _ _ _ _ _ _ _ _ _ _ _ _ _) (ix2 r j)).trans (rowAt m c t r j))

/-- Every grid point writes it. -/
theorem flush_13 : ∀ t : Fin cfg0.N, (cfg0.win 13).flush t = true := (by decide +kernel : ∀ t : Fin grid0.N, win0_13.flush t = true)

/-- **The array of the residual stream's rows.** -/
theorem array_13 : (dats m 0 c).arrAt 13 cfg0.N = want_row m c := by
  refine funext fun i => Pipeline.Dat.arrAt_forall_of_cover (dats m 0 c) 13 (fun (i : S16384x1024.Idx) (v : EReal) => v = want_row m c i) ?_ ?_ i
  · intro t hf y
    show (dats m 0 c).flushed 13 t y = want_row m c (((cfg0.win 13).rect t).emb y)
    obtain ⟨r, j, hy⟩ : ∃ (r : Fin 1024) (j : Fin 1024), y = ix2 r j :=
      ⟨y 0, y 1, funext fun a => match a with | ⟨0, _⟩ => rfl | ⟨1, _⟩ => rfl⟩
    subst hy
    exact (flushed_13 m c t r j).trans (congrArg (want_row m c) (place_13 t r j)).symm
  · intro i
    have h0 : (i 0).val < 16384 := (i 0).isLt
    have h1 : (i 1).val < 1024 := (i 1).isLt
    refine ⟨⟨(i 0).val / 1024, lt_of_lt_of_eq (by omega : (i 0).val / 1024 < 16) (by decide +kernel : 16 = grid0.N)⟩, flush_13 _, ?_⟩
    refine (Pipeline.Window.emb_mem_blk_iff (cfg0.win 13) _ i).2 fun a => ?_
    rw [index_13]
    match a with
    | ⟨0, _⟩ => show (i 0).val / 1024 * 1024 ≤ (i 0).val ∧ (i 0).val < (i 0).val / 1024 * 1024 + 1024; omega
    | ⟨1, _⟩ => show 0 * 1024 ≤ (i 1).val ∧ (i 1).val < 0 * 1024 + 1024; omega

end Cert.Kernel3Ideal.Hand
end
-- ==== Proof.Proj.Result.lean ====
/-
# The projection's value claim

From equal arguments the projection's four arrays are the reference's.
-/
module

public import proofs.«01_k».proof.Proof.Proj.Value
public import proofs.«01_k».proof.Proof.Gen.Reference3Ideal
public import proofs.«01_k».proof.Proof.Gen.Reference3Ideal.Run
public import proofs.«01_k».proof.Proof.Gen.Reference3Ideal.Read
public import proofs.«01_k».proof.Defs

@[expose] public section
noncomputable section
namespace Cert.Kernel3Ideal.Hand
open Idealize.ShloMosaic Idealize.ShloMosaic.TcCoe Idealize.SL Idealize.SL.Sem

/-- **The value claim.** -/
theorem value : Cert.algebraic_Kernel3Ideal_Reference3Ideal (hKernel3Ideal := Cert.Kernel3Ideal.Gen.facts) (hReference3Ideal := Cert.Reference3Ideal.Gen.facts) := by
  intro m g m' g' _ ha
  refine ⟨fun c => Cert.Reference3Ideal.Value.res_main_v46 (F := Ideal) m' c, fun c => Cert.Reference3Ideal.Value.res_main_v48 (F := Ideal) m' c,
    fun c => Cert.Reference3Ideal.Value.res_main_v50 (F := Ideal) m' c, fun c => Cert.Reference3Ideal.Value.res_main_v28 (F := Ideal) m' c, ?_,
    Cert.Reference3Ideal.Value.run (F := Ideal) m' g'⟩
  refine (θ_run _ _ _).mono (fun r h c => ?_) (Cert.Kernel3Ideal.Value.run_blocks m g)
  obtain ⟨e0, e1, e2, e3, e4, e5, e6, e7, e8, e9⟩ := ha c
  obtain ⟨hp, hr, hi, hh, hargs⟩ := h c
  refine ⟨hp.trans ((array_10 m c).trans ?_), hr.trans ((array_11 m c).trans ?_), hi.trans ((array_12 m c).trans ?_), hh.trans ((array_13 m c).trans ?_), hargs⟩
  · exact (Cert.Reference3Ideal.Hand.steps_of_eq _ _ _ _ _ _ _ _ _ _ _ _ _ _ _ _ _ _ _ _ e0 e1 e2 e3 e4 e5 e6 e7 e8 e9).symm.trans (Cert.Reference3Ideal.Read.val_main_v46_eq m' c).symm
  · exact (Cert.Reference3Ideal.Hand.real_of_eq _ _ _ _ _ _ _ _ _ _ _ _ _ _ _ _ _ _ _ _ e0 e1 e2 e3 e4 e5 e6 e7 e8 e9).symm.trans (Cert.Reference3Ideal.Read.val_main_v48_eq m' c).symm
  · exact (Cert.Reference3Ideal.Hand.imag_of_eq _ _ _ _ _ _ _ _ _ _ _ _ _ _ _ _ _ _ _ _ e0 e1 e2 e3 e4 e5 e6 e7 e8 e9).symm.trans (Cert.Reference3Ideal.Read.val_main_v50_eq m' c).symm
  · exact (Cert.Reference3Ideal.Hand.row_of_eq _ _ _ _ _ _ _ _ _ _ _ _ _ _ _ _ _ _ _ _ e0 e1 e2 e3 e4 e5 e6 e7 e8 e9).symm.trans (Cert.Reference3Ideal.Read.val_main_v28_eq m' c).symm

end Cert.Kernel3Ideal.Hand
end
-- ==== Proof.Proj.OnBits.lean ====
/-
# The projection's frame on the bits

The projection that is printed and the one that its idealization prints are the same program, of any floats: their kernels, windows
and body tables are equal. So the frame of the second, which holds of any floats, is the first's.
-/
module

public import proofs.«01_k».proof.Proof.Gen.Kernel3Ideal.Frame
public import proofs.«01_k».proof.Proof.Gen.Kernel3

@[expose] public section

set_option maxRecDepth 16384

noncomputable section

namespace Cert.Kernel3.Hand

open Cert.Kernel3
open Idealize.ShloMosaic Idealize.ShloMosaic.TcCoe Idealize.SL Idealize.SL.Sem

variable {F : FTy → Type} [FloatOps F]

set_option maxHeartbeats 1000000 in
/-- The kernels' tables are equal. -/
theorem kernels_eq : Cert.Kernel3.defs₀ (F := F) = Cert.Kernel3Ideal.defs₀ (F := F) := by
  unfold Cert.Kernel3.defs₀ Cert.Kernel3Ideal.defs₀
  refine congrArg _ (funext fun l => funext fun a => ?_)
  match l, a with
  | 0, (t, s) => rfl
  | ⟨_ + 1, h⟩, _ => exact absurd h (Nat.not_lt.2 (Nat.le_add_left _ _))

set_option maxHeartbeats 1000000 in
/-- The body tables are equal. -/
theorem bodies_eq : Cert.Kernel3.defs (F := F) = Cert.Kernel3Ideal.defs (F := F) :=
  congrArg (Idealize.ShloMosaic.Pipeline.defs Cert.Kernel3.pcfgs) kernels_eq

variable (m : (ℓ : Loc nD τ sig) → Buf (Elt F) ℓ) (ρ : Dev nD → PrngReg)

set_option maxHeartbeats 1000000 in
/-- **The frame**: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (congrArg (fun D => θ_run D (onTc (τ := τ) (main (F := F))) ⟨m, fun _ => 0, ρ⟩ _) bodies_eq).mpr (Cert.Kernel3Ideal.Gen.frame (F := F) m ρ)

end Cert.Kernel3.Hand
end
-- ==== Proof.Mix.OnBits.lean ====
/-
# The mixer's frame on the bits

The mixer that is printed and the one that its idealization prints are the same program, of any floats: their kernels, windows and
body tables are equal. So the frame of the second, which is proved of any floats, is the first's.
-/
module

public import proofs.«01_k».proof.Proof.Mix.Frame
public import proofs.«01_k».proof.Proof.Gen.Kernel2

@[expose] public section

set_option maxRecDepth 16384

noncomputable section

namespace Cert.Kernel2.Hand

open Cert.Kernel2
open Idealize.ShloMosaic Idealize.ShloMosaic.TcCoe Idealize.SL Idealize.SL.Sem

variable {F : FTy → Type} [FloatOps F]

set_option maxHeartbeats 1000000 in
/-- The kernels' tables are equal. -/
theorem kernels_eq : Cert.Kernel2.defs₀ (F := F) = Cert.Kernel2Ideal.defs₀ (F := F) := by
  unfold Cert.Kernel2.defs₀ Cert.Kernel2Ideal.defs₀
  refine congrArg _ (funext fun l => funext fun a => ?_)
  match l, a with
  | 0, (t, s) => rfl
  | ⟨_ + 1, h⟩, _ => exact absurd h (Nat.not_lt.2 (Nat.le_add_left _ _))

set_option maxHeartbeats 1000000 in
/-- The body tables are equal. -/
theorem bodies_eq : Cert.Kernel2.defs (F := F) = Cert.Kernel2Ideal.defs (F := F) :=
  congrArg (Idealize.ShloMosaic.Pipeline.defs Cert.Kernel2.pcfgs) kernels_eq

variable (m : (ℓ : Loc nD τ sig) → Buf (Elt F) ℓ) (ρ : Dev nD → PrngReg)

set_option maxHeartbeats 1000000 in
/-- **The frame**: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  (congrArg (fun D => θ_run D (onTc (τ := τ) (main (F := F))) ⟨m, fun _ => 0, ρ⟩ _) bodies_eq).mpr (Cert.Kernel2Ideal.Hand.frame (F := F) m ρ)

end Cert.Kernel2.Hand
end
-- ==== Proof.lean ====
/- The claims of `Cert.Claim`, put together: the kernel's frame on the bits and on the ideal values (Proof/OnBits.lean,
   Proof/Frame.lean), the reference's run (generated), the value claim (Proof/Value.lean), and the step from the precondition's
   booleans to what the frame needs of the tables; and for the mixer its frame on the bits and on the ideal values
   (Proof/Mix/OnBits.lean, Proof/Mix/Frame.lean), its reference's run (generated), and the value claim (Proof/Mix/Result.lean);
   and for the projection its frame on the bits (Proof/Proj/OnBits.lean) and on the ideal values (generated), its reference's run
   (generated), and the value claim (Proof/Proj/Result.lean). -/
module

public import proofs.«01_k».proof.Defs
public import proofs.«01_k».proof.Proof.Frame
public import proofs.«01_k».proof.Proof.OnBits
public import proofs.«01_k».proof.Proof.Value
public import proofs.«01_k».proof.Proof.Mix.Result
public import proofs.«01_k».proof.Proof.Proj.Result
public import proofs.«01_k».proof.Proof.Proj.OnBits
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Mix.Frame
public import proofs.«01_k».proof.Proof.Mix.OnBits
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.On_filled_rows
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_tables_ok
public import Idealize.ShloMosaic.Adequacy
public import Idealize.ShloMosaic.Init

@[expose] public section

noncomputable section

namespace Cert.Proof

open Idealize.ShloMosaic Idealize.SL.Sem

/-- On the ideal values, the precondition gives the tables the frame needs. -/
theorem tabs_KernelIdeal (m) (h : Cert.Pre_KernelIdeal m) : Cert.KernelIdeal.Hand.TabsOK (F := Ideal) m := fun c => by
  obtain ⟨h0, h1, h2, h3, h4, h5⟩ := h c
  have key := Cert.KernelIdeal.Hand.tabOK_of_pre (F := Ideal) _ _ _ _ _ _ _ _ _ _ h0 h1 h2 h3 h4 h5
  rw [Cert.KernelIdeal.Hand.V_arg m c Cert.KernelIdeal.main_arg0 (by decide), Cert.KernelIdeal.Hand.V_arg m c Cert.KernelIdeal.main_arg1 (by decide),
    Cert.KernelIdeal.Hand.V_arg m c Cert.KernelIdeal.main_arg2 (by decide), Cert.KernelIdeal.Hand.V_arg m c Cert.KernelIdeal.main_arg3 (by decide),
    Cert.KernelIdeal.Hand.V_arg m c Cert.KernelIdeal.main_arg4 (by decide)]
  exact key

/-- The reference runs from any memory, and leaves its arguments and its counters as they were. -/
theorem reference_frame (m) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0) :=
  (θ_run _ _ _).mono (fun r h => ⟨fun c => (h c).2, funext fun x => by rcases x with ⟨d, s | s⟩ <;> exact s.elim0⟩) (Cert.ReferenceIdeal.Value.run (F := Ideal) m g)

/-- The mixer's reference runs from any memory, and leaves its arguments and its counters as they were. -/
theorem mixer_reference_frame (m) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20)
      ∧ r.2.mem ((c.tc : Thread Cert.Reference2Ideal.nD Cert.Reference2Ideal.τ).loc Cert.Reference2Ideal.main_arg21) = m ((c.tc : Thread Cert.Reference2Ideal.nD Cert.Reference2Ideal.τ).loc Cert.Reference2Ideal.main_arg21)
      ∧ r.2.mem ((c.tc : Thread Cert.Reference2Ideal.nD Cert.Reference2Ideal.τ).loc Cert.Reference2Ideal.main_arg22) = m ((c.tc : Thread Cert.Reference2Ideal.nD Cert.Reference2Ideal.τ).loc Cert.Reference2Ideal.main_arg22))
      ∧ r.2.sem = fun _ => 0) :=
  (θ_run _ _ _).mono (fun r h => ⟨fun c => (h c).2.2, funext fun x => by rcases x with ⟨d, s | s⟩ <;> exact s.elim0⟩) (Cert.Reference2Ideal.Value.run (F := Ideal) m g)

/-- The projection's reference runs from any memory, and leaves its arguments and its counters as they were. -/
theorem projection_reference_frame (m) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0) :=
  (θ_run _ _ _).mono (fun r h => ⟨fun c => (h c).2.2.2.2, funext fun x => by rcases x with ⟨d, s | s⟩ <;> exact s.elim0⟩) (Cert.Reference3Ideal.Value.run (F := Ideal) m g)

/-- Everything the certificate claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_tables_ok.Gen.facts, Cert.On_filled_rows.Gen.facts,
    fun m g h => Cert.Kernel.Hand.frame m g (Cert.Kernel.Hand.tables m h),
    fun m g h => Cert.KernelIdeal.Hand.frame m g (tabs_KernelIdeal m h),
    fun m g _ => reference_frame m g,
    fun m g _ => reference_frame m g,
    fun m g _ => Cert.Kernel2.Hand.frame m g,
    fun m g _ => Cert.Kernel2Ideal.Hand.frame m g,
    fun m g _ => mixer_reference_frame m g,
    fun m g _ => Cert.Kernel3.Hand.frame m g,
    fun m g _ => Cert.Kernel3Ideal.Gen.frame m g,
    fun m g _ => projection_reference_frame m g,
    trivial,
    fun m g m' g' h ha => Cert.KernelIdeal.Hand.value m g m' g' (tabs_KernelIdeal m h) ha,
    trivial,
    Cert.Kernel2Ideal.Hand.value,
    trivial,
    Cert.Kernel3Ideal.Hand.value⟩

end Cert.Proof

end
